-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_swiglu_real [hPre_swiglu_real : Cert.Pre_swiglu_real.Facts] (m : (ℓ : Loc Cert.KernelIdeal.nD Cert.KernelIdeal.τ Cert.KernelIdeal.sig) → Buf (Elt Ideal) ℓ) : Prop :=
  ∀ c : Dev Cert.KernelIdeal.nD,
    (Cert.Pre_swiglu_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swiglu_real [hPre_swiglu_real : Cert.Pre_swiglu_real.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swiglu_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_attn_fwd_real [hPre_attn_fwd_real : Cert.Pre_attn_fwd_real.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_attn_fwd_real.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_attn_fwd_real [hPre_attn_fwd_real : Cert.Pre_attn_fwd_real.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_attn_fwd_real.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_dxn_real [hPre_dxn_real : Cert.Pre_dxn_real.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_dxn_real.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_dxn_real [hPre_dxn_real : Cert.Pre_dxn_real.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_dxn_real.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_dxn2_real [hPre_dxn2_real : Cert.Pre_dxn2_real.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_dxn2_real.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_dxn2_real [hPre_dxn2_real : Cert.Pre_dxn2_real.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_dxn2_real.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_loss_real [hPre_loss_real : Cert.Pre_loss_real.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_loss_real.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_loss_real [hPre_loss_real : Cert.Pre_loss_real.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_loss_real.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_swiglu_real [hKernelIdeal : Cert.KernelIdeal.Facts] [hPre_swiglu_real : Cert.Pre_swiglu_real.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_swiglu_real m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_swiglu_real [hReferenceIdeal : Cert.ReferenceIdeal.Facts] [hPre_swiglu_real : Cert.Pre_swiglu_real.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swiglu_real m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_attn_fwd_real [hKernel2Ideal : Cert.Kernel2Ideal.Facts] [hPre_attn_fwd_real : Cert.Pre_attn_fwd_real.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_attn_fwd_real m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_attn_fwd_real [hReference2Ideal : Cert.Reference2Ideal.Facts] [hPre_attn_fwd_real : Cert.Pre_attn_fwd_real.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_attn_fwd_real m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_dxn_real [hKernel4Ideal : Cert.Kernel4Ideal.Facts] [hPre_dxn_real : Cert.Pre_dxn_real.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_dxn_real m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_dxn_real [hReference4Ideal : Cert.Reference4Ideal.Facts] [hPre_dxn_real : Cert.Pre_dxn_real.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_dxn_real m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_dxn2_real [hKernel5Ideal : Cert.Kernel5Ideal.Facts] [hPre_dxn2_real : Cert.Pre_dxn2_real.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_dxn2_real m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_dxn2_real [hReference5Ideal : Cert.Reference5Ideal.Facts] [hPre_dxn2_real : Cert.Pre_dxn2_real.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_dxn2_real m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_loss_real [hKernel6Ideal : Cert.Kernel6Ideal.Facts] [hPre_loss_real : Cert.Pre_loss_real.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_loss_real m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_loss_real [hReference6Ideal : Cert.Reference6Ideal.Facts] [hPre_loss_real : Cert.Pre_loss_real.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_loss_real m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  True

def algebraic_KernelIdeal_ReferenceIdeal_pre_swiglu_real [hKernelIdeal : Cert.KernelIdeal.Facts] [hReferenceIdeal : Cert.ReferenceIdeal.Facts] [hPre_swiglu_real : Cert.Pre_swiglu_real.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_swiglu_real m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "mask" .f32 0xF149F2CA#32 ⊥
  ∧ IdealRules.named_const.Statement Cert.Kernel2Ideal.κ "s1" .f32 0x3F3504F3#32 (((Real.sqrt 2)⁻¹ : ℝ) : EReal)
  ∧ IdealRules.named_const.Statement Cert.Kernel2Ideal.κ "s3" .f32 0x3EB504F3#32 (((Real.sqrt 8)⁻¹ : ℝ) : EReal)
  ∧ IdealRules.named_const.Statement Cert.Kernel2Ideal.κ "s5" .f32 0x3E3504F3#32 (((Real.sqrt 32)⁻¹ : ℝ) : EReal)
  ∧ IdealRules.named_const.Statement Cert.Kernel2Ideal.κ "s7" .f32 0x3DB504F3#32 (((Real.sqrt 128)⁻¹ : ℝ) : EReal)
  ∧ IdealRules.named_const.Statement Cert.Kernel2Ideal.κ "s9" .f32 0x3D3504F3#32 (((Real.sqrt 512)⁻¹ : ℝ) : EReal)
  ∧ IdealRules.named_const.Statement Cert.Kernel2Ideal.κ "s11" .f32 0x3CB504F3#32 (((Real.sqrt 2048)⁻¹ : ℝ) : EReal)
  ∧ IdealRules.named_const.Statement Cert.Kernel2Ideal.κ "s13" .f32 0x3C3504F3#32 (((Real.sqrt 8192)⁻¹ : ℝ) : EReal)
  ∧ IdealRules.named_const.Statement Cert.Kernel2Ideal.κ "s15" .f32 0x3BB504F3#32 (((Real.sqrt 32768)⁻¹ : ℝ) : EReal)

def algebraic_Kernel2Ideal_Reference2Ideal_pre_attn_fwd_real [hKernel2Ideal : Cert.Kernel2Ideal.Facts] [hReference2Ideal : Cert.Reference2Ideal.Facts] [hPre_attn_fwd_real : Cert.Pre_attn_fwd_real.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_attn_fwd_real m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v100) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  IdealRules.named_const.Statement Cert.Kernel3Ideal.κ "mask" .f32 0xF149F2CA#32 ⊥
  ∧ IdealRules.named_const.Statement Cert.Kernel3Ideal.κ "s1" .f32 0x3F3504F3#32 (((Real.sqrt 2)⁻¹ : ℝ) : EReal)
  ∧ IdealRules.named_const.Statement Cert.Kernel3Ideal.κ "s3" .f32 0x3EB504F3#32 (((Real.sqrt 8)⁻¹ : ℝ) : EReal)
  ∧ IdealRules.named_const.Statement Cert.Kernel3Ideal.κ "s5" .f32 0x3E3504F3#32 (((Real.sqrt 32)⁻¹ : ℝ) : EReal)
  ∧ IdealRules.named_const.Statement Cert.Kernel3Ideal.κ "s7" .f32 0x3DB504F3#32 (((Real.sqrt 128)⁻¹ : ℝ) : EReal)
  ∧ IdealRules.named_const.Statement Cert.Kernel3Ideal.κ "s9" .f32 0x3D3504F3#32 (((Real.sqrt 512)⁻¹ : ℝ) : EReal)
  ∧ IdealRules.named_const.Statement Cert.Kernel3Ideal.κ "s11" .f32 0x3CB504F3#32 (((Real.sqrt 2048)⁻¹ : ℝ) : EReal)
  ∧ IdealRules.named_const.Statement Cert.Kernel3Ideal.κ "s13" .f32 0x3C3504F3#32 (((Real.sqrt 8192)⁻¹ : ℝ) : EReal)
  ∧ IdealRules.named_const.Statement Cert.Kernel3Ideal.κ "s15" .f32 0x3BB504F3#32 (((Real.sqrt 32768)⁻¹ : ℝ) : EReal)

def preserves_Kernel4_Kernel4Ideal : Prop :=
  True

def algebraic_Kernel4Ideal_Reference4Ideal_pre_dxn_real [hKernel4Ideal : Cert.Kernel4Ideal.Facts] [hReference4Ideal : Cert.Reference4Ideal.Facts] [hPre_dxn_real : Cert.Pre_dxn_real.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_dxn_real m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_dxn2_real [hKernel5Ideal : Cert.Kernel5Ideal.Facts] [hReference5Ideal : Cert.Reference5Ideal.Facts] [hPre_dxn2_real : Cert.Pre_dxn2_real.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_dxn2_real m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_v46) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_loss_real [hKernel6Ideal : Cert.Kernel6Ideal.Facts] [hReference6Ideal : Cert.Reference6Ideal.Facts] [hPre_loss_real : Cert.Pre_loss_real.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_loss_real m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v54) = v0 c
          ∧ r.2.mem ((c.tc : Thread Cert.Reference6Ideal.nD Cert.Reference6Ideal.τ).loc Cert.Reference6Ideal.main_v55) = v1 c
          ∧ r.2.mem ((c.tc : Thread Cert.Reference6Ideal.nD Cert.Reference6Ideal.τ).loc Cert.Reference6Ideal.main_v56) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v10_0)) (v1 : (c : Dev Cert.Kernel8Ideal.nD) → Buf (Elt Ideal) ((c.tc : Thread Cert.Kernel8Ideal.nD Cert.Kernel8Ideal.τ).loc Cert.Kernel8Ideal.main_v10_1)) (v2 : (c : Dev Cert.Kernel8Ideal.nD) → Buf (Elt Ideal) ((c.tc : Thread Cert.Kernel8Ideal.nD Cert.Kernel8Ideal.τ).loc Cert.Kernel8Ideal.main_v10_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10_0) = v0 c
          ∧ r.2.mem ((c.tc : Thread Cert.Kernel8Ideal.nD Cert.Kernel8Ideal.τ).loc Cert.Kernel8Ideal.main_v10_1) = v1 c
          ∧ r.2.mem ((c.tc : Thread Cert.Kernel8Ideal.nD Cert.Kernel8Ideal.τ).loc Cert.Kernel8Ideal.main_v10_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_v21) = v1 c
          ∧ r.2.mem ((c.tc : Thread Cert.Reference8Ideal.nD Cert.Reference8Ideal.τ).loc Cert.Reference8Ideal.main_v24) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v10_0)) (v1 : (c : Dev Cert.Kernel9Ideal.nD) → Buf (Elt Ideal) ((c.tc : Thread Cert.Kernel9Ideal.nD Cert.Kernel9Ideal.τ).loc Cert.Kernel9Ideal.main_v10_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10_0) = v0 c
          ∧ r.2.mem ((c.tc : Thread Cert.Kernel9Ideal.nD Cert.Kernel9Ideal.τ).loc Cert.Kernel9Ideal.main_v10_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v16) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v21) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_swiglu_real : Cert.Pre_swiglu_real.Facts) (hPre_attn_fwd_real : Cert.Pre_attn_fwd_real.Facts) (hPre_dxn_real : Cert.Pre_dxn_real.Facts) (hPre_dxn2_real : Cert.Pre_dxn2_real.Facts) (hPre_loss_real : Cert.Pre_loss_real.Facts),
    quiescent_Kernel (hKernel := hKernel)
    ∧ quiescent_KernelIdeal (hKernelIdeal := hKernelIdeal)
    ∧ quiescent_KernelIdeal_pre_swiglu_real (hKernelIdeal := hKernelIdeal) (hPre_swiglu_real := hPre_swiglu_real)
    ∧ quiescent_ReferenceIdeal (hReferenceIdeal := hReferenceIdeal)
    ∧ quiescent_ReferenceIdeal_pre_swiglu_real (hReferenceIdeal := hReferenceIdeal) (hPre_swiglu_real := hPre_swiglu_real)
    ∧ quiescent_Kernel2 (hKernel2 := hKernel2)
    ∧ quiescent_Kernel2Ideal (hKernel2Ideal := hKernel2Ideal)
    ∧ quiescent_Kernel2Ideal_pre_attn_fwd_real (hKernel2Ideal := hKernel2Ideal) (hPre_attn_fwd_real := hPre_attn_fwd_real)
    ∧ quiescent_Reference2Ideal (hReference2Ideal := hReference2Ideal)
    ∧ quiescent_Reference2Ideal_pre_attn_fwd_real (hReference2Ideal := hReference2Ideal) (hPre_attn_fwd_real := hPre_attn_fwd_real)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_dxn_real (hKernel4Ideal := hKernel4Ideal) (hPre_dxn_real := hPre_dxn_real)
    ∧ quiescent_Reference4Ideal (hReference4Ideal := hReference4Ideal)
    ∧ quiescent_Reference4Ideal_pre_dxn_real (hReference4Ideal := hReference4Ideal) (hPre_dxn_real := hPre_dxn_real)
    ∧ quiescent_Kernel5 (hKernel5 := hKernel5)
    ∧ quiescent_Kernel5Ideal (hKernel5Ideal := hKernel5Ideal)
    ∧ quiescent_Kernel5Ideal_pre_dxn2_real (hKernel5Ideal := hKernel5Ideal) (hPre_dxn2_real := hPre_dxn2_real)
    ∧ quiescent_Reference5Ideal (hReference5Ideal := hReference5Ideal)
    ∧ quiescent_Reference5Ideal_pre_dxn2_real (hReference5Ideal := hReference5Ideal) (hPre_dxn2_real := hPre_dxn2_real)
    ∧ quiescent_Kernel6 (hKernel6 := hKernel6)
    ∧ quiescent_Kernel6Ideal (hKernel6Ideal := hKernel6Ideal)
    ∧ quiescent_Kernel6Ideal_pre_loss_real (hKernel6Ideal := hKernel6Ideal) (hPre_loss_real := hPre_loss_real)
    ∧ quiescent_Reference6Ideal (hReference6Ideal := hReference6Ideal)
    ∧ quiescent_Reference6Ideal_pre_loss_real (hReference6Ideal := hReference6Ideal) (hPre_loss_real := hPre_loss_real)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_swiglu_real (hKernelIdeal := hKernelIdeal) (hReferenceIdeal := hReferenceIdeal) (hPre_swiglu_real := hPre_swiglu_real)
    ∧ preserves_Kernel2_Kernel2Ideal
    ∧ algebraic_Kernel2Ideal_Reference2Ideal_pre_attn_fwd_real (hKernel2Ideal := hKernel2Ideal) (hReference2Ideal := hReference2Ideal) (hPre_attn_fwd_real := hPre_attn_fwd_real)
    ∧ preserves_Kernel3_Kernel3Ideal
    ∧ preserves_Kernel4_Kernel4Ideal
    ∧ algebraic_Kernel4Ideal_Reference4Ideal_pre_dxn_real (hKernel4Ideal := hKernel4Ideal) (hReference4Ideal := hReference4Ideal) (hPre_dxn_real := hPre_dxn_real)
    ∧ preserves_Kernel5_Kernel5Ideal
    ∧ algebraic_Kernel5Ideal_Reference5Ideal_pre_dxn2_real (hKernel5Ideal := hKernel5Ideal) (hReference5Ideal := hReference5Ideal) (hPre_dxn2_real := hPre_dxn2_real)
    ∧ preserves_Kernel6_Kernel6Ideal
    ∧ algebraic_Kernel6Ideal_Reference6Ideal_pre_loss_real (hKernel6Ideal := hKernel6Ideal) (hReference6Ideal := hReference6Ideal) (hPre_loss_real := hPre_loss_real)
    ∧ preserves_Kernel7_Kernel7Ideal
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_attn_fwd_real.lean ====
abbrev S8192x5632 : Shape := ⟨2, ![8192, 5632]⟩
abbrev S1x16 : Shape := ⟨2, ![1, 16]⟩
abbrev S8192x1280 : Shape := ⟨2, ![8192, 1280]⟩
abbrev S_ : Shape := ⟨0, ![]⟩

class Facts : Prop where
  slices_S8192x5632_S8192x1280_0_2048 : S8192x5632.Slices ![0, 2048] S8192x1280
  bitsLt_bf16_f32 : FTy.bits .bf16 < FTy.bits .f32
  bcast_S_S8192x1280 : S_.BroadcastsInDim S8192x1280 (![] : Fin 0 → Fin S8192x1280.rank)
  reducesTo_S8192x1280_S_d0_1 : S8192x1280.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S8192x5632 .bf16) (main_arg1 : FVec F S1x16 .f32) : IVec S_ 1 :=
  let main_v0 : FVec F S8192x1280 .bf16 := (extractStridedSlice S8192x1280 ![0, 2048] · slices_S8192x5632_S8192x1280_0_2048) main_arg0
  let main_v1 : FVec F S8192x1280 .f32 := (extf .f32 · bitsLt_bf16_f32) main_v0
  let main_v2 : FVec F S8192x1280 .f32 := Host.absf main_v1
  let main_cst : FVec F S_ .f32 := constant S_ .f32 0x7F800000#32
  let main_v3 : FVec F S8192x1280 .f32 := broadcastInDim S8192x1280 ![] bcast_S_S8192x1280 main_cst
  let main_v4 : IVec S8192x1280 1 := cmpf .olt main_v2 main_v3
  let main_c : IVec S_ 1 := constantI S_ 1 1#1
  let main_v5 : IVec S_ 1 := (fun x v => Host.reduce IntOp.andi x v reducesTo_S8192x1280_S_d0_1 h_S_) main_v4 main_c
  let main_v6 : FVec F S1x16 .f32 := Host.absf main_arg1
  let main_cst_0 : FVec F S_ .f32 := constant S_ .f32 0x7F800000#32
  let main_v7 : FVec F S1x16 .f32 := broadcastInDim S1x16 ![] bcast_S_S1x16 main_cst_0
  let main_v8 : IVec S1x16 1 := cmpf .olt main_v6 main_v7
  let main_c_1 : IVec S_ 1 := constantI S_ 1 1#1
  let main_v9 : IVec S_ 1 := (fun x v => Host.reduce IntOp.andi x v reducesTo_S1x16_S_d0_1 h_S_) main_v8 main_c_1
  let main_v10 : IVec S_ 1 := andi main_v5 main_v9
  main_v10
-- ==== Pre_dxn2_real.lean ====
abbrev S8192x1024 : Shape := ⟨2, ![8192, 1024]⟩
abbrev S1024 : Shape := ⟨1, ![1024]⟩
abbrev S1024x5632 : Shape := ⟨2, ![1024, 5632]⟩
abbrev S2x8192x2816 : Shape := ⟨3, ![2, 8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S1024x5632 : S_.BroadcastsInDim S1024x5632 (![] : Fin 0 → Fin S1024x5632.rank)
  reducesTo_S1024x5632_S_d0_1 : S1024x5632.ReducesTo [0, 1] S_
  bcast_S_S2x8192x2816 : S_.BroadcastsInDim S2x8192x2816 (![] : Fin 0 → Fin S2x8192x2816.rank)
  reducesTo_S2x8192x2816_S_d0_1_2 : S2x8192x2816.ReducesTo [0, 1, 2] S_

variable [Facts]

def fn_part1 {F : FTy → Type} [FloatOps F] (main_v14 : IVec S_ 1) (main_v16 : FVec F S2x8192x2816 .f32) (main_cst_4 : FVec F S_ .f32) : IVec S_ 1 :=
  let main_v17 : FVec F S2x8192x2816 .f32 := broadcastInDim S2x8192x2816 ![] bcast_S_S2x8192x2816 main_cst_4
  let main_v18 : IVec S2x8192x2816 1 := cmpf .olt main_v16 main_v17
  let main_c_5 : IVec S_ 1 := constantI S_ 1 1#1
  let main_v19 : IVec S_ 1 := (fun x v => Host.reduce IntOp.andi x v reducesTo_S2x8192x2816_S_d0_1_2 h_S_) main_v18 main_c_5
  let main_v20 : IVec S_ 1 := andi main_v14 main_v19
  main_v20

def fn {F : FTy → Type} [FloatOps F] (main_arg0 : FVec F S8192x1024 .f32) (main_arg1 : FVec F S1024 .f32) (main_arg2 : FVec F S1024x5632 .bf16) (main_arg3 : FVec F S2x8192x2816 .bf16) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := (extf .f32 · bitsLt_bf16_f32) main_arg2
  let main_v10 : FVec F S1024x5632 .f32 := Host.absf main_v9
  let main_cst_2 : FVec F S_ .f32 := constant S_ .f32 0x7F800000#32
  let main_v11 : FVec F S1024x5632 .f32 := broadcastInDim S1024x5632 ![] bcast_S_S1024x5632 main_cst_2
  let main_v12 : IVec S1024x5632 1 := cmpf .olt main_v10 main_v11
  let main_c_3 : IVec S_ 1 := constantI S_ 1 1#1
  let main_v13 : IVec S_ 1 := (fun x v => Host.reduce IntOp.andi x v reducesTo_S1024x5632_S_d0_1 h_S_) main_v12 main_c_3
  let main_v14 : IVec S_ 1 := andi main_v8 main_v13
  let main_v15 : FVec F S2x8192x2816 .f32 := (extf .f32 · bitsLt_bf16_f32) main_arg3
  let main_v16 : FVec F S2x8192x2816 .f32 := Host.absf main_v15
  let main_cst_4 : FVec F S_ .f32 := constant S_ .f32 0x7F800000#32
  fn_part1 (F := F) main_v14 main_v16 main_cst_4
-- ==== Pre_dxn_real.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S1024x5632 : S_.BroadcastsInDim S1024x5632 (![] : Fin 0 → Fin S1024x5632.rank)
  reducesTo_S1024x5632_S_d0_1 : S1024x5632.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn_part1 {F : FTy → Type} [FloatOps F] (main_v14 : IVec S_ 1) (main_v16 : FVec F S8192x5632 .f32) (main_cst_4 : FVec F S_ .f32) : IVec S_ 1 :=
  let main_v17 : FVec F S8192x5632 .f32 := broadcastInDim S8192x5632 ![] bcast_S_S8192x5632 main_cst_4
  let main_v18 : IVec S8192x5632 1 := cmpf .olt main_v16 main_v17
  let main_c_5 : IVec S_ 1 := constantI S_ 1 1#1
  let main_v19 : IVec S_ 1 := (fun x v => Host.reduce IntOp.andi x v reducesTo_S8192x5632_S_d0_1 h_S_) main_v18 main_c_5
  let main_v20 : IVec S_ 1 := andi main_v14 main_v19
  main_v20

def fn {F : FTy → Type} [FloatOps F] (main_arg0 : FVec F S8192x1024 .f32) (main_arg1 : FVec F S1024 .f32) (main_arg2 : FVec F S1024x5632 .bf16) (main_arg3 : FVec F S8192x5632 .bf16) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := (extf .f32 · bitsLt_bf16_f32) main_arg2
  let main_v10 : FVec F S1024x5632 .f32 := Host.absf main_v9
  let main_cst_2 : FVec F S_ .f32 := constant S_ .f32 0x7F800000#32
  let main_v11 : FVec F S1024x5632 .f32 := broadcastInDim S1024x5632 ![] bcast_S_S1024x5632 main_cst_2
  let main_v12 : IVec S1024x5632 1 := cmpf .olt main_v10 main_v11
  let main_c_3 : IVec S_ 1 := constantI S_ 1 1#1
  let main_v13 : IVec S_ 1 := (fun x v => Host.reduce IntOp.andi x v reducesTo_S1024x5632_S_d0_1 h_S_) main_v12 main_c_3
  let main_v14 : IVec S_ 1 := andi main_v8 main_v13
  let main_v15 : FVec F S8192x5632 .f32 := (extf .f32 · bitsLt_bf16_f32) main_arg3
  let main_v16 : FVec F S8192x5632 .f32 := Host.absf main_v15
  let main_cst_4 : FVec F S_ .f32 := constant S_ .f32 0x7F800000#32
  fn_part1 (F := F) main_v14 main_v16 main_cst_4
-- ==== Pre_loss_real.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x1024 .f32) (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  let main_v21 : FVec F S8192x1024 .f32 := Host.absf main_arg4
  let main_cst_6 : FVec F S_ .f32 := constant S_ .f32 0x7F800000#32
  let main_v22 : FVec F S8192x1024 .f32 := broadcastInDim S8192x1024 ![] bcast_S_S8192x1024 main_cst_6
  let main_v23 : IVec S8192x1024 1 := cmpf .olt main_v21 main_v22
  let main_c_7 : IVec S_ 1 := constantI S_ 1 1#1
  let main_v24 : IVec S_ 1 := (fun x v => Host.reduce IntOp.andi x v reducesTo_S8192x1024_S_d0_1 h_S_) main_v23 main_c_7
  let main_v25 : IVec S_ 1 := andi main_v20 main_v24
  main_v25

def fn {F : FTy → Type} [FloatOps F] (main_arg0 : FVec F S8192x2816 .bf16) (main_arg1 : FVec F S2816x1024 .bf16) (main_arg2 : FVec F S8192x1024 .f32) (main_arg3 : FVec F S1024 .f32) (main_arg4 : FVec F S8192x1024 .f32) : IVec S_ 1 :=
  let main_v0 : FVec F S8192x2816 .f32 := (extf .f32 · bitsLt_bf16_f32) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_c : IVec S_ 1 := constantI S_ 1 1#1
  let main_v4 : IVec S_ 1 := (fun x v => Host.reduce IntOp.andi x v reducesTo_S8192x2816_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S8192x1024 .f32 := Host.absf main_arg2
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_arg4 main_v15 main_v16 main_cst_4
-- ==== Pre_swiglu_real.lean ====
abbrev S8192x1024 : Shape := ⟨2, ![8192, 1024]⟩
abbrev S2816x1024 : Shape := ⟨2, ![2816, 1024]⟩
abbrev S2x8192x2816 : Shape := ⟨3, ![2, 8192, 2816]⟩
abbrev S_ : Shape := ⟨0, ![]⟩
abbrev S1x8192x2816 : Shape := ⟨3, ![1, 8192, 2816]⟩
abbrev S8192x2816 : Shape := ⟨2, ![8192, 2816]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  slices_S2x8192x2816_S1x8192x2816_1_0_0 : S2x8192x2816.Slices ![1, 0, 0] S1x8192x2816
  shapeCasts_S1x8192x2816_S8192x2816 : S1x8192x2816.ShapeCasts S8192x2816
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .f32) (main_arg1 : FVec F S2816x1024 .bf16) (main_arg2 : FVec F S2x8192x2816 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v3 main_v8
  let main_v10 : FVec F S1x8192x2816 .bf16 := (extractStridedSlice S1x8192x2816 ![1, 0, 0] · slices_S2x8192x2816_S1x8192x2816_1_0_0) main_arg2
  let main_v11 : FVec F S8192x2816 .bf16 := shapeCast S8192x2816 main_v10 shapeCasts_S1x8192x2816_S8192x2816
  let main_v12 : FVec F S8192x2816 .f32 := (extf .f32 · bitsLt_bf16_f32) main_v11
  let main_v13 : FVec F S8192x2816 .f32 := Host.absf main_v12
  let main_cst_2 : FVec F S_ .f32 := constant S_ .f32 0x7F800000#32
  let main_v14 : FVec F S8192x2816 .f32 := broadcastInDim S8192x2816 ![] bcast_S_S8192x2816 main_cst_2
  let main_v15 : IVec S8192x2816 1 := cmpf .olt main_v13 main_v14
  let main_c_3 : IVec S_ 1 := constantI S_ 1 1#1
  let main_v16 : IVec S_ 1 := (fun x v => Host.reduce IntOp.andi x v reducesTo_S8192x2816_S_d0_1 h_S_) main_v15 main_c_3
  let main_v17 : IVec S_ 1 := andi main_v9 main_v16
  main_v17
-- ==== Kernel.lean ====
abbrev S8192x1024 : Shape := ⟨2, ![8192, 1024]⟩
abbrev S2816x1024 : Shape := ⟨2, ![2816, 1024]⟩
abbrev S2x8192x2816 : Shape := ⟨3, ![2, 8192, 2816]⟩
abbrev S256x1024 : Shape := ⟨2, ![256, 1024]⟩
abbrev S2x256x2816 : Shape := ⟨3, ![2, 256, 2816]⟩
abbrev S256x2816 : Shape := ⟨2, ![256, 2816]⟩
abbrev S1x256x2816 : Shape := ⟨3, ![1, 256, 2816]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S2x8192x2816, .bf16⟩
  | .hbm, ⟨3, _⟩ => ⟨S2x8192x2816, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S2x256x2816, .bf16⟩
  | .local _ .vmem, ⟨4, _⟩ => ⟨S2x256x2816, .bf16⟩
  | .local _ .vmem, ⟨5, _⟩ => ⟨S2x256x2816, .bf16⟩
  | .local _ .vmem, ⟨6, _⟩ => ⟨S2x256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8192x1024 : Shape := ⟨2, ![8192, 1024]⟩
abbrev S2816x1024 : Shape := ⟨2, ![2816, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S2x8192x2816, .bf16⟩
  | .hbm, ⟨3, _⟩ => ⟨S2816x1024, .f32⟩
  | .hbm, ⟨4, _⟩ => ⟨S1x8192x2816, .bf16⟩
  | .hbm, ⟨5, _⟩ => ⟨S8192x2816, .bf16⟩
  | .hbm, ⟨6, _⟩ => ⟨S8192x2816, .f32⟩
  | .hbm, ⟨7, _⟩ => ⟨S1x8192x2816, .bf16⟩
  | .hbm, ⟨8, _⟩ => ⟨S8192x2816, .bf16⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S1x8192x2816, .f32⟩
  | .hbm, ⟨33, _⟩ => ⟨S1x8192x2816, .f32⟩
  | .hbm, ⟨34, _⟩ => ⟨S2x8192x2816, .f32⟩
  | .hbm, ⟨35, _⟩ => ⟨S2x8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== Kernel2.lean ====
abbrev S8192x5632 : Shape := ⟨2, ![8192, 5632]⟩
abbrev S1x16 : Shape := ⟨2, ![1, 16]⟩
abbrev S8192x1024 : Shape := ⟨2, ![8192, 1024]⟩
abbrev S128x1024 : Shape := ⟨2, ![128, 1024]⟩
abbrev S128x256 : Shape := ⟨2, ![128, 256]⟩
abbrev S128x384 : Shape := ⟨2, ![128, 384]⟩
abbrev S384x256 : Shape := ⟨2, ![384, 256]⟩
abbrev S128x128 : Shape := ⟨2, ![128, 128]⟩
abbrev S384x128 : Shape := ⟨2, ![384, 128]⟩
abbrev S512x128 : Shape := ⟨2, ![512, 128]⟩
abbrev S512x384 : Shape := ⟨2, ![512, 384]⟩
abbrev S1x1 : Shape := ⟨2, ![1, 1]⟩
abbrev S128 : Shape := ⟨1, ![128]⟩
abbrev S128x1 : Shape := ⟨2, ![128, 1]⟩

abbrev nBuf : Space → Nat
  | .hbm => 3
  | .vmem => 16
  | .smem => 1
  | _ => 0

abbrev bufTy : (tb : Table) → Fin (tcTables nBuf tb) → BufTy
  | .hbm, ⟨0, _⟩ => ⟨S8192x5632, .bf16⟩
  | .hbm, ⟨1, _⟩ => ⟨S1x16, .f32⟩
  | .hbm, ⟨2, _⟩ => ⟨S8192x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S128x1024, .bf16⟩
  | .local _ .vmem, ⟨15, _⟩ => ⟨S128x1024, .bf16⟩
  | .local _ .smem, ⟨0, _⟩ => ⟨S1x16, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let c0_i32_0 : BitVec 32 := 0#32
  ![v1.toNat, c12_i32.toNat]

def cc0_transform_3 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c12_i32 : BitVec 32 := 12#32
  let c0_i32 : BitVec 32 := 0#32
  ![v1.toNat, c12_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c13_i32 : BitVec 32 := 13#32
  let c0_i32_0 : BitVec 32 := 0#32
  ![v1.toNat, c13_i32.toNat]

def cc0_transform_6 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c13_i32 : BitVec 32 := 13#32
  let c0_i32 : BitVec 32 := 0#32
  ![v1.toNat, c13_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel2Ideal.lean ====
variable {F : FTy → Type} [FloatOps F] [Named F]
def κ : String → Option EReal := fun
  | "mask" => some ⊥
  | "s1" => some (((Real.sqrt 2)⁻¹ : ℝ) : EReal)
  | "s11" => some (((Real.sqrt 2048)⁻¹ : ℝ) : EReal)
  | "s13" => some (((Real.sqrt 8192)⁻¹ : ℝ) : EReal)
  | "s15" => some (((Real.sqrt 32768)⁻¹ : ℝ) : EReal)
  | "s3" => some (((Real.sqrt 8)⁻¹ : ℝ) : EReal)
  | "s5" => some (((Real.sqrt 32)⁻¹ : ℝ) : EReal)
  | "s7" => some (((Real.sqrt 128)⁻¹ : ℝ) : EReal)
  | "s9" => some (((Real.sqrt 512)⁻¹ : ℝ) : EReal)
  | _ => none
-- ==== Reference2Ideal.lean ====
abbrev S8192x5632 : Shape := ⟨2, ![8192, 5632]⟩
abbrev S1x16 : Shape := ⟨2, ![1, 16]⟩
abbrev S8192x1024 : Shape := ⟨2, ![8192, 1024]⟩
abbrev S8192x256 : Shape := ⟨2, ![8192, 256]⟩
abbrev S16 : Shape := ⟨1, ![16]⟩
abbrev S8192x16x64 : Shape := ⟨3, ![8192, 16, 64]⟩
abbrev S8192x4x64 : Shape := ⟨3, ![8192, 4, 64]⟩
abbrev S_ : Shape := ⟨0, ![]⟩
abbrev S64x128x4x4x64 : Shape := ⟨5, ![64, 128, 4, 4, 64]⟩
abbrev S128x4x64 : Shape := ⟨3, ![128, 4, 64]⟩
abbrev S8448x4x64 : Shape := ⟨3, ![8448, 4, 64]⟩
abbrev S66x128x4x64 : Shape := ⟨4, ![66, 128, 4, 64]⟩
abbrev S64x128x4x64 : Shape := ⟨4, ![64, 128, 4, 64]⟩
abbrev S64x384x4x64 : Shape := ⟨4, ![64, 384, 4, 64]⟩
abbrev S64x4x384x128x4 : Shape := ⟨5, ![64, 4, 384, 128, 4]⟩
abbrev S64x4x4x128x384 : Shape := ⟨5, ![64, 4, 4, 128, 384]⟩
abbrev S128 : Shape := ⟨1, ![128]⟩
abbrev S384 : Shape := ⟨1, ![384]⟩
abbrev S128x1 : Shape := ⟨2, ![128, 1]⟩
abbrev S1x384 : Shape := ⟨2, ![1, 384]⟩
abbrev S128x384 : Shape := ⟨2, ![128, 384]⟩
abbrev S64 : Shape := ⟨1, ![64]⟩
abbrev S64x1 : Shape := ⟨2, ![64, 1]⟩
abbrev S64x384 : Shape := ⟨2, ![64, 384]⟩
abbrev S1x128x384 : Shape := ⟨3, ![1, 128, 384]⟩
abbrev S64x1x384 : Shape := ⟨3, ![64, 1, 384]⟩
abbrev S64x128x384 : Shape := ⟨3, ![64, 128, 384]⟩
abbrev S4x4x1x1 : Shape := ⟨4, ![4, 4, 1, 1]⟩
abbrev S1x1x128x384 : Shape := ⟨4, ![1, 1, 128, 384]⟩
abbrev S4x4x128x384 : Shape := ⟨4, ![4, 4, 128, 384]⟩
abbrev S64x1x1x128x384 : Shape := ⟨5, ![64, 1, 1, 128, 384]⟩
abbrev S1x4x4x128x384 : Shape := ⟨5, ![1, 4, 4, 128, 384]⟩
abbrev S1x4x4x1x1 : Shape := ⟨5, ![1, 4, 4, 1, 1]⟩
abbrev S64x4x4x128 : Shape := ⟨4, ![64, 4, 4, 128]⟩
abbrev S64x4x4x128x1 : Shape := ⟨5, ![64, 4, 4, 128, 1]⟩
abbrev S64x4x64x4x128 : Shape := ⟨5, ![64, 4, 64, 4, 128]⟩

abbrev nBuf : Space → Nat
  | .hbm => 122
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1x16, .f32⟩
  | .hbm, ⟨2, _⟩ => ⟨S8192x5632, .f32⟩
  | .hbm, ⟨3, _⟩ => ⟨S8192x1024, .f32⟩
  | .hbm, ⟨4, _⟩ => ⟨S8192x256, .f32⟩
  | .hbm, ⟨5, _⟩ => ⟨S8192x256, .f32⟩
  | .hbm, ⟨6, _⟩ => ⟨S16, .f32⟩
  | .hbm, ⟨7, _⟩ => ⟨S8192x16x64, .f32⟩
  | .hbm, ⟨8, _⟩ => ⟨S8192x4x64, .f32⟩
  | .hbm, ⟨9, _⟩ => ⟨S8192x4x64, .f32⟩
  | .hbm, ⟨10, _⟩ => ⟨S_, .f32⟩
  | .hbm, ⟨11, _⟩ => ⟨S8192x16x64, .f32⟩
  | .hbm, ⟨12, _⟩ => ⟨S8192x16x64, .f32⟩
  | .hbm, ⟨13, _⟩ => ⟨S64x128x4x4x64, .f32⟩
  | .hbm, ⟨14, _⟩ => ⟨S_, .f32⟩
  | .hbm, ⟨15, _⟩ => ⟨S128x4x64, .f32⟩
  | .hbm, ⟨16, _⟩ => ⟨S8448x4x64, .f32⟩
  | .hbm, ⟨17, _⟩ => ⟨S66x128x4x64, .f32⟩
  | .hbm, ⟨18, _⟩ => ⟨S64x128x4x64, .f32⟩
  | .hbm, ⟨19, _⟩ => ⟨S64x128x4x64, .f32⟩
  | .hbm, ⟨20, _⟩ => ⟨S64x128x4x64, .f32⟩
  | .hbm, ⟨21, _⟩ => ⟨S64x384x4x64, .f32⟩
  | .hbm, ⟨22, _⟩ => ⟨S_, .f32⟩
  | .hbm, ⟨23, _⟩ => ⟨S128x4x64, .f32⟩
  | .hbm, ⟨24, _⟩ => ⟨S8448x4x64, .f32⟩
  | .hbm, ⟨25, _⟩ => ⟨S66x128x4x64, .f32⟩
  | .hbm, ⟨26, _⟩ => ⟨S64x128x4x64, .f32⟩
  | .hbm, ⟨27, _⟩ => ⟨S64x128x4x64, .f32⟩
  | .hbm, ⟨28, _⟩ => ⟨S64x128x4x64, .f32⟩
  | .hbm, ⟨29, _⟩ => ⟨S64x384x4x64, .f32⟩
  | .hbm, ⟨30, _⟩ => ⟨S64x4x384x128x4, .f32⟩
  | .hbm, ⟨31, _⟩ => ⟨S64x4x4x128x384, .f32⟩
  | .hbm, ⟨32, _⟩ => ⟨S128, .i32⟩
  | .hbm, ⟨33, _⟩ => ⟨S384, .i32⟩
  | .hbm, ⟨34, _⟩ => ⟨S128x1, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S1x384, .i32⟩
  | .hbm, ⟨39, _⟩ => ⟨S128x384, .i32⟩
  | .hbm, ⟨40, _⟩ => ⟨S128x384, .i32⟩
  | .hbm, ⟨41, _⟩ => ⟨S128x384, .i32⟩
  | .hbm, ⟨42, _⟩ => ⟨S64, .i32⟩
  | .hbm, ⟨43, _⟩ => ⟨S64x1, .i32⟩
  | .hbm, ⟨44, _⟩ => ⟨S_, .i32⟩
  | .hbm, ⟨45, _⟩ => ⟨S64x1, .i32⟩
  | .hbm, ⟨46, _⟩ => ⟨S64x1, .i32⟩
  | .hbm, ⟨47, _⟩ => ⟨S_, .i32⟩
  | .hbm, ⟨48, _⟩ => ⟨S64x1, .i32⟩
  | .hbm, ⟨49, _⟩ => ⟨S64x1, .i32⟩
  | .hbm, ⟨50, _⟩ => ⟨S1x384, .i32⟩
  | .hbm, ⟨51, _⟩ => ⟨S64x384, .i32⟩
  | .hbm, ⟨52, _⟩ => ⟨S64x384, .i32⟩
  | .hbm, ⟨53, _⟩ => ⟨S64x384, .i32⟩
  | .hbm, ⟨54, _⟩ => ⟨S128x384, .i32⟩
  | .hbm, ⟨55, _⟩ => ⟨S_, .i32⟩
  | .hbm, ⟨56, _⟩ => ⟨S128x384, .i32⟩
  | .hbm, ⟨57, _⟩ => ⟨S128x384, .i1⟩
  | .hbm, ⟨58, _⟩ => ⟨S1x128x384, .i1⟩
  | .hbm, ⟨59, _⟩ => ⟨S_, .i32⟩
  | .hbm, ⟨60, _⟩ => ⟨S64x384, .i32⟩
  | .hbm, ⟨61, _⟩ => ⟨S64x384, .i1⟩
  | .hbm, ⟨62, _⟩ => ⟨S_, .i32⟩
  | .hbm, ⟨63, _⟩ => ⟨S64x384, .i32⟩
  | .hbm, ⟨64, _⟩ => ⟨S64x384, .i1⟩
  | .hbm, ⟨65, _⟩ => ⟨S64x384, .i1⟩
  | .hbm, ⟨66, _⟩ => ⟨S64x1x384, .i1⟩
  | .hbm, ⟨67, _⟩ => ⟨S64x128x384, .i1⟩
  | .hbm, ⟨68, _⟩ => ⟨S64x128x384, .i1⟩
  | .hbm, ⟨69, _⟩ => ⟨S64x128x384, .i1⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S_, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S_, .f32⟩
  | .hbm, ⟨81, _⟩ => ⟨S16, .f32⟩
  | .hbm, ⟨82, _⟩ => ⟨S16, .f32⟩
  | .hbm, ⟨83, _⟩ => ⟨S4x4x1x1, .f32⟩
  | .hbm, ⟨84, _⟩ => ⟨S4x4x1x1, .f32⟩
  | .hbm, ⟨85, _⟩ => ⟨S128x384, .i32⟩
  | .hbm, ⟨86, _⟩ => ⟨S128x384, .f32⟩
  | .hbm, ⟨87, _⟩ => ⟨S1x1x128x384, .f32⟩
  | .hbm, ⟨88, _⟩ => ⟨S4x4x128x384, .f32⟩
  | .hbm, ⟨89, _⟩ => ⟨S4x4x128x384, .f32⟩
  | .hbm, ⟨90, _⟩ => ⟨S4x4x128x384, .f32⟩
  | .hbm, ⟨91, _⟩ => ⟨S64x1x1x128x384, .i1⟩
  | .hbm, ⟨92, _⟩ => ⟨S1x4x4x128x384, .f32⟩
  | .hbm, ⟨93, _⟩ => ⟨S64x4x4x128x384, .f32⟩
  | .hbm, ⟨94, _⟩ => ⟨S64x4x4x128x384, .f32⟩
  | .hbm, ⟨95, _⟩ => ⟨S_, .f32⟩
  | .hbm, ⟨96, _⟩ => ⟨S_, .f32⟩
  | .hbm, ⟨97, _⟩ => ⟨S64x4x4x128x384, .i1⟩
  | .hbm, ⟨98, _⟩ => ⟨S64x4x4x128x384, .f32⟩
  | .hbm, ⟨99, _⟩ => ⟨S64x4x4x128x384, .f32⟩
  | .hbm, ⟨100, _⟩ => ⟨S1x4x4x1x1, .f32⟩
  | .hbm, ⟨101, _⟩ => ⟨S_, .f32⟩
  | .hbm, ⟨102, _⟩ => ⟨S64x4x4x128, .f32⟩
  | .hbm, ⟨103, _⟩ => ⟨S64x4x4x128x1, .f32⟩
  | .hbm, ⟨104, _⟩ => ⟨S64x4x4x128x1, .f32⟩
  | .hbm, ⟨105, _⟩ => ⟨S64x4x4x128x1, .f32⟩
  | .hbm, ⟨106, _⟩ => ⟨S64x4x4x128x384, .f32⟩
  | .hbm, ⟨107, _⟩ => ⟨S64x4x4x128x384, .f32⟩
  | .hbm, ⟨108, _⟩ => ⟨S64x4x4x128x384, .f32⟩
  | .hbm, ⟨109, _⟩ => ⟨S_, .f32⟩
  | .hbm, ⟨110, _⟩ => ⟨S64x4x4x128, .f32⟩
  | .hbm, ⟨111, _⟩ => ⟨S64x4x4x128x1, .f32⟩
  | .hbm, ⟨112, _⟩ => ⟨S64x4x4x128x1, .f32⟩
  | .hbm, ⟨113, _⟩ => ⟨S64x4x4x128x1, .f32⟩
  | .hbm, ⟨114, _⟩ => ⟨S64x4x4x128x1, .f32⟩
  | .hbm, ⟨115, _⟩ => ⟨S64x4x4x128x1, .f32⟩
  | .hbm, ⟨116, _⟩ => ⟨S64x4x4x128x384, .f32⟩
  | .hbm, ⟨117, _⟩ => ⟨S64x4x4x128x384, .f32⟩
  | .hbm, ⟨118, _⟩ => ⟨S64x4x64x4x128, .f32⟩
  | .hbm, ⟨119, _⟩ => ⟨S64x128x4x4x64, .f32⟩
  | .hbm, ⟨120, _⟩ => ⟨S8192x1024, .f32⟩
  | .hbm, ⟨121, _⟩ => ⟨S8192x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_c_2 : Ref sig .tc := ⟨.hbm, 44, rfl⟩
abbrev main_v38 : Ref sig .tc := ⟨.hbm, 45, rfl⟩
abbrev main_v39 : Ref sig .tc := ⟨.hbm, 46, rfl⟩
abbrev main_c_3 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_c_4 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_c_5 : Ref sig .tc := ⟨.hbm, 59, rfl⟩
abbrev main_v50 : Ref sig .tc := ⟨.hbm, 60, rfl⟩
abbrev main_v51 : Ref sig .tc := ⟨.hbm, 61, rfl⟩
abbrev main_c_6 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_7 : Ref sig .tc := ⟨.hbm, 71, rfl⟩
abbrev main_v60 : Ref sig .tc := ⟨.hbm, 72, rfl⟩
abbrev main_v61 : Ref sig .tc := ⟨.hbm, 73, rfl⟩
abbrev main_cst_8 : Ref sig .tc := ⟨.hbm, 74, rfl⟩
abbrev main_v62 : Ref sig .tc := ⟨.hbm, 75, rfl⟩
abbrev main_v63 : Ref sig .tc := ⟨.hbm, 76, rfl⟩
abbrev main_cst_9 : Ref sig .tc := ⟨.hbm, 77, rfl⟩
abbrev main_v64 : Ref sig .tc := ⟨.hbm, 78, rfl⟩
abbrev main_v65 : Ref sig .tc := ⟨.hbm, 79, rfl⟩
abbrev main_cst_10 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_11 : Ref sig .tc := ⟨.hbm, 95, rfl⟩
abbrev main_call0_v0 : Ref sig .tc := ⟨.hbm, 96, rfl⟩
abbrev main_call0_v1 : Ref sig .tc := ⟨.hbm, 97, rfl⟩
abbrev main_call0_v2 : Ref sig .tc := ⟨.hbm, 98, rfl⟩
abbrev main_v80 : Ref sig .tc := ⟨.hbm, 99, rfl⟩
abbrev main_v81 : Ref sig .tc := ⟨.hbm, 100, rfl⟩
abbrev main_cst_12 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_13 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩

abbrev nD : Nat := 1
abbrev τ : Topo := Topo.v7x

variable {F : FTy → Type} [FloatOps F]
-- ==== Kernel3.lean ====
abbrev S8192x5632 : Shape := ⟨2, ![8192, 5632]⟩
abbrev S1x16 : Shape := ⟨2, ![1, 16]⟩
abbrev S2x8192x1024 : Shape := ⟨3, ![2, 8192, 1024]⟩
abbrev S8192x1024 : Shape := ⟨2, ![8192, 1024]⟩
abbrev S8192x256 : Shape := ⟨2, ![8192, 256]⟩
abbrev S16 : Shape := ⟨1, ![16]⟩
abbrev S8192x16x64 : Shape := ⟨3, ![8192, 16, 64]⟩
abbrev S8192x4x64 : Shape := ⟨3, ![8192, 4, 64]⟩
abbrev S_ : Shape := ⟨0, ![]⟩
abbrev S64x128x4x4x64 : Shape := ⟨5, ![64, 128, 4, 4, 64]⟩
abbrev S128x4x64 : Shape := ⟨3, ![128, 4, 64]⟩
abbrev S8448x4x64 : Shape := ⟨3, ![8448, 4, 64]⟩
abbrev S66x128x4x64 : Shape := ⟨4, ![66, 128, 4, 64]⟩
abbrev S64x128x4x64 : Shape := ⟨4, ![64, 128, 4, 64]⟩
abbrev S64x384x4x64 : Shape := ⟨4, ![64, 384, 4, 64]⟩
abbrev S64x4x384x128x4 : Shape := ⟨5, ![64, 4, 384, 128, 4]⟩
abbrev S64x4x4x128x384 : Shape := ⟨5, ![64, 4, 4, 128, 384]⟩
abbrev S128 : Shape := ⟨1, ![128]⟩
abbrev S384 : Shape := ⟨1, ![384]⟩
abbrev S128x1 : Shape := ⟨2, ![128, 1]⟩
abbrev S1x384 : Shape := ⟨2, ![1, 384]⟩
abbrev S128x384 : Shape := ⟨2, ![128, 384]⟩
abbrev S64 : Shape := ⟨1, ![64]⟩
abbrev S64x1 : Shape := ⟨2, ![64, 1]⟩
abbrev S64x384 : Shape := ⟨2, ![64, 384]⟩
abbrev S1x128x384 : Shape := ⟨3, ![1, 128, 384]⟩
abbrev S64x1x384 : Shape := ⟨3, ![64, 1, 384]⟩
abbrev S64x128x384 : Shape := ⟨3, ![64, 128, 384]⟩
abbrev S4x4x1x1 : Shape := ⟨4, ![4, 4, 1, 1]⟩
abbrev S1x1x128x384 : Shape := ⟨4, ![1, 1, 128, 384]⟩
abbrev S4x4x128x384 : Shape := ⟨4, ![4, 4, 128, 384]⟩
abbrev S64x1x1x128x384 : Shape := ⟨5, ![64, 1, 1, 128, 384]⟩
abbrev S1x4x4x128x384 : Shape := ⟨5, ![1, 4, 4, 128, 384]⟩
abbrev S1x4x4x1x1 : Shape := ⟨5, ![1, 4, 4, 1, 1]⟩
abbrev S64x4x4x128 : Shape := ⟨4, ![64, 4, 4, 128]⟩
abbrev S64x4x4x128x1 : Shape := ⟨5, ![64, 4, 4, 128, 1]⟩
abbrev S64x4x64x4x128 : Shape := ⟨5, ![64, 4, 64, 4, 128]⟩
abbrev S16x128 : Shape := ⟨2, ![16, 128]⟩
abbrev S128x1024 : Shape := ⟨2, ![128, 1024]⟩
abbrev S128x256 : Shape := ⟨2, ![128, 256]⟩
abbrev S1x128x1024 : Shape := ⟨3, ![1, 128, 1024]⟩
abbrev S2x128x1024 : Shape := ⟨3, ![2, 128, 1024]⟩
abbrev S8192x512 : Shape := ⟨2, ![8192, 512]⟩
abbrev S3 : Shape := ⟨1, ![3]⟩
abbrev S1 : Shape := ⟨1, ![1]⟩
abbrev S384x256 : Shape := ⟨2, ![384, 256]⟩
abbrev S128x128 : Shape := ⟨2, ![128, 128]⟩
abbrev S384x128 : Shape := ⟨2, ![384, 128]⟩
abbrev S1x128x128 : Shape := ⟨3, ![1, 128, 128]⟩
abbrev S512x128 : Shape := ⟨2, ![512, 128]⟩
abbrev S512x384 : Shape := ⟨2, ![512, 384]⟩
abbrev S1x1 : Shape := ⟨2, ![1, 1]⟩
abbrev S1x128 : Shape := ⟨2, ![1, 128]⟩
abbrev S512x256 : Shape := ⟨2, ![512, 256]⟩

abbrev nBuf : Space → Nat
  | .hbm => 126
  | .vmem => 23
  | .smem => 1
  | _ => 0

abbrev bufTy : (tb : Table) → Fin (tcTables nBuf tb) → BufTy
  | .hbm, ⟨0, _⟩ => ⟨S8192x5632, .bf16⟩
  | .hbm, ⟨1, _⟩ => ⟨S1x16, .f32⟩
  | .hbm, ⟨2, _⟩ => ⟨S2x8192x1024, .bf16⟩
  | .hbm, ⟨3, _⟩ => ⟨S8192x5632, .bf16⟩
  | .hbm, ⟨4, _⟩ => ⟨S8192x5632, .f32⟩
  | .hbm, ⟨5, _⟩ => ⟨S8192x1024, .f32⟩
  | .hbm, ⟨6, _⟩ => ⟨S8192x256, .f32⟩
  | .hbm, ⟨7, _⟩ => ⟨S8192x256, .f32⟩
  | .hbm, ⟨8, _⟩ => ⟨S16, .f32⟩
  | .hbm, ⟨9, _⟩ => ⟨S8192x16x64, .f32⟩
  | .hbm, ⟨10, _⟩ => ⟨S8192x4x64, .f32⟩
  | .hbm, ⟨11, _⟩ => ⟨S8192x4x64, .f32⟩
  | .hbm, ⟨12, _⟩ => ⟨S_, .f32⟩
  | .hbm, ⟨13, _⟩ => ⟨S8192x16x64, .f32⟩
  | .hbm, ⟨14, _⟩ => ⟨S8192x16x64, .f32⟩
  | .hbm, ⟨15, _⟩ => ⟨S64x128x4x4x64, .f32⟩
  | .hbm, ⟨16, _⟩ => ⟨S_, .f32⟩
  | .hbm, ⟨17, _⟩ => ⟨S128x4x64, .f32⟩
  | .hbm, ⟨18, _⟩ => ⟨S8448x4x64, .f32⟩
  | .hbm, ⟨19, _⟩ => ⟨S66x128x4x64, .f32⟩
  | .hbm, ⟨20, _⟩ => ⟨S64x128x4x64, .f32⟩
  | .hbm, ⟨21, _⟩ => ⟨S64x128x4x64, .f32⟩
  | .hbm, ⟨22, _⟩ => ⟨S64x128x4x64, .f32⟩
  | .hbm, ⟨23, _⟩ => ⟨S64x384x4x64, .f32⟩
  | .hbm, ⟨24, _⟩ => ⟨S_, .f32⟩
  | .hbm, ⟨25, _⟩ => ⟨S128x4x64, .f32⟩
  | .hbm, ⟨26, _⟩ => ⟨S8448x4x64, .f32⟩
  | .hbm, ⟨27, _⟩ => ⟨S66x128x4x64, .f32⟩
  | .hbm, ⟨28, _⟩ => ⟨S64x128x4x64, .f32⟩
  | .hbm, ⟨29, _⟩ => ⟨S64x128x4x64, .f32⟩
  | .hbm, ⟨30, _⟩ => ⟨S64x128x4x64, .f32⟩
  | .hbm, ⟨31, _⟩ => ⟨S64x384x4x64, .f32⟩
  | .hbm, ⟨32, _⟩ => ⟨S64x4x384x128x4, .f32⟩
  | .hbm, ⟨33, _⟩ => ⟨S64x4x4x128x384, .f32⟩
  | .hbm, ⟨34, _⟩ => ⟨S128, .i32⟩
  | .hbm, ⟨35, _⟩ => ⟨S384, .i32⟩
  | .hbm, ⟨36, _⟩ => ⟨S128x1, .i32⟩
  | .hbm, ⟨37, _⟩ => ⟨S_, .i32⟩
  | .hbm, ⟨38, _⟩ => ⟨S128x1, .i32⟩
  | .hbm, ⟨39, _⟩ => ⟨S128x1, .i32⟩
  | .hbm, ⟨40, _⟩ => ⟨S1x384, .i32⟩
  | .hbm, ⟨41, _⟩ => ⟨S128x384, .i32⟩
  | .hbm, ⟨42, _⟩ => ⟨S128x384, .i32⟩
  | .hbm, ⟨43, _⟩ => ⟨S128x384, .i32⟩
  | .hbm, ⟨44, _⟩ => ⟨S64, .i32⟩
  | .hbm, ⟨45, _⟩ => ⟨S64x1, .i32⟩
  | .hbm, ⟨46, _⟩ => ⟨S_, .i32⟩
  | .hbm, ⟨47, _⟩ => ⟨S64x1, .i32⟩
  | .hbm, ⟨48, _⟩ => ⟨S64x1, .i32⟩
  | .hbm, ⟨49, _⟩ => ⟨S_, .i32⟩
  | .hbm, ⟨50, _⟩ => ⟨S64x1, .i32⟩
  | .hbm, ⟨51, _⟩ => ⟨S64x1, .i32⟩
  | .hbm, ⟨52, _⟩ => ⟨S1x384, .i32⟩
  | .hbm, ⟨53, _⟩ => ⟨S64x384, .i32⟩
  | .hbm, ⟨54, _⟩ => ⟨S64x384, .i32⟩
  | .hbm, ⟨55, _⟩ => ⟨S64x384, .i32⟩
  | .hbm, ⟨56, _⟩ => ⟨S128x384, .i32⟩
  | .hbm, ⟨57, _⟩ => ⟨S_, .i32⟩
  | .hbm, ⟨58, _⟩ => ⟨S128x384, .i32⟩
  | .hbm, ⟨59, _⟩ => ⟨S128x384, .i1⟩
  | .hbm, ⟨60, _⟩ => ⟨S1x128x384, .i1⟩
  | .hbm, ⟨61, _⟩ => ⟨S_, .i32⟩
  | .hbm, ⟨62, _⟩ => ⟨S64x384, .i32⟩
  | .hbm, ⟨63, _⟩ => ⟨S64x384, .i1⟩
  | .hbm, ⟨64, _⟩ => ⟨S_, .i32⟩
  | .hbm, ⟨65, _⟩ => ⟨S64x384, .i32⟩
  | .hbm, ⟨66, _⟩ => ⟨S64x384, .i1⟩
  | .hbm, ⟨67, _⟩ => ⟨S64x384, .i1⟩
  | .hbm, ⟨68, _⟩ => ⟨S64x1x384, .i1⟩
  | .hbm, ⟨69, _⟩ => ⟨S64x128x384, .i1⟩
  | .hbm, ⟨70, _⟩ => ⟨S64x128x384, .i1⟩
  | .hbm, ⟨71, _⟩ => ⟨S64x128x384, .i1⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S_, .f32⟩
  | .hbm, ⟨77, _⟩ => ⟨S16, .f32⟩
  | .hbm, ⟨78, _⟩ => ⟨S16, .f32⟩
  | .hbm, ⟨79, _⟩ => ⟨S_, .f32⟩
  | .hbm, ⟨80, _⟩ => ⟨S16, .f32⟩
  | .hbm, ⟨81, _⟩ => ⟨S16, .f32⟩
  | .hbm, ⟨82, _⟩ => ⟨S_, .f32⟩
  | .hbm, ⟨83, _⟩ => ⟨S16, .f32⟩
  | .hbm, ⟨84, _⟩ => ⟨S16, .f32⟩
  | .hbm, ⟨85, _⟩ => ⟨S4x4x1x1, .f32⟩
  | .hbm, ⟨86, _⟩ => ⟨S4x4x1x1, .f32⟩
  | .hbm, ⟨87, _⟩ => ⟨S128x384, .i32⟩
  | .hbm, ⟨88, _⟩ => ⟨S128x384, .f32⟩
  | .hbm, ⟨89, _⟩ => ⟨S1x1x128x384, .f32⟩
  | .hbm, ⟨90, _⟩ => ⟨S4x4x128x384, .f32⟩
  | .hbm, ⟨91, _⟩ => ⟨S4x4x128x384, .f32⟩
  | .hbm, ⟨92, _⟩ => ⟨S4x4x128x384, .f32⟩
  | .hbm, ⟨93, _⟩ => ⟨S64x1x1x128x384, .i1⟩
  | .hbm, ⟨94, _⟩ => ⟨S1x4x4x128x384, .f32⟩
  | .hbm, ⟨95, _⟩ => ⟨S64x4x4x128x384, .f32⟩
  | .hbm, ⟨96, _⟩ => ⟨S64x4x4x128x384, .f32⟩
  | .hbm, ⟨97, _⟩ => ⟨S_, .f32⟩
  | .hbm, ⟨98, _⟩ => ⟨S_, .f32⟩
  | .hbm, ⟨99, _⟩ => ⟨S64x4x4x128x384, .i1⟩
  | .hbm, ⟨100, _⟩ => ⟨S64x4x4x128x384, .f32⟩
  | .hbm, ⟨101, _⟩ => ⟨S64x4x4x128x384, .f32⟩
  | .hbm, ⟨102, _⟩ => ⟨S1x4x4x1x1, .f32⟩
  | .hbm, ⟨103, _⟩ => ⟨S_, .f32⟩
  | .hbm, ⟨104, _⟩ => ⟨S64x4x4x128, .f32⟩
  | .hbm, ⟨105, _⟩ => ⟨S64x4x4x128x1, .f32⟩
  | .hbm, ⟨106, _⟩ => ⟨S64x4x4x128x1, .f32⟩
  | .hbm, ⟨107, _⟩ => ⟨S64x4x4x128x1, .f32⟩
  | .hbm, ⟨108, _⟩ => ⟨S64x4x4x128x384, .f32⟩
  | .hbm, ⟨109, _⟩ => ⟨S64x4x4x128x384, .f32⟩
  | .hbm, ⟨110, _⟩ => ⟨S64x4x4x128x384, .f32⟩
  | .hbm, ⟨111, _⟩ => ⟨S_, .f32⟩
  | .hbm, ⟨112, _⟩ => ⟨S64x4x4x128, .f32⟩
  | .hbm, ⟨113, _⟩ => ⟨S64x4x4x128x1, .f32⟩
  | .hbm, ⟨114, _⟩ => ⟨S64x4x4x128x1, .f32⟩
  | .hbm, ⟨115, _⟩ => ⟨S64x4x4x128x1, .f32⟩
  | .hbm, ⟨116, _⟩ => ⟨S64x4x4x128x1, .f32⟩
  | .hbm, ⟨117, _⟩ => ⟨S64x4x4x128x1, .f32⟩
  | .hbm, ⟨118, _⟩ => ⟨S64x4x4x128x384, .f32⟩
  | .hbm, ⟨119, _⟩ => ⟨S64x4x4x128x384, .f32⟩
  | .hbm, ⟨120, _⟩ => ⟨S64x4x64x4x128, .f32⟩
  | .hbm, ⟨121, _⟩ => ⟨S64x128x4x4x64, .f32⟩
  | .hbm, ⟨122, _⟩ => ⟨S8192x1024, .f32⟩
  | .hbm, ⟨123, _⟩ => ⟨S8192x1024, .bf16⟩
  | .hbm, ⟨124, _⟩ => ⟨S8192x5632, .bf16⟩
  | .hbm, ⟨125, _⟩ => ⟨S16x128, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S128x1024, .bf16⟩
  | .local _ .vmem, ⟨15, _⟩ => ⟨S128x1024, .bf16⟩
  | .local _ .vmem, ⟨16, _⟩ => ⟨S1x128x1024, .bf16⟩
  | .local _ .vmem, ⟨17, _⟩ => ⟨S1x128x1024, .bf16⟩
  | .local _ .vmem, ⟨18, _⟩ => ⟨S16x128, .f32⟩
  | .local _ .vmem, ⟨19, _⟩ => ⟨S8192x256, .f32⟩
  | .local _ .vmem, ⟨20, _⟩ => ⟨S8192x256, .f32⟩
  | .local _ .vmem, ⟨21, _⟩ => ⟨S2x128x1024, .bf16⟩
  | .local _ .vmem, ⟨22, _⟩ => ⟨S8192x512, .bf16⟩
  | .local _ .smem, ⟨0, _⟩ => ⟨S1x16, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c_2 : Ref sig .tc := ⟨.hbm, 46, rfl⟩
abbrev main_v38 : Ref sig .tc := ⟨.hbm, 47, rfl⟩
abbrev main_v39 : Ref sig .tc := ⟨.hbm, 48, rfl⟩
abbrev main_c_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_5 : Ref sig .tc := ⟨.hbm, 61, rfl⟩
abbrev main_v50 : Ref sig .tc := ⟨.hbm, 62, rfl⟩
abbrev main_v51 : Ref sig .tc := ⟨.hbm, 63, rfl⟩
abbrev main_c_6 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_7 : Ref sig .tc := ⟨.hbm, 73, rfl⟩
abbrev main_v60 : Ref sig .tc := ⟨.hbm, 74, rfl⟩
abbrev main_v61 : Ref sig .tc := ⟨.hbm, 75, rfl⟩
abbrev main_cst_8 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_v64 : Ref sig .tc := ⟨.hbm, 80, rfl⟩
abbrev main_v65 : Ref sig .tc := ⟨.hbm, 81, rfl⟩
abbrev main_cst_10 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_11 : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_v80 : Ref sig .tc := ⟨.hbm, 101, rfl⟩
abbrev main_v81 : Ref sig .tc := ⟨.hbm, 102, rfl⟩
abbrev main_cst_12 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_13 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101_0 : Ref sig .tc := ⟨.hbm, 124, rfl⟩
abbrev main_v101_1 : Ref sig .tc := ⟨.hbm, 125, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c2_i32_3 : BitVec 32 := 2#32
  let v10 : BitVec 1 := Scalar.cmpi .sge arg0 c2_i32_3
  let v11 : BitVec 32 := Scalar.extui v10
  let c0_i32_4 : BitVec 32 := 0#32
  let v12 : BitVec 1 := Scalar.cmpi .ne v11 c0_i32_4
  v12

def k0_mult1 (i : grid0.Coords) : BitVec 32 :=
  let arg0 : BitVec 32 := BitVec.ofNat 32 (i 0).val
  let c2_i32_520 : BitVec 32 := 2#32
  let v1488 : BitVec 32 := Scalar.subi arg0 c2_i32_520
  let c128_i32_521 : BitVec 32 := 128#32
  let v1489 : BitVec 32 := Scalar.muli v1488 c128_i32_521
  v1489
def k0_off1 (i : grid0.Coords) : Fin 1 → Nat :=
  let arg0 : BitVec 32 := BitVec.ofNat 32 (i 0).val
  let c2_i32_520 : BitVec 32 := 2#32
  let v1488 : BitVec 32 := Scalar.subi arg0 c2_i32_520
  let c2_i32_528 : BitVec 32 := 2#32
  let c0_i32_529 : BitVec 32 := 0#32
  let v1501 : BitVec 1 := Scalar.cmpi .eq c2_i32_528 c0_i32_529
  let c1_i32_530 : BitVec 32 := 1#32
  let v1502 : BitVec 32 := Scalar.select v1501 c1_i32_530 c2_i32_528
  let v1503 : BitVec 32 := Scalar.remsi v1488 v1502
  let c0_i32_532 : BitVec 32 := 0#32
  let v1505 : BitVec 1 := Scalar.cmpi .slt v1503 c0_i32_532
  let c0_i32_533 : BitVec 32 := 0#32
  let v1506 : BitVec 1 := Scalar.cmpi .slt v1502 c0_i32_533
  let v1507 : BitVec 1 := Scalar.xori v1505 v1506
  let c0_i32_531 : BitVec 32 := 0#32
  let v1504 : BitVec 1 := Scalar.cmpi .ne v1503 c0_i32_531
  let v1508 : BitVec 1 := Scalar.andi v1507 v1504
  let v1509 : BitVec 32 := Scalar.addi v1503 v1502
  let v1510 : BitVec 32 := Scalar.select v1508 v1509 v1503
  ![v1510.toNat]
def k0_off2 (i : grid0.Coords) : Fin 2 → Nat :=
  let arg0 : BitVec 32 := BitVec.ofNat 32 (i 0).val
  let c2_i32_520 : BitVec 32 := 2#32
  let v1488 : BitVec 32 := Scalar.subi arg0 c2_i32_520
  let c128_i32_521 : BitVec 32 := 128#32
  let v1489 : BitVec 32 := Scalar.muli v1488 c128_i32_521
  let v1490 : BitVec 32 := v1489
  let c2048_i32_534 : BitVec 32 := 2048#32
  ![v1490.toNat, 2048]
def k0_off3 (i : grid0.Coords) : Fin 3 → Nat :=
  let arg0 : BitVec 32 := BitVec.ofNat 32 (i 0).val
  let c2_i32_520 : BitVec 32 := 2#32
  let v1488 : BitVec 32 := Scalar.subi arg0 c2_i32_520
  let c2_i32_522 : BitVec 32 := 2#32
  let c0_i32_523 : BitVec 32 := 0#32
  let v1491 : BitVec 1 := Scalar.cmpi .eq c2_i32_522 c0_i32_523
  let c1_i32_524 : BitVec 32 := 1#32
  let v1492 : BitVec 32 := Scalar.select v1491 c1_i32_524 c2_i32_522
  let v1493 : BitVec 32 := Scalar.remsi v1488 v1492
  let c0_i32_526 : BitVec 32 := 0#32
  let v1495 : BitVec 1 := Scalar.cmpi .slt v1493 c0_i32_526
  let c0_i32_527 : BitVec 32 := 0#32
  let v1496 : BitVec 1 := Scalar.cmpi .slt v1492 c0_i32_527
  let v1497 : BitVec 1 := Scalar.xori v1495 v1496
  let c0_i32_525 : BitVec 32 := 0#32
  let v1494 : BitVec 1 := Scalar.cmpi .ne v1493 c0_i32_525
  let v1498 : BitVec 1 := Scalar.andi v1497 v1494
  let v1499 : BitVec 32 := Scalar.addi v1493 v1492
  let v1500 : BitVec 32 := Scalar.select v1498 v1499 v1493
  let c0_i32_535 : BitVec 32 := 0#32
  let c0_i32_536 : BitVec 32 := 0#32
  ![v1500.toNat, 0, 0]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_131 : BitVec 32 := 0#32
  let c0_i32_132 : BitVec 32 := 0#32
  ![v9.toNat, 0, 0]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_131 : BitVec 32 := 0#32
  let c0_i32_132 : BitVec 32 := 0#32
  ![v9.toNat, 0, 0]
def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_136 : BitVec 32 := 0#32
  ![v9.toNat, 0, 128]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_248 : BitVec 32 := 0#32
  ![v9.toNat, 0, 256]
def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_253 : BitVec 32 := 0#32
  ![v9.toNat, 0, 384]
def k0_off9 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_365 : BitVec 32 := 0#32
  ![v9.toNat, 0, 512]
def k0_off10 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_370 : BitVec 32 := 0#32
  ![v9.toNat, 0, 640]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_482 : BitVec 32 := 0#32
  ![v9.toNat, 0, 768]
def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_487 : BitVec 32 := 0#32
  ![v9.toNat, 0, 896]
def k0_cond3 (i : grid0.Coords) : BitVec 1 :=
  let arg0 : BitVec 32 := BitVec.ofNat 32 (i 0).val
  let c_m1_i32 : BitVec 32 := 4294967295#32
  let v1440 : BitVec 32 := Scalar.addi arg0 c_m1_i32
  let c0_i32_493 : BitVec 32 := 0#32
  let v1441 : BitVec 1 := Scalar.cmpi .sge v1440 c0_i32_493
  let c64_i32_494 : BitVec 32 := 64#32
  let v1442 : BitVec 1 := Scalar.cmpi .slt v1440 c64_i32_494
  let v1443 : BitVec 1 := Scalar.andi v1441 v1442
  let v1444 : BitVec 32 := Scalar.extui v1443
  let c0_i32_495 : BitVec 32 := 0#32
  let v1445 : BitVec 1 := Scalar.cmpi .ne v1444 c0_i32_495
  v1445

def k0_mult2 (i : grid0.Coords) : BitVec 32 :=
  let arg0 : BitVec 32 := BitVec.ofNat 32 (i 0).val
  let c_m1_i32 : BitVec 32 := 4294967295#32
  let v1440 : BitVec 32 := Scalar.addi arg0 c_m1_i32
  let c128_i32_520 : BitVec 32 := 128#32
  let v1488 : BitVec 32 := Scalar.muli v1440 c128_i32_520
  v1488
def k0_off13 (i : grid0.Coords) : Fin 2 → Nat :=
  let arg0 : BitVec 32 := BitVec.ofNat 32 (i 0).val
  let c_m1_i32 : BitVec 32 := 4294967295#32
  let v1440 : BitVec 32 := Scalar.addi arg0 c_m1_i32
  let c128_i32_520 : BitVec 32 := 128#32
  let v1488 : BitVec 32 := Scalar.muli v1440 c128_i32_520
  let v1489 : BitVec 32 := v1488
  let v1490 : Index := Scalar.indexCast v1489
  let c0_521 : Index := 0#32
  ![v1490.toNat, 0]
def k0_off14 (i : grid0.Coords) : Fin 2 → Nat :=
  let arg0 : BitVec 32 := BitVec.ofNat 32 (i 0).val
  let c_m1_i32 : BitVec 32 := 4294967295#32
  let v1440 : BitVec 32 := Scalar.addi arg0 c_m1_i32
  let c128_i32_520 : BitVec 32 := 128#32
  let v1488 : BitVec 32 := Scalar.muli v1440 c128_i32_520
  let v1489 : BitVec 32 := v1488
  let v1506 : Index := Scalar.indexCast v1489
  let c128_525 : Index := 128#32
  ![v1506.toNat, 128]
def k0_cond4 (i : grid0.Coords) : BitVec 1 :=
  let arg0 : BitVec 32 := BitVec.ofNat 32 (i 0).val
  let c0_i32_496 : BitVec 32 := 0#32
  let v1446 : BitVec 32 := Scalar.addi arg0 c0_i32_496
  let c0_i32_497 : BitVec 32 := 0#32
  let v1447 : BitVec 1 := Scalar.cmpi .sge v1446 c0_i32_497
  let c64_i32_498 : BitVec 32 := 64#32
  let v1448 : BitVec 1 := Scalar.cmpi .slt v1446 c64_i32_498
  let v1449 : BitVec 1 := Scalar.andi v1447 v1448
  let v1450 : BitVec 32 := Scalar.extui v1449
  let c0_i32_499 : BitVec 32 := 0#32
  let v1451 : BitVec 1 := Scalar.cmpi .ne v1450 c0_i32_499
  v1451

def k0_mult3 (i : grid0.Coords) : BitVec 32 :=
  let arg0 : BitVec 32 := BitVec.ofNat 32 (i 0).val
  let c0_i32_496 : BitVec 32 := 0#32
  let v1446 : BitVec 32 := Scalar.addi arg0 c0_i32_496
  let c128_i32_520 : BitVec 32 := 128#32
  let v1488 : BitVec 32 := Scalar.muli v1446 c128_i32_520
  v1488
def k0_off15 (i : grid0.Coords) : Fin 2 → Nat :=
  let arg0 : BitVec 32 := BitVec.ofNat 32 (i 0).val
  let c0_i32_496 : BitVec 32 := 0#32
  let v1446 : BitVec 32 := Scalar.addi arg0 c0_i32_496
  let c128_i32_520 : BitVec 32 := 128#32
  let v1488 : BitVec 32 := Scalar.muli v1446 c128_i32_520
  let v1489 : BitVec 32 := v1488
  let v1490 : Index := Scalar.indexCast v1489
  let c0_521 : Index := 0#32
  ![v1490.toNat, 0]
def k0_off16 (i : grid0.Coords) : Fin 2 → Nat :=
  let arg0 : BitVec 32 := BitVec.ofNat 32 (i 0).val
  let c0_i32_496 : BitVec 32 := 0#32
  let v1446 : BitVec 32 := Scalar.addi arg0 c0_i32_496
  let c128_i32_520 : BitVec 32 := 128#32
  let v1488 : BitVec 32 := Scalar.muli v1446 c128_i32_520
  let v1489 : BitVec 32 := v1488
  let v1506 : Index := Scalar.indexCast v1489
  let c128_525 : Index := 128#32
  ![v1506.toNat, 128]
def k0_cond5 (i : grid0.Coords) : BitVec 1 :=
  let arg0 : BitVec 32 := BitVec.ofNat 32 (i 0).val
  let c1_i32_500 : BitVec 32 := 1#32
  let v1452 : BitVec 32 := Scalar.addi arg0 c1_i32_500
  let c0_i32_501 : BitVec 32 := 0#32
  let v1453 : BitVec 1 := Scalar.cmpi .sge v1452 c0_i32_501
  let c64_i32_502 : BitVec 32 := 64#32
  let v1454 : BitVec 1 := Scalar.cmpi .slt v1452 c64_i32_502
  let v1455 : BitVec 1 := Scalar.andi v1453 v1454
  let v1456 : BitVec 32 := Scalar.extui v1455
  let c0_i32_503 : BitVec 32 := 0#32
  let v1457 : BitVec 1 := Scalar.cmpi .ne v1456 c0_i32_503
  v1457

def k0_mult4 (i : grid0.Coords) : BitVec 32 :=
  let arg0 : BitVec 32 := BitVec.ofNat 32 (i 0).val
  let c1_i32_500 : BitVec 32 := 1#32
  let v1452 : BitVec 32 := Scalar.addi arg0 c1_i32_500
  let c128_i32_520 : BitVec 32 := 128#32
  let v1488 : BitVec 32 := Scalar.muli v1452 c128_i32_520
  v1488
def k0_off17 (i : grid0.Coords) : Fin 2 → Nat :=
  let arg0 : BitVec 32 := BitVec.ofNat 32 (i 0).val
  let c1_i32_500 : BitVec 32 := 1#32
  let v1452 : BitVec 32 := Scalar.addi arg0 c1_i32_500
  let c128_i32_520 : BitVec 32 := 128#32
  let v1488 : BitVec 32 := Scalar.muli v1452 c128_i32_520
  let v1489 : BitVec 32 := v1488
  let v1490 : Index := Scalar.indexCast v1489
  let c0_521 : Index := 0#32
  ![v1490.toNat, 0]
def k0_off18 (i : grid0.Coords) : Fin 2 → Nat :=
  let arg0 : BitVec 32 := BitVec.ofNat 32 (i 0).val
  let c1_i32_500 : BitVec 32 := 1#32
  let v1452 : BitVec 32 := Scalar.addi arg0 c1_i32_500
  let c128_i32_520 : BitVec 32 := 128#32
  let v1488 : BitVec 32 := Scalar.muli v1452 c128_i32_520
  let v1489 : BitVec 32 := v1488
  let v1506 : Index := Scalar.indexCast v1489
  let c128_525 : Index := 128#32
  ![v1506.toNat, 128]
def k0_mult5 (i : grid0.Coords) : BitVec 32 :=
  let arg0 : BitVec 32 := BitVec.ofNat 32 (i 0).val
  let c128_i32_504 : BitVec 32 := 128#32
  let v1458 : BitVec 32 := Scalar.muli arg0 c128_i32_504
  v1458
def k0_off19 (i : grid0.Coords) : Fin 1 → Nat :=
  let arg0 : BitVec 32 := BitVec.ofNat 32 (i 0).val
  let c2_i32_511 : BitVec 32 := 2#32
  let c0_i32_512 : BitVec 32 := 0#32
  let v1470 : BitVec 1 := Scalar.cmpi .eq c2_i32_511 c0_i32_512
  let c1_i32_513 : BitVec 32 := 1#32
  let v1471 : BitVec 32 := Scalar.select v1470 c1_i32_513 c2_i32_511
  let v1472 : BitVec 32 := Scalar.remsi arg0 v1471
  let c0_i32_515 : BitVec 32 := 0#32
  let v1474 : BitVec 1 := Scalar.cmpi .slt v1472 c0_i32_515
  let c0_i32_516 : BitVec 32 := 0#32
  let v1475 : BitVec 1 := Scalar.cmpi .slt v1471 c0_i32_516
  let v1476 : BitVec 1 := Scalar.xori v1474 v1475
  let c0_i32_514 : BitVec 32 := 0#32
  let v1473 : BitVec 1 := Scalar.cmpi .ne v1472 c0_i32_514
  let v1477 : BitVec 1 := Scalar.andi v1476 v1473
  let v1478 : BitVec 32 := Scalar.addi v1472 v1471
  let v1479 : BitVec 32 := Scalar.select v1477 v1478 v1472
  ![v1479.toNat]
def k0_off20 (i : grid0.Coords) : Fin 2 → Nat :=
  let arg0 : BitVec 32 := BitVec.ofNat 32 (i 0).val
  let c128_i32_504 : BitVec 32 := 128#32
  let v1458 : BitVec 32 := Scalar.muli arg0 c128_i32_504
  let v1459 : BitVec 32 := v1458
  let c2048_i32 : BitVec 32 := 2048#32
  ![v1459.toNat, 2048]
def k0_cond6 (i : grid0.Coords) : BitVec 1 :=
  let arg0 : BitVec 32 := BitVec.ofNat 32 (i 0).val
  let c63_i32 : BitVec 32 := 63#32
  let v1485 : BitVec 1 := Scalar.cmpi .eq arg0 c63_i32
  let v1486 : BitVec 32 := Scalar.extui v1485
  let c0_i32_519 : BitVec 32 := 0#32
  let v1487 : BitVec 1 := Scalar.cmpi .ne v1486 c0_i32_519
  v1487

@[reducible] def k0_t1_loop : Scf.Loop 32 :=
  let c0_i32_520 : BitVec 32 := 0#32
  let c16_i32 : BitVec 32 := 16#32
  let v1488 : BitVec 32 := Scalar.addi c0_i32_520 c16_i32
  let c1_i32_521 : BitVec 32 := 1#32
  ⟨c0_i32_520, v1488, c1_i32_521⟩
def k0_mult6 (k0_t1 : Fin k0_t1_loop.trips) : BitVec 32 :=
  let c0_i32_520 : BitVec 32 := 0#32
  let c1_i32_521 : BitVec 32 := 1#32
  let arg19 : BitVec 32 := Scf.iv c0_i32_520 c1_i32_521 k0_t1
  let c4_i32 : BitVec 32 := 4#32
  let v1550 : BitVec 32 := Scalar.muli arg19 c4_i32
  let c128_i32_561 : BitVec 32 := 128#32
  let v1551 : BitVec 32 := Scalar.muli v1550 c128_i32_561
  v1551
def k0_off21 (k0_t1 : Fin k0_t1_loop.trips) : Fin 2 → Nat :=
  let c0_i32_520 : BitVec 32 := 0#32
  let c1_i32_521 : BitVec 32 := 1#32
  let arg19 : BitVec 32 := Scf.iv c0_i32_520 c1_i32_521 k0_t1
  let c4_i32 : BitVec 32 := 4#32
  let v1550 : BitVec 32 := Scalar.muli arg19 c4_i32
  let c128_i32_561 : BitVec 32 := 128#32
  let v1551 : BitVec 32 := Scalar.muli v1550 c128_i32_561
  let v1552 : BitVec 32 := v1551
  let v1553 : Index := Scalar.indexCast v1552
  let c0_562 : Index := 0#32
  ![v1553.toNat, 0]
def k0_off22 (k0_t1 : Fin k0_t1_loop.trips) : Fin 2 → Nat :=
  let c0_i32_520 : BitVec 32 := 0#32
  let c1_i32_521 : BitVec 32 := 1#32
  let arg19 : BitVec 32 := Scf.iv c0_i32_520 c1_i32_521 k0_t1
  let c4_i32 : BitVec 32 := 4#32
  let v1550 : BitVec 32 := Scalar.muli arg19 c4_i32
  let c128_i32_561 : BitVec 32 := 128#32
  let v1551 : BitVec 32 := Scalar.muli v1550 c128_i32_561
  let v1552 : BitVec 32 := v1551
  let v1556 : Index := Scalar.indexCast v1552
  let c0_563 : Index := 0#32
  ![v1556.toNat, 0]
def k0_off23 (k0_t1 : Fin k0_t1_loop.trips) : Fin 2 → Nat :=
  let c0_i32_520 : BitVec 32 := 0#32
  let c1_i32_521 : BitVec 32 := 1#32
  let arg19 : BitVec 32 := Scf.iv c0_i32_520 c1_i32_521 k0_t1
  let c4_i32 : BitVec 32 := 4#32
  let v1550 : BitVec 32 := Scalar.muli arg19 c4_i32
  let c128_i32_561 : BitVec 32 := 128#32
  let v1551 : BitVec 32 := Scalar.muli v1550 c128_i32_561
  let v1552 : BitVec 32 := v1551
  let v1563 : Index := Scalar.indexCast v1552
  let c256_565 : Index := 256#32
  ![v1563.toNat, 256]
def k0_mult7 (i : grid0.Coords) : BitVec 32 :=
  let arg0 : BitVec 32 := BitVec.ofNat 32 (i 0).val
  let c1_i32_525 : BitVec 32 := 1#32
  let v1492 : BitVec 32 := Scalar.subi arg0 c1_i32_525
  let c128_i32_526 : BitVec 32 := 128#32
  let v1493 : BitVec 32 := Scalar.muli v1492 c128_i32_526
  v1493
def k0_off24 (i : grid0.Coords) : Fin 1 → Nat :=
  let arg0 : BitVec 32 := BitVec.ofNat 32 (i 0).val
  let c1_i32_525 : BitVec 32 := 1#32
  let v1492 : BitVec 32 := Scalar.subi arg0 c1_i32_525
  let c2_i32_533 : BitVec 32 := 2#32
  let c0_i32_534 : BitVec 32 := 0#32
  let v1505 : BitVec 1 := Scalar.cmpi .eq c2_i32_533 c0_i32_534
  let c1_i32_535 : BitVec 32 := 1#32
  let v1506 : BitVec 32 := Scalar.select v1505 c1_i32_535 c2_i32_533
  let v1507 : BitVec 32 := Scalar.remsi v1492 v1506
  let c0_i32_537 : BitVec 32 := 0#32
  let v1509 : BitVec 1 := Scalar.cmpi .slt v1507 c0_i32_537
  let c0_i32_538 : BitVec 32 := 0#32
  let v1510 : BitVec 1 := Scalar.cmpi .slt v1506 c0_i32_538
  let v1511 : BitVec 1 := Scalar.xori v1509 v1510
  let c0_i32_536 : BitVec 32 := 0#32
  let v1508 : BitVec 1 := Scalar.cmpi .ne v1507 c0_i32_536
  let v1512 : BitVec 1 := Scalar.andi v1511 v1508
  let v1513 : BitVec 32 := Scalar.addi v1507 v1506
  let v1514 : BitVec 32 := Scalar.select v1512 v1513 v1507
  ![v1514.toNat]
def k0_off25 (i : grid0.Coords) : Fin 2 → Nat :=
  let arg0 : BitVec 32 := BitVec.ofNat 32 (i 0).val
  let c1_i32_525 : BitVec 32 := 1#32
  let v1492 : BitVec 32 := Scalar.subi arg0 c1_i32_525
  let c128_i32_526 : BitVec 32 := 128#32
  let v1493 : BitVec 32 := Scalar.muli v1492 c128_i32_526
  let v1494 : BitVec 32 := v1493
  let c2048_i32_539 : BitVec 32 := 2048#32
  ![v1494.toNat, 2048]
def k0_off26 (i : grid0.Coords) : Fin 3 → Nat :=
  let arg0 : BitVec 32 := BitVec.ofNat 32 (i 0).val
  let c1_i32_525 : BitVec 32 := 1#32
  let v1492 : BitVec 32 := Scalar.subi arg0 c1_i32_525
  let c2_i32_527 : BitVec 32 := 2#32
  let c0_i32_528 : BitVec 32 := 0#32
  let v1495 : BitVec 1 := Scalar.cmpi .eq c2_i32_527 c0_i32_528
  let c1_i32_529 : BitVec 32 := 1#32
  let v1496 : BitVec 32 := Scalar.select v1495 c1_i32_529 c2_i32_527
  let v1497 : BitVec 32 := Scalar.remsi v1492 v1496
  let c0_i32_531 : BitVec 32 := 0#32
  let v1499 : BitVec 1 := Scalar.cmpi .slt v1497 c0_i32_531
  let c0_i32_532 : BitVec 32 := 0#32
  let v1500 : BitVec 1 := Scalar.cmpi .slt v1496 c0_i32_532
  let v1501 : BitVec 1 := Scalar.xori v1499 v1500
  let c0_i32_530 : BitVec 32 := 0#32
  let v1498 : BitVec 1 := Scalar.cmpi .ne v1497 c0_i32_530
  let v1502 : BitVec 1 := Scalar.andi v1501 v1498
  let v1503 : BitVec 32 := Scalar.addi v1497 v1496
  let v1504 : BitVec 32 := Scalar.select v1502 v1503 v1497
  let c0_i32_540 : BitVec 32 := 0#32
  let c0_i32_541 : BitVec 32 := 0#32
  ![v1504.toNat, 0, 0]
def k0_mult8 (i : grid0.Coords) : BitVec 32 :=
  let arg0 : BitVec 32 := BitVec.ofNat 32 (i 0).val
  let c128_i32_542 : BitVec 32 := 128#32
  let v1520 : BitVec 32 := Scalar.muli arg0 c128_i32_542
  v1520
def k0_off27 (i : grid0.Coords) : Fin 1 → Nat :=
  let arg0 : BitVec 32 := BitVec.ofNat 32 (i 0).val
  let c2_i32_549 : BitVec 32 := 2#32
  let c0_i32_550 : BitVec 32 := 0#32
  let v1532 : BitVec 1 := Scalar.cmpi .eq c2_i32_549 c0_i32_550
  let c1_i32_551 : BitVec 32 := 1#32
  let v1533 : BitVec 32 := Scalar.select v1532 c1_i32_551 c2_i32_549
  let v1534 : BitVec 32 := Scalar.remsi arg0 v1533
  let c0_i32_553 : BitVec 32 := 0#32
  let v1536 : BitVec 1 := Scalar.cmpi .slt v1534 c0_i32_553
  let c0_i32_554 : BitVec 32 := 0#32
  let v1537 : BitVec 1 := Scalar.cmpi .slt v1533 c0_i32_554
  let v1538 : BitVec 1 := Scalar.xori v1536 v1537
  let c0_i32_552 : BitVec 32 := 0#32
  let v1535 : BitVec 1 := Scalar.cmpi .ne v1534 c0_i32_552
  let v1539 : BitVec 1 := Scalar.andi v1538 v1535
  let v1540 : BitVec 32 := Scalar.addi v1534 v1533
  let v1541 : BitVec 32 := Scalar.select v1539 v1540 v1534
  ![v1541.toNat]
def k0_off28 (i : grid0.Coords) : Fin 2 → Nat :=
  let arg0 : BitVec 32 := BitVec.ofNat 32 (i 0).val
  let c128_i32_542 : BitVec 32 := 128#32
  let v1520 : BitVec 32 := Scalar.muli arg0 c128_i32_542
  let v1521 : BitVec 32 := v1520
  let c2048_i32_555 : BitVec 32 := 2048#32
  ![v1521.toNat, 2048]
def k0_off29 (i : grid0.Coords) : Fin 3 → Nat :=
  let arg0 : BitVec 32 := BitVec.ofNat 32 (i 0).val
  let c2_i32_543 : BitVec 32 := 2#32
  let c0_i32_544 : BitVec 32 := 0#32
  let v1522 : BitVec 1 := Scalar.cmpi .eq c2_i32_543 c0_i32_544
  let c1_i32_545 : BitVec 32 := 1#32
  let v1523 : BitVec 32 := Scalar.select v1522 c1_i32_545 c2_i32_543
  let v1524 : BitVec 32 := Scalar.remsi arg0 v1523
  let c0_i32_547 : BitVec 32 := 0#32
  let v1526 : BitVec 1 := Scalar.cmpi .slt v1524 c0_i32_547
  let c0_i32_548 : BitVec 32 := 0#32
  let v1527 : BitVec 1 := Scalar.cmpi .slt v1523 c0_i32_548
  let v1528 : BitVec 1 := Scalar.xori v1526 v1527
  let c0_i32_546 : BitVec 32 := 0#32
  let v1525 : BitVec 1 := Scalar.cmpi .ne v1524 c0_i32_546
  let v1529 : BitVec 1 := Scalar.andi v1528 v1525
  let v1530 : BitVec 32 := Scalar.addi v1524 v1523
  let v1531 : BitVec 32 := Scalar.select v1529 v1530 v1524
  let c0_i32_556 : BitVec 32 := 0#32
  let c0_i32_557 : BitVec 32 := 0#32
  ![v1531.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let c0_i32_0 : BitVec 32 := 0#32
  ![v1.toNat, c12_i32.toNat]

def cc0_transform_3 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c12_i32 : BitVec 32 := 12#32
  let c0_i32 : BitVec 32 := 0#32
  ![v1.toNat, c12_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c13_i32 : BitVec 32 := 13#32
  let c0_i32_0 : BitVec 32 := 0#32
  ![v1.toNat, c13_i32.toNat]

def cc0_transform_6 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c13_i32 : BitVec 32 := 13#32
  let c0_i32 : BitVec 32 := 0#32
  ![v1.toNat, c13_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Kernel3Ideal.lean ====
variable {F : FTy → Type} [FloatOps F] [Named F]
def κ : String → Option EReal := fun
  | "mask" => some ⊥
  | "s1" => some (((Real.sqrt 2)⁻¹ : ℝ) : EReal)
  | "s11" => some (((Real.sqrt 2048)⁻¹ : ℝ) : EReal)
  | "s13" => some (((Real.sqrt 8192)⁻¹ : ℝ) : EReal)
  | "s15" => some (((Real.sqrt 32768)⁻¹ : ℝ) : EReal)
  | "s3" => some (((Real.sqrt 8)⁻¹ : ℝ) : EReal)
  | "s5" => some (((Real.sqrt 32)⁻¹ : ℝ) : EReal)
  | "s7" => some (((Real.sqrt 128)⁻¹ : ℝ) : EReal)
  | "s9" => some (((Real.sqrt 512)⁻¹ : ℝ) : EReal)
  | _ => none
-- ==== Reference3Ideal.lean ====
abbrev S8192x5632 : Shape := ⟨2, ![8192, 5632]⟩
abbrev S1x16 : Shape := ⟨2, ![1, 16]⟩
abbrev S2x8192x1024 : Shape := ⟨3, ![2, 8192, 1024]⟩
abbrev S8192x1024 : Shape := ⟨2, ![8192, 1024]⟩
abbrev S8192x256 : Shape := ⟨2, ![8192, 256]⟩
abbrev S16 : Shape := ⟨1, ![16]⟩
abbrev S8192x16x64 : Shape := ⟨3, ![8192, 16, 64]⟩
abbrev S8192x4x64 : Shape := ⟨3, ![8192, 4, 64]⟩
abbrev S_ : Shape := ⟨0, ![]⟩
abbrev S64x128x4x4x64 : Shape := ⟨5, ![64, 128, 4, 4, 64]⟩
abbrev S128x4x64 : Shape := ⟨3, ![128, 4, 64]⟩
abbrev S8448x4x64 : Shape := ⟨3, ![8448, 4, 64]⟩
abbrev S66x128x4x64 : Shape := ⟨4, ![66, 128, 4, 64]⟩
abbrev S64x128x4x64 : Shape := ⟨4, ![64, 128, 4, 64]⟩
abbrev S64x384x4x64 : Shape := ⟨4, ![64, 384, 4, 64]⟩
abbrev S64x4x384x128x4 : Shape := ⟨5, ![64, 4, 384, 128, 4]⟩
abbrev S64x4x4x128x384 : Shape := ⟨5, ![64, 4, 4, 128, 384]⟩
abbrev S128 : Shape := ⟨1, ![128]⟩
abbrev S384 : Shape := ⟨1, ![384]⟩
abbrev S128x1 : Shape := ⟨2, ![128, 1]⟩
abbrev S1x384 : Shape := ⟨2, ![1, 384]⟩
abbrev S128x384 : Shape := ⟨2, ![128, 384]⟩
abbrev S64 : Shape := ⟨1, ![64]⟩
abbrev S64x1 : Shape := ⟨2, ![64, 1]⟩
abbrev S64x384 : Shape := ⟨2, ![64, 384]⟩
abbrev S1x128x384 : Shape := ⟨3, ![1, 128, 384]⟩
abbrev S64x1x384 : Shape := ⟨3, ![64, 1, 384]⟩
abbrev S64x128x384 : Shape := ⟨3, ![64, 128, 384]⟩
abbrev S4x4x1x1 : Shape := ⟨4, ![4, 4, 1, 1]⟩
abbrev S1x1x128x384 : Shape := ⟨4, ![1, 1, 128, 384]⟩
abbrev S4x4x128x384 : Shape := ⟨4, ![4, 4, 128, 384]⟩
abbrev S64x1x1x128x384 : Shape := ⟨5, ![64, 1, 1, 128, 384]⟩
abbrev S1x4x4x128x384 : Shape := ⟨5, ![1, 4, 4, 128, 384]⟩
abbrev S1x4x4x1x1 : Shape := ⟨5, ![1, 4, 4, 1, 1]⟩
abbrev S64x4x4x128 : Shape := ⟨4, ![64, 4, 4, 128]⟩
abbrev S64x4x4x128x1 : Shape := ⟨5, ![64, 4, 4, 128, 1]⟩
abbrev S64x4x64x4x128 : Shape := ⟨5, ![64, 4, 64, 4, 128]⟩
abbrev S1x8192x1024 : Shape := ⟨3, ![1, 8192, 1024]⟩
abbrev S64x4x64x384 : Shape := ⟨4, ![64, 4, 64, 384]⟩
abbrev S4x4x1 : Shape := ⟨3, ![4, 4, 1]⟩
abbrev S64x4x128x4x64 : Shape := ⟨5, ![64, 4, 128, 4, 64]⟩
abbrev S64x4x384x64 : Shape := ⟨4, ![64, 4, 384, 64]⟩
abbrev S8192x2048 : Shape := ⟨2, ![8192, 2048]⟩
abbrev S16x1 : Shape := ⟨2, ![16, 1]⟩
abbrev S16x128 : Shape := ⟨2, ![16, 128]⟩

abbrev nBuf : Space → Nat
  | .hbm => 265
  | .vmem => 0
  | .smem => 0
  | _ => 0

abbrev hbmTy0_0 (i : Nat) : BufTy := match i % 128 with
  | 0 => ⟨S8192x5632, .bf16⟩
  | 1 => ⟨S1x16, .f32⟩
  | 2 => ⟨S2x8192x1024, .bf16⟩
  | 3 => ⟨S8192x5632, .bf16⟩
  | 4 => ⟨S8192x5632, .f32⟩
  | 5 => ⟨S8192x1024, .f32⟩
  | 6 => ⟨S8192x256, .f32⟩
  | 7 => ⟨S8192x256, .f32⟩
  | 8 => ⟨S16, .f32⟩
  | 9 => ⟨S8192x16x64, .f32⟩
  | 10 => ⟨S8192x4x64, .f32⟩
  | 11 => ⟨S8192x4x64, .f32⟩
  | 12 => ⟨S_, .f32⟩
  | 13 => ⟨S8192x16x64, .f32⟩
  | 14 => ⟨S8192x16x64, .f32⟩
  | 15 => ⟨S64x128x4x4x64, .f32⟩
  | 16 => ⟨S_, .f32⟩
  | 17 => ⟨S128x4x64, .f32⟩
  | 18 => ⟨S8448x4x64, .f32⟩
  | 19 => ⟨S_, .f32⟩
  | 20 => ⟨S128x4x64, .f32⟩
  | 21 => ⟨S_, .f32⟩
  | 22 => ⟨S128x4x64, .f32⟩
  | 23 => ⟨S66x128x4x64, .f32⟩
  | 24 => ⟨S64x128x4x64, .f32⟩
  | 25 => ⟨S64x128x4x64, .f32⟩
  | 26 => ⟨S64x128x4x64, .f32⟩
  | 27 => ⟨S64x384x4x64, .f32⟩
  | 28 => ⟨S_, .f32⟩
  | 29 => ⟨S128x4x64, .f32⟩
  | 30 => ⟨S8448x4x64, .f32⟩
  | 31 => ⟨S_, .f32⟩
  | 32 => ⟨S128x4x64, .f32⟩
  | 33 => ⟨S_, .f32⟩
  | 34 => ⟨S128x4x64, .f32⟩
  | 35 => ⟨S66x128x4x64, .f32⟩
  | 36 => ⟨S64x128x4x64, .f32⟩
  | 37 => ⟨S64x128x4x64, .f32⟩
  | 38 => ⟨S64x128x4x64, .f32⟩
  | 39 => ⟨S64x384x4x64, .f32⟩
  | 40 => ⟨S64x4x384x128x4, .f32⟩
  | 41 => ⟨S64x4x4x128x384, .f32⟩
  | 42 => ⟨S128, .i32⟩
  | 43 => ⟨S384, .i32⟩
  | 44 => ⟨S128x1, .i32⟩
  | 45 => ⟨S_, .i32⟩
  | 46 => ⟨S128x1, .i32⟩
  | 47 => ⟨S128x1, .i32⟩
  | 48 => ⟨S1x384, .i32⟩
  | 49 => ⟨S128x384, .i32⟩
  | 50 => ⟨S128x384, .i32⟩
  | 51 => ⟨S128x384, .i32⟩
  | 52 => ⟨S64, .i32⟩
  | 53 => ⟨S64x1, .i32⟩
  | 54 => ⟨S_, .i32⟩
  | 55 => ⟨S64x1, .i32⟩
  | 56 => ⟨S64x1, .i32⟩
  | 57 => ⟨S_, .i32⟩
  | 58 => ⟨S64x1, .i32⟩
  | 59 => ⟨S64x1, .i32⟩
  | 60 => ⟨S1x384, .i32⟩
  | 61 => ⟨S64x384, .i32⟩
  | 62 => ⟨S64x384, .i32⟩
  | 63 => ⟨S64x384, .i32⟩
  | 64 => ⟨S128x384, .i32⟩
  | 65 => ⟨S_, .i32⟩
  | 66 => ⟨S128x384, .i32⟩
  | 67 => ⟨S128x384, .i1⟩
  | 68 => ⟨S1x128x384, .i1⟩
  | 69 => ⟨S_, .i32⟩
  | 70 => ⟨S64x384, .i32⟩
  | 71 => ⟨S64x384, .i1⟩
  | 72 => ⟨S_, .i32⟩
  | 73 => ⟨S64x384, .i32⟩
  | 74 => ⟨S64x384, .i1⟩
  | 75 => ⟨S64x384, .i1⟩
  | 76 => ⟨S64x1x384, .i1⟩
  | 77 => ⟨S64x128x384, .i1⟩
  | 78 => ⟨S64x128x384, .i1⟩
  | 79 => ⟨S64x128x384, .i1⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S_, .f32⟩
  | 88 => ⟨S16, .f32⟩
  | 89 => ⟨S16, .f32⟩
  | 90 => ⟨S_, .f32⟩
  | 91 => ⟨S16, .f32⟩
  | 92 => ⟨S16, .f32⟩
  | 93 => ⟨S4x4x1x1, .f32⟩
  | 94 => ⟨S4x4x1x1, .f32⟩
  | 95 => ⟨S128x384, .i32⟩
  | 96 => ⟨S128x384, .f32⟩
  | 97 => ⟨S1x1x128x384, .f32⟩
  | 98 => ⟨S4x4x128x384, .f32⟩
  | 99 => ⟨S4x4x128x384, .f32⟩
  | 100 => ⟨S4x4x128x384, .f32⟩
  | 101 => ⟨S64x1x1x128x384, .i1⟩
  | 102 => ⟨S1x4x4x128x384, .f32⟩
  | 103 => ⟨S64x4x4x128x384, .f32⟩
  | 104 => ⟨S64x4x4x128x384, .f32⟩
  | 105 => ⟨S_, .f32⟩
  | 106 => ⟨S_, .f32⟩
  | 107 => ⟨S64x4x4x128x384, .i1⟩
  | 108 => ⟨S64x4x4x128x384, .f32⟩
  | 109 => ⟨S64x4x4x128x384, .f32⟩
  | 110 => ⟨S_, .f32⟩
  | 111 => ⟨S64x4x4x128x384, .f32⟩
  | 112 => ⟨S1x4x4x1x1, .f32⟩
  | 113 => ⟨S_, .f32⟩
  | 114 => ⟨S64x4x4x128, .f32⟩
  | 115 => ⟨S64x4x4x128x1, .f32⟩
  | 116 => ⟨S64x4x4x128x384, .f32⟩
  | 117 => ⟨S64x4x4x128x384, .i1⟩
  | 118 => ⟨S64x4x4x128x384, .f32⟩
  | 119 => ⟨S_, .f32⟩
  | 120 => ⟨S64x4x4x128, .f32⟩
  | 121 => ⟨S64x4x4x128x1, .f32⟩
  | 122 => ⟨S64x4x4x128x1, .f32⟩
  | 123 => ⟨S64x4x4x128x1, .f32⟩
  | 124 => ⟨S64x4x4x128x1, .f32⟩
  | 125 => ⟨S64x4x4x128x1, .i1⟩
  | 126 => ⟨S64x4x4x128x1, .f32⟩
  | 127 => ⟨S64x4x4x128x1, .i1⟩
  | _ => ⟨S8192x5632, .bf16⟩

abbrev hbmTy0_1 (i : Nat) : BufTy := match i % 128 with
  | 0 => ⟨S_, .f32⟩
  | 1 => ⟨S64x4x4x128x1, .f32⟩
  | 2 => ⟨S_, .f32⟩
  | 3 => ⟨S64x4x4x128x1, .f32⟩
  | 4 => ⟨S_, .f32⟩
  | 5 => ⟨S64x4x4x128x1, .f32⟩
  | 6 => ⟨S64x4x4x128x1, .f32⟩
  | 7 => ⟨S64x4x4x128x1, .f32⟩
  | 8 => ⟨S64x4x4x128x1, .f32⟩
  | 9 => ⟨S64x4x4x128x1, .i1⟩
  | 10 => ⟨S64x4x4x128x1, .f32⟩
  | 11 => ⟨S64x4x4x128x1, .i1⟩
  | 12 => ⟨S_, .f32⟩
  | 13 => ⟨S64x4x4x128x1, .f32⟩
  | 14 => ⟨S_, .f32⟩
  | 15 => ⟨S64x4x4x128x1, .f32⟩
  | 16 => ⟨S_, .f32⟩
  | 17 => ⟨S64x4x4x128x1, .f32⟩
  | 18 => ⟨S64x4x4x128x1, .f32⟩
  | 19 => ⟨S64x4x4x128x1, .f32⟩
  | 20 => ⟨S64x4x4x128x384, .f32⟩
  | 21 => ⟨S64x4x4x128x384, .f32⟩
  | 22 => ⟨S64x4x4x128x384, .f32⟩
  | 23 => ⟨S_, .f32⟩
  | 24 => ⟨S64x4x4x128, .f32⟩
  | 25 => ⟨S64x4x4x128x1, .f32⟩
  | 26 => ⟨S64x4x4x128x1, .f32⟩
  | 27 => ⟨S64x4x4x128x1, .f32⟩
  | 28 => ⟨S64x4x4x128x1, .f32⟩
  | 29 => ⟨S64x4x4x128x1, .f32⟩
  | 30 => ⟨S64x4x4x128x384, .f32⟩
  | 31 => ⟨S64x4x4x128x384, .f32⟩
  | 32 => ⟨S64x4x4x128x1, .f32⟩
  | 33 => ⟨S_, .f32⟩
  | 34 => ⟨S64x4x4x128x1, .f32⟩
  | 35 => ⟨S64x4x4x128x1, .f32⟩
  | 36 => ⟨S64x4x64x4x128, .f32⟩
  | 37 => ⟨S64x128x4x4x64, .f32⟩
  | 38 => ⟨S8192x1024, .f32⟩
  | 39 => ⟨S1x8192x1024, .bf16⟩
  | 40 => ⟨S8192x1024, .bf16⟩
  | 41 => ⟨S8192x1024, .f32⟩
  | 42 => ⟨S64x128x4x4x64, .f32⟩
  | 43 => ⟨S64x4x64x4x128, .f32⟩
  | 44 => ⟨S64x4x4x128x384, .f32⟩
  | 45 => ⟨S64x4x64x384, .f32⟩
  | 46 => ⟨S64x384x4x64, .f32⟩
  | 47 => ⟨S64x4x4x128x384, .f32⟩
  | 48 => ⟨S64x4x4x128x384, .f32⟩
  | 49 => ⟨S64x4x4x128x384, .f32⟩
  | 50 => ⟨S_, .f32⟩
  | 51 => ⟨S64x4x4x128, .f32⟩
  | 52 => ⟨S64x4x4x128x1, .f32⟩
  | 53 => ⟨S64x4x4x128x1, .f32⟩
  | 54 => ⟨S64x4x4x128x384, .f32⟩
  | 55 => ⟨S64x4x4x128x384, .f32⟩
  | 56 => ⟨S64x4x4x128x1, .f32⟩
  | 57 => ⟨S_, .f32⟩
  | 58 => ⟨S4x4x1, .f32⟩
  | 59 => ⟨S1x4x4x1x1, .f32⟩
  | 60 => ⟨S64x4x4x128x1, .f32⟩
  | 61 => ⟨S_, .f32⟩
  | 62 => ⟨S64x4x4x128, .f32⟩
  | 63 => ⟨S64x4x4x128x384, .f32⟩
  | 64 => ⟨S64x4x4x128x384, .f32⟩
  | 65 => ⟨S64x4x4x128x384, .f32⟩
  | 66 => ⟨S64x4x4x128x384, .f32⟩
  | 67 => ⟨S_, .f32⟩
  | 68 => ⟨S64x4x4x128, .f32⟩
  | 69 => ⟨S64x4x4x128x1, .f32⟩
  | 70 => ⟨S64x4x4x128x1, .f32⟩
  | 71 => ⟨S64x4x4x128x1, .f32⟩
  | 72 => ⟨S_, .f32⟩
  | 73 => ⟨S4x4x1, .f32⟩
  | 74 => ⟨S1x4x4x1x1, .f32⟩
  | 75 => ⟨S1x4x4x1x1, .f32⟩
  | 76 => ⟨S64x4x4x128x1, .f32⟩
  | 77 => ⟨S_, .f32⟩
  | 78 => ⟨S64x4x4x128, .f32⟩
  | 79 => ⟨S64x4x4x128, .f32⟩
  | 80 => ⟨S64x4x4x128x384, .f32⟩
  | 81 => ⟨S64x4x4x128x384, .f32⟩
  | 82 => ⟨S64x4x4x128x384, .f32⟩
  | 83 => ⟨S16, .f32⟩
  | 84 => ⟨S_, .f32⟩
  | 85 => ⟨S64x4x4x128x384, .f32⟩
  | 86 => ⟨S64x4x4x128x384, .f32⟩
  | 87 => ⟨S64x4x384x128x4, .f32⟩
  | 88 => ⟨S64x4x128x4x64, .f32⟩
  | 89 => ⟨S64x128x4x4x64, .f32⟩
  | 90 => ⟨S64x4x384x64, .f32⟩
  | 91 => ⟨S64x384x4x64, .f32⟩
  | 92 => ⟨S64x128x4x64, .f32⟩
  | 93 => ⟨S64x128x4x64, .f32⟩
  | 94 => ⟨S64x128x4x64, .f32⟩
  | 95 => ⟨S_, .f32⟩
  | 96 => ⟨S66x128x4x64, .f32⟩
  | 97 => ⟨S_, .f32⟩
  | 98 => ⟨S66x128x4x64, .f32⟩
  | 99 => ⟨S66x128x4x64, .f32⟩
  | 100 => ⟨S_, .f32⟩
  | 101 => ⟨S66x128x4x64, .f32⟩
  | 102 => ⟨S66x128x4x64, .f32⟩
  | 103 => ⟨S8448x4x64, .f32⟩
  | 104 => ⟨S128x4x64, .f32⟩
  | 105 => ⟨S8192x4x64, .f32⟩
  | 106 => ⟨S128x4x64, .f32⟩
  | 107 => ⟨S64x128x4x64, .f32⟩
  | 108 => ⟨S64x128x4x64, .f32⟩
  | 109 => ⟨S64x128x4x64, .f32⟩
  | 110 => ⟨S_, .f32⟩
  | 111 => ⟨S66x128x4x64, .f32⟩
  | 112 => ⟨S_, .f32⟩
  | 113 => ⟨S66x128x4x64, .f32⟩
  | 114 => ⟨S66x128x4x64, .f32⟩
  | 115 => ⟨S_, .f32⟩
  | 116 => ⟨S66x128x4x64, .f32⟩
  | 117 => ⟨S66x128x4x64, .f32⟩
  | 118 => ⟨S8448x4x64, .f32⟩
  | 119 => ⟨S128x4x64, .f32⟩
  | 120 => ⟨S8192x4x64, .f32⟩
  | 121 => ⟨S128x4x64, .f32⟩
  | 122 => ⟨S8192x16x64, .f32⟩
  | 123 => ⟨S_, .f32⟩
  | 124 => ⟨S8192x16x64, .f32⟩
  | 125 => ⟨S8192x16x64, .f32⟩
  | 126 => ⟨S8192x256, .f32⟩
  | 127 => ⟨S8192x256, .f32⟩
  | _ => ⟨S8192x5632, .bf16⟩

abbrev hbmTy0_2 (i : Nat) : BufTy := match i % 128 with
  | 0 => ⟨S8192x1024, .f32⟩
  | 1 => ⟨S8192x2048, .bf16⟩
  | 2 => ⟨S8192x1024, .bf16⟩
  | 3 => ⟨S8192x256, .bf16⟩
  | 4 => ⟨S8192x256, .bf16⟩
  | 5 => ⟨S8192x2048, .bf16⟩
  | 6 => ⟨S8192x5632, .bf16⟩
  | 7 => ⟨S16x1, .f32⟩
  | 8 => ⟨S16x128, .f32⟩
  | _ => ⟨S8192x5632, .bf16⟩

abbrev hbmTy (i : Nat) : BufTy := match i / 128 with
  | 0 => hbmTy0_0 i
  | 1 => hbmTy0_1 i
  | 2 => hbmTy0_2 i
  | _ => ⟨S8192x5632, .bf16⟩

abbrev bufTy : (tb : Table) → Fin (tcTables nBuf tb) → BufTy
  | .hbm, ⟨i, _⟩ => hbmTy i
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_6 : Ref sig .tc := ⟨.hbm, 54, rfl⟩
abbrev main_v42 : Ref sig .tc := ⟨.hbm, 55, rfl⟩
abbrev main_v43 : Ref sig .tc := ⟨.hbm, 56, rfl⟩
abbrev main_c_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_9 : Ref sig .tc := ⟨.hbm, 69, rfl⟩
abbrev main_v54 : Ref sig .tc := ⟨.hbm, 70, rfl⟩
abbrev main_v55 : Ref sig .tc := ⟨.hbm, 71, rfl⟩
abbrev main_c_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_11 : Ref sig .tc := ⟨.hbm, 81, rfl⟩
abbrev main_v64 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_v67 : Ref sig .tc := ⟨.hbm, 86, rfl⟩
abbrev main_cst_13 : Ref sig .tc := ⟨.hbm, 87, rfl⟩
abbrev main_v68 : Ref sig .tc := ⟨.hbm, 88, rfl⟩
abbrev main_v69 : Ref sig .tc := ⟨.hbm, 89, rfl⟩
abbrev main_cst_14 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_15 : Ref sig .tc := ⟨.hbm, 105, rfl⟩
abbrev main_call0_v0 : Ref sig .tc := ⟨.hbm, 106, rfl⟩
abbrev main_v84_1 : Ref sig .tc := ⟨.hbm, 107, rfl⟩
abbrev main_call0_v2 : Ref sig .tc := ⟨.hbm, 108, rfl⟩
abbrev main_v84_0 : Ref sig .tc := ⟨.hbm, 109, rfl⟩
abbrev main_call0_cst : Ref sig .tc := ⟨.hbm, 110, rfl⟩
abbrev main_v84_2 : Ref sig .tc := ⟨.hbm, 111, rfl⟩
abbrev main_v85 : Ref sig .tc := ⟨.hbm, 112, rfl⟩
abbrev main_cst_16 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_17 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_18 : Ref sig .tc := ⟨.hbm, 128, rfl⟩
abbrev main_v99 : Ref sig .tc := ⟨.hbm, 129, rfl⟩
abbrev main_cst_19 : Ref sig .tc := ⟨.hbm, 130, rfl⟩
abbrev main_v100 : Ref sig .tc := ⟨.hbm, 131, rfl⟩
abbrev main_cst_20 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_21 : Ref sig .tc := ⟨.hbm, 140, rfl⟩
abbrev main_v108 : Ref sig .tc := ⟨.hbm, 141, rfl⟩
abbrev main_cst_22 : Ref sig .tc := ⟨.hbm, 142, rfl⟩
abbrev main_v109 : Ref sig .tc := ⟨.hbm, 143, rfl⟩
abbrev main_cst_23 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_24 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_25 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_26 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_cst_27 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_cst_28 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_cst_29 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_cst_30 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_cst_31 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_call1_cst : Ref sig .tc := ⟨.hbm, 212, rfl⟩
abbrev main_call1_v0 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_cst_32 : Ref sig .tc := ⟨.hbm, 223, rfl⟩
abbrev main_v178 : Ref sig .tc := ⟨.hbm, 224, rfl⟩
abbrev main_cst_33 : Ref sig .tc := ⟨.hbm, 225, rfl⟩
abbrev main_v179 : Ref sig .tc := ⟨.hbm, 226, rfl⟩
abbrev main_v180 : Ref sig .tc := ⟨.hbm, 227, rfl⟩
abbrev main_cst_34 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_cst_35 : Ref sig .tc := ⟨.hbm, 238, rfl⟩
abbrev main_v190 : Ref sig .tc := ⟨.hbm, 239, rfl⟩
abbrev main_cst_36 : Ref sig .tc := ⟨.hbm, 240, rfl⟩
abbrev main_v191 : Ref sig .tc := ⟨.hbm, 241, rfl⟩
abbrev main_v192 : Ref sig .tc := ⟨.hbm, 242, rfl⟩
abbrev main_cst_37 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_cst_38 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S1024x1408 : Shape := ⟨2, ![1024, 1408]⟩
abbrev S1x1024x1408 : Shape := ⟨3, ![1, 1024, 1408]⟩
abbrev S4x1024x1408 : Shape := ⟨3, ![4, 1024, 1408]⟩
abbrev S1x1024 : Shape := ⟨2, ![1, 1024]⟩
abbrev S512x5632 : Shape := ⟨2, ![512, 5632]⟩
abbrev S512x1024 : Shape := ⟨2, ![512, 1024]⟩
abbrev S512x1408 : Shape := ⟨2, ![512, 1408]⟩
abbrev S512 : Shape := ⟨1, ![512]⟩
abbrev S512x1 : Shape := ⟨2, ![512, 1]⟩

abbrev nBuf : Space → Nat
  | .hbm => 17
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S8192x5632, .bf16⟩
  | .hbm, ⟨4, _⟩ => ⟨S8192x1024, .f32⟩
  | .hbm, ⟨5, _⟩ => ⟨S1024x1408, .bf16⟩
  | .hbm, ⟨6, _⟩ => ⟨S1024x1408, .bf16⟩
  | .hbm, ⟨7, _⟩ => ⟨S1024x1408, .bf16⟩
  | .hbm, ⟨8, _⟩ => ⟨S1024x1408, .bf16⟩
  | .hbm, ⟨9, _⟩ => ⟨S1x1024x1408, .bf16⟩
  | .hbm, ⟨10, _⟩ => ⟨S1x1024x1408, .bf16⟩
  | .hbm, ⟨11, _⟩ => ⟨S1x1024x1408, .bf16⟩
  | .hbm, ⟨12, _⟩ => ⟨S1x1024x1408, .bf16⟩
  | .hbm, ⟨13, _⟩ => ⟨S4x1024x1408, .bf16⟩
  | .hbm, ⟨14, _⟩ => ⟨S1x1024, .f32⟩
  | .hbm, ⟨15, _⟩ => ⟨S8192x1024, .f32⟩
  | .hbm, ⟨16, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S8192x5632, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x5632, .f32⟩
  | .hbm, ⟨26, _⟩ => ⟨S8192x5632, .f32⟩
  | .hbm, ⟨27, _⟩ => ⟨S8192x5632, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x5632 : Shape := ⟨2, ![1024, 5632]⟩
abbrev S2x8192x2816 : Shape := ⟨3, ![2, 8192, 2816]⟩
abbrev S1024x1408 : Shape := ⟨2, ![1024, 1408]⟩
abbrev S1x1024x1408 : Shape := ⟨3, ![1, 1024, 1408]⟩
abbrev S4x1024x1408 : Shape := ⟨3, ![4, 1024, 1408]⟩
abbrev S1x1024 : Shape := ⟨2, ![1, 1024]⟩
abbrev S2x512x2816 : Shape := ⟨3, ![2, 512, 2816]⟩
abbrev S512x1024 : Shape := ⟨2, ![512, 1024]⟩
abbrev S1x512x1408 : Shape := ⟨3, ![1, 512, 1408]⟩
abbrev S512x1408 : Shape := ⟨2, ![512, 1408]⟩
abbrev S512 : Shape := ⟨1, ![512]⟩
abbrev S512x1 : Shape := ⟨2, ![512, 1]⟩

abbrev nBuf : Space → Nat
  | .hbm => 17
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S2x8192x2816, .bf16⟩
  | .hbm, ⟨4, _⟩ => ⟨S8192x1024, .f32⟩
  | .hbm, ⟨5, _⟩ => ⟨S1024x1408, .bf16⟩
  | .hbm, ⟨6, _⟩ => ⟨S1024x1408, .bf16⟩
  | .hbm, ⟨7, _⟩ => ⟨S1024x1408, .bf16⟩
  | .hbm, ⟨8, _⟩ => ⟨S1024x1408, .bf16⟩
  | .hbm, ⟨9, _⟩ => ⟨S1x1024x1408, .bf16⟩
  | .hbm, ⟨10, _⟩ => ⟨S1x1024x1408, .bf16⟩
  | .hbm, ⟨11, _⟩ => ⟨S1x1024x1408, .bf16⟩
  | .hbm, ⟨12, _⟩ => ⟨S1x1024x1408, .bf16⟩
  | .hbm, ⟨13, _⟩ => ⟨S4x1024x1408, .bf16⟩
  | .hbm, ⟨14, _⟩ => ⟨S1x1024, .f32⟩
  | .hbm, ⟨15, _⟩ => ⟨S8192x1024, .f32⟩
  | .hbm, ⟨16, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S8192x1024 : Shape := ⟨2, ![8192, 1024]⟩
abbrev S1024 : Shape := ⟨1, ![1024]⟩
abbrev S1024x5632 : Shape := ⟨2, ![1024, 5632]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S2x8192x2816, .bf16⟩
  | .hbm, ⟨4, _⟩ => ⟨S8192x1024, .f32⟩
  | .hbm, ⟨5, _⟩ => ⟨S1x8192x2816, .bf16⟩
  | .hbm, ⟨6, _⟩ => ⟨S8192x2816, .bf16⟩
  | .hbm, ⟨7, _⟩ => ⟨S1x8192x2816, .bf16⟩
  | .hbm, ⟨8, _⟩ => ⟨S8192x2816, .bf16⟩
  | .hbm, ⟨9, _⟩ => ⟨S8192x5632, .bf16⟩
  | .hbm, ⟨10, _⟩ => ⟨S8192x5632, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1024x5632, .f32⟩
  | .hbm, ⟨32, _⟩ => ⟨S8192x5632, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel6.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x128, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x128, .f32⟩
  | .local _ .vmem, ⟨11, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S1x128, .f32⟩
  | .hbm, ⟨78, _⟩ => ⟨S1x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel7.lean ====
abbrev S8192x5632 : Shape := ⟨2, ![8192, 5632]⟩
abbrev S2048 : Shape := ⟨1, ![2048]⟩
abbrev S8192x1024 : Shape := ⟨2, ![8192, 1024]⟩
abbrev S1024x1024 : Shape := ⟨2, ![1024, 1024]⟩
abbrev S1x2048 : Shape := ⟨2, ![1, 2048]⟩
abbrev S2x8192x1024 : Shape := ⟨3, ![2, 8192, 1024]⟩
abbrev S512x512 : Shape := ⟨2, ![512, 512]⟩
abbrev S512x1024 : Shape := ⟨2, ![512, 1024]⟩
abbrev S2x512x1024 : Shape := ⟨3, ![2, 512, 1024]⟩
abbrev S2x512x2048 : Shape := ⟨3, ![2, 512, 2048]⟩
abbrev S2 : Shape := ⟨1, ![2]⟩
abbrev S1 : Shape := ⟨1, ![1]⟩
abbrev S_ : Shape := ⟨0, ![]⟩
abbrev S512x2048 : Shape := ⟨2, ![512, 2048]⟩
abbrev S1x512x2048 : Shape := ⟨3, ![1, 512, 2048]⟩
abbrev S1x512 : Shape := ⟨2, ![1, 512]⟩
abbrev S1x512x512 : Shape := ⟨3, ![1, 512, 512]⟩
abbrev S512 : Shape := ⟨1, ![512]⟩
abbrev S8192x2048 : Shape := ⟨2, ![8192, 2048]⟩

abbrev nBuf : Space → Nat
  | .hbm => 11
  | .vmem => 20
  | .smem => 0
  | _ => 0

abbrev bufTy : (tb : Table) → Fin (tcTables nBuf tb) → BufTy
  | .hbm, ⟨0, _⟩ => ⟨S8192x5632, .bf16⟩
  | .hbm, ⟨1, _⟩ => ⟨S2048, .f32⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S1024x1024, .bf16⟩
  | .hbm, ⟨6, _⟩ => ⟨S1x2048, .f32⟩
  | .hbm, ⟨7, _⟩ => ⟨S8192x5632, .bf16⟩
  | .hbm, ⟨8, _⟩ => ⟨S2x8192x1024, .bf16⟩
  | .hbm, ⟨9, _⟩ => ⟨S1x2048, .f32⟩
  | .hbm, ⟨10, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S1024x1024, .bf16⟩
  | .local _ .vmem, ⟨16, _⟩ => ⟨S2x512x1024, .bf16⟩
  | .local _ .vmem, ⟨17, _⟩ => ⟨S2x512x1024, .bf16⟩
  | .local _ .vmem, ⟨18, _⟩ => ⟨S1x2048, .f32⟩
  | .local _ .vmem, ⟨19, _⟩ => ⟨S2x512x2048, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c2_i32_3 : BitVec 32 := 2#32
  let v10 : BitVec 1 := Scalar.cmpi .sge arg0 c2_i32_3
  let v11 : BitVec 32 := Scalar.extui v10
  let c0_i32_4 : BitVec 32 := 0#32
  let v12 : BitVec 1 := Scalar.cmpi .ne v11 c0_i32_4
  v12

def k0_mult1 (i : grid0.Coords) : BitVec 32 :=
  let arg0 : BitVec 32 := BitVec.ofNat 32 (i 0).val
  let c2_i32_101 : BitVec 32 := 2#32
  let v198 : BitVec 32 := Scalar.subi arg0 c2_i32_101
  let c512_i32_102 : BitVec 32 := 512#32
  let v199 : BitVec 32 := Scalar.muli v198 c512_i32_102
  v199
def k0_off1 (i : grid0.Coords) : Fin 1 → Nat :=
  let arg0 : BitVec 32 := BitVec.ofNat 32 (i 0).val
  let c2_i32_101 : BitVec 32 := 2#32
  let v198 : BitVec 32 := Scalar.subi arg0 c2_i32_101
  let c2_i32_109 : BitVec 32 := 2#32
  let c0_i32_110 : BitVec 32 := 0#32
  let v211 : BitVec 1 := Scalar.cmpi .eq c2_i32_109 c0_i32_110
  let c1_i32_111 : BitVec 32 := 1#32
  let v212 : BitVec 32 := Scalar.select v211 c1_i32_111 c2_i32_109
  let v213 : BitVec 32 := Scalar.remsi v198 v212
  let c0_i32_113 : BitVec 32 := 0#32
  let v215 : BitVec 1 := Scalar.cmpi .slt v213 c0_i32_113
  let c0_i32_114 : BitVec 32 := 0#32
  let v216 : BitVec 1 := Scalar.cmpi .slt v212 c0_i32_114
  let v217 : BitVec 1 := Scalar.xori v215 v216
  let c0_i32_112 : BitVec 32 := 0#32
  let v214 : BitVec 1 := Scalar.cmpi .ne v213 c0_i32_112
  let v218 : BitVec 1 := Scalar.andi v217 v214
  let v219 : BitVec 32 := Scalar.addi v213 v212
  let v220 : BitVec 32 := Scalar.select v218 v219 v213
  ![v220.toNat]
def k0_off2 (i : grid0.Coords) : Fin 2 → Nat :=
  let arg0 : BitVec 32 := BitVec.ofNat 32 (i 0).val
  let c2_i32_101 : BitVec 32 := 2#32
  let v198 : BitVec 32 := Scalar.subi arg0 c2_i32_101
  let c512_i32_102 : BitVec 32 := 512#32
  let v199 : BitVec 32 := Scalar.muli v198 c512_i32_102
  let v200 : BitVec 32 := v199
  let c3584_i32_115 : BitVec 32 := 3584#32
  ![v200.toNat, 3584]
def k0_off3 (i : grid0.Coords) : Fin 3 → Nat :=
  let arg0 : BitVec 32 := BitVec.ofNat 32 (i 0).val
  let c2_i32_101 : BitVec 32 := 2#32
  let v198 : BitVec 32 := Scalar.subi arg0 c2_i32_101
  let c2_i32_103 : BitVec 32 := 2#32
  let c0_i32_104 : BitVec 32 := 0#32
  let v201 : BitVec 1 := Scalar.cmpi .eq c2_i32_103 c0_i32_104
  let c1_i32_105 : BitVec 32 := 1#32
  let v202 : BitVec 32 := Scalar.select v201 c1_i32_105 c2_i32_103
  let v203 : BitVec 32 := Scalar.remsi v198 v202
  let c0_i32_107 : BitVec 32 := 0#32
  let v205 : BitVec 1 := Scalar.cmpi .slt v203 c0_i32_107
  let c0_i32_108 : BitVec 32 := 0#32
  let v206 : BitVec 1 := Scalar.cmpi .slt v202 c0_i32_108
  let v207 : BitVec 1 := Scalar.xori v205 v206
  let c0_i32_106 : BitVec 32 := 0#32
  let v204 : BitVec 1 := Scalar.cmpi .ne v203 c0_i32_106
  let v208 : BitVec 1 := Scalar.andi v207 v204
  let v209 : BitVec 32 := Scalar.addi v203 v202
  let v210 : BitVec 32 := Scalar.select v208 v209 v203
  let c0_i32_116 : BitVec 32 := 0#32
  let c0_i32_117 : BitVec 32 := 0#32
  ![v210.toNat, 0, 0]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v42 : Index := Scalar.indexCast v9
  let c0_20 : Index := 0#32
  let c0_21 : Index := 0#32
  ![v42.toNat, 0, 0]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v79 : Index := Scalar.indexCast v9
  let c0_39 : Index := 0#32
  let c512_40 : Index := 512#32
  ![v79.toNat, 0, 512]
def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v116 : Index := Scalar.indexCast v9
  let c0_58 : Index := 0#32
  let c1024_59 : Index := 1024#32
  ![v116.toNat, 0, 1024]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v153 : Index := Scalar.indexCast v9
  let c0_76 : Index := 0#32
  let c1536_77 : Index := 1536#32
  ![v153.toNat, 0, 1536]
def k0_mult2 (i : grid0.Coords) : BitVec 32 :=
  let arg0 : BitVec 32 := BitVec.ofNat 32 (i 0).val
  let c512_i32 : BitVec 32 := 512#32
  let v168 : BitVec 32 := Scalar.muli arg0 c512_i32
  v168
def k0_off8 (i : grid0.Coords) : Fin 1 → Nat :=
  let arg0 : BitVec 32 := BitVec.ofNat 32 (i 0).val
  let c2_i32_92 : BitVec 32 := 2#32
  let c0_i32_93 : BitVec 32 := 0#32
  let v180 : BitVec 1 := Scalar.cmpi .eq c2_i32_92 c0_i32_93
  let c1_i32_94 : BitVec 32 := 1#32
  let v181 : BitVec 32 := Scalar.select v180 c1_i32_94 c2_i32_92
  let v182 : BitVec 32 := Scalar.remsi arg0 v181
  let c0_i32_96 : BitVec 32 := 0#32
  let v184 : BitVec 1 := Scalar.cmpi .slt v182 c0_i32_96
  let c0_i32_97 : BitVec 32 := 0#32
  let v185 : BitVec 1 := Scalar.cmpi .slt v181 c0_i32_97
  let v186 : BitVec 1 := Scalar.xori v184 v185
  let c0_i32_95 : BitVec 32 := 0#32
  let v183 : BitVec 1 := Scalar.cmpi .ne v182 c0_i32_95
  let v187 : BitVec 1 := Scalar.andi v186 v183
  let v188 : BitVec 32 := Scalar.addi v182 v181
  let v189 : BitVec 32 := Scalar.select v187 v188 v182
  ![v189.toNat]
def k0_off9 (i : grid0.Coords) : Fin 2 → Nat :=
  let arg0 : BitVec 32 := BitVec.ofNat 32 (i 0).val
  let c512_i32 : BitVec 32 := 512#32
  let v168 : BitVec 32 := Scalar.muli arg0 c512_i32
  let v169 : BitVec 32 := v168
  let c3584_i32 : BitVec 32 := 3584#32
  ![v169.toNat, 3584]
def k0_off10 (i : grid0.Coords) : Fin 3 → Nat :=
  let arg0 : BitVec 32 := BitVec.ofNat 32 (i 0).val
  let c2_i32_86 : BitVec 32 := 2#32
  let c0_i32_87 : BitVec 32 := 0#32
  let v170 : BitVec 1 := Scalar.cmpi .eq c2_i32_86 c0_i32_87
  let c1_i32_88 : BitVec 32 := 1#32
  let v171 : BitVec 32 := Scalar.select v170 c1_i32_88 c2_i32_86
  let v172 : BitVec 32 := Scalar.remsi arg0 v171
  let c0_i32_90 : BitVec 32 := 0#32
  let v174 : BitVec 1 := Scalar.cmpi .slt v172 c0_i32_90
  let c0_i32_91 : BitVec 32 := 0#32
  let v175 : BitVec 1 := Scalar.cmpi .slt v171 c0_i32_91
  let v176 : BitVec 1 := Scalar.xori v174 v175
  let c0_i32_89 : BitVec 32 := 0#32
  let v173 : BitVec 1 := Scalar.cmpi .ne v172 c0_i32_89
  let v177 : BitVec 1 := Scalar.andi v176 v173
  let v178 : BitVec 32 := Scalar.addi v172 v171
  let v179 : BitVec 32 := Scalar.select v177 v178 v172
  let c0_i32_98 : BitVec 32 := 0#32
  let c0_i32_99 : BitVec 32 := 0#32
  ![v179.toNat, 0, 0]
def k0_cond3 (i : grid0.Coords) : BitVec 1 :=
  let arg0 : BitVec 32 := BitVec.ofNat 32 (i 0).val
  let c15_i32 : BitVec 32 := 15#32
  let v195 : BitVec 1 := Scalar.cmpi .eq arg0 c15_i32
  let v196 : BitVec 32 := Scalar.extui v195
  let c0_i32_100 : BitVec 32 := 0#32
  let v197 : BitVec 1 := Scalar.cmpi .ne v196 c0_i32_100
  v197

def k0_mult3 (i : grid0.Coords) : BitVec 32 :=
  let arg0 : BitVec 32 := BitVec.ofNat 32 (i 0).val
  let c1_i32_101 : BitVec 32 := 1#32
  let v198 : BitVec 32 := Scalar.subi arg0 c1_i32_101
  let c512_i32_102 : BitVec 32 := 512#32
  let v199 : BitVec 32 := Scalar.muli v198 c512_i32_102
  v199
def k0_off11 (i : grid0.Coords) : Fin 1 → Nat :=
  let arg0 : BitVec 32 := BitVec.ofNat 32 (i 0).val
  let c1_i32_101 : BitVec 32 := 1#32
  let v198 : BitVec 32 := Scalar.subi arg0 c1_i32_101
  let c2_i32_109 : BitVec 32 := 2#32
  let c0_i32_110 : BitVec 32 := 0#32
  let v211 : BitVec 1 := Scalar.cmpi .eq c2_i32_109 c0_i32_110
  let c1_i32_111 : BitVec 32 := 1#32
  let v212 : BitVec 32 := Scalar.select v211 c1_i32_111 c2_i32_109
  let v213 : BitVec 32 := Scalar.remsi v198 v212
  let c0_i32_113 : BitVec 32 := 0#32
  let v215 : BitVec 1 := Scalar.cmpi .slt v213 c0_i32_113
  let c0_i32_114 : BitVec 32 := 0#32
  let v216 : BitVec 1 := Scalar.cmpi .slt v212 c0_i32_114
  let v217 : BitVec 1 := Scalar.xori v215 v216
  let c0_i32_112 : BitVec 32 := 0#32
  let v214 : BitVec 1 := Scalar.cmpi .ne v213 c0_i32_112
  let v218 : BitVec 1 := Scalar.andi v217 v214
  let v219 : BitVec 32 := Scalar.addi v213 v212
  let v220 : BitVec 32 := Scalar.select v218 v219 v213
  ![v220.toNat]
def k0_off12 (i : grid0.Coords) : Fin 2 → Nat :=
  let arg0 : BitVec 32 := BitVec.ofNat 32 (i 0).val
  let c1_i32_101 : BitVec 32 := 1#32
  let v198 : BitVec 32 := Scalar.subi arg0 c1_i32_101
  let c512_i32_102 : BitVec 32 := 512#32
  let v199 : BitVec 32 := Scalar.muli v198 c512_i32_102
  let v200 : BitVec 32 := v199
  let c3584_i32_115 : BitVec 32 := 3584#32
  ![v200.toNat, 3584]
def k0_off13 (i : grid0.Coords) : Fin 3 → Nat :=
  let arg0 : BitVec 32 := BitVec.ofNat 32 (i 0).val
  let c1_i32_101 : BitVec 32 := 1#32
  let v198 : BitVec 32 := Scalar.subi arg0 c1_i32_101
  let c2_i32_103 : BitVec 32 := 2#32
  let c0_i32_104 : BitVec 32 := 0#32
  let v201 : BitVec 1 := Scalar.cmpi .eq c2_i32_103 c0_i32_104
  let c1_i32_105 : BitVec 32 := 1#32
  let v202 : BitVec 32 := Scalar.select v201 c1_i32_105 c2_i32_103
  let v203 : BitVec 32 := Scalar.remsi v198 v202
  let c0_i32_107 : BitVec 32 := 0#32
  let v205 : BitVec 1 := Scalar.cmpi .slt v203 c0_i32_107
  let c0_i32_108 : BitVec 32 := 0#32
  let v206 : BitVec 1 := Scalar.cmpi .slt v202 c0_i32_108
  let v207 : BitVec 1 := Scalar.xori v205 v206
  let c0_i32_106 : BitVec 32 := 0#32
  let v204 : BitVec 1 := Scalar.cmpi .ne v203 c0_i32_106
  let v208 : BitVec 1 := Scalar.andi v207 v204
  let v209 : BitVec 32 := Scalar.addi v203 v202
  let v210 : BitVec 32 := Scalar.select v208 v209 v203
  let c0_i32_116 : BitVec 32 := 0#32
  let c0_i32_117 : BitVec 32 := 0#32
  ![v210.toNat, 0, 0]
def k0_mult4 (i : grid0.Coords) : BitVec 32 :=
  let arg0 : BitVec 32 := BitVec.ofNat 32 (i 0).val
  let c512_i32_118 : BitVec 32 := 512#32
  let v226 : BitVec 32 := Scalar.muli arg0 c512_i32_118
  v226
def k0_off14 (i : grid0.Coords) : Fin 1 → Nat :=
  let arg0 : BitVec 32 := BitVec.ofNat 32 (i 0).val
  let c2_i32_125 : BitVec 32 := 2#32
  let c0_i32_126 : BitVec 32 := 0#32
  let v238 : BitVec 1 := Scalar.cmpi .eq c2_i32_125 c0_i32_126
  let c1_i32_127 : BitVec 32 := 1#32
  let v239 : BitVec 32 := Scalar.select v238 c1_i32_127 c2_i32_125
  let v240 : BitVec 32 := Scalar.remsi arg0 v239
  let c0_i32_129 : BitVec 32 := 0#32
  let v242 : BitVec 1 := Scalar.cmpi .slt v240 c0_i32_129
  let c0_i32_130 : BitVec 32 := 0#32
  let v243 : BitVec 1 := Scalar.cmpi .slt v239 c0_i32_130
  let v244 : BitVec 1 := Scalar.xori v242 v243
  let c0_i32_128 : BitVec 32 := 0#32
  let v241 : BitVec 1 := Scalar.cmpi .ne v240 c0_i32_128
  let v245 : BitVec 1 := Scalar.andi v244 v241
  let v246 : BitVec 32 := Scalar.addi v240 v239
  let v247 : BitVec 32 := Scalar.select v245 v246 v240
  ![v247.toNat]
def k0_off15 (i : grid0.Coords) : Fin 2 → Nat :=
  let arg0 : BitVec 32 := BitVec.ofNat 32 (i 0).val
  let c512_i32_118 : BitVec 32 := 512#32
  let v226 : BitVec 32 := Scalar.muli arg0 c512_i32_118
  let v227 : BitVec 32 := v226
  let c3584_i32_131 : BitVec 32 := 3584#32
  ![v227.toNat, 3584]
def k0_off16 (i : grid0.Coords) : Fin 3 → Nat :=
  let arg0 : BitVec 32 := BitVec.ofNat 32 (i 0).val
  let c2_i32_119 : BitVec 32 := 2#32
  let c0_i32_120 : BitVec 32 := 0#32
  let v228 : BitVec 1 := Scalar.cmpi .eq c2_i32_119 c0_i32_120
  let c1_i32_121 : BitVec 32 := 1#32
  let v229 : BitVec 32 := Scalar.select v228 c1_i32_121 c2_i32_119
  let v230 : BitVec 32 := Scalar.remsi arg0 v229
  let c0_i32_123 : BitVec 32 := 0#32
  let v232 : BitVec 1 := Scalar.cmpi .slt v230 c0_i32_123
  let c0_i32_124 : BitVec 32 := 0#32
  let v233 : BitVec 1 := Scalar.cmpi .slt v229 c0_i32_124
  let v234 : BitVec 1 := Scalar.xori v232 v233
  let c0_i32_122 : BitVec 32 := 0#32
  let v231 : BitVec 1 := Scalar.cmpi .ne v230 c0_i32_122
  let v235 : BitVec 1 := Scalar.andi v234 v231
  let v236 : BitVec 32 := Scalar.addi v230 v229
  let v237 : BitVec 32 := Scalar.select v235 v236 v230
  let c0_i32_132 : BitVec 32 := 0#32
  let c0_i32_133 : BitVec 32 := 0#32
  ![v237.toNat, 0, 0]
def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference7Ideal.lean ====
abbrev S8192x5632 : Shape := ⟨2, ![8192, 5632]⟩
abbrev S2048 : Shape := ⟨1, ![2048]⟩
abbrev S8192x1024 : Shape := ⟨2, ![8192, 1024]⟩
abbrev S1024x1024 : Shape := ⟨2, ![1024, 1024]⟩
abbrev S8192x2048 : Shape := ⟨2, ![8192, 2048]⟩
abbrev S1x2048 : Shape := ⟨2, ![1, 2048]⟩
abbrev S_ : Shape := ⟨0, ![]⟩
abbrev S8192x2x1024 : Shape := ⟨3, ![8192, 2, 1024]⟩
abbrev S8192x1x1024 : Shape := ⟨3, ![8192, 1, 1024]⟩
abbrev S1x8192x1024 : Shape := ⟨3, ![1, 8192, 1024]⟩
abbrev S2x8192x1024 : Shape := ⟨3, ![2, 8192, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048, .f32⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S1024x1024, .bf16⟩
  | .hbm, ⟨6, _⟩ => ⟨S8192x2048, .bf16⟩
  | .hbm, ⟨7, _⟩ => ⟨S8192x2048, .f32⟩
  | .hbm, ⟨8, _⟩ => ⟨S8192x1024, .f32⟩
  | .hbm, ⟨9, _⟩ => ⟨S8192x1024, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2x1024, .f32⟩
  | .hbm, ⟨26, _⟩ => ⟨S8192x1x1024, .f32⟩
  | .hbm, ⟨27, _⟩ => ⟨S8192x1024, .f32⟩
  | .hbm, ⟨28, _⟩ => ⟨S8192x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S1024x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1x1024, .f32⟩
  | .hbm, ⟨39, _⟩ => ⟨S_, .f32⟩
  | .hbm, ⟨40, _⟩ => ⟨S8192x2x1024, .f32⟩
  | .hbm, ⟨41, _⟩ => ⟨S8192x1024, .f32⟩
  | .hbm, ⟨42, _⟩ => ⟨S8192x1024, .f32⟩
  | .hbm, ⟨43, _⟩ => ⟨S8192x1x1024, .f32⟩
  | .hbm, ⟨44, _⟩ => ⟨S_, .f32⟩
  | .hbm, ⟨45, _⟩ => ⟨S8192x2x1024, .f32⟩
  | .hbm, ⟨46, _⟩ => ⟨S8192x2x1024, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S_, .f32⟩
  | .hbm, ⟨53, _⟩ => ⟨S2048, .f32⟩
  | .hbm, ⟨54, _⟩ => ⟨S8192x2048, .bf16⟩
  | .hbm, ⟨55, _⟩ => ⟨S1x8192x1024, .f32⟩
  | .hbm, ⟨56, _⟩ => ⟨S1x8192x1024, .f32⟩
  | .hbm, ⟨57, _⟩ => ⟨S2x8192x1024, .f32⟩
  | .hbm, ⟨58, _⟩ => ⟨S2x8192x1024, .bf16⟩
  | .hbm, ⟨59, _⟩ => ⟨S1x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1024x5632 : Shape := ⟨2, ![1024, 5632]⟩
abbrev S1x1024 : Shape := ⟨2, ![1, 1024]⟩
abbrev S1024x1408 : Shape := ⟨2, ![1024, 1408]⟩
abbrev S1x1024x1408 : Shape := ⟨3, ![1, 1024, 1408]⟩
abbrev S4x1024x1408 : Shape := ⟨3, ![4, 1024, 1408]⟩
abbrev S2x8192x2816 : Shape := ⟨3, ![2, 8192, 2816]⟩
abbrev S8192x2816 : Shape := ⟨2, ![8192, 2816]⟩
abbrev S512x1024 : Shape := ⟨2, ![512, 1024]⟩
abbrev S2x512x2816 : Shape := ⟨3, ![2, 512, 2816]⟩
abbrev S512x2816 : Shape := ⟨2, ![512, 2816]⟩
abbrev S512 : Shape := ⟨1, ![512]⟩
abbrev S512x1 : Shape := ⟨2, ![512, 1]⟩
abbrev S512x1408 : Shape := ⟨2, ![512, 1408]⟩
abbrev S1x512x1408 : Shape := ⟨3, ![1, 512, 1408]⟩

abbrev nBuf : Space → Nat
  | .hbm => 16
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S1x1024, .f32⟩
  | .hbm, ⟨4, _⟩ => ⟨S1024x1408, .bf16⟩
  | .hbm, ⟨5, _⟩ => ⟨S1024x1408, .bf16⟩
  | .hbm, ⟨6, _⟩ => ⟨S1024x1408, .bf16⟩
  | .hbm, ⟨7, _⟩ => ⟨S1024x1408, .bf16⟩
  | .hbm, ⟨8, _⟩ => ⟨S1x1024x1408, .bf16⟩
  | .hbm, ⟨9, _⟩ => ⟨S1x1024x1408, .bf16⟩
  | .hbm, ⟨10, _⟩ => ⟨S1x1024x1408, .bf16⟩
  | .hbm, ⟨11, _⟩ => ⟨S1x1024x1408, .bf16⟩
  | .hbm, ⟨12, _⟩ => ⟨S4x1024x1408, .bf16⟩
  | .hbm, ⟨13, _⟩ => ⟨S8192x1024, .bf16⟩
  | .hbm, ⟨14, _⟩ => ⟨S2x8192x2816, .bf16⟩
  | .hbm, ⟨15, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S512x1024, .bf16⟩
  | .local _ .vmem, ⟨5, _⟩ => ⟨S512x1024, .bf16⟩
  | .local _ .vmem, ⟨6, _⟩ => ⟨S2x512x2816, .bf16⟩
  | .local _ .vmem, ⟨7, _⟩ => ⟨S2x512x2816, .bf16⟩
  | .local _ .vmem, ⟨8, _⟩ => ⟨S512x2816, .bf16⟩
  | .local _ .vmem, ⟨9, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v10_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x5632, .f32⟩
  | .hbm, ⟨20, _⟩ => ⟨S8192x5632, .f32⟩
  | .hbm, ⟨21, _⟩ => ⟨S8192x2816, .f32⟩
  | .hbm, ⟨22, _⟩ => ⟨S8192x2816, .f32⟩
  | .hbm, ⟨23, _⟩ => ⟨S8192x1024, .bf16⟩
  | .hbm, ⟨24, _⟩ => ⟨S1x8192x2816, .f32⟩
  | .hbm, ⟨25, _⟩ => ⟨S1x8192x2816, .f32⟩
  | .hbm, ⟨26, _⟩ => ⟨S2x8192x2816, .f32⟩
  | .hbm, ⟨27, _⟩ => ⟨S2x8192x2816, .bf16⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x5632 : Shape := ⟨2, ![1024, 5632]⟩
abbrev S1x1024 : Shape := ⟨2, ![1, 1024]⟩
abbrev S1024x1408 : Shape := ⟨2, ![1024, 1408]⟩
abbrev S1x1024x1408 : Shape := ⟨3, ![1, 1024, 1408]⟩
abbrev S4x1024x1408 : Shape := ⟨3, ![4, 1024, 1408]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S512x1408 : Shape := ⟨2, ![512, 1408]⟩

abbrev nBuf : Space → Nat
  | .hbm => 15
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S1x1024, .f32⟩
  | .hbm, ⟨4, _⟩ => ⟨S1024x1408, .bf16⟩
  | .hbm, ⟨5, _⟩ => ⟨S1024x1408, .bf16⟩
  | .hbm, ⟨6, _⟩ => ⟨S1024x1408, .bf16⟩
  | .hbm, ⟨7, _⟩ => ⟨S1024x1408, .bf16⟩
  | .hbm, ⟨8, _⟩ => ⟨S1x1024x1408, .bf16⟩
  | .hbm, ⟨9, _⟩ => ⟨S1x1024x1408, .bf16⟩
  | .hbm, ⟨10, _⟩ => ⟨S1x1024x1408, .bf16⟩
  | .hbm, ⟨11, _⟩ => ⟨S1x1024x1408, .bf16⟩
  | .hbm, ⟨12, _⟩ => ⟨S4x1024x1408, .bf16⟩
  | .hbm, ⟨13, _⟩ => ⟨S8192x1024, .bf16⟩
  | .hbm, ⟨14, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S512x1024, .bf16⟩
  | .local _ .vmem, ⟨5, _⟩ => ⟨S512x1024, .bf16⟩
  | .local _ .vmem, ⟨6, _⟩ => ⟨S512x5632, .bf16⟩
  | .local _ .vmem, ⟨7, _⟩ => ⟨S512x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x5632, .f32⟩
  | .hbm, ⟨21, _⟩ => ⟨S8192x5632, .f32⟩
  | .hbm, ⟨22, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel10.lean ====
abbrev S8192x5632 : Shape := ⟨2, ![8192, 5632]⟩
abbrev S2048 : Shape := ⟨1, ![2048]⟩
abbrev S8192x1024 : Shape := ⟨2, ![8192, 1024]⟩
abbrev S1024x1024 : Shape := ⟨2, ![1024, 1024]⟩
abbrev S1x2048 : Shape := ⟨2, ![1, 2048]⟩
abbrev S512x512 : Shape := ⟨2, ![512, 512]⟩
abbrev S512x1024 : Shape := ⟨2, ![512, 1024]⟩
abbrev S1x512 : Shape := ⟨2, ![1, 512]⟩

abbrev nBuf : Space → Nat
  | .hbm => 9
  | .vmem => 20
  | .smem => 0
  | _ => 0

abbrev bufTy : (tb : Table) → Fin (tcTables nBuf tb) → BufTy
  | .hbm, ⟨0, _⟩ => ⟨S8192x5632, .bf16⟩
  | .hbm, ⟨1, _⟩ => ⟨S2048, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .hbm, ⟨5, _⟩ => ⟨S8192x1024, .f32⟩
  | .hbm, ⟨6, _⟩ => ⟨S1x2048, .f32⟩
  | .hbm, ⟨7, _⟩ => ⟨S8192x1024, .bf16⟩
  | .hbm, ⟨8, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference10Ideal.lean ====
abbrev S8192x5632 : Shape := ⟨2, ![8192, 5632]⟩
abbrev S2048 : Shape := ⟨1, ![2048]⟩
abbrev S8192x1024 : Shape := ⟨2, ![8192, 1024]⟩
abbrev S1024x1024 : Shape := ⟨2, ![1024, 1024]⟩
abbrev S8192x2048 : Shape := ⟨2, ![8192, 2048]⟩
abbrev S1x2048 : Shape := ⟨2, ![1, 2048]⟩
abbrev S_ : Shape := ⟨0, ![]⟩
abbrev S8192x2x1024 : Shape := ⟨3, ![8192, 2, 1024]⟩
abbrev S8192x1x1024 : Shape := ⟨3, ![8192, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .hbm, ⟨5, _⟩ => ⟨S8192x1024, .f32⟩
  | .hbm, ⟨6, _⟩ => ⟨S8192x2048, .bf16⟩
  | .hbm, ⟨7, _⟩ => ⟨S8192x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2x1024, .f32⟩
  | .hbm, ⟨20, _⟩ => ⟨S8192x1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S1024x1024, .f32⟩
  | .hbm, ⟨31, _⟩ => ⟨S8192x1024, .f32⟩
  | .hbm, ⟨32, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.Reals.lean ====
/- Facts about extended reals that the value proofs share: which extended reals are real numbers, that sums and
   products of real numbers are real, how a printed precondition `all (|x| < ∞)` is read, and the logistic function
   written through the hyperbolic tangent. -/
module

public import Idealize.ShloMosaic.Lib.Pointwise
public import Idealize.ShloMosaic.Lib.ReduceAll
public import Idealize.ShloMosaic.Lib.IdealHost

@[expose] public section

noncomputable section

namespace Reals

open Idealize.ShloMosaic

/-- `x` is a real number: neither infinity. -/
def IsR (x : EReal) : Prop := ∃ r : ℝ, x = (r : EReal)

theorem isR_coe (r : ℝ) : IsR (r : EReal) := ⟨r, rfl⟩

theorem IsR.coe_toReal {x : EReal} (h : IsR x) : ((x.toReal : ℝ) : EReal) = x := by
  obtain ⟨r, rfl⟩ := h; rfl

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- The embedding of the reals carries finite sums to finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type*} {s : Finset ι} {f : ι → EReal} (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self _ _)).add (ih fun i hi => h i (Finset.mem_insert_of_mem hi))

/-- An extended real whose absolute value is below `∞` is a real number. -/
theorem isR_of_abs_lt_top {x : EReal} (h : max x (-x) < ⊤) : IsR x := by
  induction x using EReal.rec with
  | bot => simp at h
  | top => simp at h
  | coe r => exact ⟨r, rfl⟩

/-- The word of `+∞`. -/
theorem ofBits_inf : Ideal.ofBits .f32 0x7F800000#32 = ⊤ := by
  simp [Ideal.ofBits, Ideal.ieee]

/-- A printed precondition's `|x| < ∞` over a whole array, reduced by `and`, makes every element a real number. -/
theorem isR_of_all {s t u v : Shape} [Subsingleton t.Idx] {axes : List (Fin s.rank)} (x : FVec Ideal s .f32) (init : IVec v 1)
    {dims : Fin u.rank → Fin s.rank} (hb : u.BroadcastsInDim s dims) (h : s.ReducesTo axes t) (hu : 0 < v.numel) (j : t.Idx)
    (e : Host.reduce IntOp.andi (cmpf .olt (Host.absf x) (broadcastInDim s dims hb (constant u .f32 0x7F800000#32))) init h hu j = 1#1)
    (i : s.Idx) : IsR (x i) := by
  have := Host.reduce_andi_all _ _ h hu j e i
  apply isR_of_abs_lt_top
  have h2 : BitVec.ofBool (decide (max (x i) (-(x i)) < Ideal.ofBits .f32 0x7F800000#32)) = 1#1 := this
  rw [ofBits_inf] at h2
  by_contra hc
  simp [hc] at h2

theorem of_andi {a b : BitVec 1} (h : IntOp.andi a b = 1#1) : a = 1#1 ∧ b = 1#1 := by
  revert a b; decide

/-- The words of one half. -/
theorem ofBits_half : Ideal.ofBits .f32 0x3F000000#32 = ((1 / 2 : ℝ) : EReal) := by
  simp [Ideal.ofBits, Ideal.ieee, -EReal.coe_mul]; norm_num

/-- The logistic function of a real number. -/
def sig (r : ℝ) : ℝ := (1 + Real.exp (-r))⁻¹

theorem half_tanh (r : ℝ) : 1 / 2 * Real.tanh (1 / 2 * r) + 1 / 2 = sig r := by
  unfold sig
  have h1 : Real.exp (-r) = Real.exp (-(1 / 2 * r)) * Real.exp (-(1 / 2 * r)) := by rw [← Real.exp_add]; ring_nf
  have h2 : Real.exp (1 / 2 * r) * Real.exp (-(1 / 2 * r)) = 1 := by rw [← Real.exp_add]; simp
  rw [Real.tanh_eq_sinh_div_cosh, Real.sinh_eq, Real.cosh_eq, h1]
  have p1 := Real.exp_pos (1 / 2 * r)
  have p2 := Real.exp_pos (-(1 / 2 * r))
  set a := Real.exp (1 / 2 * r)
  set b := Real.exp (-(1 / 2 * r))
  have : b = 1 / a := by field_simp; linarith
  rw [this]
  field_simp
  ring

/-- `½·tanh(½x) + ½` is the logistic function, at the infinities too. -/
theorem half_tanh_logistic (x : EReal) :
    ((1 / 2 : ℝ) : EReal) * Ideal.tanh (((1 / 2 : ℝ) : EReal) * x) + ((1 / 2 : ℝ) : EReal) = Ideal.logistic x := by
  induction x using EReal.rec with
  | bot =>
    rw [EReal.coe_mul_bot_of_pos (by norm_num), Ideal.tanh_bot, Ideal.logistic_bot,
      show (-1 : EReal) = ((-1 : ℝ) : EReal) by simp, ← EReal.coe_mul, ← EReal.coe_add]
    norm_num
  | top =>
    rw [EReal.coe_mul_top_of_pos (by norm_num), Ideal.tanh_top, Ideal.logistic_top,
      show (1 : EReal) = ((1 : ℝ) : EReal) by simp, ← EReal.coe_mul, ← EReal.coe_add]
    norm_num
  | coe r => rw [← EReal.coe_mul, Ideal.tanh_coe, ← EReal.coe_mul, ← EReal.coe_add, Ideal.logistic_coe, half_tanh]; rfl

end Reals

end
-- ==== Proof.Swiglu.lean ====
/- The SwiGLU gradient: what one block of the kernel computes, what its result array holds, and that it is the
   reference's array. -/
module

public import proofs.«01_k».proof.Proof.Reals
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_swiglu_real
public import Idealize.ShloMosaic.Lib.Pipeline.Value

@[expose] public section

set_option maxRecDepth 16384

noncomputable section

namespace Swiglu

open Idealize.ShloMosaic Idealize.ShloMosaic.TcCoe Idealize.SL.Sem
open Idealize.ShloMosaic.Pipeline (Dat)
open Cert.KernelIdeal Cert.KernelIdeal.Gen Reals

/-! ## One block -/

/-- The gradient with respect to the gate, as the kernel writes it. -/
def dgate (d g u : EReal) : EReal := (d * u) * (Ideal.logistic g * (1 + g * (1 - Ideal.logistic g)))
/-- The gradient with respect to the other half. -/
def dup (d g : EReal) : EReal := d * (g * Ideal.logistic g)

theorem pay1_apply (x0 : Vec Ideal S256x1024 .f32) (x1 : Vec Ideal S2816x1024 .bf16) (r : Fin 256) (j : Fin 2816) :
    k0_pay1 x0 x1 (ix2 r j) = ∑ k : Fin 1024, x0 (ix2 r k) * x1 (ix2 j k) := by
  pointwise [k0_pay1]

theorem pay2_apply (v : Vec Ideal S1x256x2816 .bf16) (r : Fin 256) (j : Fin 2816) :
    k0_pay2 v (ix2 r j) = v (ix3 0 r j) := by
  pointwise [k0_pay2]

theorem pay3_apply (v : Vec Ideal S1x256x2816 .bf16) (r : Fin 256) (j : Fin 2816) :
    k0_pay3 v (ix2 r j) = Ideal.logistic (v (ix3 0 r j)) := by
  pointwise [k0_pay3]
  rw [pay2_apply, ofBits_half]
  exact half_tanh_logistic _

theorem pay4_apply (x0 : Vec Ideal S256x1024 .f32) (x1 : Vec Ideal S2816x1024 .bf16) (g u : Vec Ideal S1x256x2816 .bf16)
    (r : Fin 256) (j : Fin 2816) :
    k0_pay4 x0 x1 g u (ix3 0 r j) = dgate (∑ k : Fin 1024, x0 (ix2 r k) * x1 (ix2 j k)) (g (ix3 0 r j)) (u (ix3 0 r j)) := by
  pointwise [k0_pay4]
  rw [pay1_apply, pay2_apply, pay3_apply]
  rfl

theorem pay5_apply (x0 : Vec Ideal S256x1024 .f32) (x1 : Vec Ideal S2816x1024 .bf16) (g : Vec Ideal S1x256x2816 .bf16)
    (r : Fin 256) (j : Fin 2816) :
    k0_pay5 x0 x1 g (ix3 0 r j) = dup (∑ k : Fin 1024, x0 (ix2 r k) * x1 (ix2 j k)) (g (ix3 0 r j)) := by
  pointwise [k0_pay5]
  rw [pay1_apply, pay2_apply, pay3_apply]
  rfl

/-! ## The whole arrays -/

/-- `d = dx · wᵀ` at row `r`, column `j`. -/
def dAt (dx : S8192x1024.Idx → EReal) (w : S2816x1024.Idx → EReal) (r : Fin 8192) (j : Fin 2816) : EReal :=
  ∑ k : Fin 1024, dx (ix2 r k) * w (ix2 j k)

/-- What the result array holds. -/
def G (dx : S8192x1024.Idx → EReal) (w : S2816x1024.Idx → EReal) (gu : S2x8192x2816.Idx → EReal) : S2x8192x2816.Idx → EReal :=
  fun i => if (i 0 : Nat) = 0 then dgate (dAt dx w (i 1) (i 2)) (gu (ix3 0 (i 1) (i 2))) (gu (ix3 1 (i 1) (i 2)))
    else dup (dAt dx w (i 1) (i 2)) (gu (ix3 0 (i 1) (i 2)))

section Kernel

variable (m : (ℓ : Loc nD τ sig) → Buf (Elt Ideal) ℓ) (c : Dev nD)

theorem index_eq : ∀ t : Fin cfg0.N,
    win0_0.index t 0 = t.val ∧ win0_0.index t 1 = 0 ∧ win0_1.index t 0 = 0 ∧ win0_1.index t 1 = 0
      ∧ win0_2.index t 0 = 0 ∧ win0_2.index t 1 = t.val ∧ win0_2.index t 2 = 0
      ∧ win0_3.index t 0 = 0 ∧ win0_3.index t 1 = t.val ∧ win0_3.index t 2 = 0 :=
  (by decide +kernel : ∀ t : Fin grid0.N, _)

theorem rows (t : Fin cfg0.N) (r : Fin 256) : t.val * 256 + r.val < 8192 := by
  have h : t.val < 32 := t.isLt
  have := r.isLt
  omega

/-- Row `r` of block `t`. -/
abbrev row (t : Fin cfg0.N) (r : Fin 256) : Fin 8192 := ⟨t.val * 256 + r.val, rows t r⟩

theorem iblk0_apply (t : Fin cfg0.N) (r : Fin 256) (k : Fin 1024) :
    iblk m c 0 t (ix2 r k : S256x1024.Idx) = m ((c : Thread nD τ).loc main_arg0) (ix2 (row t r) k) := by
  refine congrArg (m ((c : Thread nD τ).loc main_arg0)) (funext fun a => Fin.ext ?_)
  obtain ⟨h0, h1, -⟩ := index_eq t
  match a with
  | ⟨0, _⟩ => show win0_0.index t 0 * 256 + 1 * r.val = t.val * 256 + r.val; rw [h0]; omega
  | ⟨1, _⟩ => show win0_0.index t 1 * 1024 + 1 * k.val = k.val; rw [h1]; omega

theorem iblk1_apply (t : Fin cfg0.N) (j : Fin 2816) (k : Fin 1024) :
    iblk m c 1 t (ix2 j k : S2816x1024.Idx) = m ((c : Thread nD τ).loc main_arg1) (ix2 j k) := by
  refine congrArg (m ((c : Thread nD τ).loc main_arg1)) (funext fun a => Fin.ext ?_)
  obtain ⟨-, -, h0, h1, -⟩ := index_eq t
  match a with
  | ⟨0, _⟩ => show win0_1.index t 0 * 2816 + 1 * j.val = j.val; rw [h0]; omega
  | ⟨1, _⟩ => show win0_1.index t 1 * 1024 + 1 * k.val = k.val; rw [h1]; omega

theorem iblk2_apply (t : Fin cfg0.N) (p : Fin 2) (r : Fin 256) (j : Fin 2816) :
    iblk m c 2 t (ix3 p r j : S2x256x2816.Idx) = m ((c : Thread nD τ).loc main_arg2) (ix3 p (row t r) j) := by
  refine congrArg (m ((c : Thread nD τ).loc main_arg2)) (funext fun a => Fin.ext ?_)
  obtain ⟨-, -, -, -, h0, h1, h2, -⟩ := index_eq t
  match a with
  | ⟨0, _⟩ => show win0_2.index t 0 * 2 + 1 * p.val = p.val; rw [h0]; omega
  | ⟨1, _⟩ => show win0_2.index t 1 * 256 + 1 * r.val = t.val * 256 + r.val; rw [h1]; omega
  | ⟨2, _⟩ => show win0_2.index t 2 * 2816 + 1 * j.val = j.val; rw [h2]; omega

theorem r02 (r : Fin 256) (j : Fin 2816) : r0_2.emb (ix3 0 r j : S1x256x2816.Idx) = (ix3 0 r j : S2x256x2816.Idx) := by idx_ext
theorem r03 (r : Fin 256) (j : Fin 2816) : r0_3.emb (ix3 0 r j : S1x256x2816.Idx) = (ix3 1 r j : S2x256x2816.Idx) := by idx_ext

theorem gate_apply (t : Fin cfg0.N) (r : Fin 256) (j : Fin 2816) :
    View.ld (iblk m c 2 t) r0_2 (ix3 0 r j : S1x256x2816.Idx) = m ((c : Thread nD τ).loc main_arg2) (ix3 0 (row t r) j) :=
  (congrArg (iblk m c 2 t) (r02 r j)).trans (iblk2_apply m c t 0 r j)

theorem up_apply (t : Fin cfg0.N) (r : Fin 256) (j : Fin 2816) :
    View.ld (iblk m c 2 t) r0_3 (ix3 0 r j : S1x256x2816.Idx) = m ((c : Thread nD τ).loc main_arg2) (ix3 1 (row t r) j) :=
  (congrArg (iblk m c 2 t) (r03 r j)).trans (iblk2_apply m c t 1 r j)

/-- The three argument arrays of device `c` give the array `G`. -/
abbrev GM : S2x8192x2816.Idx → EReal :=
  G (m ((c : Thread nD τ).loc main_arg0)) (m ((c : Thread nD τ).loc main_arg1)) (m ((c : Thread nD τ).loc main_arg2))

/-- The block the body leaves at point `t` is block `t` of the array. -/
theorem out_apply (t : Fin cfg0.N) (y : S2x256x2816.Idx) :
    out0_3 (iblk m c 0 t) (iblk m c 1 t) (iblk m c 2 t) y = GM m c (ix3 (y 0) (row t (y 1)) (y 2)) := by
  have hz : (![0, 0] : Fin 2 → Nat) = fun _ => 0 := funext fun a => by fin_cases a <;> rfl
  unfold out0_3 r0_0 r0_1
  rw [View.ld_unit_zero hz, View.ld_unit_zero hz]
  refine View.canon_apply_of_pieces (Val := Elt Ideal) (e := .bf16) (fun y : S2x256x2816.Idx => GM m c (ix3 (y 0) (row t (y 1)) (y 2))) _ ?_ y
    (cover0_3 _ _ _)
  intro q hq x
  rcases List.mem_cons.1 hq with rfl | hq
  · obtain ⟨a, r, j, rfl⟩ : ∃ (a : Fin 1) (r : Fin 256) (j : Fin 2816), x = (ix3 a r j : S1x256x2816.Idx) := ⟨_, _, _, eq_ix3 x⟩
    obtain rfl : a = 0 := Subsingleton.elim _ _
    refine (pay5_apply _ _ _ r j).trans ?_
    rw [r03, gate_apply]
    simp only [iblk0_apply, iblk1_apply]
    rfl
  · obtain rfl := List.mem_singleton.1 hq
    obtain ⟨a, r, j, rfl⟩ : ∃ (a : Fin 1) (r : Fin 256) (j : Fin 2816), x = (ix3 a r j : S1x256x2816.Idx) := ⟨_, _, _, eq_ix3 x⟩
    obtain rfl : a = 0 := Subsingleton.elim _ _
    refine (pay4_apply _ _ _ _ r j).trans ?_
    rw [r02, gate_apply, up_apply]
    simp only [iblk0_apply, iblk1_apply]
    rfl

theorem flushed_eq (t : Fin cfg0.N) : (dats m 0 c).flushed 3 t = ((cfg0.win 3).blk t).view.read (Elt Ideal) (GM m c) := by
  rw [Value.flushed3]
  funext y
  refine (out_apply m c t y).trans (congrArg (GM m c) (funext fun a => Fin.ext ?_))
  obtain ⟨-, -, -, -, -, -, -, h0, h1, h2⟩ := index_eq t
  match a with
  | ⟨0, _⟩ => show (y 0).val = win0_3.index t 0 * 2 + 1 * (y 0).val; rw [h0]; omega
  | ⟨1, _⟩ => show t.val * 256 + (y 1).val = win0_3.index t 1 * 256 + 1 * (y 1).val; rw [h1]; omega
  | ⟨2, _⟩ => show (y 2).val = win0_3.index t 2 * 2816 + 1 * (y 2).val; rw [h2]; omega

theorem mem_blk (t : Fin cfg0.N) (i : S2x8192x2816.Idx) (h : t.val = (i 1 : Nat) / 256) :
    i ∈ ((cfg0.win 3).blk t).view.set := by
  have h0 : (i 0 : Nat) < 2 := (i 0).isLt
  have h2 : (i 2 : Nat) < 2816 := (i 2).isLt
  obtain ⟨-, -, -, -, -, -, -, e0, e1, e2⟩ := index_eq t
  show i ∈ ((View.whole main_v0).slice (win0_3.rect t)).set
  rw [View.set_slice_whole, Rect.mem_set_unit]
  intro a
  match a with
  | ⟨0, _⟩ => show win0_3.index t 0 * 2 ≤ (i 0 : Nat) ∧ (i 0 : Nat) < win0_3.index t 0 * 2 + 2; rw [e0]; omega
  | ⟨1, _⟩ => show win0_3.index t 1 * 256 ≤ (i 1 : Nat) ∧ (i 1 : Nat) < win0_3.index t 1 * 256 + 256; rw [e1]; omega
  | ⟨2, _⟩ => show win0_3.index t 2 * 2816 ≤ (i 2 : Nat) ∧ (i 2 : Nat) < win0_3.index t 2 * 2816 + 2816; rw [e2]; omega

theorem cover (i : S2x8192x2816.Idx) : ∃ t : Fin cfg0.N, (cfg0.win 3).flush t = true ∧ i ∈ ((cfg0.win 3).blk t).view.set := by
  have h1 : (i 1 : Nat) < 8192 := (i 1).isLt
  exact ⟨⟨(i 1).val / 256, show _ < 32 by omega⟩, flush0_3 _, mem_blk _ i rfl⟩

/-- After the run the result array holds `G` of the arguments. -/
theorem final : (dats m 0 c).arrAt 3 cfg0.N = GM m c :=
  (dats m 0 c).arrAt_eq_of_cover 3 (GM m c) (fun t _ => flushed_eq m c t) (cover)

end Kernel

/-! ## The reference -/

section Reference

open Cert.ReferenceIdeal.Read

variable (x0 : S8192x1024.Idx → EReal) (x1 : S2816x1024.Idx → EReal) (x2 : S2x8192x2816.Idx → EReal)

theorem gate_ref (r : Fin 8192) (j : Fin 2816) : val_main_v3 (F := Ideal) x2 (ix2 r j) = x2 (ix3 0 r j) := by
  pointwise [val_main_v3, val_main_v2, val_main_v1]

theorem up_ref (r : Fin 8192) (j : Fin 2816) : val_main_v6 (F := Ideal) x2 (ix2 r j) = x2 (ix3 1 r j) := by
  pointwise [val_main_v6, val_main_v5, val_main_v4]

theorem sig_ref (r : Fin 8192) (j : Fin 2816) : val_main_v7_2 (F := Ideal) x2 (ix2 r j) = Ideal.logistic (x2 (ix3 0 r j)) := by
  pointwise [val_main_v7_2, val_main_call0_v4, val_main_call0_cst_0, val_main_call0_v3, val_main_call0_v2, val_main_call0_cst,
    val_main_call0_v1, val_main_call0_v0]
  rw [gate_ref]
  rfl

theorem d_ref (r : Fin 8192) (j : Fin 2816) : val_main_v10 (F := Ideal) x0 x1 (ix2 r j) = dAt x0 x1 r j := by
  pointwise [val_main_v10, val_main_v0]
  rfl

/-- The two gradients of the reference at row `r`, column `j`. -/
def refGate (d g u : EReal) : EReal := d * u * Ideal.logistic g + g * (d * u) * (Ideal.logistic g * (1 - Ideal.logistic g))
def refUp (d g : EReal) : EReal := g * Ideal.logistic g * d

theorem gate_grad_ref (r : Fin 8192) (j : Fin 2816) :
    val_main_v13 (F := Ideal) x0 x1 x2 (ix2 r j) = refGate (dAt x0 x1 r j) (x2 (ix3 0 r j)) (x2 (ix3 1 r j)) := by
  pointwise [val_main_v13, val_main_call1_v2, val_main_call1_v1, val_main_call1_v0, val_main_v12, val_main_v7_1, val_main_call0_v7,
    val_main_call0_v6, val_main_call0_cst_1]
  rw [gate_ref, up_ref, sig_ref, d_ref]
  rfl

theorem up_grad_ref (r : Fin 8192) (j : Fin 2816) :
    val_main_v11 (F := Ideal) x0 x1 x2 (ix2 r j) = refUp (dAt x0 x1 r j) (x2 (ix3 0 r j)) := by
  pointwise [val_main_v11, val_main_v7_0]
  rw [gate_ref, sig_ref, d_ref]
  rfl

theorem result_ref (i : S2x8192x2816.Idx) : val_main_v17 (F := Ideal) x0 x1 x2 i =
    if (i 0 : Nat) = 0 then refGate (dAt x0 x1 (i 1) (i 2)) (x2 (ix3 0 (i 1) (i 2))) (x2 (ix3 1 (i 1) (i 2)))
    else refUp (dAt x0 x1 (i 1) (i 2)) (x2 (ix3 0 (i 1) (i 2))) := by
  obtain ⟨p, r, j, rfl⟩ : ∃ (p : Fin 2) (r : Fin 8192) (j : Fin 2816), i = (ix3 p r j : S2x8192x2816.Idx) := ⟨_, _, _, eq_ix3 i⟩
  pointwise [val_main_v17, val_main_v16, val_main_v15, val_main_v14]
  rw [gate_grad_ref, up_grad_ref]
  simp only [Nat.lt_one_iff, dite_eq_ite]

end Reference

/-! ## The equation -/

theorem logistic_real (g : EReal) : (∃ s : ℝ, Ideal.logistic g = (s : EReal)) := by
  induction g using EReal.rec with
  | bot => exact ⟨0, by simp⟩
  | top => exact ⟨1, by simp⟩
  | coe r => exact ⟨_, Ideal.logistic_coe r⟩

/-- For real `d` and `u` the two ways of writing the gate's gradient agree at every gate, the infinities included. -/
theorem gate_eq {d u : EReal} (hd : IsR d) (hu : IsR u) (g : EReal) : dgate d g u = refGate d g u := by
  obtain ⟨t, ht⟩ := hd.mul hu
  unfold dgate refGate
  rw [ht]
  induction g using EReal.rec with
  | bot => simp
  | top =>
    rw [Ideal.logistic_top, show (1 - 1 : EReal) = 0 from EReal.coe_sub 1 1 |>.symm.trans (by simp)]
    simp
  | coe r =>
    rw [Ideal.logistic_coe]
    norm_cast
    ring

theorem up_eq (d g : EReal) : dup d g = refUp d g := by
  unfold dup refUp
  rw [mul_comm]

/-- The precondition: `dx`, `w` and the second half of `gu` are arrays of real numbers. -/
theorem real_of_pre (x0 : S8192x1024.Idx → EReal) (x1 : S2816x1024.Idx → EReal) (x2 : S2x8192x2816.Idx → EReal)
    (h : Cert.Pre_swiglu_real.fn (F := Ideal) x0 x1 x2 = fun _ => 1#1) :
    (∀ i, IsR (x0 i)) ∧ (∀ i, IsR (x1 i)) ∧ ∀ r j, IsR (x2 (ix3 1 r j)) := by
  have : Subsingleton Cert.Pre_swiglu_real.S_.Idx := ⟨fun a b => funext fun d => d.elim0⟩
  have e := congrFun h (fun d => d.elim0)
  obtain ⟨e, h2⟩ := of_andi e
  obtain ⟨h0, h1⟩ := of_andi e
  refine ⟨isR_of_all _ _ _ _ _ _ h0, isR_of_all _ _ _ _ _ _ h1, fun r j => ?_⟩
  have := isR_of_all _ _ _ _ _ _ h2 (ix2 r j)
  pointwise at this
  exact this

theorem result_eq (x0 : S8192x1024.Idx → EReal) (x1 : S2816x1024.Idx → EReal) (x2 : S2x8192x2816.Idx → EReal)
    (h0 : ∀ i, IsR (x0 i)) (h1 : ∀ i, IsR (x1 i)) (h2 : ∀ r j, IsR (x2 (ix3 1 r j))) :
    G x0 x1 x2 = Cert.ReferenceIdeal.Read.val_main_v17 (F := Ideal) x0 x1 x2 := by
  funext i
  rw [result_ref]
  obtain ⟨p, r, j, rfl⟩ : ∃ (p : Fin 2) (r : Fin 8192) (j : Fin 2816), i = (ix3 p r j : S2x8192x2816.Idx) := ⟨_, _, _, eq_ix3 i⟩
  have hd : IsR (dAt x0 x1 r j) := IsR.sum fun k _ => (h0 _).mul (h1 _)
  show (if p.val = 0 then dgate (dAt x0 x1 r j) (x2 (ix3 0 r j)) (x2 (ix3 1 r j)) else dup (dAt x0 x1 r j) (x2 (ix3 0 r j))) = _
  rw [gate_eq hd (h2 r j), up_eq]
  rfl

end Swiglu

end
-- ==== Proof.AttnMath.lean ====
/- Attention over one row of logits as extended reals: the greatest logit, the weights, their sum; and that dividing
   the weights first and dividing the mixed values afterwards give the same, when the sink is a real number and no
   logit is `+∞`. -/
module

public import proofs.«01_k».proof.Proof.Reals

@[expose] public section

noncomputable section

namespace AttnMath

open Idealize.ShloMosaic Reals

variable {n : Nat}

/-- The greatest of the logits and the sink's. -/
def top (L : Fin n → EReal) (z : EReal) : EReal := max (Finset.univ.fold max ⊥ L) z
/-- The weight of a key before division. -/
def wt (L : Fin n → EReal) (z : EReal) (j : Fin n) : EReal := Ideal.exp (L j - top L z)
/-- The sum of the weights, the sink's included. -/
def den (L : Fin n → EReal) (z : EReal) : EReal := ∑ j, wt L z j + Ideal.exp (z - top L z)
/-- The values mixed, then divided. -/
def mixThenDivide (L : Fin n → EReal) (z : EReal) (v : Fin n → EReal) : EReal := (∑ j, wt L z j * v j) * Ideal.div 1 (den L z)
/-- The weights divided, then the values mixed. -/
def divideThenMix (L : Fin n → EReal) (z : EReal) (v : Fin n → EReal) : EReal := ∑ j, v j * Ideal.div (wt L z j) (den L z)

theorem ofBits_ninf : Ideal.ofBits .f32 0xFF800000#32 = ⊥ := EReal.neg_eq_top_iff.mp rfl

theorem ofBits_eighth : Ideal.ofBits .f32 0x3E000000#32 = ((1 / 8 : ℝ) : EReal) := by
  simp [Ideal.ofBits, Ideal.ieee, -EReal.coe_mul]; norm_num

theorem fold_lt_top (s : Finset (Fin n)) (L : Fin n → EReal) (h : ∀ j, L j < ⊤) : s.fold max ⊥ L < ⊤ := by
  classical
  induction s using Finset.induction_on with
  | empty => simp
  | insert a s ha ih => rw [Finset.fold_insert ha]; exact max_lt (h a) ih

theorem le_fold (L : Fin n → EReal) (j : Fin n) : L j ≤ Finset.univ.fold max ⊥ L := by
  classical
  rw [Finset.le_fold_max]; exact Or.inr ⟨j, Finset.mem_univ j, le_rfl⟩

theorem isR_of_lt {x : EReal} (h1 : ⊥ < x) (h2 : x < ⊤) : IsR x := ⟨x.toReal, (EReal.coe_toReal h2.ne h1.ne').symm⟩

theorem top_isR {L : Fin n → EReal} {z : EReal} (h : ∀ j, L j < ⊤) (hz : IsR z) : IsR (top L z) := by
  obtain ⟨z, rfl⟩ := hz
  exact isR_of_lt (lt_max_of_lt_right (EReal.bot_lt_coe z)) (max_lt (fold_lt_top _ L h) (EReal.coe_lt_top z))

/-- The weight of a key as a real number. -/
theorem exp_isR {x t : EReal} (hx : x < ⊤) (ht : IsR t) : ∃ r : ℝ, 0 ≤ r ∧ Ideal.exp (x - t) = (r : EReal) := by
  obtain ⟨t, rfl⟩ := ht
  induction x using EReal.rec with
  | bot => exact ⟨0, le_rfl, by simp⟩
  | top => exact absurd rfl hx.ne
  | coe x => exact ⟨Real.exp (x - t), (Real.exp_pos _).le, by rw [← EReal.coe_sub, Ideal.exp_coe]⟩

theorem wt_isR {L : Fin n → EReal} {z : EReal} (h : ∀ j, L j < ⊤) (hz : IsR z) (j : Fin n) :
    ∃ r : ℝ, 0 ≤ r ∧ wt L z j = (r : EReal) := exp_isR (h j) (top_isR h hz)

/-- The sum of the weights is a positive real number. -/
theorem den_pos {L : Fin n → EReal} {z : EReal} (h : ∀ j, L j < ⊤) (hz : IsR z) :
    ∃ r : ℝ, 0 < r ∧ den L z = (r : EReal) := by
  choose w hw e using wt_isR h hz
  obtain ⟨t, ht⟩ := top_isR h hz
  obtain ⟨z, rfl⟩ := hz
  refine ⟨∑ j, w j + Real.exp (z - t), add_pos_of_nonneg_of_pos (Finset.sum_nonneg fun j _ => hw j) (Real.exp_pos _), ?_⟩
  unfold den
  rw [EReal.coe_add, coe_sum, ht, ← EReal.coe_sub, Ideal.exp_coe]
  congr 1
  exact Finset.sum_congr rfl fun j _ => e j

/-- Multiplying by a nonnegative real number distributes over sums of extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm _ (c : EReal), mul_comm _ (c : EReal), mul_comm _ (c : EReal),
      EReal.left_distrib_of_nonneg_of_ne_top (by exact_mod_cast hc) (EReal.coe_ne_top c)]

/-- Dividing before the mixing and after it: the values may differ where the logit is `−∞`. -/
theorem mix_eq {L : Fin n → EReal} {z : EReal} {u v : Fin n → EReal} (h : ∀ j, L j < ⊤) (hz : IsR z)
    (huv : ∀ j, L j ≠ ⊥ → u j = v j) : mixThenDivide L z u = divideThenMix L z v := by
  obtain ⟨d, hd, ed⟩ := den_pos h hz
  unfold mixThenDivide divideThenMix
  have one : Ideal.div 1 (den L z) = ((1 / d : ℝ) : EReal) := by rw [ed, Ideal.div_coe hd.ne', one_mul]
  rw [one, sum_mul_coe _ _ (by positivity)]
  refine Finset.sum_congr rfl fun j _ => ?_
  by_cases hb : L j = ⊥
  · obtain ⟨t, ht⟩ := top_isR h hz
    have w0 : wt L z j = 0 := by unfold wt; rw [hb, ht]; simp
    rw [w0, ed, Ideal.div_coe hd.ne']
    simp
  · rw [huv j hb, ed, Ideal.div_coe hd.ne', mul_right_comm, mul_comm]

/-- A sum over 128 lanes whose upper half is zero. -/
theorem sum_low {f : Fin 128 → EReal} (h : ∀ l : Fin 128, 64 ≤ l.val → f l = 0) : ∑ l, f l = ∑ d : Fin 64, f ⟨d.val, by omega⟩ := by
  have := Fin.sum_univ_add (a := 64) (b := 64) (f := f)
  rw [this, Finset.sum_eq_zero (s := Finset.univ) (f := fun i : Fin 64 => f (Fin.natAdd 64 i)) (fun i _ => h _ (by simp)), add_zero]
  rfl

/-- A sum over 128 lanes whose lower half is zero. -/
theorem sum_high {f : Fin 128 → EReal} (h : ∀ l : Fin 128, l.val < 64 → f l = 0) : ∑ l, f l = ∑ d : Fin 64, f ⟨64 + d.val, by omega⟩ := by
  have := Fin.sum_univ_add (a := 64) (b := 64) (f := f)
  rw [this, Finset.sum_eq_zero (s := Finset.univ) (f := fun i : Fin 64 => f (Fin.castAdd 64 i)) (fun i _ => h _ (by simp)), zero_add]
  rfl

/-! ## The distance penalty and the mask -/

/-- The distance of a query and a key of one block, as the programs compute it. -/
def distW (r : Fin 128) (j : Fin 384) : BitVec 32 := IntOp.absi (IntOp.subi (IntOp.addi (BitVec.ofNat 32 r.val) 128#32) (BitVec.ofNat 32 j.val))
/-- The row of a key of block `n`, as the programs compute it. -/
def posW (n : Fin 64) (j : Fin 384) : BitVec 32 := IntOp.addi (IntOp.subi (IntOp.muli (BitVec.ofNat 32 n.val) 128#32) 128#32) (BitVec.ofNat 32 j.val)
/-- Whether a query of block `n` attends to a key. -/
def okW (n : Fin 64) (r : Fin 128) (j : Fin 384) : BitVec 1 :=
  IntOp.andi (IntOp.cmpi .sle (distW r j) 128#32) (IntOp.andi (IntOp.cmpi .sge (posW n j) 0#32) (IntOp.cmpi .slt (posW n j) 8192#32))
def dist (r : Fin 128) (j : Fin 384) : ℝ := ((distW r j).toInt : ℝ)
/-- The slope of a head's distance penalty: `2^(−(h+1)/2)`. -/
def slope (h : Fin 16) : ℝ := Real.rpow 2 (-((h.val : ℝ) + 1) / 2)

theorem slope_pos (h : Fin 16) : 0 < slope h := Real.rpow_pos_of_pos (by norm_num) _

theorem pos_range : ∀ (n : Fin 64) (j : Fin 384),
    IntOp.andi (IntOp.cmpi .sge (posW n j) 0#32) (IntOp.cmpi .slt (posW n j) 8192#32) = 1#1 → 128 ≤ n.val * 128 + j.val ∧ n.val * 128 + j.val < 8320 := by
  decide +kernel

theorem ok_range {n : Fin 64} {r : Fin 128} {j : Fin 384} (h : okW n r j = 1#1) : 128 ≤ n.val * 128 + j.val ∧ n.val * 128 + j.val < 8320 :=
  pos_range n j (of_andi h).2

theorem select_eq {α : Type} (c : BitVec 1) (a b : α) : Scalar.select c a b = if c = 1#1 then a else b := by
  rcases (by revert c; decide : ∀ c : BitVec 1, c = 0#1 ∨ c = 1#1) c with rfl | rfl <;> rfl

/-- The logit of a score: penalised by the distance, `−∞` where the key is not attended to. -/
def logit (n : Fin 64) (r : Fin 128) (j : Fin 384) (h : Fin 16) (s : EReal) : EReal :=
  if okW n r j = 1#1 then s + ((-(slope h * dist r j) : ℝ) : EReal) else ⊥

theorem logit_lt_top {n : Fin 64} {r : Fin 128} {j : Fin 384} {h : Fin 16} {s : EReal} (hs : IsR s) : logit n r j h s < ⊤ := by
  unfold logit
  obtain ⟨s, rfl⟩ := hs
  split
  · rw [← EReal.coe_add]; exact EReal.coe_lt_top _
  · exact bot_lt_top

theorem logit_range {n : Fin 64} {r : Fin 128} {j : Fin 384} {h : Fin 16} {s : EReal} (hb : logit n r j h s ≠ ⊥) :
    128 ≤ n.val * 128 + j.val ∧ n.val * 128 + j.val < 8320 := by
  unfold logit at hb
  split at hb
  · exact ok_range ‹_›
  · exact absurd rfl hb

/-- The kernel's form: the slope times an array that holds minus the distance or `−∞`. -/
theorem logit_kernel (n : Fin 64) (r : Fin 128) (j : Fin 384) (h : Fin 16) (s : EReal) :
    s + ((slope h : ℝ) : EReal) * (if okW n r j = 1#1 then ((-(dist r j) : ℝ) : EReal) else ⊥) = logit n r j h s := by
  unfold logit
  split
  · rw [← EReal.coe_mul]; congr 2; ring
  · rw [EReal.coe_mul_bot_of_pos (slope_pos h), EReal.add_bot]

theorem slope_even (h : Fin 16) (k : ℕ) (hk : h.val + 1 = 2 * k) : slope h = ((2 : ℝ) ^ k)⁻¹ := by
  unfold slope
  have : (-((h.val : ℝ) + 1) / 2) = -(k : ℝ) := by
    have : ((h.val : ℝ) + 1) = 2 * k := by exact_mod_cast hk
    rw [this]; ring
  rw [this]
  show (2 : ℝ) ^ (-(k : ℝ)) = _
  rw [Real.rpow_neg (by norm_num), Real.rpow_natCast]

theorem slope_odd (h : Fin 16) : slope h = (Real.sqrt ((2 : ℝ) ^ (h.val + 1)))⁻¹ := by
  unfold slope
  show (2 : ℝ) ^ (-((h.val : ℝ) + 1) / 2) = _
  rw [Real.sqrt_eq_rpow, ← Real.rpow_natCast, ← Real.rpow_mul (by norm_num), ← Real.rpow_neg (by norm_num)]
  congr 1
  push_cast
  ring

end AttnMath

end
-- ==== Proof.AttnBlock.lean ====
/- What one block of the attention kernels computes, written once for every head: the logits of 128 queries against
   384 keys, their weights, the mixed values; and the value of each at an index. -/
module

public import proofs.«01_k».proof.Proof.AttnMath
public import proofs.«01_k».proof.Proof.Gen.Kernel2Ideal.Value
public import Idealize.ShloMosaic.Lib.Pipeline.Value

@[expose] public section

set_option maxRecDepth 16384

noncomputable section

namespace AttnBlock

open Idealize.ShloMosaic Idealize.ShloMosaic.TcCoe Idealize.SL.Sem
open Cert.Kernel2Ideal Cert.Kernel2Ideal.Gen Reals AttnMath

section Ops

variable {F : FTy → Type} [FloatOps F]

def lowLanes : IVec S128x128 1 := cmpi .slt (iota .tc S128x128 32 [1] iota_S128x128_d1_w32) (broadcast S128x128 64#32)
def highLanes : IVec S128x128 1 := cmpi .sge (iota .tc S128x128 32 [1] iota_S128x128_d1_w32) (broadcast S128x128 64#32)
def lowKeys : IVec S384x128 1 := cmpi .slt (iota .tc S384x128 32 [1] iota_S384x128_d1_w32) (broadcast S384x128 64#32)
def highKeys : IVec S384x128 1 := cmpi .sge (iota .tc S384x128 32 [1] iota_S384x128_d1_w32) (broadcast S384x128 64#32)

/-- The rows of three blocks, one below the other. -/
def rows3 (a b c : Vec F S128x256 .bf16) : FVec F S384x256 .f32 :=
  extf .f32 (concatenate S384x256 0 [⟨S128x256, a⟩, ⟨S128x256, b⟩, ⟨S128x256, c⟩] concatenates_S128x256_S128x256_S128x256_S384x256_d0 : FVec F S384x256 .bf16) bitsLt_bf16_f32
def left (x : FVec F S384x256 .f32) : FVec F S384x128 .f32 := extractStridedSlice S384x128 ![0, 0] x slices_S384x256_o0_0_S384x128
def right (x : FVec F S384x256 .f32) : FVec F S384x128 .f32 := extractStridedSlice S384x128 ![0, 128] x slices_S384x256_o0_128_S384x128
/-- One head of 64 columns, in both halves of the 128 lanes. -/
def head (k : IVec S384x128 1) (x : FVec F S384x128 .f32) : FVec F S384x128 .bf16 :=
  truncf .bf16 (select k x (dynamicRotate 1 64#32 none x rotates_S384x128_d1)) bitsLt_bf16_f32
/-- The queries of one head, scaled, the other half of the lanes zero. -/
def query (k : IVec S128x128 1) (x : Vec F S128x128 .bf16) : FVec F S128x128 .f32 :=
  select k (mulf (extf .f32 x bitsLt_bf16_f32) (broadcast S128x128 (Scalar.ofBits .f32 0x3E000000#32))) (broadcast S128x128 (Scalar.ofBits .f32 0x00000000#32))
def stack (a b c d : FVec F S128x128 .f32) : FVec F S512x128 .bf16 :=
  concatenate S512x128 0 [⟨S128x128, truncf .bf16 a bitsLt_bf16_f32⟩, ⟨S128x128, truncf .bf16 b bitsLt_bf16_f32⟩, ⟨S128x128, truncf .bf16 c bitsLt_bf16_f32⟩, ⟨S128x128, truncf .bf16 d bitsLt_bf16_f32⟩] concatenates_S128x128_S128x128_S128x128_S128x128_S512x128_d0
def stackWide (a b c d : FVec F S128x384 .f32) : FVec F S512x384 .bf16 :=
  concatenate S512x384 0 [⟨S128x384, truncf .bf16 a bitsLt_bf16_f32⟩, ⟨S128x384, truncf .bf16 b bitsLt_bf16_f32⟩, ⟨S128x384, truncf .bf16 c bitsLt_bf16_f32⟩, ⟨S128x384, truncf .bf16 d bitsLt_bf16_f32⟩] concatenates_S128x384_S128x384_S128x384_S128x384_S512x384_d0
/-- Rows against rows. -/
def scores (q : FVec F S512x128 .bf16) (k : FVec F S384x128 .bf16) : FVec F S512x384 .f32 :=
  matmul dot_S512x128_S384x128_S512x384_1_1_0_0_n_n none q k (constant S512x384 .f32 0x00000000#32)
def mixed (p : FVec F S512x384 .bf16) (v : FVec F S384x128 .bf16) : FVec F S512x128 .f32 :=
  matmul dot_S512x384_S384x128_S512x128_1_0_0_1_n_n none p v (constant S512x128 .f32 0x00000000#32)
def wide0 (x : FVec F S512x384 .f32) : FVec F S128x384 .f32 := extractStridedSlice S128x384 ![0, 0] x slices_S512x384_o0_0_S128x384
def wide1 (x : FVec F S512x384 .f32) : FVec F S128x384 .f32 := extractStridedSlice S128x384 ![128, 0] x slices_S512x384_o128_0_S128x384
def wide2 (x : FVec F S512x384 .f32) : FVec F S128x384 .f32 := extractStridedSlice S128x384 ![256, 0] x slices_S512x384_o256_0_S128x384
def wide3 (x : FVec F S512x384 .f32) : FVec F S128x384 .f32 := extractStridedSlice S128x384 ![384, 0] x slices_S512x384_o384_0_S128x384
def part0 (x : FVec F S512x128 .f32) : FVec F S128x128 .f32 := extractStridedSlice S128x128 ![0, 0] x slices_S512x128_o0_0_S128x128
def part1 (x : FVec F S512x128 .f32) : FVec F S128x128 .f32 := extractStridedSlice S128x128 ![128, 0] x slices_S512x128_o128_0_S128x128
def part2 (x : FVec F S512x128 .f32) : FVec F S128x128 .f32 := extractStridedSlice S128x128 ![256, 0] x slices_S512x128_o256_0_S128x128
def part3 (x : FVec F S512x128 .f32) : FVec F S128x128 .f32 := extractStridedSlice S128x128 ![384, 0] x slices_S512x128_o384_0_S128x128

/-- The logits of one head: the scores and the distance penalty, `base` holding minus the distance, masked. -/
def logits (base s : FVec F S128x384 .f32) (slope : F .f32) : FVec F S128x384 .f32 :=
  addf s (mulf (broadcast S128x384 slope) base)
/-- The greatest logit of a row, the sink's included. -/
def tops (l : FVec F S128x384 .f32) (z : F .f32) : FVec F S128x1 .f32 :=
  maximumf (shapeCast S128x1 (multiReduction .maximumf [1] S128 l 0xFF800000#32 reduces_S128x384_S128 (.inl rfl) rfl) shapeCasts_S128_S128x1) (broadcast S128x1 z)
/-- The weights of a row before division. -/
def weights (l : FVec F S128x384 .f32) (z : F .f32) : FVec F S128x384 .f32 :=
  exp (subf l (broadcastTo S128x384 (tops l z) broadcasts_S128x1_S128x384))
def sinkWeight (l : FVec F S128x384 .f32) (z : F .f32) : FVec F S128x1 .f32 := exp (subf (broadcast S128x1 z) (tops l z))
/-- One over the sum of a row's weights, the sink's included. -/
def inverse (l : FVec F S128x384 .f32) (z : F .f32) : FVec F S128x1 .f32 :=
  divf (broadcast S128x1 (Scalar.ofBits .f32 0x3F800000#32))
    (addf (shapeCast S128x1 (multiReduction .add [1] S128 (weights l z) 0x00000000#32 reduces_S128x384_S128 (.inl rfl) rfl) shapeCasts_S128_S128x1) (sinkWeight l z))
/-- Two heads side by side, each row divided by its sum. -/
def sideBySide (a b : FVec F S128x128 .f32) (i j : FVec F S128x1 .f32) : FVec F S128x128 .f32 :=
  select lowLanes (mulf a (broadcastTo S128x128 i broadcasts_S128x1_S128x128)) (mulf b (broadcastTo S128x128 j broadcasts_S128x1_S128x128))

/-- The scores of a group's four heads. -/
def groupScores (k : FVec F S384x128 .bf16) (qa qb : Vec F S128x128 .bf16) : FVec F S512x384 .f32 :=
  scores (stack (query lowLanes qa) (query highLanes qa) (query lowLanes qb) (query highLanes qb)) k

variable (base : FVec F S128x384 .f32) (s v : FVec F S384x128 .bf16) (qa qb : Vec F S128x128 .bf16) (c0 c1 c2 c3 z0 z1 z2 z3 : F .f32)

def l0 : FVec F S128x384 .f32 := logits base (wide0 (groupScores s qa qb)) c0
def l1 : FVec F S128x384 .f32 := logits base (wide1 (groupScores s qa qb)) c1
def l2 : FVec F S128x384 .f32 := logits base (wide2 (groupScores s qa qb)) c2
def l3 : FVec F S128x384 .f32 := logits base (wide3 (groupScores s qa qb)) c3
def groupMixed : FVec F S512x128 .f32 :=
  mixed (stackWide (weights (l0 base s qa qb c0) z0) (weights (l1 base s qa qb c1) z1) (weights (l2 base s qa qb c2) z2) (weights (l3 base s qa qb c3) z3)) v
/-- The first two heads of a group. -/
def outA : FVec F S128x128 .bf16 :=
  truncf .bf16 (sideBySide (part0 (groupMixed base s v qa qb c0 c1 c2 c3 z0 z1 z2 z3)) (part1 (groupMixed base s v qa qb c0 c1 c2 c3 z0 z1 z2 z3)) (inverse (l0 base s qa qb c0) z0) (inverse (l1 base s qa qb c1) z1)) bitsLt_bf16_f32
/-- The last two heads of a group. -/
def outB : FVec F S128x128 .bf16 :=
  truncf .bf16 (sideBySide (part2 (groupMixed base s v qa qb c0 c1 c2 c3 z0 z1 z2 z3)) (part3 (groupMixed base s v qa qb c0 c1 c2 c3 z0 z1 z2 z3)) (inverse (l2 base s qa qb c2) z2) (inverse (l3 base s qa qb c3) z3)) bitsLt_bf16_f32

end Ops

/-! ## Values over the extended reals -/

section Values

theorem slt64 : ∀ l : Fin 128, (IntOp.cmpi .slt (BitVec.ofNat 32 l.val) 64#32 = 1#1) ↔ l.val < 64 := by decide +kernel
theorem sge64 : ∀ l : Fin 128, (IntOp.cmpi .sge (BitVec.ofNat 32 l.val) 64#32 = 1#1) ↔ ¬ l.val < 64 := by decide +kernel

theorem rows3_apply (a b c : Vec Ideal S128x256 .bf16) (j : Fin 384) (l : Fin 256) :
    rows3 (F := Ideal) a b c (ix2 j l) = if h : j.val < 128 then a (ix2 ⟨j.val, h⟩ l)
      else if h : j.val - 128 < 128 then b (ix2 ⟨j.val - 128, h⟩ l) else c (ix2 ⟨j.val - 128 - 128, by omega⟩ l) := by
  pointwise [rows3]

theorem headLow_apply (x : FVec Ideal S384x128 .f32) (j : Fin 384) (l : Fin 128) :
    head (F := Ideal) lowKeys x (ix2 j l) = x (ix2 j ⟨l.val % 64, by omega⟩) := by
  pointwise [head, lowKeys]
  rw [select_eq]
  simp only [slt64]
  split
  · exact congrArg (fun c => x (ix2 j c)) (Fin.ext (by show l.val = l.val % 64; omega))
  · exact congrArg (fun c => x (ix2 j c)) (Fin.ext (by show (l.val + 128 - 64) % 128 = l.val % 64; omega))

theorem headHigh_apply (x : FVec Ideal S384x128 .f32) (j : Fin 384) (l : Fin 128) :
    head (F := Ideal) highKeys x (ix2 j l) = x (ix2 j ⟨64 + l.val % 64, by omega⟩) := by
  pointwise [head, highKeys]
  rw [select_eq]
  simp only [sge64]
  split
  · exact congrArg (fun c => x (ix2 j c)) (Fin.ext (by show l.val = 64 + l.val % 64; omega))
  · exact congrArg (fun c => x (ix2 j c)) (Fin.ext (by show (l.val + 128 - 64) % 128 = 64 + l.val % 64; omega))

theorem left_apply (x : FVec Ideal S384x256 .f32) (j : Fin 384) (l : Fin 128) : left (F := Ideal) x (ix2 j l) = x (ix2 j ⟨l.val, by omega⟩) := by
  pointwise [left]
theorem right_apply (x : FVec Ideal S384x256 .f32) (j : Fin 384) (l : Fin 128) : right (F := Ideal) x (ix2 j l) = x (ix2 j ⟨128 + l.val, by omega⟩) := by
  pointwise [right]

theorem queryLow_apply (x : Vec Ideal S128x128 .bf16) (r l : Fin 128) :
    query (F := Ideal) lowLanes x (ix2 r l) = if l.val < 64 then x (ix2 r l) * ((1 / 8 : ℝ) : EReal) else 0 := by
  pointwise [query, lowLanes]
  rw [select_eq, ofBits_eighth]
  simp only [slt64]

theorem queryHigh_apply (x : Vec Ideal S128x128 .bf16) (r l : Fin 128) :
    query (F := Ideal) highLanes x (ix2 r l) = if l.val < 64 then 0 else x (ix2 r l) * ((1 / 8 : ℝ) : EReal) := by
  pointwise [query, highLanes]
  rw [select_eq, ofBits_eighth]
  simp only [sge64]
  split <;> simp_all

theorem scores_apply (k : FVec Ideal S384x128 .bf16) (x : FVec Ideal S512x128 .bf16) (r : Fin 512) (j : Fin 384) :
    scores (F := Ideal) x k (ix2 r j) = ∑ l : Fin 128, x (ix2 r l) * k (ix2 j l) := by
  pointwise [scores]
theorem mixed_apply (p : FVec Ideal S512x384 .bf16) (v : FVec Ideal S384x128 .bf16) (r : Fin 512) (l : Fin 128) :
    mixed (F := Ideal) p v (ix2 r l) = ∑ j : Fin 384, p (ix2 r j) * v (ix2 j l) := by
  pointwise [mixed]

theorem wide0_apply (x : FVec Ideal S512x384 .f32) (r : Fin 128) (j : Fin 384) : wide0 (F := Ideal) x (ix2 r j) = x (ix2 ⟨0 + r.val, by omega⟩ j) := by
  pointwise [wide0]
theorem part0_apply (x : FVec Ideal S512x128 .f32) (r l : Fin 128) : part0 (F := Ideal) x (ix2 r l) = x (ix2 ⟨0 + r.val, by omega⟩ l) := by
  pointwise [part0]
theorem stack0_apply (a b c d : FVec Ideal S128x128 .f32) (r l : Fin 128) : stack (F := Ideal) a b c d (ix2 ⟨0 + r.val, by omega⟩ l) = a (ix2 r l) := by
  pointwise [stack]
theorem stackWide0_apply (a b c d : FVec Ideal S128x384 .f32) (r : Fin 128) (l : Fin 384) : stackWide (F := Ideal) a b c d (ix2 ⟨0 + r.val, by omega⟩ l) = a (ix2 r l) := by
  pointwise [stackWide]

theorem wide1_apply (x : FVec Ideal S512x384 .f32) (r : Fin 128) (j : Fin 384) : wide1 (F := Ideal) x (ix2 r j) = x (ix2 ⟨128 + r.val, by omega⟩ j) := by
  pointwise [wide1]
theorem part1_apply (x : FVec Ideal S512x128 .f32) (r l : Fin 128) : part1 (F := Ideal) x (ix2 r l) = x (ix2 ⟨128 + r.val, by omega⟩ l) := by
  pointwise [part1]
theorem stack1_apply (a b c d : FVec Ideal S128x128 .f32) (r l : Fin 128) : stack (F := Ideal) a b c d (ix2 ⟨128 + r.val, by omega⟩ l) = b (ix2 r l) := by
  pointwise [stack]
theorem stackWide1_apply (a b c d : FVec Ideal S128x384 .f32) (r : Fin 128) (l : Fin 384) : stackWide (F := Ideal) a b c d (ix2 ⟨128 + r.val, by omega⟩ l) = b (ix2 r l) := by
  pointwise [stackWide]

theorem wide2_apply (x : FVec Ideal S512x384 .f32) (r : Fin 128) (j : Fin 384) : wide2 (F := Ideal) x (ix2 r j) = x (ix2 ⟨256 + r.val, by omega⟩ j) := by
  pointwise [wide2]
theorem part2_apply (x : FVec Ideal S512x128 .f32) (r l : Fin 128) : part2 (F := Ideal) x (ix2 r l) = x (ix2 ⟨256 + r.val, by omega⟩ l) := by
  pointwise [part2]
theorem stack2_apply (a b c d : FVec Ideal S128x128 .f32) (r l : Fin 128) : stack (F := Ideal) a b c d (ix2 ⟨256 + r.val, by omega⟩ l) = c (ix2 r l) := by
  pointwise [stack]
  rw [dif_neg (by omega), dif_neg (by omega), dif_pos (by omega)]; exact congrArg (fun i => c (ix2 i l)) (Fin.ext (by simp; omega))
theorem stackWide2_apply (a b c d : FVec Ideal S128x384 .f32) (r : Fin 128) (l : Fin 384) : stackWide (F := Ideal) a b c d (ix2 ⟨256 + r.val, by omega⟩ l) = c (ix2 r l) := by
  pointwise [stackWide]
  rw [dif_neg (by omega), dif_neg (by omega), dif_pos (by omega)]; exact congrArg (fun i => c (ix2 i l)) (Fin.ext (by simp; omega))

theorem wide3_apply (x : FVec Ideal S512x384 .f32) (r : Fin 128) (j : Fin 384) : wide3 (F := Ideal) x (ix2 r j) = x (ix2 ⟨384 + r.val, by omega⟩ j) := by
  pointwise [wide3]
theorem part3_apply (x : FVec Ideal S512x128 .f32) (r l : Fin 128) : part3 (F := Ideal) x (ix2 r l) = x (ix2 ⟨384 + r.val, by omega⟩ l) := by
  pointwise [part3]
theorem stack3_apply (a b c d : FVec Ideal S128x128 .f32) (r l : Fin 128) : stack (F := Ideal) a b c d (ix2 ⟨384 + r.val, by omega⟩ l) = d (ix2 r l) := by
  pointwise [stack]
  rw [dif_neg (by omega), dif_neg (by omega), dif_neg (by omega)]; exact congrArg (fun i => d (ix2 i l)) (Fin.ext (by simp; omega))
theorem stackWide3_apply (a b c d : FVec Ideal S128x384 .f32) (r : Fin 128) (l : Fin 384) : stackWide (F := Ideal) a b c d (ix2 ⟨384 + r.val, by omega⟩ l) = d (ix2 r l) := by
  pointwise [stackWide]
  rw [dif_neg (by omega), dif_neg (by omega), dif_neg (by omega)]; exact congrArg (fun i => d (ix2 i l)) (Fin.ext (by simp; omega))

theorem logits_apply (b s : FVec Ideal S128x384 .f32) (c : Ideal .f32) (r : Fin 128) (j : Fin 384) :
    logits (F := Ideal) b s c (ix2 r j) = s (ix2 r j) + (show EReal from c) * b (ix2 r j) := by
  pointwise [logits]
theorem tops_apply (l : FVec Ideal S128x384 .f32) (z : Ideal .f32) (r : Fin 128) (o : Fin 1) :
    tops (F := Ideal) l z (ix2 r o) = top (fun j => l (ix2 r j)) z := by
  pointwise [tops]
  rw [ofBits_ninf]; rfl
theorem weights_apply (l : FVec Ideal S128x384 .f32) (z : Ideal .f32) (r : Fin 128) (j : Fin 384) :
    weights (F := Ideal) l z (ix2 r j) = wt (fun j => l (ix2 r j)) z j := by
  pointwise [weights]
  rw [tops_apply]; rfl
theorem inverse_apply (l : FVec Ideal S128x384 .f32) (z : Ideal .f32) (r : Fin 128) (o : Fin 1) :
    inverse (F := Ideal) l z (ix2 r o) = Ideal.div 1 (den (fun j => l (ix2 r j)) z) := by
  pointwise [inverse, sinkWeight]
  simp only [weights_apply, tops_apply]
  rfl
theorem sideBySide_apply (a b : FVec Ideal S128x128 .f32) (x y : FVec Ideal S128x1 .f32) (r l : Fin 128) :
    sideBySide (F := Ideal) a b x y (ix2 r l) = if l.val < 64 then a (ix2 r l) * x (ix2 r 0) else b (ix2 r l) * y (ix2 r 0) := by
  pointwise [sideBySide, lowLanes]
  rw [select_eq]
  simp only [slt64]

variable (base : FVec Ideal S128x384 .f32) (s v : FVec Ideal S384x128 .bf16) (qa qb : Vec Ideal S128x128 .bf16) (c0 c1 c2 c3 z0 z1 z2 z3 : Ideal .f32)

theorem l0_apply (r : Fin 128) (j : Fin 384) : l0 (F := Ideal) base s qa qb c0 (ix2 r j)
    = (∑ d : Fin 64, (qa (ix2 r ⟨0 + d.val, by omega⟩) * ((1 / 8 : ℝ) : EReal)) * s (ix2 j ⟨0 + d.val, by omega⟩)) + (show EReal from c0) * base (ix2 r j) := by
  unfold l0
  rw [logits_apply, wide0_apply, groupScores, scores_apply]
  simp only [stack0_apply, queryLow_apply]
  rw [sum_low (fun l hl => by rw [if_neg (by omega), zero_mul])]
  congr 1

theorem l1_apply (r : Fin 128) (j : Fin 384) : l1 (F := Ideal) base s qa qb c1 (ix2 r j)
    = (∑ d : Fin 64, (qa (ix2 r ⟨64 + d.val, by omega⟩) * ((1 / 8 : ℝ) : EReal)) * s (ix2 j ⟨64 + d.val, by omega⟩)) + (show EReal from c1) * base (ix2 r j) := by
  unfold l1
  rw [logits_apply, wide1_apply, groupScores, scores_apply]
  simp only [stack1_apply, queryHigh_apply]
  rw [sum_high (fun l hl => by rw [if_pos hl, zero_mul])]
  congr 1

theorem l2_apply (r : Fin 128) (j : Fin 384) : l2 (F := Ideal) base s qa qb c2 (ix2 r j)
    = (∑ d : Fin 64, (qb (ix2 r ⟨0 + d.val, by omega⟩) * ((1 / 8 : ℝ) : EReal)) * s (ix2 j ⟨0 + d.val, by omega⟩)) + (show EReal from c2) * base (ix2 r j) := by
  unfold l2
  rw [logits_apply, wide2_apply, groupScores, scores_apply]
  simp only [stack2_apply, queryLow_apply]
  rw [sum_low (fun l hl => by rw [if_neg (by omega), zero_mul])]
  congr 1

theorem l3_apply (r : Fin 128) (j : Fin 384) : l3 (F := Ideal) base s qa qb c3 (ix2 r j)
    = (∑ d : Fin 64, (qb (ix2 r ⟨64 + d.val, by omega⟩) * ((1 / 8 : ℝ) : EReal)) * s (ix2 j ⟨64 + d.val, by omega⟩)) + (show EReal from c3) * base (ix2 r j) := by
  unfold l3
  rw [logits_apply, wide3_apply, groupScores, scores_apply]
  simp only [stack3_apply, queryHigh_apply]
  rw [sum_high (fun l hl => by rw [if_pos hl, zero_mul])]
  congr 1

theorem outA_apply (r l : Fin 128) : outA (F := Ideal) base s v qa qb c0 c1 c2 c3 z0 z1 z2 z3 (ix2 r l)
    = if l.val < 64 then mixThenDivide (fun j => l0 (F := Ideal) base s qa qb c0 (ix2 r j)) z0 (fun j => v (ix2 j l))
      else mixThenDivide (fun j => l1 (F := Ideal) base s qa qb c1 (ix2 r j)) z1 (fun j => v (ix2 j l)) := by
  unfold outA
  show sideBySide (F := Ideal) _ _ _ _ (ix2 r l) = _
  rw [sideBySide_apply, part0_apply, part1_apply, groupMixed, mixed_apply, mixed_apply, inverse_apply, inverse_apply]
  simp only [stackWide0_apply, stackWide1_apply, weights_apply]
  rfl
theorem outB_apply (r l : Fin 128) : outB (F := Ideal) base s v qa qb c0 c1 c2 c3 z0 z1 z2 z3 (ix2 r l)
    = if l.val < 64 then mixThenDivide (fun j => l2 (F := Ideal) base s qa qb c2 (ix2 r j)) z2 (fun j => v (ix2 j l))
      else mixThenDivide (fun j => l3 (F := Ideal) base s qa qb c3 (ix2 r j)) z3 (fun j => v (ix2 j l)) := by
  unfold outB
  show sideBySide (F := Ideal) _ _ _ _ (ix2 r l) = _
  rw [sideBySide_apply, part2_apply, part3_apply, groupMixed, mixed_apply, mixed_apply, inverse_apply, inverse_apply]
  simp only [stackWide2_apply, stackWide3_apply, weights_apply]
  rfl

end Values

end AttnBlock

end
-- ==== Proof.AttnSlopes.lean ====
/- The distance slopes the attention kernels spell, as the real numbers they name. -/
module

public import proofs.«01_k».proof.Proof.AttnMath
public import proofs.«01_k».proof.Proof.Gen.Kernel2Ideal

@[expose] public section

noncomputable section

namespace AttnFwd

open Idealize.ShloMosaic Cert.Kernel2Ideal Reals AttnMath

/-- The slope of head `h`, as the kernel spells it. -/
def slopeWord {F : FTy → Type} [FloatOps F] [Named F] : Nat → F .f32
  | 0 => Named.named κ "s1" 0x3F3504F3#32
  | 1 => Scalar.ofBits .f32 0x3F000000#32
  | 2 => Named.named κ "s3" 0x3EB504F3#32
  | 3 => Scalar.ofBits .f32 0x3E800000#32
  | 4 => Named.named κ "s5" 0x3E3504F3#32
  | 5 => Scalar.ofBits .f32 0x3E000000#32
  | 6 => Named.named κ "s7" 0x3DB504F3#32
  | 7 => Scalar.ofBits .f32 0x3D800000#32
  | 8 => Named.named κ "s9" 0x3D3504F3#32
  | 9 => Scalar.ofBits .f32 0x3D000000#32
  | 10 => Named.named κ "s11" 0x3CB504F3#32
  | 11 => Scalar.ofBits .f32 0x3C800000#32
  | 12 => Named.named κ "s13" 0x3C3504F3#32
  | 13 => Scalar.ofBits .f32 0x3C000000#32
  | 14 => Named.named κ "s15" 0x3BB504F3#32
  | _ => Scalar.ofBits .f32 0x3B800000#32

theorem ofBits_1 : Ideal.ofBits .f32 0x3F000000#32 = ((((2 : ℝ) ^ 1)⁻¹ : ℝ) : EReal) := by
  simp [Ideal.ofBits, Ideal.ieee, -EReal.coe_mul]; norm_num
theorem ofBits_2 : Ideal.ofBits .f32 0x3E800000#32 = ((((2 : ℝ) ^ 2)⁻¹ : ℝ) : EReal) := by
  simp [Ideal.ofBits, Ideal.ieee, -EReal.coe_mul]; norm_num
theorem ofBits_3 : Ideal.ofBits .f32 0x3E000000#32 = ((((2 : ℝ) ^ 3)⁻¹ : ℝ) : EReal) := by
  simp [Ideal.ofBits, Ideal.ieee, -EReal.coe_mul]; norm_num
theorem ofBits_4 : Ideal.ofBits .f32 0x3D800000#32 = ((((2 : ℝ) ^ 4)⁻¹ : ℝ) : EReal) := by
  simp [Ideal.ofBits, Ideal.ieee, -EReal.coe_mul]; norm_num
theorem ofBits_5 : Ideal.ofBits .f32 0x3D000000#32 = ((((2 : ℝ) ^ 5)⁻¹ : ℝ) : EReal) := by
  simp [Ideal.ofBits, Ideal.ieee, -EReal.coe_mul]; norm_num
theorem ofBits_6 : Ideal.ofBits .f32 0x3C800000#32 = ((((2 : ℝ) ^ 6)⁻¹ : ℝ) : EReal) := by
  simp [Ideal.ofBits, Ideal.ieee, -EReal.coe_mul]; norm_num
theorem ofBits_7 : Ideal.ofBits .f32 0x3C000000#32 = ((((2 : ℝ) ^ 7)⁻¹ : ℝ) : EReal) := by
  simp [Ideal.ofBits, Ideal.ieee, -EReal.coe_mul]; norm_num
theorem ofBits_8 : Ideal.ofBits .f32 0x3B800000#32 = ((((2 : ℝ) ^ 8)⁻¹ : ℝ) : EReal) := by
  simp [Ideal.ofBits, Ideal.ieee, -EReal.coe_mul]; norm_num

theorem named_mask : (Named.named κ "mask" 0xF149F2CA#32 : Ideal .f32) = ⊥ := rfl

theorem odd_eq (h : Fin 16) (n : ℝ) (e : (2 : ℝ) ^ (h.val + 1) = n) : ((((Real.sqrt n)⁻¹ : ℝ)) : EReal) = ((slope h : ℝ) : EReal) := by
  rw [slope_odd, e]

theorem slopeWord_eq (h : Fin 16) : slopeWord (F := Ideal) h.val = ((slope h : ℝ) : EReal) := by
  fin_cases h
  · exact odd_eq ⟨0, by omega⟩ 2 (by norm_num)
  · exact (ofBits_1).trans (congrArg _ (slope_even ⟨1, by omega⟩ 1 rfl).symm)
  · exact odd_eq ⟨2, by omega⟩ 8 (by norm_num)
  · exact (ofBits_2).trans (congrArg _ (slope_even ⟨3, by omega⟩ 2 rfl).symm)
  · exact odd_eq ⟨4, by omega⟩ 32 (by norm_num)
  · exact (ofBits_3).trans (congrArg _ (slope_even ⟨5, by omega⟩ 3 rfl).symm)
  · exact odd_eq ⟨6, by omega⟩ 128 (by norm_num)
  · exact (ofBits_4).trans (congrArg _ (slope_even ⟨7, by omega⟩ 4 rfl).symm)
  · exact odd_eq ⟨8, by omega⟩ 512 (by norm_num)
  · exact (ofBits_5).trans (congrArg _ (slope_even ⟨9, by omega⟩ 5 rfl).symm)
  · exact odd_eq ⟨10, by omega⟩ 2048 (by norm_num)
  · exact (ofBits_6).trans (congrArg _ (slope_even ⟨11, by omega⟩ 6 rfl).symm)
  · exact odd_eq ⟨12, by omega⟩ 8192 (by norm_num)
  · exact (ofBits_7).trans (congrArg _ (slope_even ⟨13, by omega⟩ 7 rfl).symm)
  · exact odd_eq ⟨14, by omega⟩ 32768 (by norm_num)
  · exact (ofBits_8).trans (congrArg _ (slope_even ⟨15, by omega⟩ 8 rfl).symm)

end AttnFwd

end
-- ==== Proof.AttnFwd.lean ====
/- Attention, forward: what one block of the kernel leaves. -/
module

public import proofs.«01_k».proof.Proof.AttnBlock
public import proofs.«01_k».proof.Proof.AttnSlopes
public import Idealize.ShloMosaic.Lib.WholeRead

@[expose] public section

set_option maxRecDepth 100000
set_option maxHeartbeats 1000000

noncomputable section

namespace AttnFwd

open Idealize.ShloMosaic Idealize.ShloMosaic.TcCoe Idealize.SL.Sem
open Idealize.ShloMosaic.Pipeline (Dat)
open Cert.Kernel2Ideal Cert.Kernel2Ideal.Gen Reals AttnMath AttnBlock

/-! ## The stores of one block -/

section Pieces

variable {F : FTy → Type} [FloatOps F] [Named F]

/-- A block of keys or values, as the body loads it. -/
def loadKeys {a : Memref sig .tc .vmem S128x256 .bf16} (h : a.IsWhole) (x : Vec F S128x256 .bf16) : Vec F S128x256 .bf16 :=
  View.readAt (Elt F) a.view (Rect.unit (s := S128x256) ![0, 0] S128x256.size inb_S128x256_S128x256_0_0).toLoadRect (h.unread x)
/-- 128 columns of the block of queries. -/
def loadQuery {a : Memref sig .tc .vmem S128x1024 .bf16} (h : a.IsWhole) (x : Vec F S128x1024 .bf16) (o : Nat)
    (ho : ∀ b, (![0, o] : Fin 2 → Nat) b + S128x128.size b ≤ S128x1024.size b) : Vec F S128x128 .bf16 :=
  View.readAt (Elt F) a.view (Rect.unit (s := S128x1024) ![0, o] S128x128.size ho).toLoadRect (h.unread x)
/-- One head's sink. -/
def loadSink {a : Memref sig .tc .smem S1x16 .f32} (h : a.IsWhole) (x : Vec F S1x16 .f32) (o : Nat)
    (ho : ∀ b, (![0, o] : Fin 2 → Nat) b + S1x1.size b ≤ S1x16.size b) : F .f32 :=
  View.readAt (Elt F) a.view (Rect.unit (s := S1x16) ![0, o] S1x1.size ho).toLoadRect (h.unread x) (Shape.Idx.first (by show 0 < S1x1.numel; decide))

theorem pieces (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x256 .bf16) (harg8 : arg8.IsWhole) (arg9 : Memref sig .tc .vmem S128x1024 .bf16) (harg9 : arg9.IsWhole)
    (x0 : Vec F S1x16 .f32) (x1 : Vec F S128x1024 .bf16) (x2 x3 x4 x5 x6 x7 : Vec F S128x256 .bf16) :
    (kernelRun0_A c i arg1 harg1 arg2 harg2 arg3 harg3 arg4 harg4 arg5 harg5 arg6 harg6 arg7 harg7 arg8 harg8 arg9 harg9 x0 x1 x2 x3 x4 x5 x6 x7).1 = [
      ⟨Rect.unit (s := S128x1024) ![0, 896] S128x128.size (by decide), outB (k0_pay3 i) (head highKeys (right (rows3 (loadKeys harg3 x2) (loadKeys harg4 x3) (loadKeys harg5 x4)))) (head highKeys (right (rows3 (loadKeys harg6 x5) (loadKeys harg7 x6) (loadKeys harg8 x7)))) (loadQuery harg2 x1 768 (by decide)) (loadQuery harg2 x1 896 (by decide)) (slopeWord 12) (slopeWord 13) (slopeWord 14) (slopeWord 15) (loadSink harg1 x0 12 (by decide)) (loadSink harg1 x0 13 (by decide)) (loadSink harg1 x0 14 (by decide)) (loadSink harg1 x0 15 (by decide))⟩,
      ⟨Rect.unit (s := S128x1024) ![0, 768] S128x128.size (by decide), outA (k0_pay3 i) (head highKeys (right (rows3 (loadKeys harg3 x2) (loadKeys harg4 x3) (loadKeys harg5 x4)))) (head highKeys (right (rows3 (loadKeys harg6 x5) (loadKeys harg7 x6) (loadKeys harg8 x7)))) (loadQuery harg2 x1 768 (by decide)) (loadQuery harg2 x1 896 (by decide)) (slopeWord 12) (slopeWord 13) (slopeWord 14) (slopeWord 15) (loadSink harg1 x0 12 (by decide)) (loadSink harg1 x0 13 (by decide)) (loadSink harg1 x0 14 (by decide)) (loadSink harg1 x0 15 (by decide))⟩,
      ⟨Rect.unit (s := S128x1024) ![0, 640] S128x128.size (by decide), outB (k0_pay3 i) (head lowKeys (right (rows3 (loadKeys harg3 x2) (loadKeys harg4 x3) (loadKeys harg5 x4)))) (head lowKeys (right (rows3 (loadKeys harg6 x5) (loadKeys harg7 x6) (loadKeys harg8 x7)))) (loadQuery harg2 x1 512 (by decide)) (loadQuery harg2 x1 640 (by decide)) (slopeWord 8) (slopeWord 9) (slopeWord 10) (slopeWord 11) (loadSink harg1 x0 8 (by decide)) (loadSink harg1 x0 9 (by decide)) (loadSink harg1 x0 10 (by decide)) (loadSink harg1 x0 11 (by decide))⟩,
      ⟨Rect.unit (s := S128x1024) ![0, 512] S128x128.size (by decide), outA (k0_pay3 i) (head lowKeys (right (rows3 (loadKeys harg3 x2) (loadKeys harg4 x3) (loadKeys harg5 x4)))) (head lowKeys (right (rows3 (loadKeys harg6 x5) (loadKeys harg7 x6) (loadKeys harg8 x7)))) (loadQuery harg2 x1 512 (by decide)) (loadQuery harg2 x1 640 (by decide)) (slopeWord 8) (slopeWord 9) (slopeWord 10) (slopeWord 11) (loadSink harg1 x0 8 (by decide)) (loadSink harg1 x0 9 (by decide)) (loadSink harg1 x0 10 (by decide)) (loadSink harg1 x0 11 (by decide))⟩,
      ⟨Rect.unit (s := S128x1024) ![0, 384] S128x128.size (by decide), outB (k0_pay3 i) (head highKeys (left (rows3 (loadKeys harg3 x2) (loadKeys harg4 x3) (loadKeys harg5 x4)))) (head highKeys (left (rows3 (loadKeys harg6 x5) (loadKeys harg7 x6) (loadKeys harg8 x7)))) (loadQuery harg2 x1 256 (by decide)) (loadQuery harg2 x1 384 (by decide)) (slopeWord 4) (slopeWord 5) (slopeWord 6) (slopeWord 7) (loadSink harg1 x0 4 (by decide)) (loadSink harg1 x0 5 (by decide)) (loadSink harg1 x0 6 (by decide)) (loadSink harg1 x0 7 (by decide))⟩,
      ⟨Rect.unit (s := S128x1024) ![0, 256] S128x128.size (by decide), outA (k0_pay3 i) (head highKeys (left (rows3 (loadKeys harg3 x2) (loadKeys harg4 x3) (loadKeys harg5 x4)))) (head highKeys (left (rows3 (loadKeys harg6 x5) (loadKeys harg7 x6) (loadKeys harg8 x7)))) (loadQuery harg2 x1 256 (by decide)) (loadQuery harg2 x1 384 (by decide)) (slopeWord 4) (slopeWord 5) (slopeWord 6) (slopeWord 7) (loadSink harg1 x0 4 (by decide)) (loadSink harg1 x0 5 (by decide)) (loadSink harg1 x0 6 (by decide)) (loadSink harg1 x0 7 (by decide))⟩,
      ⟨Rect.unit (s := S128x1024) ![0, 128] S128x128.size (by decide), outB (k0_pay3 i) (head lowKeys (left (rows3 (loadKeys harg3 x2) (loadKeys harg4 x3) (loadKeys harg5 x4)))) (head lowKeys (left (rows3 (loadKeys harg6 x5) (loadKeys harg7 x6) (loadKeys harg8 x7)))) (loadQuery harg2 x1 0 (by decide)) (loadQuery harg2 x1 128 (by decide)) (slopeWord 0) (slopeWord 1) (slopeWord 2) (slopeWord 3) (loadSink harg1 x0 0 (by decide)) (loadSink harg1 x0 1 (by decide)) (loadSink harg1 x0 2 (by decide)) (loadSink harg1 x0 3 (by decide))⟩,
      ⟨Rect.unit (s := S128x1024) ![0, 0] S128x128.size (by decide), outA (k0_pay3 i) (head lowKeys (left (rows3 (loadKeys harg3 x2) (loadKeys harg4 x3) (loadKeys harg5 x4)))) (head lowKeys (left (rows3 (loadKeys harg6 x5) (loadKeys harg7 x6) (loadKeys harg8 x7)))) (loadQuery harg2 x1 0 (by decide)) (loadQuery harg2 x1 128 (by decide)) (slopeWord 0) (slopeWord 1) (slopeWord 2) (slopeWord 3) (loadSink harg1 x0 0 (by decide)) (loadSink harg1 x0 1 (by decide)) (loadSink harg1 x0 2 (by decide)) (loadSink harg1 x0 3 (by decide))⟩] := by
  rfl

end Pieces

/-! ## Loads at an index -/

theorem loadKeys_apply {a : Memref sig .tc .vmem S128x256 .bf16} (h : a.IsWhole) (x : Vec Ideal S128x256 .bf16) : loadKeys (F := Ideal) h x = x := by
  funext y
  unfold loadKeys
  rw [Memref.IsWhole.readAt_unread]
  exact congrArg x (funext fun a => Fin.ext (by match a with | ⟨0, _⟩ => show 0 + 1 * (y 0).val = (y 0).val; omega | ⟨1, _⟩ => show 0 + 1 * (y 1).val = (y 1).val; omega))
theorem loadQuery_apply {a : Memref sig .tc .vmem S128x1024 .bf16} (h : a.IsWhole) (x : Vec Ideal S128x1024 .bf16) (o : Nat)
    (ho : ∀ b, (![0, o] : Fin 2 → Nat) b + S128x128.size b ≤ S128x1024.size b) (r l : Fin 128) (hc : o + l.val < 1024) :
    loadQuery (F := Ideal) h x o ho (ix2 r l) = x (ix2 r ⟨o + l.val, hc⟩) := by
  unfold loadQuery
  rw [Memref.IsWhole.readAt_unread]
  exact congrArg x (funext fun a => Fin.ext (by match a with | ⟨0, _⟩ => show 0 + 1 * r.val = r.val; omega | ⟨1, _⟩ => show o + 1 * l.val = o + l.val; omega))
theorem loadSink_apply {a : Memref sig .tc .smem S1x16 .f32} (h : a.IsWhole) (x : Vec Ideal S1x16 .f32) (o : Nat)
    (ho : ∀ b, (![0, o] : Fin 2 → Nat) b + S1x1.size b ≤ S1x16.size b) (hc : o < 16) :
    loadSink (F := Ideal) h x o ho = x (ix2 0 ⟨o, hc⟩) := by
  unfold loadSink
  rw [Memref.IsWhole.readAt_unread]
  exact congrArg x (funext fun a => Fin.ext (by match a with | ⟨0, _⟩ => rfl | ⟨1, _⟩ => rfl))

/-! ## One block -/

/-- Minus the distance where a query attends to a key, `−∞` elsewhere. -/
theorem base_apply (i : grid0.Coords) (n : Fin 64) (hn : i 0 = n) (r : Fin 128) (j : Fin 384) :
    k0_pay3 (F := Ideal) i (ix2 r j) = if okW n r j = 1#1 then ((-(dist r j) : ℝ) : EReal) else ⊥ := by
  subst hn
  pointwise [k0_pay3]
  rw [select_eq]
  have e : ∀ a b c : BitVec 1, IntOp.andi (IntOp.andi a b) c = IntOp.andi a (IntOp.andi b c) := by decide
  rw [e, named_mask]
  refine if_congr Iff.rfl ?_ rfl
  show (0 : EReal) - ((dist r j : ℝ) : EReal) = _
  rw [zero_sub, EReal.coe_neg]

section Block

variable (x0 : Vec Ideal S1x16 .f32) (x1 : Vec Ideal S128x1024 .bf16) (kk vv : FVec Ideal S384x256 .f32)

/-- The score of head `h`: 64 columns of the queries against 64 columns of the keys. -/
def blockScore (h : Fin 16) (r : Fin 128) (j : Fin 384) : EReal :=
  ∑ d : Fin 64, (x1 (ix2 r ⟨64 * h.val + d.val, by omega⟩) * ((1 / 8 : ℝ) : EReal)) * kk (ix2 j ⟨64 * (h.val / 4) + d.val, by omega⟩)

/-- What one block leaves. -/
def blockOut (n : Fin 64) (r : Fin 128) (h : Fin 16) (d : Fin 64) : EReal :=
  mixThenDivide (fun j => logit n r j h (blockScore x1 kk h r j)) (x0 (ix2 0 h)) (fun j => vv (ix2 j ⟨64 * (h.val / 4) + d.val, by omega⟩))

variable {x0 x1 kk vv} {n : Fin 64} {base : FVec Ideal S128x384 .f32} {s v : FVec Ideal S384x128 .bf16} {qa qb : Vec Ideal S128x128 .bf16} {c0 c1 c2 c3 z0 z1 z2 z3 : Ideal .f32}
  {g : Fin 4} (hb : ∀ r j, base (ix2 r j) = if okW n r j = 1#1 then ((-(dist r j) : ℝ) : EReal) else ⊥)
  (hs : ∀ j l, s (ix2 j l) = kk (ix2 j ⟨64 * g.val + l.val % 64, by omega⟩)) (hv : ∀ j l, v (ix2 j l) = vv (ix2 j ⟨64 * g.val + l.val % 64, by omega⟩))
  (hqa : ∀ r l : Fin 128, qa (ix2 r l) = x1 (ix2 r ⟨256 * g.val + l.val, by omega⟩))
  (hqb : ∀ r l : Fin 128, qb (ix2 r l) = x1 (ix2 r ⟨256 * g.val + 128 + l.val, by omega⟩))
include hb hs

include hqa in
theorem logit0 (hc : c0 = ((slope ⟨4 * g.val + 0, by omega⟩ : ℝ) : EReal)) (r : Fin 128) (j : Fin 384) :
    l0 (F := Ideal) base s qa qb c0 (ix2 r j) = logit n r j ⟨4 * g.val + 0, by omega⟩ (blockScore x1 kk ⟨4 * g.val + 0, by omega⟩ r j) := by
  rw [l0_apply, hb, hc]
  refine (logit_kernel n r j ⟨4 * g.val + 0, by omega⟩ _).trans ?_
  unfold blockScore
  refine congrArg _ (Finset.sum_congr rfl fun d _ => ?_)
  rw [hqa, hs]
  have e1 : ∀ a b (ha : a < 1024) (hb : b < 1024), a = b → x1 (ix2 r ⟨a, ha⟩) = x1 (ix2 r ⟨b, hb⟩) := fun a b _ _ h => by subst h; rfl
  have e2 : ∀ a b (ha : a < 256) (hb : b < 256), a = b → kk (ix2 j ⟨a, ha⟩) = kk (ix2 j ⟨b, hb⟩) := fun a b _ _ h => by subst h; rfl
  exact congrArg₂ (fun a b => a * ((1 / 8 : ℝ) : EReal) * b) (e1 _ _ _ _ (by dsimp only; omega)) (e2 _ _ _ _ (by dsimp only; omega))

include hqa in
theorem logit1 (hc : c1 = ((slope ⟨4 * g.val + 1, by omega⟩ : ℝ) : EReal)) (r : Fin 128) (j : Fin 384) :
    l1 (F := Ideal) base s qa qb c1 (ix2 r j) = logit n r j ⟨4 * g.val + 1, by omega⟩ (blockScore x1 kk ⟨4 * g.val + 1, by omega⟩ r j) := by
  rw [l1_apply, hb, hc]
  refine (logit_kernel n r j ⟨4 * g.val + 1, by omega⟩ _).trans ?_
  unfold blockScore
  refine congrArg _ (Finset.sum_congr rfl fun d _ => ?_)
  rw [hqa, hs]
  have e1 : ∀ a b (ha : a < 1024) (hb : b < 1024), a = b → x1 (ix2 r ⟨a, ha⟩) = x1 (ix2 r ⟨b, hb⟩) := fun a b _ _ h => by subst h; rfl
  have e2 : ∀ a b (ha : a < 256) (hb : b < 256), a = b → kk (ix2 j ⟨a, ha⟩) = kk (ix2 j ⟨b, hb⟩) := fun a b _ _ h => by subst h; rfl
  exact congrArg₂ (fun a b => a * ((1 / 8 : ℝ) : EReal) * b) (e1 _ _ _ _ (by dsimp only; omega)) (e2 _ _ _ _ (by dsimp only; omega))

include hqb in
theorem logit2 (hc : c2 = ((slope ⟨4 * g.val + 2, by omega⟩ : ℝ) : EReal)) (r : Fin 128) (j : Fin 384) :
    l2 (F := Ideal) base s qa qb c2 (ix2 r j) = logit n r j ⟨4 * g.val + 2, by omega⟩ (blockScore x1 kk ⟨4 * g.val + 2, by omega⟩ r j) := by
  rw [l2_apply, hb, hc]
  refine (logit_kernel n r j ⟨4 * g.val + 2, by omega⟩ _).trans ?_
  unfold blockScore
  refine congrArg _ (Finset.sum_congr rfl fun d _ => ?_)
  rw [hqb, hs]
  have e1 : ∀ a b (ha : a < 1024) (hb : b < 1024), a = b → x1 (ix2 r ⟨a, ha⟩) = x1 (ix2 r ⟨b, hb⟩) := fun a b _ _ h => by subst h; rfl
  have e2 : ∀ a b (ha : a < 256) (hb : b < 256), a = b → kk (ix2 j ⟨a, ha⟩) = kk (ix2 j ⟨b, hb⟩) := fun a b _ _ h => by subst h; rfl
  exact congrArg₂ (fun a b => a * ((1 / 8 : ℝ) : EReal) * b) (e1 _ _ _ _ (by dsimp only; omega)) (e2 _ _ _ _ (by dsimp only; omega))

include hqb in
theorem logit3 (hc : c3 = ((slope ⟨4 * g.val + 3, by omega⟩ : ℝ) : EReal)) (r : Fin 128) (j : Fin 384) :
    l3 (F := Ideal) base s qa qb c3 (ix2 r j) = logit n r j ⟨4 * g.val + 3, by omega⟩ (blockScore x1 kk ⟨4 * g.val + 3, by omega⟩ r j) := by
  rw [l3_apply, hb, hc]
  refine (logit_kernel n r j ⟨4 * g.val + 3, by omega⟩ _).trans ?_
  unfold blockScore
  refine congrArg _ (Finset.sum_congr rfl fun d _ => ?_)
  rw [hqb, hs]
  have e1 : ∀ a b (ha : a < 1024) (hb : b < 1024), a = b → x1 (ix2 r ⟨a, ha⟩) = x1 (ix2 r ⟨b, hb⟩) := fun a b _ _ h => by subst h; rfl
  have e2 : ∀ a b (ha : a < 256) (hb : b < 256), a = b → kk (ix2 j ⟨a, ha⟩) = kk (ix2 j ⟨b, hb⟩) := fun a b _ _ h => by subst h; rfl
  exact congrArg₂ (fun a b => a * ((1 / 8 : ℝ) : EReal) * b) (e1 _ _ _ _ (by dsimp only; omega)) (e2 _ _ _ _ (by dsimp only; omega))

include hv hqa in
theorem outA_block (hc : c0 = ((slope ⟨4 * g.val + 0, by omega⟩ : ℝ) : EReal)) (hc' : c1 = ((slope ⟨4 * g.val + 1, by omega⟩ : ℝ) : EReal))
    (hz : z0 = x0 (ix2 0 ⟨4 * g.val + 0, by omega⟩)) (hz' : z1 = x0 (ix2 0 ⟨4 * g.val + 1, by omega⟩)) (r l : Fin 128) :
    outA (F := Ideal) base s v qa qb c0 c1 c2 c3 z0 z1 z2 z3 (ix2 r l)
      = blockOut x0 x1 kk vv n r ⟨(256 * g.val + 0 + l.val) / 64, by omega⟩ ⟨(256 * g.val + 0 + l.val) % 64, by omega⟩ := by
  have key : ∀ (h h' : Fin 16) (d : Fin 64) (hh : h = h') (h4 : h.val / 4 = g.val) (hd : d.val = l.val % 64),
      mixThenDivide (fun j => logit n r j h (blockScore x1 kk h r j)) (x0 (ix2 0 h)) (fun j => v (ix2 j l)) = blockOut x0 x1 kk vv n r h' d := by
    intro h h' d hh h4 hd
    subst hh
    unfold blockOut
    refine congrArg _ (funext fun j => ?_)
    rw [hv]
    exact congrArg (fun a => vv (ix2 j a)) (Fin.ext (by simp only [h4, hd]))
  rw [outA_apply]
  simp only [logit0 hb hs hqa hc, logit1 hb hs hqa hc', hz, hz']
  split
  · exact key _ _ _ (Fin.ext (by dsimp only; omega)) (by dsimp only; omega) (by dsimp only; omega)
  · exact key _ _ _ (Fin.ext (by dsimp only; omega)) (by dsimp only; omega) (by dsimp only; omega)

include hv hqb in
theorem outB_block (hc : c2 = ((slope ⟨4 * g.val + 2, by omega⟩ : ℝ) : EReal)) (hc' : c3 = ((slope ⟨4 * g.val + 3, by omega⟩ : ℝ) : EReal))
    (hz : z2 = x0 (ix2 0 ⟨4 * g.val + 2, by omega⟩)) (hz' : z3 = x0 (ix2 0 ⟨4 * g.val + 3, by omega⟩)) (r l : Fin 128) :
    outB (F := Ideal) base s v qa qb c0 c1 c2 c3 z0 z1 z2 z3 (ix2 r l)
      = blockOut x0 x1 kk vv n r ⟨(256 * g.val + 128 + l.val) / 64, by omega⟩ ⟨(256 * g.val + 128 + l.val) % 64, by omega⟩ := by
  have key : ∀ (h h' : Fin 16) (d : Fin 64) (hh : h = h') (h4 : h.val / 4 = g.val) (hd : d.val = l.val % 64),
      mixThenDivide (fun j => logit n r j h (blockScore x1 kk h r j)) (x0 (ix2 0 h)) (fun j => v (ix2 j l)) = blockOut x0 x1 kk vv n r h' d := by
    intro h h' d hh h4 hd
    subst hh
    unfold blockOut
    refine congrArg _ (funext fun j => ?_)
    rw [hv]
    exact congrArg (fun a => vv (ix2 j a)) (Fin.ext (by simp only [h4, hd]))
  rw [outB_apply]
  simp only [logit2 hb hs hqb hc, logit3 hb hs hqb hc', hz, hz']
  split
  · exact key _ _ _ (Fin.ext (by dsimp only; omega)) (by dsimp only; omega) (by dsimp only; omega)
  · exact key _ _ _ (Fin.ext (by dsimp only; omega)) (by dsimp only; omega) (by dsimp only; omega)

end Block

/-- The 8 stores of a block put the block together. -/
theorem block_apply (c : Dev nD) (i : grid0.Coords) (n : Fin 64) (hn : i 0 = n) (arg1 : Memref sig .tc .smem S1x16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x256 .bf16) (harg8 : arg8.IsWhole) (arg9 : Memref sig .tc .vmem S128x1024 .bf16) (harg9 : arg9.IsWhole)
    (x0 : Vec Ideal S1x16 .f32) (x1 : Vec Ideal S128x1024 .bf16) (x2 x3 x4 x5 x6 x7 : Vec Ideal S128x256 .bf16) (y : S128x1024.Idx) :
    out0_A_8 (F := Ideal) c i arg1 harg1 arg2 harg2 arg3 harg3 arg4 harg4 arg5 harg5 arg6 harg6 arg7 harg7 arg8 harg8 arg9 harg9 x0 x1 x2 x3 x4 x5 x6 x7 y
      = blockOut x0 x1 (rows3 (F := Ideal) x2 x3 x4) (rows3 (F := Ideal) x5 x6 x7) n (y 0) ⟨(y 1).val / 64, by have h : (y 1).val < 1024 := (y 1).isLt; omega⟩ ⟨(y 1).val % 64, by omega⟩ := by
  unfold out0_A_8
  refine View.read_writes_apply_of_pieces (Val := Elt Ideal) (e := .bf16) _ _
    (fun y : S128x1024.Idx => blockOut x0 x1 (rows3 (F := Ideal) x2 x3 x4) (rows3 (F := Ideal) x5 x6 x7) n (y 0) ⟨(y 1).val / 64, by have h : (y 1).val < 1024 := (y 1).isLt; omega⟩ ⟨(y 1).val % 64, by omega⟩) _ ?_ y
    (cover0_A_8 c i arg1 harg1 arg2 harg2 arg3 harg3 arg4 harg4 arg5 harg5 arg6 harg6 arg7 harg7 arg8 harg8 arg9 harg9 x0 x1 x2 x3 x4 x5 x6 x7 y)
  rw [pieces]
  simp only [loadKeys_apply]
  have hb := base_apply i n hn
  have fin : ∀ (f : S128x128.Idx → EReal) (o : Nat) (ho : o + 128 ≤ 1024) (hr : ∀ b, (![0, o] : Fin 2 → Nat) b + S128x128.size b ≤ S128x1024.size b),
      (∀ r l : Fin 128, f (ix2 r l) = blockOut x0 x1 (rows3 (F := Ideal) x2 x3 x4) (rows3 (F := Ideal) x5 x6 x7) n r ⟨(o + l.val) / 64, by omega⟩ ⟨(o + l.val) % 64, by omega⟩) →
      ∀ x : S128x128.Idx, f x = (fun y : S128x1024.Idx => blockOut x0 x1 (rows3 (F := Ideal) x2 x3 x4) (rows3 (F := Ideal) x5 x6 x7) n (y 0) ⟨(y 1).val / 64, by have h : (y 1).val < 1024 := (y 1).isLt; omega⟩ ⟨(y 1).val % 64, by omega⟩)
        ((Rect.unit (s := S128x1024) ![0, o] S128x128.size hr).emb x) := by
    intro f o ho hr hf x
    obtain ⟨r, l, rfl⟩ : ∃ (r : Fin 128) (l : Fin 128), x = (ix2 r l : S128x128.Idx) := ⟨_, _, eq_ix2 x⟩
    have e : (Rect.unit (s := S128x1024) ![0, o] S128x128.size hr).emb (ix2 r l : S128x128.Idx) = (ix2 r ⟨o + l.val, by omega⟩ : S128x1024.Idx) := by
      funext a
      exact Fin.ext (by match a with | ⟨0, _⟩ => show 0 + 1 * r.val = r.val; omega | ⟨1, _⟩ => show o + 1 * l.val = o + l.val; omega)
    rw [e, hf]
    rfl
  intro q hq
  rcases List.mem_cons.1 hq with rfl | hq
  · refine fin _ 896 (by omega) (by decide) fun r l => ?_
    refine outB_block (g := 3) hb (fun j l => ?_) (fun j l => ?_) (fun r l => ?_) (slopeWord_eq 14) (slopeWord_eq 15) (loadSink_apply _ _ _ _ (by omega)) (loadSink_apply _ _ _ _ (by omega)) r l
    · rw [headHigh_apply, right_apply]; exact congrArg (fun a => rows3 (F := Ideal) x2 x3 x4 (ix2 j a)) (Fin.ext (by dsimp only; first | rfl | omega))
    · rw [headHigh_apply, right_apply]; exact congrArg (fun a => rows3 (F := Ideal) x5 x6 x7 (ix2 j a)) (Fin.ext (by dsimp only; first | rfl | omega))
    · exact loadQuery_apply _ _ _ _ r l (by omega)
  rcases List.mem_cons.1 hq with rfl | hq
  · refine fin _ 768 (by omega) (by decide) fun r l => ?_
    refine outA_block (g := 3) hb (fun j l => ?_) (fun j l => ?_) (fun r l => ?_) (slopeWord_eq 12) (slopeWord_eq 13) (loadSink_apply _ _ _ _ (by omega)) (loadSink_apply _ _ _ _ (by omega)) r l
    · rw [headHigh_apply, right_apply]; exact congrArg (fun a => rows3 (F := Ideal) x2 x3 x4 (ix2 j a)) (Fin.ext (by dsimp only; first | rfl | omega))
    · rw [headHigh_apply, right_apply]; exact congrArg (fun a => rows3 (F := Ideal) x5 x6 x7 (ix2 j a)) (Fin.ext (by dsimp only; first | rfl | omega))
    · exact loadQuery_apply _ _ _ _ r l (by omega)
  rcases List.mem_cons.1 hq with rfl | hq
  · refine fin _ 640 (by omega) (by decide) fun r l => ?_
    refine outB_block (g := 2) hb (fun j l => ?_) (fun j l => ?_) (fun r l => ?_) (slopeWord_eq 10) (slopeWord_eq 11) (loadSink_apply _ _ _ _ (by omega)) (loadSink_apply _ _ _ _ (by omega)) r l
    · rw [headLow_apply, right_apply]; exact congrArg (fun a => rows3 (F := Ideal) x2 x3 x4 (ix2 j a)) (Fin.ext (by dsimp only; first | rfl | omega))
    · rw [headLow_apply, right_apply]; exact congrArg (fun a => rows3 (F := Ideal) x5 x6 x7 (ix2 j a)) (Fin.ext (by dsimp only; first | rfl | omega))
    · exact loadQuery_apply _ _ _ _ r l (by omega)
  rcases List.mem_cons.1 hq with rfl | hq
  · refine fin _ 512 (by omega) (by decide) fun r l => ?_
    refine outA_block (g := 2) hb (fun j l => ?_) (fun j l => ?_) (fun r l => ?_) (slopeWord_eq 8) (slopeWord_eq 9) (loadSink_apply _ _ _ _ (by omega)) (loadSink_apply _ _ _ _ (by omega)) r l
    · rw [headLow_apply, right_apply]; exact congrArg (fun a => rows3 (F := Ideal) x2 x3 x4 (ix2 j a)) (Fin.ext (by dsimp only; first | rfl | omega))
    · rw [headLow_apply, right_apply]; exact congrArg (fun a => rows3 (F := Ideal) x5 x6 x7 (ix2 j a)) (Fin.ext (by dsimp only; first | rfl | omega))
    · exact loadQuery_apply _ _ _ _ r l (by omega)
  rcases List.mem_cons.1 hq with rfl | hq
  · refine fin _ 384 (by omega) (by decide) fun r l => ?_
    refine outB_block (g := 1) hb (fun j l => ?_) (fun j l => ?_) (fun r l => ?_) (slopeWord_eq 6) (slopeWord_eq 7) (loadSink_apply _ _ _ _ (by omega)) (loadSink_apply _ _ _ _ (by omega)) r l
    · rw [headHigh_apply, left_apply]; exact congrArg (fun a => rows3 (F := Ideal) x2 x3 x4 (ix2 j a)) (Fin.ext (by dsimp only; first | rfl | omega))
    · rw [headHigh_apply, left_apply]; exact congrArg (fun a => rows3 (F := Ideal) x5 x6 x7 (ix2 j a)) (Fin.ext (by dsimp only; first | rfl | omega))
    · exact loadQuery_apply _ _ _ _ r l (by omega)
  rcases List.mem_cons.1 hq with rfl | hq
  · refine fin _ 256 (by omega) (by decide) fun r l => ?_
    refine outA_block (g := 1) hb (fun j l => ?_) (fun j l => ?_) (fun r l => ?_) (slopeWord_eq 4) (slopeWord_eq 5) (loadSink_apply _ _ _ _ (by omega)) (loadSink_apply _ _ _ _ (by omega)) r l
    · rw [headHigh_apply, left_apply]; exact congrArg (fun a => rows3 (F := Ideal) x2 x3 x4 (ix2 j a)) (Fin.ext (by dsimp only; first | rfl | omega))
    · rw [headHigh_apply, left_apply]; exact congrArg (fun a => rows3 (F := Ideal) x5 x6 x7 (ix2 j a)) (Fin.ext (by dsimp only; first | rfl | omega))
    · exact loadQuery_apply _ _ _ _ r l (by omega)
  rcases List.mem_cons.1 hq with rfl | hq
  · refine fin _ 128 (by omega) (by decide) fun r l => ?_
    refine outB_block (g := 0) hb (fun j l => ?_) (fun j l => ?_) (fun r l => ?_) (slopeWord_eq 2) (slopeWord_eq 3) (loadSink_apply _ _ _ _ (by omega)) (loadSink_apply _ _ _ _ (by omega)) r l
    · rw [headLow_apply, left_apply]; exact congrArg (fun a => rows3 (F := Ideal) x2 x3 x4 (ix2 j a)) (Fin.ext (by dsimp only; first | rfl | omega))
    · rw [headLow_apply, left_apply]; exact congrArg (fun a => rows3 (F := Ideal) x5 x6 x7 (ix2 j a)) (Fin.ext (by dsimp only; first | rfl | omega))
    · exact loadQuery_apply _ _ _ _ r l (by omega)
  · obtain rfl := List.mem_singleton.1 hq
    refine fin _ 0 (by omega) (by decide) fun r l => ?_
    refine outA_block (g := 0) hb (fun j l => ?_) (fun j l => ?_) (fun r l => ?_) (slopeWord_eq 0) (slopeWord_eq 1) (loadSink_apply _ _ _ _ (by omega)) (loadSink_apply _ _ _ _ (by omega)) r l
    · rw [headLow_apply, left_apply]; exact congrArg (fun a => rows3 (F := Ideal) x2 x3 x4 (ix2 j a)) (Fin.ext (by dsimp only; first | rfl | omega))
    · rw [headLow_apply, left_apply]; exact congrArg (fun a => rows3 (F := Ideal) x5 x6 x7 (ix2 j a)) (Fin.ext (by dsimp only; first | rfl | omega))
    · exact loadQuery_apply _ _ _ _ r l (by omega)

end AttnFwd

end
-- ==== Proof.AttnFwdArray.lean ====
/- Attention, forward: what the kernel's result array holds. -/
module

public import proofs.«01_k».proof.Proof.AttnFwd

@[expose] public section

set_option maxRecDepth 100000
set_option maxHeartbeats 1000000

noncomputable section

namespace AttnFwd

open Idealize.ShloMosaic Idealize.ShloMosaic.TcCoe Idealize.SL.Sem
open Idealize.ShloMosaic.Pipeline (Dat)
open Cert.Kernel2Ideal Cert.Kernel2Ideal.Gen Reals AttnMath AttnBlock

/-! ## The whole arrays -/

/-- The row of the array that key `j` of block `n` is read from: the kernel's three blocks stop at the array's ends. -/
def keyRow (n : Fin 64) (j : Fin 384) : Fin 8192 :=
  if j.val < 128 then ⟨(n.val - 1) * 128 + j.val % 128, by omega⟩
  else if j.val < 256 then ⟨n.val * 128 + j.val % 128, by omega⟩ else ⟨min (n.val + 1) 63 * 128 + j.val % 128, by omega⟩

def queries (p : S8192x5632.Idx → EReal) (n : Fin 64) : S128x1024.Idx → EReal :=
  fun y => p (ix2 ⟨n.val * 128 + (y 0).val, by have h : (y 0).val < 128 := (y 0).isLt; omega⟩ ⟨2048 + (y 1).val, by have h : (y 1).val < 1024 := (y 1).isLt; omega⟩)
def keys (p : S8192x5632.Idx → EReal) (n : Fin 64) : S384x256.Idx → EReal :=
  fun y => p (ix2 (keyRow n (y 0)) ⟨3072 + (y 1).val, by have h : (y 1).val < 256 := (y 1).isLt; omega⟩)
def values (p : S8192x5632.Idx → EReal) (n : Fin 64) : S384x256.Idx → EReal :=
  fun y => p (ix2 (keyRow n (y 0)) ⟨3328 + (y 1).val, by have h : (y 1).val < 256 := (y 1).isLt; omega⟩)

/-- What the result array holds at row `r` of block `n`, column `c`. -/
def at' (p : S8192x5632.Idx → EReal) (z : S1x16.Idx → EReal) (n : Fin 64) (r : Fin 128) (c : Fin 1024) : EReal :=
  blockOut z (queries p n) (keys p n) (values p n) n r ⟨c.val / 64, by omega⟩ ⟨c.val % 64, by omega⟩

/-- What the result array holds. -/
def G (p : S8192x5632.Idx → EReal) (z : S1x16.Idx → EReal) : S8192x1024.Idx → EReal :=
  fun i => at' p z ⟨(i 0).val / 128, by have h : (i 0).val < 8192 := (i 0).isLt; omega⟩ ⟨(i 0).val % 128, by omega⟩ (i 1)

section Kernel

variable (m : (ℓ : Loc nD τ sig) → Buf (Elt Ideal) ℓ) (c : Dev nD)

/-- The grid point of a number. -/
abbrev pt (t : Fin cfg0.N) : Fin 64 := ⟨t.val, t.isLt⟩

theorem coords_val : ∀ t : Fin cfg0.N, (grid0.coords t 0).val = t.val := (by decide +kernel : ∀ t : Fin grid0.N, (grid0.coords t 0).val = t.val)
theorem coords_eq (t : Fin cfg0.N) : grid0.coords t 0 = pt t := Fin.ext (coords_val t)

theorem index_eq : ∀ t : Fin cfg0.N,
    win0_0.index t 0 = 0 ∧ win0_0.index t 1 = 0 ∧ win0_1.index t 0 = t.val ∧ win0_1.index t 1 = 2
      ∧ win0_8.index t 0 = t.val ∧ win0_8.index t 1 = 0 :=
  (by decide +kernel : ∀ t : Fin grid0.N, _)

theorem index_key : ∀ t : Fin cfg0.N,
    win0_2.index t 0 = t.val - 1 ∧ win0_2.index t 1 = 12 ∧ win0_3.index t 0 = t.val ∧ win0_3.index t 1 = 12
      ∧ win0_4.index t 0 = min (t.val + 1) 63 ∧ win0_4.index t 1 = 12 :=
  (by decide +kernel : ∀ t : Fin grid0.N, _)

theorem index_value : ∀ t : Fin cfg0.N,
    win0_5.index t 0 = t.val - 1 ∧ win0_5.index t 1 = 13 ∧ win0_6.index t 0 = t.val ∧ win0_6.index t 1 = 13
      ∧ win0_7.index t 0 = min (t.val + 1) 63 ∧ win0_7.index t 1 = 13 :=
  (by decide +kernel : ∀ t : Fin grid0.N, _)

theorem iblk0_apply (t : Fin cfg0.N) : iblk m c 0 t = m ((c : Thread nD τ).loc main_arg1) := by
  funext y
  refine congrArg (m ((c : Thread nD τ).loc main_arg1)) (funext fun a => Fin.ext ?_)
  obtain ⟨h0, h1, -⟩ := index_eq t
  match a with
  | ⟨0, _⟩ => show win0_0.index t 0 * 1 + 1 * (y 0).val = (y 0).val; rw [h0]; omega
  | ⟨1, _⟩ => show win0_0.index t 1 * 16 + 1 * (y 1).val = (y 1).val; rw [h1]; omega

theorem X1_apply (t : Fin cfg0.N) : X0_1 m c t = queries (m ((c : Thread nD τ).loc main_arg0)) (pt t) := by
  funext y
  unfold X0_1 Pipeline.Window.fill
  rw [dif_pos (moved0_1 t y)]
  refine congrArg (m ((c : Thread nD τ).loc main_arg0)) (funext fun a => Fin.ext ?_)
  obtain ⟨-, -, h0, h1, -⟩ := index_eq t
  match a with
  | ⟨0, _⟩ => show win0_1.index t 0 * 128 + 1 * (y 0).val = t.val * 128 + (y 0).val; rw [h0]; omega
  | ⟨1, _⟩ => show win0_1.index t 1 * 1024 + 1 * (y 1).val = 2048 + (y 1).val; rw [h1]; omega

theorem iblk2_apply (t : Fin cfg0.N) (r : Fin 128) (l : Fin 256) (hr : (t.val - 1) * 128 + r.val < 8192) (hl : 3072 + l.val < 5632) :
    iblk m c 2 t (ix2 r l : S128x256.Idx) = m ((c : Thread nD τ).loc main_arg0) (ix2 ⟨(t.val - 1) * 128 + r.val, hr⟩ ⟨3072 + l.val, hl⟩) := by
  refine congrArg (m ((c : Thread nD τ).loc main_arg0)) (funext fun a => Fin.ext ?_)
  obtain ⟨h0, h1, -⟩ := index_key t
  match a with
  | ⟨0, _⟩ => show win0_2.index t 0 * 128 + 1 * r.val = (t.val - 1) * 128 + r.val; rw [h0]; omega
  | ⟨1, _⟩ => show win0_2.index t 1 * 256 + 1 * l.val = 3072 + l.val; rw [h1]; omega

theorem iblk3_apply (t : Fin cfg0.N) (r : Fin 128) (l : Fin 256) (hr : t.val * 128 + r.val < 8192) (hl : 3072 + l.val < 5632) :
    iblk m c 3 t (ix2 r l : S128x256.Idx) = m ((c : Thread nD τ).loc main_arg0) (ix2 ⟨t.val * 128 + r.val, hr⟩ ⟨3072 + l.val, hl⟩) := by
  refine congrArg (m ((c : Thread nD τ).loc main_arg0)) (funext fun a => Fin.ext ?_)
  obtain ⟨-, -, h0, h1, -⟩ := index_key t
  match a with
  | ⟨0, _⟩ => show win0_3.index t 0 * 128 + 1 * r.val = t.val * 128 + r.val; rw [h0]; omega
  | ⟨1, _⟩ => show win0_3.index t 1 * 256 + 1 * l.val = 3072 + l.val; rw [h1]; omega

theorem iblk4_apply (t : Fin cfg0.N) (r : Fin 128) (l : Fin 256) (hr : min (t.val + 1) 63 * 128 + r.val < 8192) (hl : 3072 + l.val < 5632) :
    iblk m c 4 t (ix2 r l : S128x256.Idx) = m ((c : Thread nD τ).loc main_arg0) (ix2 ⟨min (t.val + 1) 63 * 128 + r.val, hr⟩ ⟨3072 + l.val, hl⟩) := by
  refine congrArg (m ((c : Thread nD τ).loc main_arg0)) (funext fun a => Fin.ext ?_)
  obtain ⟨-, -, -, -, h0, h1⟩ := index_key t
  match a with
  | ⟨0, _⟩ => show win0_4.index t 0 * 128 + 1 * r.val = min (t.val + 1) 63 * 128 + r.val; rw [h0]; omega
  | ⟨1, _⟩ => show win0_4.index t 1 * 256 + 1 * l.val = 3072 + l.val; rw [h1]; omega

theorem iblk5_apply (t : Fin cfg0.N) (r : Fin 128) (l : Fin 256) (hr : (t.val - 1) * 128 + r.val < 8192) (hl : 3328 + l.val < 5632) :
    iblk m c 5 t (ix2 r l : S128x256.Idx) = m ((c : Thread nD τ).loc main_arg0) (ix2 ⟨(t.val - 1) * 128 + r.val, hr⟩ ⟨3328 + l.val, hl⟩) := by
  refine congrArg (m ((c : Thread nD τ).loc main_arg0)) (funext fun a => Fin.ext ?_)
  obtain ⟨h0, h1, -⟩ := index_value t
  match a with
  | ⟨0, _⟩ => show win0_5.index t 0 * 128 + 1 * r.val = (t.val - 1) * 128 + r.val; rw [h0]; omega
  | ⟨1, _⟩ => show win0_5.index t 1 * 256 + 1 * l.val = 3328 + l.val; rw [h1]; omega

theorem iblk6_apply (t : Fin cfg0.N) (r : Fin 128) (l : Fin 256) (hr : t.val * 128 + r.val < 8192) (hl : 3328 + l.val < 5632) :
    iblk m c 6 t (ix2 r l : S128x256.Idx) = m ((c : Thread nD τ).loc main_arg0) (ix2 ⟨t.val * 128 + r.val, hr⟩ ⟨3328 + l.val, hl⟩) := by
  refine congrArg (m ((c : Thread nD τ).loc main_arg0)) (funext fun a => Fin.ext ?_)
  obtain ⟨-, -, h0, h1, -⟩ := index_value t
  match a with
  | ⟨0, _⟩ => show win0_6.index t 0 * 128 + 1 * r.val = t.val * 128 + r.val; rw [h0]; omega
  | ⟨1, _⟩ => show win0_6.index t 1 * 256 + 1 * l.val = 3328 + l.val; rw [h1]; omega

theorem iblk7_apply (t : Fin cfg0.N) (r : Fin 128) (l : Fin 256) (hr : min (t.val + 1) 63 * 128 + r.val < 8192) (hl : 3328 + l.val < 5632) :
    iblk m c 7 t (ix2 r l : S128x256.Idx) = m ((c : Thread nD τ).loc main_arg0) (ix2 ⟨min (t.val + 1) 63 * 128 + r.val, hr⟩ ⟨3328 + l.val, hl⟩) := by
  refine congrArg (m ((c : Thread nD τ).loc main_arg0)) (funext fun a => Fin.ext ?_)
  obtain ⟨-, -, -, -, h0, h1⟩ := index_value t
  match a with
  | ⟨0, _⟩ => show win0_7.index t 0 * 128 + 1 * r.val = min (t.val + 1) 63 * 128 + r.val; rw [h0]; omega
  | ⟨1, _⟩ => show win0_7.index t 1 * 256 + 1 * l.val = 3328 + l.val; rw [h1]; omega

theorem keys_apply (t : Fin cfg0.N) :
    rows3 (F := Ideal) (iblk m c 2 t) (iblk m c 3 t) (iblk m c 4 t) = keys (m ((c : Thread nD τ).loc main_arg0)) (pt t) := by
  funext y
  obtain ⟨j, l, rfl⟩ : ∃ (j : Fin 384) (l : Fin 256), y = (ix2 j l : S384x256.Idx) := ⟨_, _, eq_ix2 y⟩
  have ht : t.val < 64 := t.isLt
  have e : ∀ (a b : Fin 8192) (l : Fin 5632), a = b → m ((c : Thread nD τ).loc main_arg0) (ix2 a l) = m ((c : Thread nD τ).loc main_arg0) (ix2 b l) :=
    fun a b l h => by subst h; rfl
  rw [rows3_apply]
  split
  · rw [iblk2_apply m c t _ l (by dsimp only; omega) (by omega)]
    refine e _ (keyRow (pt t) j) _ ?_
    rw [keyRow, if_pos ‹_›]
    exact Fin.ext (by dsimp only; omega)
  · split
    · rw [iblk3_apply m c t _ l (by dsimp only; omega) (by omega)]
      refine e _ (keyRow (pt t) j) _ ?_
      rw [keyRow, if_neg ‹_›, if_pos (by omega)]
      exact Fin.ext (by dsimp only; omega)
    · rw [iblk4_apply m c t _ l (by dsimp only; omega) (by omega)]
      refine e _ (keyRow (pt t) j) _ ?_
      rw [keyRow, if_neg ‹_›, if_neg (by omega)]
      exact Fin.ext (by dsimp only; omega)

theorem values_apply (t : Fin cfg0.N) :
    rows3 (F := Ideal) (iblk m c 5 t) (iblk m c 6 t) (iblk m c 7 t) = values (m ((c : Thread nD τ).loc main_arg0)) (pt t) := by
  funext y
  obtain ⟨j, l, rfl⟩ : ∃ (j : Fin 384) (l : Fin 256), y = (ix2 j l : S384x256.Idx) := ⟨_, _, eq_ix2 y⟩
  have ht : t.val < 64 := t.isLt
  have e : ∀ (a b : Fin 8192) (l : Fin 5632), a = b → m ((c : Thread nD τ).loc main_arg0) (ix2 a l) = m ((c : Thread nD τ).loc main_arg0) (ix2 b l) :=
    fun a b l h => by subst h; rfl
  rw [rows3_apply]
  split
  · rw [iblk5_apply m c t _ l (by dsimp only; omega) (by omega)]
    refine e _ (keyRow (pt t) j) _ ?_
    rw [keyRow, if_pos ‹_›]
    exact Fin.ext (by dsimp only; omega)
  · split
    · rw [iblk6_apply m c t _ l (by dsimp only; omega) (by omega)]
      refine e _ (keyRow (pt t) j) _ ?_
      rw [keyRow, if_neg ‹_›, if_pos (by omega)]
      exact Fin.ext (by dsimp only; omega)
    · rw [iblk7_apply m c t _ l (by dsimp only; omega) (by omega)]
      refine e _ (keyRow (pt t) j) _ ?_
      rw [keyRow, if_neg ‹_›, if_neg (by omega)]
      exact Fin.ext (by dsimp only; omega)

/-- The two argument arrays of device `c` give the array `G`. -/
abbrev GM : S8192x1024.Idx → EReal := G (m ((c : Thread nD τ).loc main_arg0)) (m ((c : Thread nD τ).loc main_arg1))

theorem out_apply (t : Fin cfg0.N) (y : S128x1024.Idx) :
    outsAt0 m c t y = at' (m ((c : Thread nD τ).loc main_arg0)) (m ((c : Thread nD τ).loc main_arg1)) (pt t) (y 0) (y 1) := by
  unfold outsAt0
  rw [block_apply c (grid0.coords t) (pt t) (coords_eq t), iblk0_apply, X1_apply, keys_apply, values_apply]
  rfl

theorem flushed_eq (t : Fin cfg0.N) : (dats m 0 c).flushed 8 t = ((cfg0.win 8).blk t).view.read (Elt Ideal) (GM m c) := by
  rw [Value.flushed8]
  funext y
  refine (out_apply m c t y).trans ?_
  obtain ⟨-, -, -, -, h0, h1⟩ := index_eq t
  have hy : (y 0).val < 128 := (y 0).isLt
  have e0 : win0_8.index t 0 * 128 + 1 * (y 0).val = t.val * 128 + (y 0).val := by rw [h0]; omega
  have e1 : win0_8.index t 1 * 1024 + 1 * (y 1).val = (y 1).val := by rw [h1]; omega
  refine congr (congr (congrArg (at' (m ((c : Thread nD τ).loc main_arg0)) (m ((c : Thread nD τ).loc main_arg1))) (Fin.ext ?_)) (Fin.ext ?_)) (Fin.ext ?_)
  · show t.val = (win0_8.index t 0 * 128 + 1 * (y 0).val) / 128; rw [e0]; omega
  · show (y 0).val = (win0_8.index t 0 * 128 + 1 * (y 0).val) % 128; rw [e0]; omega
  · exact e1.symm

theorem mem_blk (t : Fin cfg0.N) (i : S8192x1024.Idx) (h : t.val = (i 0 : Nat) / 128) : i ∈ ((cfg0.win 8).blk t).view.set := by
  have h1 : (i 1 : Nat) < 1024 := (i 1).isLt
  obtain ⟨-, -, -, -, e0, e1⟩ := index_eq t
  show i ∈ ((View.whole main_v0).slice (win0_8.rect t)).set
  rw [View.set_slice_whole, Rect.mem_set_unit]
  intro a
  match a with
  | ⟨0, _⟩ => show win0_8.index t 0 * 128 ≤ (i 0 : Nat) ∧ (i 0 : Nat) < win0_8.index t 0 * 128 + 128; rw [e0]; omega
  | ⟨1, _⟩ => show win0_8.index t 1 * 1024 ≤ (i 1 : Nat) ∧ (i 1 : Nat) < win0_8.index t 1 * 1024 + 1024; rw [e1]; omega

theorem cover (i : S8192x1024.Idx) : ∃ t : Fin cfg0.N, (cfg0.win 8).flush t = true ∧ i ∈ ((cfg0.win 8).blk t).view.set := by
  have h0 : (i 0 : Nat) < 8192 := (i 0).isLt
  exact ⟨⟨(i 0).val / 128, show _ < 64 by omega⟩, flush0_8 _, mem_blk _ i rfl⟩

/-- After the run the result array holds `G` of the arguments. -/
theorem final : (dats m 0 c).arrAt 8 cfg0.N = GM m c :=
  (dats m 0 c).arrAt_eq_of_cover 8 (GM m c) (fun t _ => flushed_eq m c t) cover

end Kernel

end AttnFwd

end
-- ==== Proof.AttnFwdRef.lean ====
/- Attention, forward: what the reference computes, in the words of AttnMath. -/
module

public import proofs.«01_k».proof.Proof.AttnMath
public import proofs.«01_k».proof.Proof.Gen.Reference2Ideal.Run
public import proofs.«01_k».proof.Proof.Gen.Reference2Ideal.Read

@[expose] public section

set_option maxRecDepth 16384
set_option maxHeartbeats 1000000

noncomputable section

namespace AttnFwdRef

open Idealize.ShloMosaic Idealize.ShloMosaic.TcCoe Idealize.SL.Sem
open Cert.Reference2Ideal Cert.Reference2Ideal.Gen Cert.Reference2Ideal.Read Reals AttnMath

variable (x0 : (⟨S8192x5632, .bf16⟩ : BufTy).Contents (Elt Ideal)) (x1 : (⟨S1x16, .f32⟩ : BufTy).Contents (Elt Ideal))

/-- Row `k` of one key (or value) column with 128 rows of zeros before and after. -/
def padded (p : S8192x5632.Idx → EReal) (c : Fin 5632) (k : Nat) : EReal :=
  if h : 128 ≤ k ∧ k < 8320 then p (ix2 ⟨k - 128, by omega⟩ c) else 0

theorem keys_padded (k : Fin 8448) (g : Fin 4) (d : Fin 64) :
    val_main_v12 (F := Ideal) x0 (ix3 k g d) = padded x0 ⟨3072 + (g.val * 64 + d.val), by omega⟩ k.val := by
  pointwise [val_main_v12, val_main_v11, val_main_v6, val_main_v2, val_main_v0, val_main_cst_0]
  unfold padded
  split
  · rw [dif_neg (by omega)]
  · split
    · rw [dif_pos (by omega)]
    · rw [dif_neg (by omega)]

theorem values_padded (k : Fin 8448) (g : Fin 4) (d : Fin 64) :
    val_main_v19 (F := Ideal) x0 (ix3 k g d) = padded x0 ⟨3328 + (g.val * 64 + d.val), by omega⟩ k.val := by
  pointwise [val_main_v19, val_main_v18, val_main_v7, val_main_v3, val_main_v0, val_main_cst_1]
  unfold padded
  split
  · rw [dif_neg (by omega)]
  · split
    · rw [dif_pos (by omega)]
    · rw [dif_neg (by omega)]

theorem keys_window (n : Fin 64) (s : Fin 384) (g : Fin 4) (d : Fin 64) :
    val_main_v17 (F := Ideal) x0 (ix4 n s g d) = padded x0 ⟨3072 + (g.val * 64 + d.val), by omega⟩ (n.val * 128 + s.val) := by
  have h : ∀ (a : Fin 66) (b : Fin 128), val_main_v13 (F := Ideal) x0 (ix4 a b g d)
      = padded x0 ⟨3072 + (g.val * 64 + d.val), by omega⟩ (a.val * 128 + b.val) := by
    intro a b
    pointwise [val_main_v13]
    exact keys_padded x0 _ g d
  pointwise [val_main_v17, val_main_v16, val_main_v15, val_main_v14]
  simp only [h]
  split
  · rfl
  · split
    · exact congrArg (padded x0 _) (by omega)
    · exact congrArg (padded x0 _) (by omega)

theorem values_window (n : Fin 64) (s : Fin 384) (g : Fin 4) (d : Fin 64) :
    val_main_v24 (F := Ideal) x0 (ix4 n s g d) = padded x0 ⟨3328 + (g.val * 64 + d.val), by omega⟩ (n.val * 128 + s.val) := by
  have h : ∀ (a : Fin 66) (b : Fin 128), val_main_v20 (F := Ideal) x0 (ix4 a b g d)
      = padded x0 ⟨3328 + (g.val * 64 + d.val), by omega⟩ (a.val * 128 + b.val) := by
    intro a b
    pointwise [val_main_v20]
    exact values_padded x0 _ g d
  pointwise [val_main_v24, val_main_v23, val_main_v22, val_main_v21]
  simp only [h]
  split
  · rfl
  · split
    · exact congrArg (padded x0 _) (by omega)
    · exact congrArg (padded x0 _) (by omega)

/-- The reference's score of row `r` of block `n` against key `j`, head `h`. -/
def score (p : S8192x5632.Idx → EReal) (n : Fin 64) (h : Fin 16) (r : Fin 128) (j : Fin 384) : EReal :=
  ∑ d : Fin 64, padded p ⟨3072 + (h.val / 4 * 64 + d.val), by omega⟩ (n.val * 128 + j.val)
    * (p (ix2 ⟨n.val * 128 + r.val, by omega⟩ ⟨2048 + (h.val * 64 + d.val), by omega⟩) * ((1 / 8 : ℝ) : EReal))

/-- Head `i` of group `g`. -/
abbrev hd (g i : Fin 4) : Fin 16 := ⟨g.val * 4 + i.val, by omega⟩

theorem scores_apply (n : Fin 64) (g i : Fin 4) (r : Fin 128) (j : Fin 384) :
    val_main_v26 (F := Ideal) x0 (ix5 n g i r j) = score x0 n (hd g i) r j := by
  have q : ∀ d : Fin 64, val_main_v10 (F := Ideal) x0 (ix5 n r g i d)
      = x0 (ix2 ⟨n.val * 128 + r.val, by omega⟩ ⟨2048 + ((g.val * 4 + i.val) * 64 + d.val), by omega⟩) * ((1 / 8 : ℝ) : EReal) := by
    intro d
    pointwise [val_main_v10, val_main_v9, val_main_v8, val_main_v5, val_main_v1, val_main_v0, val_main_cst]
    rw [ofBits_eighth]
  pointwise [val_main_v26, val_main_v25]
  unfold score
  refine Finset.sum_congr rfl fun d _ => ?_
  rw [q, keys_window]
  exact congrArg (fun c => padded x0 c _ * _) (Fin.ext (by dsimp only; omega))

theorem ok_apply (n : Fin 64) (r : Fin 128) (j : Fin 384) : val_main_v58 (F := Ideal) (ix3 n r j) = okW n r j := by
  pointwise [val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_c, val_main_c_2, val_main_c_3, val_main_c_4, val_main_c_5, val_main_c_6]
  rfl

theorem ofBits_two : Ideal.ofBits .f32 0x40000000#32 = ((2 : ℝ) : EReal) := by
  simp [Ideal.ofBits, Ideal.ieee, -EReal.coe_mul]; norm_num
theorem ofBits_neg_eight : Ideal.ofBits .f32 0xC1000000#32 = ((-8 : ℝ) : EReal) := by
  simp [Ideal.ofBits, Ideal.ieee, -EReal.coe_mul]; norm_num
theorem ofBits_sixteen : Ideal.ofBits .f32 0x41800000#32 = ((16 : ℝ) : EReal) := by
  simp [Ideal.ofBits, Ideal.ieee, -EReal.coe_mul]; norm_num

theorem ofNat_toInt (h : Fin 16) : (BitVec.ofNat 32 h.val).toInt = (h.val : Int) := by revert h; decide

theorem slope_apply (h : Fin 16) :
    Ideal.pow (Ideal.ofBits .f32 0x40000000#32) (Ideal.div (Ideal.ofBits .f32 0xC1000000#32 * ((((BitVec.ofNat 32 h.val).toInt : ℝ) : EReal) + 1)) (Ideal.ofBits .f32 0x41800000#32))
      = ((AttnMath.slope h : ℝ) : EReal) := by
  rw [ofBits_two, ofBits_neg_eight, ofBits_sixteen, ofNat_toInt, show (1 : EReal) = ((1 : ℝ) : EReal) by norm_cast, ← EReal.coe_add, ← EReal.coe_mul,
    Ideal.div_coe (by norm_num), ← EReal.coe_mul, Ideal.pow_coe_coe]
  unfold AttnMath.slope
  congr 2
  push_cast
  ring

theorem bias_apply (g i : Fin 4) (r : Fin 128) (j : Fin 384) :
    val_main_v75 (F := Ideal) (ix4 g i r j) = -((AttnMath.slope (hd g i) : ℝ) : EReal) * ((dist r j : ℝ) : EReal) := by
  have d : val_main_v35 (F := Ideal) (ix2 r j) = IntOp.subi (IntOp.addi (BitVec.ofNat 32 r.val) 128#32) (BitVec.ofNat 32 j.val) := by
    pointwise [val_main_v35, val_main_v34, val_main_v33, val_main_v32, val_main_v31, val_main_v30, val_main_v29, val_main_v28, val_main_v27, val_main_c]
  pointwise [val_main_v75, val_main_v74, val_main_v73, val_main_v72, val_main_v71, val_main_v70, val_main_v69, val_main_v68, val_main_v67, val_main_v66, val_main_v65, val_main_v64, val_main_v63, val_main_v62, val_main_v61, val_main_v60, val_main_v59, val_main_cst_7, val_main_cst_8, val_main_cst_9, val_main_cst_10]
  rw [d]
  exact congrArg (fun s => -s * _) (slope_apply (hd g i))

/-- The reference's logit. -/
theorem logits_apply (n : Fin 64) (g i : Fin 4) (r : Fin 128) (j : Fin 384) :
    val_main_v80 (F := Ideal) x0 (ix5 n g i r j) = logit n r j (hd g i) (score x0 n (hd g i) r j) := by
  pointwise [val_main_v80, val_main_v79, val_main_v78, val_main_v77, val_main_v76, val_main_call0_v0, val_main_call0_v1, val_main_call0_v2, val_main_cst_11]
  rw [ok_apply, scores_apply, bias_apply, select_eq]
  unfold logit
  split
  · refine congrArg (score x0 n (hd g i) r j + ·) ?_
    rw [EReal.coe_neg, EReal.coe_mul, EReal.neg_mul]
  · exact ofBits_ninf

theorem sinks_apply (n : Fin 64) (g i : Fin 4) (r : Fin 128) (o : Fin 1) :
    val_main_v84 (F := Ideal) x1 (ix5 n g i r o) = x1 (ix2 0 (hd g i)) := by
  pointwise [val_main_v84, val_main_v81, val_main_v4]

theorem maxes_apply (n : Fin 64) (g i : Fin 4) (r : Fin 128) :
    val_main_v82 (F := Ideal) x0 (ix4 n g i r) = Finset.univ.fold max ⊥ (fun j => logit n r j (hd g i) (score x0 n (hd g i) r j)) := by
  unfold val_main_v82
  rw [Host.reduce_eq_fold, Shape.ReducesTo.fold_fiber_r5_a4]
  have e : ∀ k : Fin 384, val_main_v80 (F := Ideal) x0 (ix5 n g i r k) = logit n r k (hd g i) (score x0 n (hd g i) r k) := logits_apply x0 n g i r
  rw [show (val_main_cst_12 (F := Ideal)) (Shape.Idx.first h_S_) = ⊥ from ofBits_ninf]
  exact congrArg (fun f => Finset.univ.fold max ⊥ f) (funext e)

theorem tops_apply (n : Fin 64) (g i : Fin 4) (r : Fin 128) (o : Fin 1) :
    val_main_v85 (F := Ideal) x0 x1 (ix5 n g i r o) = top (fun j => logit n r j (hd g i) (score x0 n (hd g i) r j)) (x1 (ix2 0 (hd g i))) := by
  have e : val_main_v83 (F := Ideal) x0 (ix5 n g i r o) = val_main_v82 (F := Ideal) x0 (ix4 n g i r) := by
    pointwise [val_main_v83]
  rw [val_main_v85_apply, sinks_apply, e, maxes_apply]
  rfl

theorem weights_apply (n : Fin 64) (g i : Fin 4) (r : Fin 128) (j : Fin 384) :
    val_main_v88 (F := Ideal) x0 x1 (ix5 n g i r j) = wt (fun j => logit n r j (hd g i) (score x0 n (hd g i) r j)) (x1 (ix2 0 (hd g i))) j := by
  pointwise [val_main_v88, val_main_v87, val_main_v86]
  rw [tops_apply, logits_apply]
  rfl

theorem shares_apply (n : Fin 64) (g i : Fin 4) (r : Fin 128) (j : Fin 384) :
    val_main_v96 (F := Ideal) x0 x1 (ix5 n g i r j)
      = Ideal.div (wt (fun j => logit n r j (hd g i) (score x0 n (hd g i) r j)) (x1 (ix2 0 (hd g i))) j)
          (den (fun j => logit n r j (hd g i) (score x0 n (hd g i) r j)) (x1 (ix2 0 (hd g i)))) := by
  have z : ∀ o : Fin 1, val_main_v91 (F := Ideal) x1 (ix5 n g i r o) = x1 (ix2 0 (hd g i)) := by
    intro o
    pointwise [val_main_v91, val_main_v81, val_main_v4]
  pointwise [val_main_v96, val_main_v95, val_main_v94, val_main_v93, val_main_v92, val_main_v90, val_main_v89, val_main_cst_13]
  simp only [weights_apply, tops_apply, z]
  rfl

/-- The reference's result. -/
theorem result_apply (a : Fin 8192) (c : Fin 1024) :
    val_main_v100 (F := Ideal) x0 x1 (ix2 a c)
      = divideThenMix (fun j => logit ⟨a.val / 128, by omega⟩ ⟨a.val % 128, by omega⟩ j ⟨c.val / 64, by omega⟩ (score x0 ⟨a.val / 128, by omega⟩ ⟨c.val / 64, by omega⟩ ⟨a.val % 128, by omega⟩ j)) (x1 (ix2 0 ⟨c.val / 64, by omega⟩))
          (fun j => padded x0 ⟨3328 + (c.val / 64 / 4 * 64 + c.val % 64), by omega⟩ (a.val / 128 * 128 + j.val)) := by
  have e : hd ⟨c.val / 256, by omega⟩ ⟨c.val / 64 % 4, by omega⟩ = ⟨c.val / 64, by omega⟩ := Fin.ext (by dsimp only; omega)
  have e' : c.val / 64 / 4 = c.val / 256 := by omega
  pointwise [val_main_v100, val_main_v99, val_main_v98, val_main_v97]
  simp only [values_window, shares_apply, e, e']
  rfl

end AttnFwdRef

end
-- ==== Proof.AttnFwdEq.lean ====
/- Attention, forward: the kernel's array is the reference's. -/
module

public import proofs.«01_k».proof.Proof.AttnFwdArray
public import proofs.«01_k».proof.Proof.AttnFwdRef
public import proofs.«01_k».proof.Proof.Gen.Pre_attn_fwd_real

@[expose] public section

set_option maxRecDepth 16384
set_option maxHeartbeats 1000000

noncomputable section

namespace AttnFwd

open Idealize.ShloMosaic Idealize.ShloMosaic.TcCoe Idealize.SL.Sem
open Cert.Kernel2Ideal Reals AttnMath AttnFwdRef

/-- The precondition: the queries, the keys and the sinks are real numbers. -/
theorem real_of_pre (p : S8192x5632.Idx → EReal) (z : S1x16.Idx → EReal) (h : Cert.Pre_attn_fwd_real.fn (F := Ideal) p z = fun _ => 1#1) :
    (∀ (a : Fin 8192) (c : Fin 1280), IsR (p (ix2 a ⟨2048 + c.val, by omega⟩))) ∧ ∀ i, IsR (z i) := by
  have : Subsingleton Cert.Pre_attn_fwd_real.S_.Idx := ⟨fun a b => funext fun d => d.elim0⟩
  have e := congrFun h (fun d => d.elim0)
  obtain ⟨h0, h1⟩ := of_andi e
  refine ⟨fun a c => ?_, isR_of_all _ _ _ _ _ _ h1⟩
  have := isR_of_all _ _ _ _ _ _ h0 (ix2 a c)
  pointwise at this
  exact this

theorem keyRow_eq {n : Fin 64} {j : Fin 384} (h : 128 ≤ n.val * 128 + j.val ∧ n.val * 128 + j.val < 8320) :
    keyRow n j = ⟨n.val * 128 + j.val - 128, by omega⟩ := by
  unfold keyRow
  split
  · exact Fin.ext (by dsimp only; omega)
  · split
    · exact Fin.ext (by dsimp only; omega)
    · exact Fin.ext (by dsimp only; omega)

/-- Where a key is inside the array, the block's score is the reference's. -/
theorem score_eq (p : S8192x5632.Idx → EReal) (n : Fin 64) (h : Fin 16) (r : Fin 128) (j : Fin 384)
    (hj : 128 ≤ n.val * 128 + j.val ∧ n.val * 128 + j.val < 8320) :
    blockScore (queries p n) (keys p n) h r j = score p n h r j := by
  unfold blockScore score padded
  refine Finset.sum_congr rfl fun d _ => ?_
  rw [dif_pos hj, mul_comm]
  refine congrArg₂ (· * ·) ?_ (congrArg (· * ((1 / 8 : ℝ) : EReal)) ?_)
  · show p (ix2 (keyRow n j) _) = _
    rw [keyRow_eq hj]
    exact congrArg (fun c => p (ix2 _ c)) (Fin.ext (by show 3072 + (64 * (h.val / 4) + d.val) = 3072 + (h.val / 4 * 64 + d.val); omega))
  · exact congrArg (fun c => p (ix2 _ c)) (Fin.ext (by show 2048 + (64 * h.val + d.val) = 2048 + (h.val * 64 + d.val); omega))

theorem logit_congr {n : Fin 64} {r : Fin 128} {j : Fin 384} {h : Fin 16} {s t : EReal}
    (e : 128 ≤ n.val * 128 + j.val ∧ n.val * 128 + j.val < 8320 → s = t) : logit n r j h s = logit n r j h t := by
  unfold logit
  split
  · rw [e (ok_range ‹_›)]
  · rfl

theorem score_isR {p : S8192x5632.Idx → EReal} (hp : ∀ (a : Fin 8192) (c : Fin 1280), IsR (p (ix2 a ⟨2048 + c.val, by omega⟩)))
    (n : Fin 64) (h : Fin 16) (r : Fin 128) (j : Fin 384) : IsR (score p n h r j) := by
  have hp' : ∀ (a : Fin 8192) (c : Fin 5632), 2048 ≤ c.val ∧ c.val < 3328 → IsR (p (ix2 a c)) := by
    intro a c hc
    have := hp a ⟨c.val - 2048, by omega⟩
    rwa [show (⟨2048 + (c.val - 2048), by omega⟩ : Fin 5632) = c from Fin.ext (by dsimp only; omega)] at this
  refine IsR.sum fun d _ => IsR.mul ?_ (IsR.mul (hp' _ _ (by dsimp only; omega)) (isR_coe _))
  unfold padded
  split
  · exact hp' _ _ (by dsimp only; omega)
  · exact isR_coe 0

theorem result_eq (p : S8192x5632.Idx → EReal) (z : S1x16.Idx → EReal)
    (hp : ∀ (a : Fin 8192) (c : Fin 1280), IsR (p (ix2 a ⟨2048 + c.val, by omega⟩))) (hz : ∀ i, IsR (z i)) :
    G p z = Cert.Reference2Ideal.Read.val_main_v100 (F := Ideal) p z := by
  funext i
  obtain ⟨a, c, rfl⟩ : ∃ (a : Fin 8192) (c : Fin 1024), i = (ix2 a c : S8192x1024.Idx) := ⟨_, _, eq_ix2 i⟩
  rw [result_apply]
  show blockOut z (queries p ⟨a.val / 128, by omega⟩) (keys p ⟨a.val / 128, by omega⟩) (values p ⟨a.val / 128, by omega⟩)
    ⟨a.val / 128, by omega⟩ ⟨a.val % 128, by omega⟩ ⟨c.val / 64, by omega⟩ ⟨c.val % 64, by omega⟩ = _
  unfold blockOut
  rw [show (fun j : Fin 384 => logit ⟨a.val / 128, by omega⟩ ⟨a.val % 128, by omega⟩ j ⟨c.val / 64, by omega⟩
      (blockScore (queries p ⟨a.val / 128, by omega⟩) (keys p ⟨a.val / 128, by omega⟩) ⟨c.val / 64, by omega⟩ ⟨a.val % 128, by omega⟩ j))
      = fun j => logit ⟨a.val / 128, by omega⟩ ⟨a.val % 128, by omega⟩ j ⟨c.val / 64, by omega⟩
        (score p ⟨a.val / 128, by omega⟩ ⟨c.val / 64, by omega⟩ ⟨a.val % 128, by omega⟩ j) from
    funext fun j => logit_congr (score_eq p _ _ _ _)]
  refine mix_eq (fun j => logit_lt_top (score_isR hp _ _ _ _)) (hz _) fun j hj => ?_
  have hr := logit_range hj
  unfold padded
  rw [dif_pos hr]
  show p (ix2 (keyRow _ j) _) = _
  rw [keyRow_eq hr]
  exact congrArg (fun c => p (ix2 _ c)) (Fin.ext (by show 3328 + (64 * (c.val / 64 / 4) + c.val % 64) = 3328 + (c.val / 64 / 4 * 64 + c.val % 64); omega))

end AttnFwd

end
-- ==== Proof.AttnBwdSetup.lean ====
/- The backward attention call: what its run is stated over. The call keeps two running sums `dk`, `dv` in scratch, writes
   each block's `dq` behind itself through a ring of two tiles, and copies the finished `dk`, `dv` out at the last step.
   Here: the branch conditions and offsets of the body in closed form over the 64 steps, the ring's tiles, pieces and
   cells, the window of the result that `dk`, `dv` are copied to, and how the launch's buffers split into these and
   join again. -/
module

public import proofs.«01_k».proof.Proof.Gen.Kernel3Ideal.Frame
public import proofs.«01_k».proof.Proof.Gen.Kernel3Ideal.Loops
public import Idealize.ShloMosaic.Lib.Ring.WriteBehind
public import Idealize.ShloMosaic.Lib.HeldBySlice

@[expose] public section

set_option maxRecDepth 16384

noncomputable section

namespace Cert.Kernel3Ideal.AB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

/-! ## The branch conditions over the steps -/

/-- The zeroing of the sums happens at the first step: the condition as the body computes it. -/
abbrev first (i : grid0.Coords) : Prop :=
  (Scalar.cmpi .ne (Scalar.extui (Scalar.cmpi .eq (BitVec.ofNat 32 (i 0).val) 0#32)) 0#32) = 1#1

theorem step_lt (t : Fin cfg0.N) : t.val < 64 := Nat.lt_of_lt_of_eq t.isLt N_0
theorem cond1_iff : ∀ t : Fin cfg0.N, k0_cond1 (grid0.coords t) = 1#1 ↔ 2 ≤ t.val :=
  (by decide +kernel : ∀ t : Fin grid0.N, k0_cond1 (grid0.coords t) = 1#1 ↔ 2 ≤ t.val)
theorem first_iff : ∀ t : Fin cfg0.N, first (grid0.coords t) ↔ t.val = 0 :=
  (by decide +kernel : ∀ t : Fin grid0.N, first (grid0.coords t) ↔ t.val = 0)
theorem cond3_iff : ∀ t : Fin cfg0.N, k0_cond3 (grid0.coords t) = 1#1 ↔ 1 ≤ t.val :=
  (by decide +kernel : ∀ t : Fin grid0.N, k0_cond3 (grid0.coords t) = 1#1 ↔ 1 ≤ t.val)
theorem cond4_all : ∀ t : Fin cfg0.N, k0_cond4 (grid0.coords t) = 1#1 :=
  (by decide +kernel : ∀ t : Fin grid0.N, k0_cond4 (grid0.coords t) = 1#1)
theorem cond5_iff : ∀ t : Fin cfg0.N, k0_cond5 (grid0.coords t) = 1#1 ↔ t.val < 63 :=
  (by decide +kernel : ∀ t : Fin grid0.N, k0_cond5 (grid0.coords t) = 1#1 ↔ t.val < 63)
theorem cond6_iff : ∀ t : Fin cfg0.N, k0_cond6 (grid0.coords t) = 1#1 ↔ t.val = 63 :=
  (by decide +kernel : ∀ t : Fin grid0.N, k0_cond6 (grid0.coords t) = 1#1 ↔ t.val = 63)

/-! ## Buffers -/

abbrev dkM : Memref sig .tc .vmem S8192x256 .f32 := Memref.whole cc0_scratch0
abbrev dvM : Memref sig .tc .vmem S8192x256 .f32 := Memref.whole cc0_scratch1
abbrev dqM : Memref sig .tc .vmem S2x128x1024 .bf16 := Memref.whole cc0_scratch2
abbrev kvM : Memref sig .tc .vmem S8192x512 .bf16 := Memref.whole cc0_scratch3
abbrev outM : Memref sig .tc .hbm S8192x5632 .bf16 := Memref.whole main_v101_0

instance : NeZero grid0.N := ⟨by rw [N_0]; decide⟩

theorem tile_inb (g : Fin 2) : ∀ a, (![g.val, 0, 0] : Fin 3 → Nat) a + S1x128x1024.size a ≤ S2x128x1024.size a := by
  have := g.isLt; intro a; fin_cases a <;> simp <;> omega
theorem piece_inb (u : Fin 64) : ∀ a, (![128 * u.val, 2048] : Fin 2 → Nat) a + S128x1024.size a ≤ S8192x5632.size a := by
  have := u.isLt; intro a; fin_cases a <;> simp <;> omega
theorem cell_inb (g : Fin 2) : ∀ a, (![g.val] : Fin 1 → Nat) a + S1.size a ≤ S3.size a := by
  have := g.isLt; intro a; fin_cases a <;> simp <;> omega

/-- Tile `g` of the ring. -/
def tile (g : Fin 2) : Memref sig .tc .vmem S128x1024 .bf16 :=
  (dqM.slice (Rect.unit (s := S2x128x1024) ![g.val, 0, 0] S1x128x1024.size (tile_inb g)) (fun _ => rfl)).squeeze S128x1024 squeezes_S1x128x1024_S128x1024
/-- The rows of the result step `u` writes. -/
def piece (u : Fin 64) : Memref sig .tc .hbm S128x1024 .bf16 :=
  outM.slice (Rect.unit (s := S8192x5632) ![128 * u.val, 2048] S128x1024.size (piece_inb u)) (fun _ => rfl)
/-- The cell tile `g`'s copies are counted on. -/
def cellA (g : Fin 2) : DmaSems sig S_ :=
  (cc0_scratch4.slice (Rect.unit (s := S3) ![g.val] S1.size (cell_inb g))).squeeze S_ squeezes_S1_S_
abbrev cell (g : Fin 2) : SemLoc sig := SemLoc.dma (cellA g).sem
theorem cell_zero : cell 0 = SemLoc.dma 20 := by decide
theorem cell_one : cell 1 = SemLoc.dma 21 := by decide
/-- The columns of the result `dk`, `dv` are copied to. -/
abbrev kvW : Memref sig .tc .hbm S8192x512 .bf16 :=
  outM.slice (Rect.unit (s := S8192x5632) ![0, 3072] S8192x512.size inb_S8192x5632_S8192x512_0_3072) (fun _ => rfl)

/-! ## The ring's sets of elements -/

abbrev tileSet (g : Fin 2) : Finset S2x128x1024.Idx := (Rect.unit (s := S2x128x1024) ![g.val, 0, 0] S1x128x1024.size (tile_inb g)).set
abbrev pieceSet (u : Fin 64) : Finset S8192x5632.Idx := (Rect.unit (s := S8192x5632) ![128 * u.val, 2048] S128x1024.size (piece_inb u)).set
abbrev kvSet : Finset S8192x5632.Idx := (Rect.unit (s := S8192x5632) ![0, 3072] S8192x512.size inb_S8192x5632_S8192x512_0_3072).set
theorem tile_set (g : Fin 2) : (tile g).view.set = tileSet g := by
  simp only [tile, Memref.view_squeeze, View.set_reshape]; exact View.set_slice_whole _ _
theorem piece_set (u : Fin 64) : (piece u).view.set = pieceSet u := by
  simp only [piece]; exact View.set_slice_whole _ _
theorem kv_set : kvW.view.set = kvSet := View.set_slice_whole _ _
theorem tiles_disjoint (g g' : Fin 2) (h : g ≠ g') : Disjoint (tileSet g) (tileSet g') :=
  Ring.boxes_disjoint (s := S2x128x1024) S1x128x1024.size (fun g : Fin 2 => ![g.val, 0, 0]) tile_inb (fun g => ![g.val, 0, 0])
    (fun g a => by fin_cases a <;> simp) (fun v => Fin.ofNat 2 (v 0)) (by decide +kernel) g g' h
theorem pieces_disjoint (u u' : Fin 64) (h : u ≠ u') : Disjoint (pieceSet u) (pieceSet u') :=
  Ring.boxes_disjoint (s := S8192x5632) S128x1024.size (fun u : Fin 64 => ![128 * u.val, 2048]) piece_inb (fun u => ![u.val, 2])
    (fun u a => by fin_cases a <;> simp <;> omega) (fun v => Fin.ofNat 64 (v 0)) (by decide +kernel) u u' h
theorem pieces_kv_disjoint (u : Fin 64) : Disjoint (pieceSet u) kvSet :=
  Rect.unit_disjoint (1 : Fin 2) (Or.inl (by simp))

/-! ## The body's operands at step `t` are the ring's -/

set_option synthInstance.maxSize 4096

theorem off1_eq : ∀ t : Fin grid0.N, k0_off1 (grid0.coords t) = ![(Ring.sl 2 t.val).val] := by decide +kernel
theorem off3_eq : ∀ t : Fin grid0.N, k0_off3 (grid0.coords t) = ![(Ring.sl 2 t.val).val, 0, 0] := by decide +kernel
theorem off4_eq : ∀ t : Fin grid0.N, k0_off4 (grid0.coords t) = ![(Ring.sl 2 t.val).val, 0, 0] := by decide +kernel
theorem off19_eq : ∀ t : Fin grid0.N, k0_off19 (grid0.coords t) = ![(Ring.sl 2 t.val).val] := by decide +kernel
theorem off20_eq : ∀ t : Fin grid0.N, k0_off20 (grid0.coords t) = ![128 * (Ring.bk 64 t.val).val, 2048] := by decide +kernel
theorem off24_eq : ∀ t : Fin grid0.N, k0_off24 (grid0.coords t) = ![(Ring.sl 2 (t.val + 1)).val] := by decide +kernel
theorem off26_eq : ∀ t : Fin grid0.N, k0_off26 (grid0.coords t) = ![(Ring.sl 2 (t.val + 1)).val, 0, 0] := by decide +kernel
theorem off27_eq : ∀ t : Fin grid0.N, k0_off27 (grid0.coords t) = ![(Ring.sl 2 t.val).val] := by decide +kernel
theorem off29_eq : ∀ t : Fin grid0.N, k0_off29 (grid0.coords t) = ![(Ring.sl 2 t.val).val, 0, 0] := by decide +kernel

/-- A cell at an offset function of the step is the cell the offset's closed form names; likewise a tile, a piece. -/
theorem cell_at {o : Fin 1 → Nat} {g : Fin 2} (h : o = ![g.val]) (hb) :
    (cc0_scratch4.slice (Rect.unit (s := S3) o S1.size hb)).squeeze S_ squeezes_S1_S_ = cellA g :=
  congrArg (fun A : DmaSems sig S1 => A.squeeze S_ squeezes_S1_S_) (SemArray.slice_unit_congr _ h _ _)
theorem tile_at {o : Fin 3 → Nat} {g : Fin 2} (h : o = ![g.val, 0, 0]) (hb) :
    (dqM.slice (Rect.unit (s := S2x128x1024) o S1x128x1024.size hb) (fun _ => rfl)).squeeze S128x1024 squeezes_S1x128x1024_S128x1024 = tile g :=
  congrArg (fun M : Memref sig .tc .vmem S1x128x1024 .bf16 => M.squeeze S128x1024 squeezes_S1x128x1024_S128x1024)
    (Memref.slice_unit_congr _ h _ _ (fun _ => rfl) (fun _ => rfl))
theorem piece_at {o : Fin 2 → Nat} {u : Fin 64} (h : o = ![128 * u.val, 2048]) (hb) :
    outM.slice (Rect.unit (s := S8192x5632) o S128x1024.size hb) (fun _ => rfl) = piece u :=
  Memref.slice_unit_congr _ h _ _ (fun _ => rfl) (fun _ => rfl)

@[sl_canon] theorem canon19 (t : Fin grid0.N) :
    (cc0_scratch4.slice (Rect.unit (s := S3) (k0_off19 (grid0.coords t)) S1.size (k0_off19_inb (grid0.coords t)))).squeeze S_ squeezes_S1_S_ = cellA (Ring.sl 2 t.val) :=
  cell_at (off19_eq t) _
@[sl_canon] theorem canon19' (t : Fin grid0.N) :
    (cc0_scratch4.slice (Rect.unit (s := S3) (k0_off19 (grid0.coords t)) ![1] (k0_off19_inb (grid0.coords t)))).squeeze S_ squeezes_S1_S_ = cellA (Ring.sl 2 t.val) :=
  canon19 t
@[sl_canon] theorem canon4 (t : Fin grid0.N) :
    (dqM.slice (Rect.unit (s := S2x128x1024) (k0_off4 (grid0.coords t)) S1x128x1024.size (k0_off4_inb (grid0.coords t))) (fun _ => rfl)).squeeze S128x1024 squeezes_S1x128x1024_S128x1024 = tile (Ring.sl 2 t.val) :=
  tile_at (off4_eq t) _
@[sl_canon] theorem canon4' (t : Fin grid0.N) :
    (dqM.slice (Rect.unit (s := S2x128x1024) (k0_off4 (grid0.coords t)) ![1, 128, 1024] (k0_off4_inb (grid0.coords t))) (fun _ => rfl)).squeeze S128x1024 squeezes_S1x128x1024_S128x1024 = tile (Ring.sl 2 t.val) :=
  canon4 t
@[sl_canon] theorem canon20 (t : Fin grid0.N) :
    outM.slice (Rect.unit (s := S8192x5632) (k0_off20 (grid0.coords t)) S128x1024.size (k0_off20_inb (grid0.coords t))) (fun _ => rfl) = piece (Ring.bk 64 t.val) :=
  piece_at (off20_eq t) _
@[sl_canon] theorem canon20' (t : Fin grid0.N) :
    outM.slice (Rect.unit (s := S8192x5632) (k0_off20 (grid0.coords t)) ![128, 1024] (k0_off20_inb (grid0.coords t))) (fun _ => rfl) = piece (Ring.bk 64 t.val) :=
  canon20 t
@[sl_canon] theorem canon1 (t : Fin grid0.N) (h : k0_cond1 (grid0.coords t) = 1#1) :
    (cc0_scratch4.slice (Rect.unit (s := S3) (k0_off1 (grid0.coords t)) S1.size (k0_off1_inb (grid0.coords t) h))).squeeze S_ squeezes_S1_S_ = cellA (Ring.sl 2 t.val) :=
  cell_at (off1_eq t) _
@[sl_canon] theorem canon1' (t : Fin grid0.N) (h : k0_cond1 (grid0.coords t) = 1#1) :
    (cc0_scratch4.slice (Rect.unit (s := S3) (k0_off1 (grid0.coords t)) ![1] (k0_off1_inb (grid0.coords t) h))).squeeze S_ squeezes_S1_S_ = cellA (Ring.sl 2 t.val) :=
  canon1 t h
@[sl_canon] theorem canon3 (t : Fin grid0.N) (h : k0_cond1 (grid0.coords t) = 1#1) :
    (dqM.slice (Rect.unit (s := S2x128x1024) (k0_off3 (grid0.coords t)) S1x128x1024.size (k0_off3_inb (grid0.coords t) h)) (fun _ => rfl)).squeeze S128x1024 squeezes_S1x128x1024_S128x1024 = tile (Ring.sl 2 t.val) :=
  tile_at (off3_eq t) _
@[sl_canon] theorem canon3' (t : Fin grid0.N) (h : k0_cond1 (grid0.coords t) = 1#1) :
    (dqM.slice (Rect.unit (s := S2x128x1024) (k0_off3 (grid0.coords t)) ![1, 128, 1024] (k0_off3_inb (grid0.coords t) h)) (fun _ => rfl)).squeeze S128x1024 squeezes_S1x128x1024_S128x1024 = tile (Ring.sl 2 t.val) :=
  canon3 t h
@[sl_canon] theorem canon24 (t : Fin grid0.N) (h : k0_cond6 (grid0.coords t) = 1#1) :
    (cc0_scratch4.slice (Rect.unit (s := S3) (k0_off24 (grid0.coords t)) S1.size (k0_off24_inb (grid0.coords t) h))).squeeze S_ squeezes_S1_S_ = cellA (Ring.sl 2 (t.val + 1)) :=
  cell_at (off24_eq t) _
@[sl_canon] theorem canon24' (t : Fin grid0.N) (h : k0_cond6 (grid0.coords t) = 1#1) :
    (cc0_scratch4.slice (Rect.unit (s := S3) (k0_off24 (grid0.coords t)) ![1] (k0_off24_inb (grid0.coords t) h))).squeeze S_ squeezes_S1_S_ = cellA (Ring.sl 2 (t.val + 1)) :=
  canon24 t h
@[sl_canon] theorem canon26 (t : Fin grid0.N) (h : k0_cond6 (grid0.coords t) = 1#1) :
    (dqM.slice (Rect.unit (s := S2x128x1024) (k0_off26 (grid0.coords t)) S1x128x1024.size (k0_off26_inb (grid0.coords t) h)) (fun _ => rfl)).squeeze S128x1024 squeezes_S1x128x1024_S128x1024 = tile (Ring.sl 2 (t.val + 1)) :=
  tile_at (off26_eq t) _
@[sl_canon] theorem canon26' (t : Fin grid0.N) (h : k0_cond6 (grid0.coords t) = 1#1) :
    (dqM.slice (Rect.unit (s := S2x128x1024) (k0_off26 (grid0.coords t)) ![1, 128, 1024] (k0_off26_inb (grid0.coords t) h)) (fun _ => rfl)).squeeze S128x1024 squeezes_S1x128x1024_S128x1024 = tile (Ring.sl 2 (t.val + 1)) :=
  canon26 t h
@[sl_canon] theorem canon27 (t : Fin grid0.N) (h : k0_cond6 (grid0.coords t) = 1#1) :
    (cc0_scratch4.slice (Rect.unit (s := S3) (k0_off27 (grid0.coords t)) S1.size (k0_off27_inb (grid0.coords t) h))).squeeze S_ squeezes_S1_S_ = cellA (Ring.sl 2 t.val) :=
  cell_at (off27_eq t) _
@[sl_canon] theorem canon27' (t : Fin grid0.N) (h : k0_cond6 (grid0.coords t) = 1#1) :
    (cc0_scratch4.slice (Rect.unit (s := S3) (k0_off27 (grid0.coords t)) ![1] (k0_off27_inb (grid0.coords t) h))).squeeze S_ squeezes_S1_S_ = cellA (Ring.sl 2 t.val) :=
  canon27 t h
@[sl_canon] theorem canon29 (t : Fin grid0.N) (h : k0_cond6 (grid0.coords t) = 1#1) :
    (dqM.slice (Rect.unit (s := S2x128x1024) (k0_off29 (grid0.coords t)) S1x128x1024.size (k0_off29_inb (grid0.coords t) h)) (fun _ => rfl)).squeeze S128x1024 squeezes_S1x128x1024_S128x1024 = tile (Ring.sl 2 t.val) :=
  tile_at (off29_eq t) _
@[sl_canon] theorem canon29' (t : Fin grid0.N) (h : k0_cond6 (grid0.coords t) = 1#1) :
    (dqM.slice (Rect.unit (s := S2x128x1024) (k0_off29 (grid0.coords t)) ![1, 128, 1024] (k0_off29_inb (grid0.coords t) h)) (fun _ => rfl)).squeeze S128x1024 squeezes_S1x128x1024_S128x1024 = tile (Ring.sl 2 t.val) :=
  canon29 t h

theorem off5_eq : ∀ t : Fin grid0.N, k0_off5 (grid0.coords t) = ![(Ring.sl 2 t.val).val, 0, 0] := by decide +kernel
theorem off6_eq : ∀ t : Fin grid0.N, k0_off6 (grid0.coords t) = ![(Ring.sl 2 t.val).val, 0, 128] := by decide +kernel
theorem off7_eq : ∀ t : Fin grid0.N, k0_off7 (grid0.coords t) = ![(Ring.sl 2 t.val).val, 0, 256] := by decide +kernel
theorem off8_eq : ∀ t : Fin grid0.N, k0_off8 (grid0.coords t) = ![(Ring.sl 2 t.val).val, 0, 384] := by decide +kernel
theorem off9_eq : ∀ t : Fin grid0.N, k0_off9 (grid0.coords t) = ![(Ring.sl 2 t.val).val, 0, 512] := by decide +kernel
theorem off10_eq : ∀ t : Fin grid0.N, k0_off10 (grid0.coords t) = ![(Ring.sl 2 t.val).val, 0, 640] := by decide +kernel
theorem off11_eq : ∀ t : Fin grid0.N, k0_off11 (grid0.coords t) = ![(Ring.sl 2 t.val).val, 0, 768] := by decide +kernel
theorem off12_eq : ∀ t : Fin grid0.N, k0_off12 (grid0.coords t) = ![(Ring.sl 2 t.val).val, 0, 896] := by decide +kernel
theorem off13_eq : ∀ t : Fin grid0.N, 1 ≤ t.val → k0_off13 (grid0.coords t) = ![128 * (t.val - 1), 0] := by decide +kernel
theorem off14_eq : ∀ t : Fin grid0.N, 1 ≤ t.val → k0_off14 (grid0.coords t) = ![128 * (t.val - 1), 128] := by decide +kernel
instance (priority := high) closed5 (t : Fin grid0.N) : ClosedOff (k0_off5 (grid0.coords t)) := ⟨_, off5_eq t⟩
instance (priority := high) closed6 (t : Fin grid0.N) : ClosedOff (k0_off6 (grid0.coords t)) := ⟨_, off6_eq t⟩
instance (priority := high) closed7 (t : Fin grid0.N) : ClosedOff (k0_off7 (grid0.coords t)) := ⟨_, off7_eq t⟩
instance (priority := high) closed8 (t : Fin grid0.N) : ClosedOff (k0_off8 (grid0.coords t)) := ⟨_, off8_eq t⟩
instance (priority := high) closed9 (t : Fin grid0.N) : ClosedOff (k0_off9 (grid0.coords t)) := ⟨_, off9_eq t⟩
instance (priority := high) closed10 (t : Fin grid0.N) : ClosedOff (k0_off10 (grid0.coords t)) := ⟨_, off10_eq t⟩
instance (priority := high) closed11 (t : Fin grid0.N) : ClosedOff (k0_off11 (grid0.coords t)) := ⟨_, off11_eq t⟩
instance (priority := high) closed12 (t : Fin grid0.N) : ClosedOff (k0_off12 (grid0.coords t)) := ⟨_, off12_eq t⟩
instance (priority := high) closed13 (t : Fin grid0.N) [h : Fact (1 ≤ t.val)] : ClosedOff (k0_off13 (grid0.coords t)) := ⟨_, off13_eq t h.out⟩
instance (priority := high) closed14 (t : Fin grid0.N) [h : Fact (1 ≤ t.val)] : ClosedOff (k0_off14 (grid0.coords t)) := ⟨_, off14_eq t h.out⟩
theorem coord_val : ∀ t : Fin grid0.N, (grid0.coords t 0).val = t.val := by decide +kernel
instance (priority := high) closed15 (t : Fin grid0.N) : ClosedOff (k0_off15 (grid0.coords t)) :=
  ⟨![128 * t.val, 0], (by decide +kernel : ∀ t : Fin grid0.N, k0_off15 (grid0.coords t) = ![128 * t.val, 0]) t⟩
instance (priority := high) closed16 (t : Fin grid0.N) : ClosedOff (k0_off16 (grid0.coords t)) :=
  ⟨![128 * t.val, 128], (by decide +kernel : ∀ t : Fin grid0.N, k0_off16 (grid0.coords t) = ![128 * t.val, 128]) t⟩
theorem off17_eq : ∀ t : Fin grid0.N, t.val < 63 → k0_off17 (grid0.coords t) = ![128 * (t.val + 1), 0] := by decide +kernel
theorem off18_eq : ∀ t : Fin grid0.N, t.val < 63 → k0_off18 (grid0.coords t) = ![128 * (t.val + 1), 128] := by decide +kernel
instance (priority := high) closed17 (t : Fin grid0.N) [h : Fact (t.val < 63)] : ClosedOff (k0_off17 (grid0.coords t)) := ⟨_, off17_eq t h.out⟩
instance (priority := high) closed18 (t : Fin grid0.N) [h : Fact (t.val < 63)] : ClosedOff (k0_off18 (grid0.coords t)) := ⟨_, off18_eq t h.out⟩

end Cert.Kernel3Ideal.AB

end
-- ==== Proof.AttnBwdRing.lean ====
/- The backward attention call: the ring's resources, held at named contents. -/
module

public import proofs.«01_k».proof.Proof.AttnBwdSetup

@[expose] public section

set_option maxRecDepth 65536

noncomputable section

namespace Cert.Kernel3Ideal.AB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (Pipeline.UD sig nD τ) ℕ

/-- A memref's buffer on core `c`: its contents, and it held whole. -/
abbrev Held (c : Dev nD) {sp : Space} {S : Shape} {e : EltTy} (M : Memref sig .tc sp S e) : Type := Buf (Elt F) (M.view.loc (c : Thread nD τ))
abbrev wholePt (c : Dev nD) {sp : Space} {S : Shape} {e : EltTy} (M : Memref sig .tc sp S e) (f : Held (F := F) c M) : sProp 𝕄 :=
  M.view.loc (c : Thread nD τ) ↦{fullShare} f
abbrev partPt (c : Dev nD) {sp : Space} {S : Shape} {e : EltTy} (M : Memref sig .tc sp S e) (f : Held (F := F) c M) : sProp 𝕄 :=
  M.view.loc (c : Thread nD τ) ↦[M.view.set]{fullShare} f
abbrev tilePt (c : Dev nD) (g : Fin 2) (e : Held (F := F) c (tile g)) : sProp 𝕄 :=
  (tile g).view.loc (c : Thread nD τ) ↦[(tile g).view.set]{fullShare} e
abbrev piecePt (c : Dev nD) (u : Fin 64) (f : Held (F := F) c (piece u)) : sProp 𝕄 :=
  (piece u).view.loc (c : Thread nD τ) ↦[(piece u).view.set]{fullShare} f
abbrev cellPt (c : Dev nD) (g : Fin 2) : sProp 𝕄 := semVal ((c : Thread nD τ), cell g) 0
/-- Step `u`'s copy of tile `g` under way: it will deliver the rows of step `u` at contents `X`, and the tile. -/
abbrev flightPt (c : Dev nD) (g : Fin 2) (u : Fin 64) (X : Held (F := F) c (piece u)) : sProp 𝕄 :=
  iprop(∃ e, Transfers.Flight countersEmb (c : Thread nD τ) (cell g) default ((piece u).view.amount (cell g)) iprop(piecePt c u X ∗ tilePt c g e))

/-- The ten input blocks of a step, each staged at its contents. -/
abbrev blocks (c : Dev nD)
    (arg1 : Memref sig .tc .smem S1x16 .f32) (arg2 : Memref sig .tc .vmem S128x1024 .bf16)
    (arg3 arg4 arg5 arg6 arg7 arg8 : Memref sig .tc .vmem S128x256 .bf16)
    (arg9 : Memref sig .tc .vmem S128x1024 .bf16) (arg10 : Memref sig .tc .vmem S1x128x1024 .bf16)
    (x1 : Vec F S1x16 .f32) (x2 : Vec F S128x1024 .bf16) (x3 x4 x5 x6 x7 x8 : Vec F S128x256 .bf16) (x9 : Vec F S128x1024 .bf16)
    (x10 : Vec F S1x128x1024 .bf16) : sProp 𝕄 :=
  iprop(owns (c : Thread nD τ) arg1 fullShare x1 ∗ owns (c : Thread nD τ) arg2 fullShare x2 ∗ owns (c : Thread nD τ) arg3 fullShare x3
    ∗ owns (c : Thread nD τ) arg4 fullShare x4 ∗ owns (c : Thread nD τ) arg5 fullShare x5 ∗ owns (c : Thread nD τ) arg6 fullShare x6
    ∗ owns (c : Thread nD τ) arg7 fullShare x7 ∗ owns (c : Thread nD τ) arg8 fullShare x8 ∗ owns (c : Thread nD τ) arg9 fullShare x9
    ∗ owns (c : Thread nD τ) arg10 fullShare x10)

end Cert.Kernel3Ideal.AB

end
-- ==== Proof.AttnBwdInv.lean ====
/- The backward attention call: what holds between two steps. The ring of two tiles that carries `dq` out, the sums of `dk` and `dv`, and
   the result's buffer cut into the blocks the copies write. -/
module

public import proofs.«01_k».proof.Proof.AttnBwdRing
public import proofs.«01_k».proof.Proof.Gen.Kernel3Ideal.Frame

@[expose] public section

set_option maxRecDepth 65536

noncomputable section

namespace Cert.Kernel3Ideal.AB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (Pipeline.UD sig nD τ) ℕ

/-! ## The ring -/

/-- A tile and its cell at rest; a tile's copy under way; the rows of one step at hand. -/
abbrev free (c : Dev nD) (g : Fin 2) : sProp 𝕄 := iprop(cellPt (F := F) c g ∗ ∃ e, tilePt c g e)
abbrev infl (c : Dev nD) (g : Fin 2) (u : Fin 64) : sProp 𝕄 := iprop(∃ X, flightPt (F := F) c g u X)
abbrev home (c : Dev nD) (u : Fin 64) : sProp 𝕄 := iprop(∃ f, piecePt (F := F) c u f)
def ringAt (c : Dev nD) (k : ℕ) : sProp 𝕄 := Ring.AtBΦ 2 (free (F := F) c) (infl c) (home c) (home c) k

/-- The tiles' buffer outside the tiles (nothing), and the result outside the copied blocks. -/
abbrev tileSpare (c : Dev nD) : sProp 𝕄 := iprop(∃ f : Buf (Elt F) ((c : Thread nD τ).loc cc0_scratch2), ((c : Thread nD τ).loc cc0_scratch2) ↦[Finset.univ \ Finset.univ.biUnion tileSet]{fullShare} f)
abbrev outSpare (c : Dev nD) : sProp 𝕄 := iprop(∃ f : Buf (Elt F) ((c : Thread nD τ).loc main_v101_0), ((c : Thread nD τ).loc main_v101_0) ↦[(Finset.univ \ Finset.univ.biUnion pieceSet) \ kvSet]{fullShare} f)

theorem tilePt_eq (c : Dev nD) (g : Fin 2) (e) : tilePt (F := F) c g e = (((c : Thread nD τ).loc cc0_scratch2) ↦[tileSet g]{fullShare} e : sProp 𝕄) := by
  unfold tilePt; rw [tile_set]; rfl
theorem piecePt_eq (c : Dev nD) (u : Fin 64) (f) : piecePt (F := F) c u f = (((c : Thread nD τ).loc main_v101_0) ↦[pieceSet u]{fullShare} f : sProp 𝕄) := by
  unfold piecePt; rw [piece_set]; rfl
theorem kvPt_eq (c : Dev nD) (f) : partPt (F := F) c kvW f = (((c : Thread nD τ).loc main_v101_0) ↦[kvSet]{fullShare} f : sProp 𝕄) := by
  unfold partPt; rw [kv_set]
theorem kv_spare : kvSet ⊆ Finset.univ \ Finset.univ.biUnion pieceSet := fun i hi =>
  Finset.mem_sdiff.mpr ⟨Finset.mem_univ _, fun h => by
    obtain ⟨u, -, hu⟩ := Finset.mem_biUnion.mp h
    exact Finset.disjoint_left.mp (pieces_kv_disjoint u) hu hi⟩

theorem cells_eq (c : Dev nD) : (bigSep Finset.univ (fun g : Fin 2 => cellPt (F := F) c g) : sProp 𝕄)
    = iprop(semVal ((c : Thread nD τ), SemLoc.dma 20) 0 ∗ semVal ((c : Thread nD τ), SemLoc.dma 21) 0) := by
  rw [BI.bigSep_eq_bigSepL_of_eq [0, 1] (by decide) (by decide)]
  simp only [BI.bigSepL_cons_cons, BI.bigSepL_singleton, cellPt, cell_zero, cell_one]; rfl
theorem frees_eq (c : Dev nD) : iprop(bigSep Finset.univ (fun g : Fin 2 => cellPt (F := F) c g) ∗ bigSep Finset.univ (fun g : Fin 2 => iprop(∃ e, tilePt (F := F) c g e)))
    = (bigSep Finset.univ (free (F := F) c) : sProp 𝕄) :=
  (BI.bigSep_sep Finset.univ (fun g : Fin 2 => cellPt (F := F) c g) (fun g : Fin 2 => iprop(∃ e, tilePt (F := F) c g e))).symm

/-- The buffers a ring is made of. -/
abbrev ringParts (c : Dev nD) : sProp 𝕄 :=
  iprop((∃ f : Buf (Elt F) ((c : Thread nD τ).loc cc0_scratch2), ((c : Thread nD τ).loc cc0_scratch2) ↦{fullShare} f)
    ∗ (semVal ((c : Thread nD τ), SemLoc.dma 20) 0 ∗ semVal ((c : Thread nD τ), SemLoc.dma 21) 0)
    ∗ (∃ f : Buf (Elt F) ((c : Thread nD τ).loc main_v101_0), ((c : Thread nD τ).loc main_v101_0) ↦{fullShare} f))

theorem ring_in (c : Dev nD) : ringParts (F := F) c
    ⊢ iprop(ringAt (F := F) c 0 ∗ tileSpare (F := F) c ∗ (∃ f, partPt (F := F) c kvW f) ∗ outSpare (F := F) c) := by
  unfold ringAt; rw [Ring.AtBΦ_lt _ _ _ _ _ 0 (by decide), Ring.AtB_zero]; unfold Ring.AtB₀
  rw [← frees_eq, cells_eq]
  iintro ⟨HS, HQ, HD⟩
  ihave HS' := (Ring.pieces_split_spare (U := Pipeline.UD sig nD τ) (ℓ := (c : Thread nD τ).loc cc0_scratch2) (q := fullShare) tileSet tiles_disjoint
    (fun g e => tilePt (F := F) c g e) (fun g e => tilePt_eq c g e)) $$ HS
  icases HS' with ⟨HT, HTsp⟩
  ihave HD' := (Ring.pieces_split_spare (U := Pipeline.UD sig nD τ) (ℓ := (c : Thread nD τ).loc main_v101_0) (q := fullShare) pieceSet pieces_disjoint
    (fun u f => piecePt (F := F) c u f) (fun u f => piecePt_eq c u f)) $$ HD
  icases HD' with ⟨HP, ⟨%f, HPsp⟩⟩
  ihave HK := (pointsTo_split_subset (q := fullShare) (f := f) kv_spare).1 $$ HPsp
  icases HK with ⟨HK, HO⟩
  isplitl [HP HQ HT]
  · isplitl [HP]; · iexact HP
    isplitl [HQ]; · iexact HQ
    iexact HT
  isplitl [HTsp]; · iexact HTsp
  isplitl [HK]
  · iexists f; iapply (Entails.of_eq (kvPt_eq (F := F) c f).symm); iexact HK
  iexists f; iexact HO

theorem ring_out (c : Dev nD) : iprop(ringAt (F := F) c 64 ∗ tileSpare (F := F) c ∗ (∃ f, partPt (F := F) c kvW f) ∗ outSpare (F := F) c)
    ⊢ ringParts (F := F) c := by
  unfold ringAt; rw [Ring.AtBΦ_ge _ _ _ _ _ 64 (by decide), Ring.AtBEnd_frame]; unfold Ring.AtB₀
  rw [← frees_eq, cells_eq]
  iintro ⟨⟨HP, HQ, HT⟩, HTsp, ⟨%f, HK⟩, ⟨%g, HO⟩⟩
  ihave HK := (Entails.of_eq (kvPt_eq (F := F) c f)) $$ HK
  isplitl [HT HTsp]
  · iapply (Ring.pieces_join_spare (U := Pipeline.UD sig nD τ) (ℓ := (c : Thread nD τ).loc cc0_scratch2) (q := fullShare) tileSet tiles_disjoint
      (fun g e => tilePt (F := F) c g e) (fun g e => tilePt_eq c g e))
    isplitl [HT]; · iexact HT
    iexact HTsp
  isplitl [HQ]; · iexact HQ
  iapply (Ring.pieces_join_spare (U := Pipeline.UD sig nD τ) (ℓ := (c : Thread nD τ).loc main_v101_0) (q := fullShare) pieceSet pieces_disjoint
    (fun u f => piecePt (F := F) c u f) (fun u f => piecePt_eq c u f))
  isplitl [HP]; · iexact HP
  iexists _
  iapply (pointsTo_join_subset (q := fullShare) (f := g) (g := f) kv_spare)
  isplitl [HK]; · iexact HK
  iexact HO

/-! ## The own cells and buffers of the call -/

abbrev osem0 : Fin 3 → SemLoc sig := ![SemLoc.dma 20, SemLoc.dma 21, SemLoc.dma 22]
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 20) 0 ∗ semVal ((c : Thread nD τ), SemLoc.dma 21) 0 ∗ semVal ((c : Thread nD τ), SemLoc.dma 22) 0) := by
  rw [Pipeline.ownSems0_eq_of_list c osem0 [0, 1, 2] (by decide) (by decide)]; rfl
def R0 : Finset (Ref sig .tc) := {main_v101_0}
theorem R0_sub : R0 ⊆ Pipeline.restRefs sig spec0 \ ∅ := by decide
theorem none_sub : (∅ : Finset (Ref sig .tc)) ⊆ Pipeline.restRefs sig spec0 := by decide
theorem owned_eq (c : Dev nD) : (Pipeline.owned R0 c : sProp 𝕄)
    = iprop(∃ f : Buf (Elt F) ((c : Thread nD τ).loc main_v101_0), ((c : Thread nD τ).loc main_v101_0) ↦{fullShare} f) := by
  unfold Pipeline.owned; rw [BI.bigSep_eq_bigSepL_of_eq [main_v101_0] (by decide) (by decide)]; rfl

variable (m : (ℓ : Loc nD τ sig) → Buf (Elt F) ℓ)

theorem PhiDR_eq (c : Dev nD) : (Pipeline.ΦDR osem0 spec0 ∅ R0 (V m) c : sProp 𝕄)
    = iprop(iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f))
      ∗ (∃ r, prngReg c r)
      ∗ iprop(semVal ((c : Thread nD τ), SemLoc.dma 20) 0 ∗ semVal ((c : Thread nD τ), SemLoc.dma 21) 0 ∗ semVal ((c : Thread nD τ), SemLoc.dma 22) 0)
      ∗ emp ∗ iprop(∃ f : Buf (Elt F) ((c : Thread nD τ).loc main_v101_0), ((c : Thread nD τ).loc main_v101_0) ↦{fullShare} f)) := by
  rw [Pipeline.ΦDR_eq, scopedRest0_eq, ownSems_eq, owned_eq, BI.bigSep_empty]; rfl

/-- What holds before step `k`, beside the blocks staged for it. -/
def Phi (c : Dev nD) (k : ℕ) : sProp 𝕄 :=
  iprop((∃ r, prngReg c r) ∗ semVal ((c : Thread nD τ), SemLoc.dma 22) 0
    ∗ (∃ f, partPt (F := F) c dkM f) ∗ (∃ f, partPt (F := F) c dvM f) ∗ (∃ f, partPt (F := F) c kvM f) ∗ (∃ f, partPt (F := F) c kvW f)
    ∗ ringAt (F := F) c k ∗ tileSpare (F := F) c ∗ outSpare (F := F) c)

theorem phi_in (c : Dev nD) : (Pipeline.ΦDR osem0 spec0 ∅ R0 (V m) c : sProp 𝕄) ⊢ Phi (F := F) c 0 := by
  rw [PhiDR_eq]; unfold Phi
  iintro ⟨⟨H14, H15, HS, H17⟩, Hg, ⟨H20, H21, H22⟩, -, HD⟩
  ihave HR := (ring_in (F := F) c) $$ [HS H20 H21 HD]
  · isplitl [HS]; · iexact HS
    isplitl [H20 H21]
    · isplitl [H20]; · iexact H20
      iexact H21
    iexact HD
  icases HR with ⟨HR, HT, HK, HO⟩
  isplitl [Hg]; · iexact Hg
  isplitl [H22]; · iexact H22
  isplitl [H14]; · simp only [partPt, Memref.view_whole, View.set_whole]; iexact H14
  isplitl [H15]; · simp only [partPt, Memref.view_whole, View.set_whole]; iexact H15
  isplitl [H17]; · simp only [partPt, Memref.view_whole, View.set_whole]; iexact H17
  isplitl [HK]; · iexact HK
  isplitl [HR]; · iexact HR
  isplitl [HT]; · iexact HT
  iexact HO

theorem phi_out (c : Dev nD) : Phi (F := F) c 64 ⊢ (Pipeline.ΦDR osem0 spec0 ∅ R0 (V m) c : sProp 𝕄) := by
  rw [PhiDR_eq]; unfold Phi
  iintro ⟨Hg, H22, H14, H15, H17, HK, HR, HT, HO⟩
  ihave HP := (ring_out (F := F) c) $$ [HR HT HK HO]
  · isplitl [HR]; · iexact HR
    isplitl [HT]; · iexact HT
    isplitl [HK]; · iexact HK
    iexact HO
  icases HP with ⟨HS, ⟨H20, H21⟩, HD⟩
  isplitl [H14 H15 HS H17]
  · isplitl [H14]; · simp only [partPt, Memref.view_whole, View.set_whole]; iexact H14
    isplitl [H15]; · simp only [partPt, Memref.view_whole, View.set_whole]; iexact H15
    isplitl [HS]; · iexact HS
    simp only [partPt, Memref.view_whole, View.set_whole]; iexact H17
  isplitl [Hg]; · iexact Hg
  isplitl [H20 H21 H22]
  · isplitl [H20]; · iexact H20
    isplitl [H21]; · iexact H21
    iexact H22
  isplitr; · iempintro
  iexact HD

end Cert.Kernel3Ideal.AB

end
-- ==== Proof.AttnBwdLoop.lean ====
/- The backward attention call: the last step's loop, which rounds the sums of `dk` and `dv` into one array. -/
module

public import proofs.«01_k».proof.Proof.AttnBwdRing
public import proofs.«01_k».proof.Proof.Gen.Kernel3Ideal.Loops

@[expose] public section

set_option maxRecDepth 65536

noncomputable section

namespace Cert.Kernel3Ideal.AB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (Pipeline.UD sig nD τ) ℕ

variable (c : Dev nD) (E : Set ℕ) (i : grid0.Coords)
  (arg1 : Memref sig .tc .smem S1x16 .f32) (harg1 : arg1.IsWhole)
  (arg2 : Memref sig .tc .vmem S128x1024 .bf16) (harg2 : arg2.IsWhole)
  (arg3 : Memref sig .tc .vmem S128x256 .bf16) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x256 .bf16) (harg6 : arg6.IsWhole)
  (arg7 : Memref sig .tc .vmem S128x256 .bf16) (harg7 : arg7.IsWhole)
  (arg8 : Memref sig .tc .vmem S128x256 .bf16) (harg8 : arg8.IsWhole)
  (arg9 : Memref sig .tc .vmem S128x1024 .bf16) (harg9 : arg9.IsWhole)
  (arg10 : Memref sig .tc .vmem S1x128x1024 .bf16) (harg10 : arg10.IsWhole)
  (arg11 : Memref sig .tc .hbm S8192x5632 .bf16) (harg11 : arg11.IsWhole)
  (arg12 : Memref sig .tc .hbm S8192x5632 .bf16) (harg12 : arg12.IsWhole)
  (arg13 : Memref sig .tc .vmem S16x128 .f32) (harg13 : arg13.IsWhole)
  (arg14 : Memref sig .tc .vmem S8192x256 .f32) (harg14 : arg14.IsWhole)
  (arg15 : Memref sig .tc .vmem S8192x256 .f32) (harg15 : arg15.IsWhole)
  (arg16 : Memref sig .tc .vmem S2x128x1024 .bf16) (harg16 : arg16.IsWhole)
  (arg17 : Memref sig .tc .vmem S8192x512 .bf16) (harg17 : arg17.IsWhole)
  (arg18 : DmaSems sig S3)
  (arg0 : BitVec 32) (k0_h6 : k0_cond6 i = 1#1)
  (X14 : Held (F := F) c arg14) (X15 : Held (F := F) c arg15) (G : Held (F := F) c arg17)

/-- The three buffers the loop works on. -/
abbrev loopPt (c : Dev nD) (arg14 arg15 : Memref sig .tc .vmem S8192x256 .f32) (arg17 : Memref sig .tc .vmem S8192x512 .bf16)
    (X14 : Held (F := F) c arg14) (X15 : Held (F := F) c arg15) (f : Held (F := F) c arg17) : sProp 𝕄 :=
  iprop(partPt c arg14 X14 ∗ partPt c arg15 X15 ∗ partPt c arg17 f)

/-- One turn of the loop: what it writes into the third buffer is found by its run. -/
@[irreducible] def turn (k : Fin k0_t1_loop.trips) :
    { L : List (View.Piece (Elt F) S8192x512 .bf16) // ∀ (E : Set ℕ) (f : Held (F := F) c arg17),
      loopPt c arg14 arg15 arg17 X14 X15 f
      ⊢ wp Idealize.ShloMosaic.frame (wpE (defs₀ (F := F)) Variants.none (c : Thread nD τ) none) E
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg0 k0_h6 k PUnit.unit)
          (fun _ => loopPt c arg14 arg15 arg17 X14 X15 (arg17.view.writes (Elt F) f L)) } := by
  have hk : k.val < 16 := Nat.lt_of_lt_of_le k.isLt k0_t1_abs.2.1
  refine ⟨?_, fun E f => ?run⟩
  case run =>
    unfold k0_t1_body
    iintro ⟨H14, H15, H17⟩
    sl_exec
    sl_step
    sl_close

/-- What the turns before `k` have written, last first. -/
def turns : ℕ → List (View.Piece (Elt F) S8192x512 .bf16)
  | 0 => []
  | k + 1 => if h : k < k0_t1_loop.trips then (turn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg0 k0_h6 X14 X15 ⟨k, h⟩).1 ++ turns k else turns k

theorem turns_succ (k : Fin k0_t1_loop.trips) :
    turns c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg0 k0_h6 X14 X15 (k.val + 1) = (turn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg0 k0_h6 X14 X15 k).1 ++ turns c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg0 k0_h6 X14 X15 k.val := by
  rw [turns]; exact dif_pos k.isLt

set_option warn.classDefReducibility false in
/-- The loop, by what it has written before each turn. -/
@[sl_loop] def loopInv : LoopInvTy_k0_t1 (F := F) Unit ℕ (Pipeline.UD sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg0 k0_h6 where
  inv := fun k _ => iprop(partPt c arg14 X14 ∗ partPt c arg15 X15 ∗ ∃ f, partPt c arg17 f ∗ ⌜f = arg17.view.writes (Elt F) G (turns c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg0 k0_h6 X14 X15 k)⌝)
  step k acc := by
    iintro ⟨H14, H15, ⟨%f, H17, %hf⟩⟩
    iapply (wp_wand_r Idealize.ShloMosaic.frame (wpE (defs₀ (F := F)) Variants.none (c : Thread nD τ) none) E)
    isplitl [H14 H15 H17]
    · iapply ((turn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg0 k0_h6 X14 X15 k).2 E f)
      isplitl [H14]; · iexact H14
      isplitl [H15]; · iexact H15
      iexact H17
    · iintro %_ ⟨H14, H15, H17⟩
      isplitl [H14]; · iexact H14
      isplitl [H15]; · iexact H15
      rw [turns_succ]
      iexists _; isplitl [H17]; · iexact H17
      ipureintro; rw [hf, ← View.writes_append]

end Cert.Kernel3Ideal.AB

end
-- ==== Proof.AttnBwdRunA.lean ====
/- The backward attention call: the run of the first step: the sums start at zero, nothing is waited for. -/
module

public import proofs.«01_k».proof.Proof.AttnBwdRing

@[expose] public section

set_option maxRecDepth 65536

noncomputable section

namespace Cert.Kernel3Ideal.AB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (Pipeline.UD sig nD τ) ℕ

variable (c : Dev nD) (t : Fin cfg0.N) (arg1 : Memref sig .tc .smem S1x16 .f32) (harg1 : arg1.IsWhole)
  (arg2 : Memref sig .tc .vmem S128x1024 .bf16) (harg2 : arg2.IsWhole)
  (arg3 : Memref sig .tc .vmem S128x256 .bf16) (harg3 : arg3.IsWhole) (arg4 : Memref sig .tc .vmem S128x256 .bf16) (harg4 : arg4.IsWhole)
  (arg5 : Memref sig .tc .vmem S128x256 .bf16) (harg5 : arg5.IsWhole) (arg6 : Memref sig .tc .vmem S128x256 .bf16) (harg6 : arg6.IsWhole)
  (arg7 : Memref sig .tc .vmem S128x256 .bf16) (harg7 : arg7.IsWhole) (arg8 : Memref sig .tc .vmem S128x256 .bf16) (harg8 : arg8.IsWhole)
  (arg9 : Memref sig .tc .vmem S128x1024 .bf16) (harg9 : arg9.IsWhole) (arg10 : Memref sig .tc .vmem S1x128x1024 .bf16) (harg10 : arg10.IsWhole)
  (arg13 : Memref sig .tc .vmem S16x128 .f32) (harg13 : arg13.IsWhole)
  (arg14 : Memref sig .tc .vmem S8192x256 .f32) (harg14 : arg14.IsWhole) (arg15 : Memref sig .tc .vmem S8192x256 .f32) (harg15 : arg15.IsWhole)
  (arg17 : Memref sig .tc .vmem S8192x512 .bf16) (harg17 : arg17.IsWhole)

set_option maxHeartbeats 4000000 in
/-- The body's run at the first step: the sums start at zero, nothing is waited for. It leaves every buffer it holds at some contents. -/
theorem runA (h1 : ¬k0_cond1 (grid0.coords t) = 1#1) (h2 : first (grid0.coords t)) (h3 : ¬k0_cond3 (grid0.coords t) = 1#1) (h5 : k0_cond5 (grid0.coords t) = 1#1) (h6 : ¬k0_cond6 (grid0.coords t) = 1#1)
  (x1 : Vec F S1x16 .f32) (x2 : Vec F S128x1024 .bf16) (x3 x4 x5 x6 x7 x8 : Vec F S128x256 .bf16) (x9 : Vec F S128x1024 .bf16)
  (x10 : Vec F S1x128x1024 .bf16)
    (d13 : Vec F S16x128 .f32) (f14 : Held (F := F) c arg14) (f15 : Held (F := F) c arg15)
    :
      ∀ (W : Waits sig Unit) (K : PUnit → sProp 𝕄) (e : Held (F := F) c (tile (Ring.sl 2 t.val))) (f : Held (F := F) c (piece (Ring.bk 64 t.val))),
        iprop(blocks c arg1 arg2 arg3 arg4 arg5 arg6 arg7 arg8 arg9 arg10 x1 x2 x3 x4 x5 x6 x7 x8 x9 x10
          ∗ owns (c : Thread nD τ) arg13 fullShare d13 ∗ partPt c arg14 f14 ∗ partPt c arg15 f15
          ∗ piecePt c (Ring.bk 64 t.val) f ∗ cellPt c (Ring.sl 2 t.val) ∗ tilePt c (Ring.sl 2 t.val) e
          ∗ owes (c : Thread nD τ) 0 W
          ∗ (iprop(blocks c arg1 arg2 arg3 arg4 arg5 arg6 arg7 arg8 arg9 arg10 x1 x2 x3 x4 x5 x6 x7 x8 x9 x10
          ∗ (∃ f, arg13.view.loc (c : Thread nD τ) ↦[arg13.view.set]{fullShare} f)
          ∗ (∃ f, partPt c arg14 f) ∗ (∃ f, partPt c arg15 f)
          ∗ (∃ X e', Transfers.Flight countersEmb (c : Thread nD τ) (cell (Ring.sl 2 t.val)) default ((piece (Ring.bk 64 t.val)).view.amount (cell (Ring.sl 2 t.val))) iprop(piecePt c (Ring.bk 64 t.val) X ∗ tilePt c (Ring.sl 2 t.val) e'))
          ∗ (∃ W', owes (c : Thread nD τ) 0 W')) -∗ K ⟨⟩))
        ⊢ wp frame (wpE (defs₀ (F := F)) Variants.none c none) Set.univ
          (cc0_attn_bwd (grid0.coords t) arg1 harg1 arg2 harg2 arg3 harg3 arg4 harg4 arg5 harg5 arg6 harg6 arg7 harg7 arg8 harg8 arg9 harg9 arg10 harg10
            outM (Memref.isWhole_whole _) outM (Memref.isWhole_whole _) arg13 harg13 arg14 harg14 arg15 harg15
            dqM (Memref.isWhole_whole _) arg17 harg17 cc0_scratch4) K := by
  have h4 : k0_cond4 (grid0.coords t) = 1#1 := cond4_all t
  haveI : Fact (t.val < 63) := ⟨(cond5_iff t).mp h5⟩
  haveI : Fact (¬k0_cond1 (grid0.coords t) = 1#1) := ⟨h1⟩
  haveI : Fact (first (grid0.coords t)) := ⟨h2⟩
  haveI : Fact (¬k0_cond3 (grid0.coords t) = 1#1) := ⟨h3⟩
  haveI : Fact (k0_cond5 (grid0.coords t) = 1#1) := ⟨h5⟩
  haveI : Fact (¬k0_cond6 (grid0.coords t) = 1#1) := ⟨h6⟩
  haveI : Fact (k0_cond4 (grid0.coords t) = 1#1) := ⟨h4⟩
  have hcanon0 := canon4 t
  have hcanon1 := canon4' t
  intro W K e f
  unfold blocks owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩⟩, ⟨%f13, %hf13, H13⟩, H14, H15, Hp, Hc, HT, HW, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg13.eq_unread hf13
  simp only [cc0_attn_bwd_eq_skeleton]; unfold cc0_attn_bwd_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  sl_exec (disch := first | sl_exact h1 | sl_exact h2 | sl_exact h3 | sl_exact h4 | sl_exact h5 | sl_exact h6)
  sl_step
  iapply Hk
  isplitl [H1 H2 H3 H4 H5 H6 H7 H8 H9 H10]
  · sl_close
  isplitl [H13]; · iexists _; iexact H13
  isplitl [H14]; · iexists _; iexact H14
  isplitl [H15]; · iexists _; iexact H15
  isplitl [Hc]; · iexists _; iexists _; iexact Hc
  iexists _; iexact HW

end Cert.Kernel3Ideal.AB

end
-- ==== Proof.AttnBwdRunB.lean ====
/- The backward attention call: the run of the second step: nothing is waited for. -/
module

public import proofs.«01_k».proof.Proof.AttnBwdRunA

@[expose] public section

set_option maxRecDepth 65536

noncomputable section

namespace Cert.Kernel3Ideal.AB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (Pipeline.UD sig nD τ) ℕ

variable (c : Dev nD) (t : Fin cfg0.N) (arg1 : Memref sig .tc .smem S1x16 .f32) (harg1 : arg1.IsWhole)
  (arg2 : Memref sig .tc .vmem S128x1024 .bf16) (harg2 : arg2.IsWhole)
  (arg3 : Memref sig .tc .vmem S128x256 .bf16) (harg3 : arg3.IsWhole) (arg4 : Memref sig .tc .vmem S128x256 .bf16) (harg4 : arg4.IsWhole)
  (arg5 : Memref sig .tc .vmem S128x256 .bf16) (harg5 : arg5.IsWhole) (arg6 : Memref sig .tc .vmem S128x256 .bf16) (harg6 : arg6.IsWhole)
  (arg7 : Memref sig .tc .vmem S128x256 .bf16) (harg7 : arg7.IsWhole) (arg8 : Memref sig .tc .vmem S128x256 .bf16) (harg8 : arg8.IsWhole)
  (arg9 : Memref sig .tc .vmem S128x1024 .bf16) (harg9 : arg9.IsWhole) (arg10 : Memref sig .tc .vmem S1x128x1024 .bf16) (harg10 : arg10.IsWhole)
  (arg13 : Memref sig .tc .vmem S16x128 .f32) (harg13 : arg13.IsWhole)
  (arg14 : Memref sig .tc .vmem S8192x256 .f32) (harg14 : arg14.IsWhole) (arg15 : Memref sig .tc .vmem S8192x256 .f32) (harg15 : arg15.IsWhole)
  (arg17 : Memref sig .tc .vmem S8192x512 .bf16) (harg17 : arg17.IsWhole)

set_option maxHeartbeats 4000000 in
/-- The body's run at the second step: nothing is waited for. It leaves every buffer it holds at some contents. -/
theorem runB (h1 : ¬k0_cond1 (grid0.coords t) = 1#1) (h2 : ¬first (grid0.coords t)) (h3 : k0_cond3 (grid0.coords t) = 1#1) (h5 : k0_cond5 (grid0.coords t) = 1#1) (h6 : ¬k0_cond6 (grid0.coords t) = 1#1)
  (x1 : Vec F S1x16 .f32) (x2 : Vec F S128x1024 .bf16) (x3 x4 x5 x6 x7 x8 : Vec F S128x256 .bf16) (x9 : Vec F S128x1024 .bf16)
  (x10 : Vec F S1x128x1024 .bf16)
    (d13 : Vec F S16x128 .f32) (f14 : Held (F := F) c arg14) (f15 : Held (F := F) c arg15)
    :
      ∀ (W : Waits sig Unit) (K : PUnit → sProp 𝕄) (e : Held (F := F) c (tile (Ring.sl 2 t.val))) (f : Held (F := F) c (piece (Ring.bk 64 t.val))) ,
        iprop(blocks c arg1 arg2 arg3 arg4 arg5 arg6 arg7 arg8 arg9 arg10 x1 x2 x3 x4 x5 x6 x7 x8 x9 x10
          ∗ owns (c : Thread nD τ) arg13 fullShare d13 ∗ partPt c arg14 f14 ∗ partPt c arg15 f15
          ∗ piecePt c (Ring.bk 64 t.val) f ∗ cellPt c (Ring.sl 2 t.val) ∗ tilePt c (Ring.sl 2 t.val) e
          ∗ owes (c : Thread nD τ) 0 W
          ∗ (iprop(blocks c arg1 arg2 arg3 arg4 arg5 arg6 arg7 arg8 arg9 arg10 x1 x2 x3 x4 x5 x6 x7 x8 x9 x10
          ∗ (∃ f, arg13.view.loc (c : Thread nD τ) ↦[arg13.view.set]{fullShare} f)
          ∗ (∃ f, partPt c arg14 f) ∗ (∃ f, partPt c arg15 f)
          ∗ (∃ X e', Transfers.Flight countersEmb (c : Thread nD τ) (cell (Ring.sl 2 t.val)) default ((piece (Ring.bk 64 t.val)).view.amount (cell (Ring.sl 2 t.val))) iprop(piecePt c (Ring.bk 64 t.val) X ∗ tilePt c (Ring.sl 2 t.val) e'))
          ∗ (∃ W', owes (c : Thread nD τ) 0 W')) -∗ K ⟨⟩))
        ⊢ wp frame (wpE (defs₀ (F := F)) Variants.none c none) Set.univ
          (cc0_attn_bwd (grid0.coords t) arg1 harg1 arg2 harg2 arg3 harg3 arg4 harg4 arg5 harg5 arg6 harg6 arg7 harg7 arg8 harg8 arg9 harg9 arg10 harg10
            outM (Memref.isWhole_whole _) outM (Memref.isWhole_whole _) arg13 harg13 arg14 harg14 arg15 harg15
            dqM (Memref.isWhole_whole _) arg17 harg17 cc0_scratch4) K := by
  have h4 : k0_cond4 (grid0.coords t) = 1#1 := cond4_all t
  haveI : Fact (t.val < 63) := ⟨(cond5_iff t).mp h5⟩
  haveI : Fact (1 ≤ t.val) := ⟨(cond3_iff t).mp h3⟩
  haveI : Fact (¬k0_cond1 (grid0.coords t) = 1#1) := ⟨h1⟩
  haveI : Fact (¬first (grid0.coords t)) := ⟨h2⟩
  haveI : Fact (k0_cond3 (grid0.coords t) = 1#1) := ⟨h3⟩
  haveI : Fact (k0_cond5 (grid0.coords t) = 1#1) := ⟨h5⟩
  haveI : Fact (¬k0_cond6 (grid0.coords t) = 1#1) := ⟨h6⟩
  haveI : Fact (k0_cond4 (grid0.coords t) = 1#1) := ⟨h4⟩
  have hcanon0 := canon4 t
  have hcanon1 := canon4' t
  intro W K e f
  unfold blocks owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩⟩, ⟨%f13, %hf13, H13⟩, H14, H15, Hp, Hc, HT, HW, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg13.eq_unread hf13
  simp only [cc0_attn_bwd_eq_skeleton]; unfold cc0_attn_bwd_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  sl_exec (disch := first | sl_exact h1 | sl_exact h2 | sl_exact h3 | sl_exact h4 | sl_exact h5 | sl_exact h6)
  sl_step
  iapply Hk
  isplitl [H1 H2 H3 H4 H5 H6 H7 H8 H9 H10]
  · sl_close
  isplitl [H13]; · iexists _; iexact H13
  isplitl [H14]; · iexists _; iexact H14
  isplitl [H15]; · iexists _; iexact H15
  isplitl [Hc]; · iexists _; iexists _; iexact Hc
  iexists _; iexact HW

end Cert.Kernel3Ideal.AB

end
-- ==== Proof.AttnBwdRunC.lean ====
/- The backward attention call: the run of a middle step: the copy of two steps before is waited for. -/
module

public import proofs.«01_k».proof.Proof.AttnBwdRunB

@[expose] public section

set_option maxRecDepth 65536

noncomputable section

namespace Cert.Kernel3Ideal.AB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (Pipeline.UD sig nD τ) ℕ

variable (c : Dev nD) (t : Fin cfg0.N) (arg1 : Memref sig .tc .smem S1x16 .f32) (harg1 : arg1.IsWhole)
  (arg2 : Memref sig .tc .vmem S128x1024 .bf16) (harg2 : arg2.IsWhole)
  (arg3 : Memref sig .tc .vmem S128x256 .bf16) (harg3 : arg3.IsWhole) (arg4 : Memref sig .tc .vmem S128x256 .bf16) (harg4 : arg4.IsWhole)
  (arg5 : Memref sig .tc .vmem S128x256 .bf16) (harg5 : arg5.IsWhole) (arg6 : Memref sig .tc .vmem S128x256 .bf16) (harg6 : arg6.IsWhole)
  (arg7 : Memref sig .tc .vmem S128x256 .bf16) (harg7 : arg7.IsWhole) (arg8 : Memref sig .tc .vmem S128x256 .bf16) (harg8 : arg8.IsWhole)
  (arg9 : Memref sig .tc .vmem S128x1024 .bf16) (harg9 : arg9.IsWhole) (arg10 : Memref sig .tc .vmem S1x128x1024 .bf16) (harg10 : arg10.IsWhole)
  (arg13 : Memref sig .tc .vmem S16x128 .f32) (harg13 : arg13.IsWhole)
  (arg14 : Memref sig .tc .vmem S8192x256 .f32) (harg14 : arg14.IsWhole) (arg15 : Memref sig .tc .vmem S8192x256 .f32) (harg15 : arg15.IsWhole)
  (arg17 : Memref sig .tc .vmem S8192x512 .bf16) (harg17 : arg17.IsWhole)

set_option maxHeartbeats 4000000 in
/-- The body's run at a middle step: the copy of two steps before is waited for. It leaves every buffer it holds at some contents. -/
theorem runC (h1 : k0_cond1 (grid0.coords t) = 1#1) (h2 : ¬first (grid0.coords t)) (h3 : k0_cond3 (grid0.coords t) = 1#1) (h5 : k0_cond5 (grid0.coords t) = 1#1) (h6 : ¬k0_cond6 (grid0.coords t) = 1#1)
  (x1 : Vec F S1x16 .f32) (x2 : Vec F S128x1024 .bf16) (x3 x4 x5 x6 x7 x8 : Vec F S128x256 .bf16) (x9 : Vec F S128x1024 .bf16)
  (x10 : Vec F S1x128x1024 .bf16)
    (d13 : Vec F S16x128 .f32) (f14 : Held (F := F) c arg14) (f15 : Held (F := F) c arg15)
    :
      ∀ (W : Waits sig Unit) (K : PUnit → sProp 𝕄) (e : Held (F := F) c (tile (Ring.sl 2 t.val))) (f : Held (F := F) c (piece (Ring.bk 64 t.val))) (X : Held (F := F) c (piece (Ring.bk 64 (t.val - 2)))) ,
        iprop(blocks c arg1 arg2 arg3 arg4 arg5 arg6 arg7 arg8 arg9 arg10 x1 x2 x3 x4 x5 x6 x7 x8 x9 x10
          ∗ owns (c : Thread nD τ) arg13 fullShare d13 ∗ partPt c arg14 f14 ∗ partPt c arg15 f15
          ∗ piecePt c (Ring.bk 64 t.val) f ∗ Transfers.Flight countersEmb (c : Thread nD τ) (cell (Ring.sl 2 t.val)) default ((piece (Ring.bk 64 (t.val - 2))).view.amount (cell (Ring.sl 2 t.val))) iprop(piecePt c (Ring.bk 64 (t.val - 2)) X ∗ tilePt c (Ring.sl 2 t.val) e)
          ∗ owes (c : Thread nD τ) 0 W
          ∗ (iprop(blocks c arg1 arg2 arg3 arg4 arg5 arg6 arg7 arg8 arg9 arg10 x1 x2 x3 x4 x5 x6 x7 x8 x9 x10
          ∗ (∃ f, arg13.view.loc (c : Thread nD τ) ↦[arg13.view.set]{fullShare} f)
          ∗ (∃ f, partPt c arg14 f) ∗ (∃ f, partPt c arg15 f)
          ∗ piecePt c (Ring.bk 64 (t.val - 2)) X
          ∗ (∃ X e', Transfers.Flight countersEmb (c : Thread nD τ) (cell (Ring.sl 2 t.val)) default ((piece (Ring.bk 64 t.val)).view.amount (cell (Ring.sl 2 t.val))) iprop(piecePt c (Ring.bk 64 t.val) X ∗ tilePt c (Ring.sl 2 t.val) e'))
          ∗ (∃ W', owes (c : Thread nD τ) 0 W')) -∗ K ⟨⟩))
        ⊢ wp frame (wpE (defs₀ (F := F)) Variants.none c none) Set.univ
          (cc0_attn_bwd (grid0.coords t) arg1 harg1 arg2 harg2 arg3 harg3 arg4 harg4 arg5 harg5 arg6 harg6 arg7 harg7 arg8 harg8 arg9 harg9 arg10 harg10
            outM (Memref.isWhole_whole _) outM (Memref.isWhole_whole _) arg13 harg13 arg14 harg14 arg15 harg15
            dqM (Memref.isWhole_whole _) arg17 harg17 cc0_scratch4) K := by
  have h4 : k0_cond4 (grid0.coords t) = 1#1 := cond4_all t
  haveI : Fact (t.val < 63) := ⟨(cond5_iff t).mp h5⟩
  haveI : Fact (1 ≤ t.val) := ⟨(cond3_iff t).mp h3⟩
  haveI : Fact (k0_cond1 (grid0.coords t) = 1#1) := ⟨h1⟩
  haveI : Fact (¬first (grid0.coords t)) := ⟨h2⟩
  haveI : Fact (k0_cond3 (grid0.coords t) = 1#1) := ⟨h3⟩
  haveI : Fact (k0_cond5 (grid0.coords t) = 1#1) := ⟨h5⟩
  haveI : Fact (¬k0_cond6 (grid0.coords t) = 1#1) := ⟨h6⟩
  haveI : Fact (k0_cond4 (grid0.coords t) = 1#1) := ⟨h4⟩
  have hcanon0 := canon4 t
  have hcanon1 := canon4' t
  intro W K e f X
  unfold blocks owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩⟩, ⟨%f13, %hf13, H13⟩, H14, H15, Hp, HF, HW, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg13.eq_unread hf13
  simp only [cc0_attn_bwd_eq_skeleton]; unfold cc0_attn_bwd_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  sl_exec (disch := first | sl_exact h1 | sl_exact h2 | sl_exact h3 | sl_exact h4 | sl_exact h5 | sl_exact h6)
  sl_step
  iapply Hk
  isplitl [H1 H2 H3 H4 H5 H6 H7 H8 H9 H10]
  · sl_close
  isplitl [H13]; · iexists _; iexact H13
  isplitl [H14]; · iexists _; iexact H14
  isplitl [H15]; · iexists _; iexact H15
  isplitl [HF_dst]; · iexact HF_dst
  isplitl [HF]; · iexists _; iexists _; iexact HF
  iexists _; iexact HW

end Cert.Kernel3Ideal.AB

end
-- ==== Proof.AttnBwdRunD.lean ====
/- The backward attention call: the run of the last step: the copies still under way are waited for, `dk` and `dv` are rounded and copied out. -/
module

public import proofs.«01_k».proof.Proof.AttnBwdLoop
public import proofs.«01_k».proof.Proof.AttnBwdRunC

@[expose] public section

set_option maxRecDepth 65536

noncomputable section

namespace Cert.Kernel3Ideal.AB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (Pipeline.UD sig nD τ) ℕ

variable (c : Dev nD) (t : Fin cfg0.N) (arg1 : Memref sig .tc .smem S1x16 .f32) (harg1 : arg1.IsWhole)
  (arg2 : Memref sig .tc .vmem S128x1024 .bf16) (harg2 : arg2.IsWhole)
  (arg3 : Memref sig .tc .vmem S128x256 .bf16) (harg3 : arg3.IsWhole) (arg4 : Memref sig .tc .vmem S128x256 .bf16) (harg4 : arg4.IsWhole)
  (arg5 : Memref sig .tc .vmem S128x256 .bf16) (harg5 : arg5.IsWhole) (arg6 : Memref sig .tc .vmem S128x256 .bf16) (harg6 : arg6.IsWhole)
  (arg7 : Memref sig .tc .vmem S128x256 .bf16) (harg7 : arg7.IsWhole) (arg8 : Memref sig .tc .vmem S128x256 .bf16) (harg8 : arg8.IsWhole)
  (arg9 : Memref sig .tc .vmem S128x1024 .bf16) (harg9 : arg9.IsWhole) (arg10 : Memref sig .tc .vmem S1x128x1024 .bf16) (harg10 : arg10.IsWhole)
  (arg13 : Memref sig .tc .vmem S16x128 .f32) (harg13 : arg13.IsWhole)
  (arg14 : Memref sig .tc .vmem S8192x256 .f32) (harg14 : arg14.IsWhole) (arg15 : Memref sig .tc .vmem S8192x256 .f32) (harg15 : arg15.IsWhole)
  (arg17 : Memref sig .tc .vmem S8192x512 .bf16) (harg17 : arg17.IsWhole)

set_option maxHeartbeats 4000000 in
/-- The body's run at the last step: the copies still under way are waited for, `dk` and `dv` are rounded and copied out. It leaves every buffer it holds at some contents. -/
theorem runD (h1 : k0_cond1 (grid0.coords t) = 1#1) (h2 : ¬first (grid0.coords t)) (h3 : k0_cond3 (grid0.coords t) = 1#1) (h5 : ¬k0_cond5 (grid0.coords t) = 1#1) (h6 : k0_cond6 (grid0.coords t) = 1#1)
  (x1 : Vec F S1x16 .f32) (x2 : Vec F S128x1024 .bf16) (x3 x4 x5 x6 x7 x8 : Vec F S128x256 .bf16) (x9 : Vec F S128x1024 .bf16)
  (x10 : Vec F S1x128x1024 .bf16)
    (d13 : Vec F S16x128 .f32) (f14 : Held (F := F) c arg14) (f15 : Held (F := F) c arg15)
    :
      ∀ (W : Waits sig Unit) (K : PUnit → sProp 𝕄) (e : Held (F := F) c (tile (Ring.sl 2 t.val))) (f : Held (F := F) c (piece (Ring.bk 64 t.val))) (X : Held (F := F) c (piece (Ring.bk 64 (t.val - 2)))) (X' : Held (F := F) c (piece (Ring.bk 64 (t.val - 1)))) (f17 : Held (F := F) c arg17) (fk : Held (F := F) c kvW) ,
        iprop(blocks c arg1 arg2 arg3 arg4 arg5 arg6 arg7 arg8 arg9 arg10 x1 x2 x3 x4 x5 x6 x7 x8 x9 x10
          ∗ owns (c : Thread nD τ) arg13 fullShare d13 ∗ partPt c arg14 f14 ∗ partPt c arg15 f15
          ∗ piecePt c (Ring.bk 64 t.val) f ∗ Transfers.Flight countersEmb (c : Thread nD τ) (cell (Ring.sl 2 t.val)) default ((piece (Ring.bk 64 (t.val - 2))).view.amount (cell (Ring.sl 2 t.val))) iprop(piecePt c (Ring.bk 64 (t.val - 2)) X ∗ tilePt c (Ring.sl 2 t.val) e)
          ∗ flightPt c (Ring.sl 2 (t.val + 1)) (Ring.bk 64 (t.val - 1)) X' ∗ partPt c arg17 f17 ∗ semVal ((c : Thread nD τ), SemLoc.dma 22) 0 ∗ partPt c kvW fk
          ∗ owes (c : Thread nD τ) 0 W
          ∗ (iprop(blocks c arg1 arg2 arg3 arg4 arg5 arg6 arg7 arg8 arg9 arg10 x1 x2 x3 x4 x5 x6 x7 x8 x9 x10
          ∗ (∃ f, arg13.view.loc (c : Thread nD τ) ↦[arg13.view.set]{fullShare} f)
          ∗ (∃ f, partPt c arg14 f) ∗ (∃ f, partPt c arg15 f)
          ∗ piecePt c (Ring.bk 64 (t.val - 2)) X ∗ piecePt c (Ring.bk 64 (t.val - 1)) X'
          ∗ (∃ X, piecePt c (Ring.bk 64 t.val) X)
          ∗ cellPt c (Ring.sl 2 t.val) ∗ (∃ e, tilePt c (Ring.sl 2 t.val) e) ∗ cellPt c (Ring.sl 2 (t.val + 1)) ∗ (∃ e, tilePt c (Ring.sl 2 (t.val + 1)) e)
          ∗ (∃ f, partPt c arg17 f) ∗ semVal ((c : Thread nD τ), SemLoc.dma 22) 0 ∗ (∃ f, partPt c kvW f)
          ∗ (∃ W', owes (c : Thread nD τ) 0 W')) -∗ K ⟨⟩))
        ⊢ wp frame (wpE (defs₀ (F := F)) Variants.none c none) Set.univ
          (cc0_attn_bwd (grid0.coords t) arg1 harg1 arg2 harg2 arg3 harg3 arg4 harg4 arg5 harg5 arg6 harg6 arg7 harg7 arg8 harg8 arg9 harg9 arg10 harg10
            outM (Memref.isWhole_whole _) outM (Memref.isWhole_whole _) arg13 harg13 arg14 harg14 arg15 harg15
            dqM (Memref.isWhole_whole _) arg17 harg17 cc0_scratch4) K := by
  have h4 : k0_cond4 (grid0.coords t) = 1#1 := cond4_all t
  haveI : Fact (1 ≤ t.val) := ⟨(cond3_iff t).mp h3⟩
  haveI : Fact (k0_cond1 (grid0.coords t) = 1#1) := ⟨h1⟩
  haveI : Fact (¬first (grid0.coords t)) := ⟨h2⟩
  haveI : Fact (k0_cond3 (grid0.coords t) = 1#1) := ⟨h3⟩
  haveI : Fact (¬k0_cond5 (grid0.coords t) = 1#1) := ⟨h5⟩
  haveI : Fact (k0_cond6 (grid0.coords t) = 1#1) := ⟨h6⟩
  haveI : Fact (k0_cond4 (grid0.coords t) = 1#1) := ⟨h4⟩
  have hcanon0 := canon4 t
  have hcanon1 := canon4' t
  intro W K e f X X' f17 fk
  unfold blocks owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩⟩, ⟨%f13, %hf13, H13⟩, H14, H15, Hp, HF, ⟨%e2, HF2⟩, H17, Hq, Hw, HW, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg13.eq_unread hf13
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  sl_exec (disch := first | sl_exact h1 | sl_exact h2 | sl_exact h3 | sl_exact h4 | sl_exact h5 | sl_exact h6)
  sl_step
  iapply Hk
  isplitl [H1 H2 H3 H4 H5 H6 H7 H8 H9 H10]
  · sl_close
  isplitl [H13]; · iexists _; iexact H13
  isplitl [H14]; · iexists _; iexact H14
  isplitl [H15]; · iexists _; iexact H15
  isplitl [HF_dst]; · iexact HF_dst
  isplitl [HF2_dst]; · iexact HF2_dst
  isplitl [Hp]; · iexists _; iexact Hp
  isplitl [HF]; · iexact HF
  isplitl [HF_src]; · iexists _; iexact HF_src
  isplitl [HF2]; · iexact HF2
  isplitl [HF2_src]; · iexists _; iexact HF2_src
  isplitl [H17]; · iexists _; iexact H17
  isplitl [Hq]; · iexact Hq
  isplitl [Hw]; · iexists _; iexact Hw
  iexists _; iexact HW

end Cert.Kernel3Ideal.AB

end
-- ==== Proof.AttnBwdStep.lean ====
/- The backward attention call: one step of the body at any step number, from what holds before it to what holds after it. -/
module

public import proofs.«01_k».proof.Proof.AttnBwdInv
public import proofs.«01_k».proof.Proof.AttnBwdRunD

@[expose] public section

set_option maxRecDepth 65536

noncomputable section

namespace Cert.Kernel3Ideal.AB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (Pipeline.UD sig nD τ) ℕ

/-- A buffer held at some contents is a memref held at what it reads there. -/
theorem owns_of (c : Dev nD) {sp : Space} {S : Shape} {e : EltTy} (M : Memref sig .tc sp S e) (f : Held (F := F) c M) :
    (M.view.loc (c : Thread nD τ) ↦[M.view.set]{fullShare} f : sProp 𝕄) ⊢ owns (c : Thread nD τ) M fullShare (M.view.read (Elt F) f) := by
  unfold owns
  iintro H
  iexists f
  isplitr; · ipureintro; rfl
  iexact H

variable (c : Dev nD) (t : Fin cfg0.N) (arg1 : Memref sig .tc .smem S1x16 .f32) (harg1 : arg1.IsWhole)
  (arg2 : Memref sig .tc .vmem S128x1024 .bf16) (harg2 : arg2.IsWhole)
  (arg3 : Memref sig .tc .vmem S128x256 .bf16) (harg3 : arg3.IsWhole) (arg4 : Memref sig .tc .vmem S128x256 .bf16) (harg4 : arg4.IsWhole)
  (arg5 : Memref sig .tc .vmem S128x256 .bf16) (harg5 : arg5.IsWhole) (arg6 : Memref sig .tc .vmem S128x256 .bf16) (harg6 : arg6.IsWhole)
  (arg7 : Memref sig .tc .vmem S128x256 .bf16) (harg7 : arg7.IsWhole) (arg8 : Memref sig .tc .vmem S128x256 .bf16) (harg8 : arg8.IsWhole)
  (arg9 : Memref sig .tc .vmem S128x1024 .bf16) (harg9 : arg9.IsWhole) (arg10 : Memref sig .tc .vmem S1x128x1024 .bf16) (harg10 : arg10.IsWhole)
  (arg13 : Memref sig .tc .vmem S16x128 .f32) (harg13 : arg13.IsWhole)

set_option maxHeartbeats 1600000 in
/-- The body at any step: which of the four runs it is follows from the step's number. -/
theorem step (x1 : Vec F S1x16 .f32) (x2 : Vec F S128x1024 .bf16) (x3 x4 x5 x6 x7 x8 : Vec F S128x256 .bf16) (x9 : Vec F S128x1024 .bf16)
    (x10 : Vec F S1x128x1024 .bf16) (W : Waits sig Unit) (K : PUnit → sProp 𝕄) :
    iprop(blocks c arg1 arg2 arg3 arg4 arg5 arg6 arg7 arg8 arg9 arg10 x1 x2 x3 x4 x5 x6 x7 x8 x9 x10
      ∗ (∃ d, owns (c : Thread nD τ) arg13 fullShare d) ∗ Phi c t.val ∗ owes (c : Thread nD τ) 0 W
      ∗ (iprop(blocks c arg1 arg2 arg3 arg4 arg5 arg6 arg7 arg8 arg9 arg10 x1 x2 x3 x4 x5 x6 x7 x8 x9 x10
        ∗ (∃ d, owns (c : Thread nD τ) arg13 fullShare d) ∗ Phi c (t.val + 1) ∗ (∃ W', owes (c : Thread nD τ) 0 W')) -∗ K ⟨⟩))
      ⊢ wp frame (wpE (defs₀ (F := F)) Variants.none c none) Set.univ
        (cc0_attn_bwd (grid0.coords t) arg1 harg1 arg2 harg2 arg3 harg3 arg4 harg4 arg5 harg5 arg6 harg6 arg7 harg7 arg8 harg8 arg9 harg9 arg10 harg10
          outM (Memref.isWhole_whole _) outM (Memref.isWhole_whole _) arg13 harg13 dkM (Memref.isWhole_whole _) dvM (Memref.isWhole_whole _)
          dqM (Memref.isWhole_whole _) kvM (Memref.isWhole_whole _) cc0_scratch4) K := by
  have hN : t.val < 64 := lt_of_lt_of_eq t.isLt (show cfg0.N = 64 from N_0)
  unfold Phi ringAt
  rcases (show t.val = 0 ∨ t.val = 1 ∨ (2 ≤ t.val ∧ t.val < 63) ∨ (2 ≤ t.val ∧ t.val = 63) by omega) with h0 | h1 | ⟨h2, h3⟩ | ⟨h2, h3⟩
  · rw [Ring.AtBΦ_lt _ _ _ _ _ t.val (by omega), Ring.AtB2_zero' 2 _ _ _ _ t.val h0, Ring.AtBΦ_lt _ _ _ _ _ (t.val + 1) (by omega), Ring.AtB22_next_zero' _ _ _ _ t.val h0]
    iintro ⟨HB, ⟨%d13, HD⟩, ⟨Hg, Hq, ⟨%f14, H14⟩, ⟨%f15, H15⟩, ⟨%f17, H17⟩, ⟨%fk, HK⟩, ⟨⟨⟨%f, Hp⟩, HA⟩, ⟨Hc, ⟨%e, Ht⟩⟩, Hfx⟩, HT, HO⟩, HW, Hk⟩
    iapply (runA c t arg1 harg1 arg2 harg2 arg3 harg3 arg4 harg4 arg5 harg5 arg6 harg6 arg7 harg7 arg8 harg8 arg9 harg9 arg10 harg10 arg13 harg13 dkM (Memref.isWhole_whole _) dvM (Memref.isWhole_whole _) kvM (Memref.isWhole_whole _) (fun h => absurd ((cond1_iff t).mp h) (by omega)) ((first_iff t).mpr h0) (fun h => absurd ((cond3_iff t).mp h) (by omega)) ((cond5_iff t).mpr (by omega)) (fun h => absurd ((cond6_iff t).mp h) (by omega)) x1 x2 x3 x4 x5 x6 x7 x8 x9 x10 d13 f14 f15 W K e f)
    isplitl [HB]; · iexact HB
    isplitl [HD]; · iexact HD
    isplitl [H14]; · iexact H14
    isplitl [H15]; · iexact H15
    isplitl [Hp]; · iexact Hp
    isplitl [Hc]; · iexact Hc
    isplitl [Ht]; · iexact Ht
    isplitl [HW]; · iexact HW
    iintro ⟨HB, ⟨%fd, HD⟩, ⟨%g14, H14⟩, ⟨%g15, H15⟩, ⟨%X, %e2, HF⟩, HW⟩
    iapply Hk
    isplitl [HB]; · iexact HB
    isplitl [HD]; · iexists _; iapply (owns_of (F := F) c arg13 fd); iexact HD
    isplitl [Hg Hq H14 H15 H17 HK HT HO HA Hfx HF]
    · isplitl [Hg]; · iexact Hg
      isplitl [Hq]; · iexact Hq
      isplitl [H14]; · iexists _; iexact H14
      isplitl [H15]; · iexists _; iexact H15
      isplitl [H17]; · iexists _; iexact H17
      isplitl [HK]; · iexists _; iexact HK
      isplitl [HA Hfx HF]
      · isplitl [HA]; · iexact HA
        isplitl [Hfx]; · iexact Hfx
        iexists _; iexists _; iexact HF
      isplitl [HT]; · iexact HT
      iexact HO
    iexact HW
  · rw [Ring.AtBΦ_lt _ _ _ _ _ t.val (by omega), Ring.AtB22_one' _ _ _ _ t.val h1 (by decide), Ring.AtBΦ_lt _ _ _ _ _ (t.val + 1) (by omega), Ring.AtB22_next_one' _ _ _ _ t.val h1]
    iintro ⟨HB, ⟨%d13, HD⟩, ⟨Hg, Hq, ⟨%f14, H14⟩, ⟨%f15, H15⟩, ⟨%f17, H17⟩, ⟨%fk, HK⟩, ⟨⟨⟨%f, Hp⟩, HA⟩, ⟨Hc, ⟨%e, Ht⟩⟩, Hfx⟩, HT, HO⟩, HW, Hk⟩
    iapply (runB c t arg1 harg1 arg2 harg2 arg3 harg3 arg4 harg4 arg5 harg5 arg6 harg6 arg7 harg7 arg8 harg8 arg9 harg9 arg10 harg10 arg13 harg13 dkM (Memref.isWhole_whole _) dvM (Memref.isWhole_whole _) kvM (Memref.isWhole_whole _) (fun h => absurd ((cond1_iff t).mp h) (by omega)) (fun h => absurd ((first_iff t).mp h) (by omega)) ((cond3_iff t).mpr (by omega)) ((cond5_iff t).mpr (by omega)) (fun h => absurd ((cond6_iff t).mp h) (by omega)) x1 x2 x3 x4 x5 x6 x7 x8 x9 x10 d13 f14 f15 W K e f)
    isplitl [HB]; · iexact HB
    isplitl [HD]; · iexact HD
    isplitl [H14]; · iexact H14
    isplitl [H15]; · iexact H15
    isplitl [Hp]; · iexact Hp
    isplitl [Hc]; · iexact Hc
    isplitl [Ht]; · iexact Ht
    isplitl [HW]; · iexact HW
    iintro ⟨HB, ⟨%fd, HD⟩, ⟨%g14, H14⟩, ⟨%g15, H15⟩, ⟨%X, %e2, HF⟩, HW⟩
    iapply Hk
    isplitl [HB]; · iexact HB
    isplitl [HD]; · iexists _; iapply (owns_of (F := F) c arg13 fd); iexact HD
    isplitl [Hg Hq H14 H15 H17 HK HT HO HA Hfx HF]
    · isplitl [Hg]; · iexact Hg
      isplitl [Hq]; · iexact Hq
      isplitl [H14]; · iexists _; iexact H14
      isplitl [H15]; · iexists _; iexact H15
      isplitl [H17]; · iexists _; iexact H17
      isplitl [HK]; · iexists _; iexact HK
      isplitl [HA Hfx HF]
      · isplitl [HA]; · iexact HA
        isplitl [Hfx]; · iexact Hfx
        iexists _; iexists _; iexact HF
      isplitl [HT]; · iexact HT
      iexact HO
    iexact HW
  · rw [Ring.AtBΦ_lt _ _ _ _ _ t.val (by omega), Ring.AtB22_here _ _ _ _ t.val h2 (by omega), Ring.AtBΦ_lt _ _ _ _ _ (t.val + 1) (by omega), Ring.AtB22_next _ _ _ _ t.val h2 (by omega)]
    iintro ⟨HB, ⟨%d13, HD⟩, ⟨Hg, Hq, ⟨%f14, H14⟩, ⟨%f15, H15⟩, ⟨%f17, H17⟩, ⟨%fk, HK⟩, ⟨⟨⟨%f, Hp⟩, HA⟩, HBh, ⟨%X, %e, HF⟩, Hfx⟩, HT, HO⟩, HW, Hk⟩
    iapply (runC c t arg1 harg1 arg2 harg2 arg3 harg3 arg4 harg4 arg5 harg5 arg6 harg6 arg7 harg7 arg8 harg8 arg9 harg9 arg10 harg10 arg13 harg13 dkM (Memref.isWhole_whole _) dvM (Memref.isWhole_whole _) kvM (Memref.isWhole_whole _) ((cond1_iff t).mpr h2) (fun h => absurd ((first_iff t).mp h) (by omega)) ((cond3_iff t).mpr (by omega)) ((cond5_iff t).mpr (by omega)) (fun h => absurd ((cond6_iff t).mp h) (by omega)) x1 x2 x3 x4 x5 x6 x7 x8 x9 x10 d13 f14 f15 W K e f X)
    isplitl [HB]; · iexact HB
    isplitl [HD]; · iexact HD
    isplitl [H14]; · iexact H14
    isplitl [H15]; · iexact H15
    isplitl [Hp]; · iexact Hp
    isplitl [HF]; · iexact HF
    isplitl [HW]; · iexact HW
    iintro ⟨HB, ⟨%fd, HD⟩, ⟨%g14, H14⟩, ⟨%g15, H15⟩, Hb, ⟨%X2, %e2, HF⟩, HW⟩
    iapply Hk
    isplitl [HB]; · iexact HB
    isplitl [HD]; · iexists _; iapply (owns_of (F := F) c arg13 fd); iexact HD
    isplitl [Hg Hq H14 H15 H17 HK HT HO HA Hb HBh Hfx HF]
    · isplitl [Hg]; · iexact Hg
      isplitl [Hq]; · iexact Hq
      isplitl [H14]; · iexists _; iexact H14
      isplitl [H15]; · iexists _; iexact H15
      isplitl [H17]; · iexists _; iexact H17
      isplitl [HK]; · iexists _; iexact HK
      isplitl [HA Hb HBh Hfx HF]
      · isplitl [HA]; · iexact HA
        isplitl [Hb HBh]
        · isplitl [Hb]; · iexists _; iexact Hb
          iexact HBh
        isplitl [Hfx]; · iexact Hfx
        iexists _; iexists _; iexact HF
      isplitl [HT]; · iexact HT
      iexact HO
    iexact HW
  · rw [Ring.AtBΦ_lt _ _ _ _ _ t.val (by omega), Ring.AtB22_here_last _ _ _ _ t.val h2 (by omega), Ring.AtBΦ_end _ _ _ _ _ (t.val + 1) (by omega), Ring.AtB22_drained _ _ t.val h2 (by omega)]
    iintro ⟨HB, ⟨%d13, HD⟩, ⟨Hg, Hq, ⟨%f14, H14⟩, ⟨%f15, H15⟩, ⟨%f17, H17⟩, ⟨%fk, HK⟩, ⟨⟨%f, Hp⟩, HBh, ⟨%X, %e, HF⟩, ⟨%X2, HF2⟩⟩, HT, HO⟩, HW, Hk⟩
    iapply (runD c t arg1 harg1 arg2 harg2 arg3 harg3 arg4 harg4 arg5 harg5 arg6 harg6 arg7 harg7 arg8 harg8 arg9 harg9 arg10 harg10 arg13 harg13 dkM (Memref.isWhole_whole _) dvM (Memref.isWhole_whole _) kvM (Memref.isWhole_whole _) ((cond1_iff t).mpr h2) (fun h => absurd ((first_iff t).mp h) (by omega)) ((cond3_iff t).mpr (by omega)) (fun h => absurd ((cond5_iff t).mp h) (by omega)) ((cond6_iff t).mpr (by omega)) x1 x2 x3 x4 x5 x6 x7 x8 x9 x10 d13 f14 f15 W K e f X X2 f17 fk)
    isplitl [HB]; · iexact HB
    isplitl [HD]; · iexact HD
    isplitl [H14]; · iexact H14
    isplitl [H15]; · iexact H15
    isplitl [Hp]; · iexact Hp
    isplitl [HF]; · iexact HF
    isplitl [HF2]; · iexact HF2
    isplitl [H17]; · iexact H17
    isplitl [Hq]; · iexact Hq
    isplitl [HK]; · iexact HK
    isplitl [HW]; · iexact HW
    iintro ⟨HB, ⟨%fd, HD⟩, ⟨%g14, H14⟩, ⟨%g15, H15⟩, Hb, Hb2, ⟨%X3, Hp⟩, Hc, Ht, Hc2, Ht2, ⟨%g17, H17⟩, Hq, ⟨%gk, HK⟩, HW⟩
    iapply Hk
    isplitl [HB]; · iexact HB
    isplitl [HD]; · iexists _; iapply (owns_of (F := F) c arg13 fd); iexact HD
    isplitl [Hg Hq H14 H15 H17 HK HT HO Hp Hb Hb2 HBh Hc Ht Hc2 Ht2]
    · isplitl [Hg]; · iexact Hg
      isplitl [Hq]; · iexact Hq
      isplitl [H14]; · iexists _; iexact H14
      isplitl [H15]; · iexists _; iexact H15
      isplitl [H17]; · iexists _; iexact H17
      isplitl [HK]; · iexists _; iexact HK
      isplitl [Hp Hb Hb2 HBh Hc Ht Hc2 Ht2]
      · isplitl [Hp Hb Hb2 HBh]
        · isplitl [Hp]; · iexists _; iexact Hp
          isplitl [Hb]; · iexists _; iexact Hb
          isplitl [Hb2]; · iexists _; iexact Hb2
          iexact HBh
        isplitl [Hc Ht]
        · isplitl [Hc]; · iexact Hc
          iexact Ht
        isplitl [Hc2]; · iexact Hc2
        iexact Ht2
      isplitl [HT]; · iexact HT
      iexact HO
    iexact HW

end Cert.Kernel3Ideal.AB

end
-- ==== Proof.AttnBwdFrame.lean ====
/- The backward attention call: the launch. Every run of the program ends, with the argument arrays as they were and every counter at zero. -/
module

public import proofs.«01_k».proof.Proof.AttnBwdStep

@[expose] public section

set_option maxRecDepth 65536

noncomputable section

namespace Cert.Kernel3Ideal.AB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- Nothing is named of what the kernel leaves in the result the pipeline writes back (window 10). -/
def forgets : Fin 11 → Bool := fun w => w.val == 10

/-- The pipeline's data on core `c`: the arrays as the region finds them, each input's buffer at its block, the invariant `Phi`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ t := Phi c t.val
  q w := Pipeline.shareOf spec0 w
  owed _ := 0

theorem A_eq (c : Dev nD) (w : Fin cfg0.W) : (dats m 0 c).A w = V m c (Pipeline.arrRef spec0 w) := by dsimp only [dats]
theorem phi_castSucc (c : Dev nD) (t : Fin cfg0.N) : (dats m 0 c).Φ t.castSucc = Phi c t.val := by
  dsimp only [dats]; simp only [Fin.coe_castSucc]
theorem phi_succ (c : Dev nD) (t : Fin cfg0.N) : (dats m 0 c).Φ t.succ = Phi c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = X0_1 m c t :=
  ((dats m 0 c).before_in_eq_fetched 1 rfl (fun _ => rfl)
      (fun t t' h => funext fun a => congrArg (fun n => Pipeline.Clip.of n ((cfg0.win 1).size a) (S8192x5632.size a)) (congrFun h a))
      (fun t => by rw [after_1]; unfold X0_1; rw [Pipeline.Window.cut_fill]; unfold Dat.blockOf iblk; rw [A_eq]; try rfl) t d).trans
    (by unfold Dat.fetched X0_1; rw [fill0_1 t d dflt0_1]; unfold Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d))
    ∗ (∃ d, owns (c : Thread nD τ) (st0_10 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t)
    ∗ (∃ d, owns (c : Thread nD τ) (st0_10 t) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [after_0, after_1, after_2, after_3, after_4, after_5, after_6, after_7, after_8, after_9, phi_castSucc m c t, phi_succ m c t]
  unfold Dat.owesAt Pipeline.owesWithin
  rw [show (dats m 0 c).owed t.castSucc = 0 from rfl, show (dats m 0 c).owed t.succ = 0 from rfl]
  iintro ⟨HP, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, HD⟩
  iapply (step c t _ _ _ _ _ _ _ _ _ _ _ _ _ _ _ _ _ _ _ _ _ _ (iblk m c 0 t) (X0_1 m c t) (iblk m c 2 t) (iblk m c 3 t) (iblk m c 4 t) (iblk m c 5 t) (iblk m c 6 t) (iblk m c 7 t) (iblk m c 8 t) (iblk m c 9 t) W _)
  isplitl [H0 H1 H2 H3 H4 H5 H6 H7 H8 H9]
  · unfold blocks
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HD]; · iexact HD
  isplitl [HP]; · iexact HP
  isplitl [HW]; · iexact HW
  unfold blocks
  iintro ⟨⟨H0, H1, H2, H3, H4, H5, H6, H7, H8, H9⟩, HD, HP, ⟨%W', HW'⟩⟩
  isplitl [HP]; · iexact HP
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HD

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs_row]
  exact triple_restated (sound_body m c t) rfl .rfl fun _ => .rfl

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

theorem hin (c : Dev nD) : Pipeline.ΦDR osem0 spec0 ∅ R0 (V m) c ⊢ (dats m 0 c).Φ 0 := by
  rw [show (dats m 0 c).Φ 0 = Phi c 0 from rfl]; exact phi_in m c
theorem hout (c : Dev nD) : (dats m 0 c).Φ (Fin.last cfg0.N) ⊢ Pipeline.ΦDR osem0 spec0 ∅ R0 (V m) c := by
  rw [show (dats m 0 c).Φ (Fin.last cfg0.N) = Phi c grid0.N from rfl, show grid0.N = 64 by rw [N_0]]; exact phi_out m c

set_option backward.isDefEq.respectTransparency.types false in
theorem run_main : θ_run defs (onTc (τ := τ) (main (F := F))) (s₀ m ρ)
    (fun r => (Pipeline.RDat.FramePostR (cfgs 0) (fun c => (dats m 0 c).toRForget forgets) R0 (V m)) r ∧ r.2.sem = fun _ => 0) :=
  Pipeline.θ_run_frame_dmaR_forget_shared (Q' := _) cfgs (dats m) (0 : Fin 1) launch₀0 osem0 defs₀ Variants.none forgets ownSemFacts0 ∅ R0 none_sub R0_sub m ρ main
    (hbody := fun c => (body_obligation m c).loose) (hq := fun _ _ _ => rfl)
    (howed := fun _ _ => rfl) (V := V m) (hmain := hmain m Variants.none) (hA := A_eq m) (hin := hin m) (hout := hout m)

set_option maxHeartbeats 4000000 in
/-- The four argument arrays end as they began, and every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨(Pipeline.RDat.FramePostR.arr_in h.1 c 7 rfl).trans ((A_eq m c 7).trans (V_main_arg0 m c)),
      (Pipeline.RDat.FramePostR.arr_in h.1 c 0 rfl).trans ((A_eq m c 0).trans (V_main_arg1 m c)),
      (Pipeline.RDat.FramePostR.arr_in h.1 c 9 rfl).trans ((A_eq m c 9).trans (V_main_arg2 m c)),
      ((h.1 c).2 main_arg3 (Finset.mem_sdiff.mpr ⟨Pipeline.mem_restRefs_of main_arg3 (by decide) (by decide), by decide⟩)).trans (V_main_arg3 m c)⟩, h.2⟩)
    (run_main m ρ)

end Cert.Kernel3Ideal.AB

end
-- ==== Proof.RmsMath.lean ====
/- The gradient of the root-mean-square norm in two ways of writing it, over extended reals: as the kernels write it by
   hand, and as the derivative of the plain formula comes out. For rows of real numbers they agree. -/
module

public import proofs.«01_k».proof.Proof.Reals
public import Mathlib.Algebra.BigOperators.Fin
public import Mathlib.Logic.Equiv.Fin.Basic

@[expose] public section

noncomputable section

namespace Rms

open Idealize.ShloMosaic Reals

/-- The number of columns, and the small number under the root, as the programs spell them. -/
def width : EReal := Ideal.ofBits .f32 0x44800000#32
def eps : EReal := Ideal.ofBits .f32 0x358637BD#32

theorem width_eq : width = ((1024 : ℝ) : EReal) := by
  simp [width, Ideal.ofBits, Ideal.ieee, -EReal.coe_mul]; norm_num

theorem eps_pos : ∃ e : ℝ, 0 < e ∧ eps = (e : EReal) := by
  refine ⟨_, ?_, by simp only [eps, Ideal.ofBits, Ideal.ieee]; rfl⟩
  simp

theorem ofBits_neg_half : Ideal.ofBits .f32 0xBF000000#32 = ((-1 / 2 : ℝ) : EReal) := by
  simp [Ideal.ofBits, Ideal.ieee, -EReal.coe_mul]; norm_num

variable {n : ℕ}

/-- The mean of the squares of a row, and the reciprocal root of it. -/
def meanSq (x : Fin n → EReal) : EReal := Ideal.div (∑ k, x k * x k) width
def inv (x : Fin n → EReal) : EReal := Ideal.rsqrt (meanSq x + eps)

/-- The gradient with respect to the row, as the kernels write it, beside `e` from the residual. -/
def dxK (x g d : Fin n → EReal) (e : EReal) (j : Fin n) : EReal :=
  e + inv x * (d j * g j - x j * inv x * Ideal.div (∑ k, d k * g k * (x k * inv x)) width)

/-- The factor of the row in its gradient, as differentiation writes it. -/
def slope (x g d : Fin n → EReal) : EReal :=
  Ideal.div ((∑ k, x k * (d k * g k)) * (Ideal.ofBits .f32 0xBF000000#32 * Ideal.div (inv x) (meanSq x + eps))) width

/-- The gradient with respect to the row, as differentiation writes it. -/
def dxR (x g d : Fin n → EReal) (e : EReal) (j : Fin n) : EReal :=
  e + d j * g j * inv x + x j * slope x g d + slope x g d * x j

/-- The reciprocal root of a row of real numbers. -/
theorem inv_coe (x : Fin n → ℝ) : ∃ y : ℝ, 0 < y ∧ meanSq (fun k => (x k : EReal)) + eps = (y : EReal)
    ∧ inv (fun k => (x k : EReal)) = (((Real.sqrt y)⁻¹ : ℝ) : EReal) := by
  obtain ⟨ε, hε, he⟩ := eps_pos
  have hm : meanSq (fun k => (x k : EReal)) = (((∑ k, x k * x k) / 1024 : ℝ) : EReal) := by
    unfold meanSq
    simp only [← EReal.coe_mul]
    rw [width_eq, ← coe_sum, Ideal.div_coe (by norm_num), ← EReal.coe_mul]
    congr 1
    ring
  have h0 : 0 ≤ (∑ k, x k * x k) / 1024 := div_nonneg (Finset.sum_nonneg fun k _ => mul_self_nonneg _) (by norm_num)
  have py : 0 < (∑ k, x k * x k) / 1024 + ε := by linarith
  have hme : meanSq (fun k => (x k : EReal)) + eps = (((∑ k, x k * x k) / 1024 + ε : ℝ) : EReal) := by rw [hm, he, ← EReal.coe_add]
  refine ⟨_, py, hme, ?_⟩
  unfold inv
  rw [hme, Ideal.rsqrt_coe, if_neg (not_lt.2 py.le), if_neg py.ne']

theorem isR_inv (x : Fin n → EReal) (hx : ∀ k, IsR (x k)) : IsR (inv x) := by
  choose x' hx using hx
  obtain rfl : x = fun k => (x' k : EReal) := funext hx
  obtain ⟨y, -, -, h⟩ := inv_coe x'
  exact ⟨_, h⟩

theorem dx_eq (x g d : Fin n → EReal) (e : EReal) (hx : ∀ k, IsR (x k)) (hg : ∀ k, IsR (g k)) (hd : ∀ k, IsR (d k)) (j : Fin n) :
    dxK x g d e j = dxR x g d e j := by
  choose x' hx using hx
  choose g' hg using hg
  choose d' hd using hd
  obtain rfl : x = fun k => (x' k : EReal) := funext hx
  obtain rfl : g = fun k => (g' k : EReal) := funext hg
  obtain rfl : d = fun k => (d' k : EReal) := funext hd
  obtain ⟨y, py, hme, hi⟩ := inv_coe x'
  set r : ℝ := (Real.sqrt y)⁻¹ with hr
  have hr2 : y * (r * r) = 1 := by
    rw [hr, ← mul_inv, Real.mul_self_sqrt py.le]
    exact mul_inv_cancel₀ py.ne'
  have hs : slope (fun k => (x' k : EReal)) (fun k => (g' k : EReal)) (fun k => (d' k : EReal))
      = ((-(∑ k, x' k * (d' k * g' k)) * (r * r * r) / 2048 : ℝ) : EReal) := by
    unfold slope
    rw [hi, hme, width_eq, ofBits_neg_half, Ideal.div_coe py.ne', Ideal.div_coe (by norm_num)]
    simp only [← EReal.coe_mul]
    rw [← coe_sum]
    simp only [← EReal.coe_mul]
    have : r * (1 / y) = r * r * r := by
      rw [mul_one_div, div_eq_iff py.ne']
      linear_combination (-r) * hr2
    rw [this]
    congr 1
    ring
  have hk : (∑ k, ((d' k : EReal) * (g' k : EReal) * ((x' k : EReal) * (r : EReal)))) = (((∑ k, x' k * (d' k * g' k)) * r : ℝ) : EReal) := by
    simp only [← EReal.coe_mul]
    rw [← coe_sum, Finset.sum_mul]
    congr 1
    exact Finset.sum_congr rfl fun k _ => by ring
  unfold dxK dxR
  simp only [hs, hi]
  rw [hk, width_eq, Ideal.div_coe (by norm_num)]
  simp only [← EReal.coe_mul, ← EReal.coe_sub]
  rw [add_assoc, add_assoc]
  congr 1
  simp only [← EReal.coe_add]
  congr 1
  ring

/-! ## Sums taken in pieces -/

/-- A sum over `a · b` indices is the sum over `a` pieces of `b` indices each. -/
theorem sum_pieces {M : Type*} [AddCommMonoid M] (a b : ℕ) (f : Fin (a * b) → M) :
    ∑ i, f i = ∑ p : Fin a, ∑ q : Fin b, f (finProdFinEquiv (p, q)) := by
  rw [← Finset.sum_product', ← Equiv.sum_comp finProdFinEquiv]
  rfl

end Rms

end
-- ==== Proof.DxnBlock.lean ====
/- The gradient through a product and a root-mean-square norm: what one block of the kernel computes. -/
module

public import proofs.«01_k».proof.Proof.RmsMath
public import proofs.«01_k».proof.Proof.Gen.Kernel4Ideal.Value
public import Idealize.ShloMosaic.Lib.Pipeline.Value
public import Idealize.ShloMosaic.Lib.VecWindow
public import Idealize.ShloMosaic.Lib.WholeRead

@[expose] public section

set_option maxRecDepth 16384

noncomputable section

namespace Dxn

open Idealize.ShloMosaic Idealize.ShloMosaic.TcCoe Idealize.SL.Sem
open Cert.Kernel4Ideal Cert.Kernel4Ideal.Gen Reals

/-! ## The stores of a block -/

section Pieces

variable {F : FTy → Type} [FloatOps F]

/-- The elements of a block that a load takes. -/
def ld {σ : _} {s : Shape} {e : EltTy} {a : Memref σ .tc .vmem s e} (h : a.IsWhole) (x : Vec F s e) (off size : Fin s.rank → ℕ)
    (inb : ∀ b, off b + size b ≤ s.size b) : (Rect.unit off size inb).shape.Idx → Elt F e :=
  View.readAt (Elt F) a.view (Rect.unit off size inb).toLoadRect (h.unread x)

theorem ld_full {σ : _} {s : Shape} {e : EltTy} {a : Memref σ .tc .vmem s e} (h : a.IsWhole) (x : Vec F s e) (off : Fin s.rank → ℕ)
    (inb : ∀ b, off b + s.size b ≤ s.size b) : ld h x off s.size inb = x := by
  unfold ld
  rw [View.readAt_full]
  exact h.read_unread x

/-- The product of a block of rows with the transposed weights, in the four pieces the kernel takes it in. -/
def prod {a1 : Memref sig .tc .vmem S512x5632 .bf16} (h1 : a1.IsWhole) {a2 : Memref sig .tc .vmem S4x1024x1408 .bf16} (h2 : a2.IsWhole)
    (x0 : Vec F S512x5632 .bf16) (x1 : Vec F S4x1024x1408 .bf16) : FVec F S512x1024 .f32 :=
  k0_pay6 (ld h1 x0 ![0, 0] S512x1408.size inb_S512x5632_S512x1408_0_0) (ld h2 x1 ![0, 0, 0] S1x1024x1408.size inb_S4x1024x1408_S1x1024x1408_0_0_0)
    (ld h1 x0 ![0, 1408] S512x1408.size inb_S512x5632_S512x1408_0_1408) (ld h2 x1 ![1, 0, 0] S1x1024x1408.size inb_S4x1024x1408_S1x1024x1408_1_0_0)
    (ld h1 x0 ![0, 2816] S512x1408.size inb_S512x5632_S512x1408_0_2816) (ld h2 x1 ![2, 0, 0] S1x1024x1408.size inb_S4x1024x1408_S1x1024x1408_2_0_0)
    (ld h1 x0 ![0, 4224] S512x1408.size inb_S512x5632_S512x1408_0_4224) (ld h2 x1 ![3, 0, 0] S1x1024x1408.size inb_S4x1024x1408_S1x1024x1408_3_0_0)

variable (c : Dev nD) (i : grid0.Coords) (arg1 : Memref sig .tc .vmem S512x5632 .bf16) (harg1 : arg1.IsWhole) (arg2 : Memref sig .tc .vmem S4x1024x1408 .bf16) (harg2 : arg2.IsWhole)
  (arg3 : Memref sig .tc .vmem S512x1024 .f32) (harg3 : arg3.IsWhole) (arg4 : Memref sig .tc .vmem S1x1024 .f32) (harg4 : arg4.IsWhole)
  (arg5 : Memref sig .tc .vmem S512x1024 .f32) (harg5 : arg5.IsWhole) (arg6 : Memref sig .tc .vmem S512x1024 .f32) (harg6 : arg6.IsWhole)
  (arg7 : Memref sig .tc .vmem S1x1024 .f32) (harg7 : arg7.IsWhole)
  (x0 : Vec F S512x5632 .bf16) (x1 : Vec F S4x1024x1408 .bf16) (x2 : Vec F S512x1024 .f32) (x3 : Vec F S1x1024 .f32) (x4 : Vec F S512x1024 .f32) (xo6 : Vec F S1x1024 .f32)

theorem outA5 (hc : cond0_0 i) :
    out0_A_5 c i arg1 harg1 arg2 harg2 arg3 harg3 arg4 harg4 arg5 harg5 arg6 harg6 arg7 harg7 hc x0 x1 x2 x3 x4
      = k0_pay4 (prod harg1 harg2 x0 x1) x2 (k0_pay7 x2) x3 x4 := by
  have e : (kernelRun0_A c i arg1 harg1 arg2 harg2 arg3 harg3 arg4 harg4 arg5 harg5 arg6 harg6 arg7 harg7 hc x0 x1 x2 x3 x4).1
      = [⟨Rect.unit (s := S512x1024) ![0, 0] S512x1024.size inb_S512x1024_S512x1024_0_0,
          k0_pay4 (prod harg1 harg2 x0 x1) (ld harg3 x2 ![0, 0] S512x1024.size inb_S512x1024_S512x1024_0_0)
            (k0_pay7 (ld harg3 x2 ![0, 0] S512x1024.size inb_S512x1024_S512x1024_0_0)) (ld harg4 x3 ![0, 0] S1x1024.size inb_S1x1024_S1x1024_0_0)
            (ld harg5 x4 ![0, 0] S512x1024.size inb_S512x1024_S512x1024_0_0)⟩] := rfl
  unfold out0_A_5
  rw [e]
  refine (View.read_writes_full _ _ inb_S512x1024_S512x1024_0_0 _ _).trans ?_
  rw [ld_full harg3 x2, ld_full harg4 x3, ld_full harg5 x4]

theorem outB5 (hc : ¬cond0_0 i) :
    out0_B_5 c i arg1 harg1 arg2 harg2 arg3 harg3 arg4 harg4 arg5 harg5 arg6 harg6 arg7 harg7 hc x0 x1 x2 x3 x4 xo6
      = k0_pay4 (prod harg1 harg2 x0 x1) x2 (k0_pay7 x2) x3 x4 := by
  have e : (kernelRun0_B c i arg1 harg1 arg2 harg2 arg3 harg3 arg4 harg4 arg5 harg5 arg6 harg6 arg7 harg7 hc x0 x1 x2 x3 x4 xo6).1
      = [⟨Rect.unit (s := S512x1024) ![0, 0] S512x1024.size inb_S512x1024_S512x1024_0_0,
          k0_pay4 (prod harg1 harg2 x0 x1) (ld harg3 x2 ![0, 0] S512x1024.size inb_S512x1024_S512x1024_0_0)
            (k0_pay7 (ld harg3 x2 ![0, 0] S512x1024.size inb_S512x1024_S512x1024_0_0)) (ld harg4 x3 ![0, 0] S1x1024.size inb_S1x1024_S1x1024_0_0)
            (ld harg5 x4 ![0, 0] S512x1024.size inb_S512x1024_S512x1024_0_0)⟩] := rfl
  unfold out0_B_5
  rw [e]
  refine (View.read_writes_full _ _ inb_S512x1024_S512x1024_0_0 _ _).trans ?_
  rw [ld_full harg3 x2, ld_full harg4 x3, ld_full harg5 x4]

theorem outA6 (hc : cond0_0 i) :
    out0_A_6 c i arg1 harg1 arg2 harg2 arg3 harg3 arg4 harg4 arg5 harg5 arg6 harg6 arg7 harg7 hc x0 x1 x2 x3 x4
      = k0_pay3 (prod harg1 harg2 x0 x1) x2 (k0_pay7 x2) k0_pay5 := by
  have e : (kernelRun0_A c i arg1 harg1 arg2 harg2 arg3 harg3 arg4 harg4 arg5 harg5 arg6 harg6 arg7 harg7 hc x0 x1 x2 x3 x4).2.1
      = [⟨Rect.unit (s := S1x1024) ![0, 0] S1x1024.size inb_S1x1024_S1x1024_0_0,
          k0_pay3 (prod harg1 harg2 x0 x1) (ld harg3 x2 ![0, 0] S512x1024.size inb_S512x1024_S512x1024_0_0)
            (k0_pay7 (ld harg3 x2 ![0, 0] S512x1024.size inb_S512x1024_S512x1024_0_0))
            (arg7.view.readCov [⟨Rect.unit (s := S1x1024) ![0, 0] S1x1024.size inb_S1x1024_S1x1024_0_0, k0_pay5⟩]
              (Rect.unit (s := S1x1024) ![0, 0] S1x1024.size inb_S1x1024_S1x1024_0_0).toLoadRect)⟩,
        ⟨Rect.unit (s := S1x1024) ![0, 0] S1x1024.size inb_S1x1024_S1x1024_0_0, k0_pay5⟩] := rfl
  unfold out0_A_6
  rw [e]
  refine (View.read_writes_full _ _ inb_S1x1024_S1x1024_0_0 _ _).trans ?_
  rw [ld_full harg3 x2]
  exact congrArg (k0_pay3 _ _ _) (View.readCov_full _ _ _ _ _)

theorem outB6 (hc : ¬cond0_0 i) :
    out0_B_6 c i arg1 harg1 arg2 harg2 arg3 harg3 arg4 harg4 arg5 harg5 arg6 harg6 arg7 harg7 hc x0 x1 x2 x3 x4 xo6
      = k0_pay3 (prod harg1 harg2 x0 x1) x2 (k0_pay7 x2) xo6 := by
  have e : (kernelRun0_B c i arg1 harg1 arg2 harg2 arg3 harg3 arg4 harg4 arg5 harg5 arg6 harg6 arg7 harg7 hc x0 x1 x2 x3 x4 xo6).2.1
      = [⟨Rect.unit (s := S1x1024) ![0, 0] S1x1024.size inb_S1x1024_S1x1024_0_0,
          k0_pay3 (prod harg1 harg2 x0 x1) (ld harg3 x2 ![0, 0] S512x1024.size inb_S512x1024_S512x1024_0_0)
            (k0_pay7 (ld harg3 x2 ![0, 0] S512x1024.size inb_S512x1024_S512x1024_0_0)) (ld harg7 xo6 ![0, 0] S1x1024.size inb_S1x1024_S1x1024_0_0)⟩] := rfl
  unfold out0_B_6
  rw [e]
  refine (View.read_writes_full _ _ inb_S1x1024_S1x1024_0_0 _ _).trans ?_
  rw [ld_full harg3 x2, ld_full harg7 xo6]

end Pieces

/-! ## The block at an index -/

/-- Rows of the block's product: four pieces of 1408 columns. -/
def dB (x0 : Vec Ideal S512x5632 .bf16) (x1 : Vec Ideal S4x1024x1408 .bf16) (r : Fin 512) (j : Fin 1024) : EReal :=
  ∑ p : Fin 4, ∑ q : Fin 1408, x0 (ix2 r ⟨p.val * 1408 + q.val, by omega⟩) * x1 (ix3 p j q)

theorem ldX_apply {a : Memref sig .tc .vmem S512x5632 .bf16} (h : a.IsWhole) (x : Vec Ideal S512x5632 .bf16) (o : Nat)
    (ho : ∀ b, (![0, o] : Fin 2 → Nat) b + S512x1408.size b ≤ S512x5632.size b) (r : Fin 512) (q : Fin 1408) (hc : o + q.val < 5632) :
    ld h x ![0, o] S512x1408.size ho (ix2 r q) = x (ix2 r ⟨o + q.val, hc⟩) := by
  unfold ld
  rw [Memref.IsWhole.readAt_unread]
  exact congrArg x (funext fun a => Fin.ext (by match a with | ⟨0, _⟩ => show 0 + 1 * r.val = r.val; omega | ⟨1, _⟩ => show o + 1 * q.val = o + q.val; omega))

theorem ldW_apply {σ : _} {a : Memref σ .tc .vmem S4x1024x1408 .bf16} (h : a.IsWhole) (x : Vec Ideal S4x1024x1408 .bf16) (p : Nat)
    (ho : ∀ b, (![p, 0, 0] : Fin 3 → Nat) b + S1x1024x1408.size b ≤ S4x1024x1408.size b) (j : Fin 1024) (q : Fin 1408) (hp : p < 4) :
    ld h x ![p, 0, 0] S1x1024x1408.size ho (ix3 0 j q) = x (ix3 ⟨p, hp⟩ j q) := by
  unfold ld
  rw [Memref.IsWhole.readAt_unread]
  exact congrArg x (funext fun a => Fin.ext (by
    match a with
    | ⟨0, _⟩ => show p + 1 * 0 = p; omega
    | ⟨1, _⟩ => show 0 + 1 * j.val = j.val; omega
    | ⟨2, _⟩ => show 0 + 1 * q.val = q.val; omega))

theorem pay6_apply (a0 : Vec Ideal S512x1408 .bf16) (w0 : Vec Ideal S1x1024x1408 .bf16) (a1 : Vec Ideal S512x1408 .bf16) (w1 : Vec Ideal S1x1024x1408 .bf16)
    (a2 : Vec Ideal S512x1408 .bf16) (w2 : Vec Ideal S1x1024x1408 .bf16) (a3 : Vec Ideal S512x1408 .bf16) (w3 : Vec Ideal S1x1024x1408 .bf16) (r : Fin 512) (j : Fin 1024) :
    k0_pay6 (F := Ideal) a0 w0 a1 w1 a2 w2 a3 w3 (ix2 r j)
      = (∑ q : Fin 1408, a0 (ix2 r q) * w0 (ix3 0 j q)) + (∑ q : Fin 1408, a1 (ix2 r q) * w1 (ix3 0 j q))
        + (∑ q : Fin 1408, a2 (ix2 r q) * w2 (ix3 0 j q)) + (∑ q : Fin 1408, a3 (ix2 r q) * w3 (ix3 0 j q)) := by
  pointwise [k0_pay6]

theorem prod_apply {a1 : Memref sig .tc .vmem S512x5632 .bf16} (h1 : a1.IsWhole) {a2 : Memref sig .tc .vmem S4x1024x1408 .bf16} (h2 : a2.IsWhole)
    (x0 : Vec Ideal S512x5632 .bf16) (x1 : Vec Ideal S4x1024x1408 .bf16) (r : Fin 512) (j : Fin 1024) :
    prod h1 h2 x0 x1 (ix2 r j) = dB x0 x1 r j := by
  unfold prod dB
  rw [Fin.sum_univ_four]
  refine (pay6_apply _ _ _ _ _ _ _ _ r j).trans ?_
  have e : ∀ (o p : Nat) (ho) (hp) (k : p < 4) (hk : ∀ q : Fin 1408, o + q.val < 5632) (ho' : o = p * 1408),
      (∑ q : Fin 1408, ld h1 x0 ![0, o] S512x1408.size ho (ix2 r q) * ld h2 x1 ![p, 0, 0] S1x1024x1408.size hp (ix3 0 j q))
        = ∑ q : Fin 1408, x0 (ix2 r ⟨p * 1408 + q.val, by omega⟩) * x1 (ix3 ⟨p, k⟩ j q) := by
    intro o p ho hp k hk ho'
    subst ho'
    exact Finset.sum_congr rfl fun q _ => congrArg₂ (· * ·) (ldX_apply h1 x0 _ ho r q (hk q)) (ldW_apply h2 x1 p hp j q k)
  refine congrArg₂ (· + ·) (congrArg₂ (· + ·) (congrArg₂ (· + ·) (e 0 0 _ _ (by decide) (fun q => by omega) rfl) (e 1408 1 _ _ (by decide) (fun q => by omega) rfl))
    (e 2816 2 _ _ (by decide) (fun q => by omega) rfl)) (e 4224 3 _ _ (by decide) (fun q => by omega) rfl)

variable (d : FVec Ideal S512x1024 .f32) (x2 : Vec Ideal S512x1024 .f32) (x3 : Vec Ideal S1x1024 .f32) (x4 : Vec Ideal S512x1024 .f32) (old : Vec Ideal S1x1024 .f32)

theorem pay7_apply (r : Fin 512) : k0_pay7 x2 (ix2 r 0) = Rms.meanSq fun k : Fin 1024 => x2 (ix2 r k) := by
  pointwise [k0_pay7]
  rfl

theorem pay1_apply (r : Fin 512) : k0_pay1 (k0_pay7 x2) (ix2 r 0) = Rms.inv fun k : Fin 1024 => x2 (ix2 r k) := by
  pointwise [k0_pay1]
  rw [pay7_apply]
  rfl

theorem pay2_apply (r : Fin 512) (j : Fin 1024) :
    k0_pay2 x2 (k0_pay7 x2) (ix2 r j) = x2 (ix2 r j) * Rms.inv fun k : Fin 1024 => x2 (ix2 r k) := by
  pointwise [k0_pay2]
  rw [pay1_apply]

theorem pay3_apply (j : Fin 1024) :
    k0_pay3 d x2 (k0_pay7 x2) old (ix2 0 j)
      = old (ix2 0 j) + ∑ r : Fin 512, d (ix2 r j) * (x2 (ix2 r j) * Rms.inv fun k : Fin 1024 => x2 (ix2 r k)) := by
  pointwise [k0_pay3]
  simp only [pay2_apply]

theorem pay5_apply (j : Fin 1024) : k0_pay5 (F := Ideal) (ix2 0 j) = 0 := by
  pointwise [k0_pay5]

theorem pay4_apply (r : Fin 512) (j : Fin 1024) :
    k0_pay4 d x2 (k0_pay7 x2) x3 x4 (ix2 r j)
      = Rms.dxK (fun k : Fin 1024 => x2 (ix2 r k)) (fun k => x3 (ix2 0 k)) (fun k => d (ix2 r k)) (x4 (ix2 r j)) j := by
  pointwise [k0_pay4]
  simp only [pay1_apply, pay2_apply]
  rfl

end Dxn

end
-- ==== Proof.DxnArray.lean ====
/- The gradient through a product and a root-mean-square norm: what the kernel's result arrays hold. -/
module

public import proofs.«01_k».proof.Proof.DxnBlock
public import Idealize.ShloMosaic.Lib.StableHlo.ReadAt

@[expose] public section

set_option maxRecDepth 16384

noncomputable section

namespace Dxn

open Idealize.ShloMosaic Idealize.ShloMosaic.TcCoe Idealize.SL.Sem
open Idealize.ShloMosaic.Pipeline (Dat)
open Cert.Kernel4Ideal Cert.Kernel4Ideal.Gen Reals

/-! ## The whole arrays -/

section Arrays

variable (x : S8192x1024.Idx → EReal) (g : S1024.Idx → EReal) (w : S1024x5632.Idx → EReal) (dp : S8192x5632.Idx → EReal) (e : S8192x1024.Idx → EReal)

/-- `d = dp · wᵀ` at row `r`, column `j`. -/
def dAt (r : Fin 8192) (j : Fin 1024) : EReal := ∑ k : Fin 5632, dp (ix2 r k) * w (ix2 j k)

/-- What the first result array holds: the gradient with respect to `x`, beside the residual's. -/
def Gx : S8192x1024.Idx → EReal :=
  fun i => Rms.dxK (fun k : Fin 1024 => x (ix2 (i 0) k)) (fun k => g (ix1 k)) (fun k => dAt w dp (i 0) k) (e (ix2 (i 0) (i 1))) (i 1)

/-- One row's part of the gradient with respect to `g`. -/
def part (r : Fin 8192) (j : Fin 1024) : EReal := dAt w dp r j * (x (ix2 r j) * Rms.inv fun k : Fin 1024 => x (ix2 r k))

/-- What the second result array holds: the gradient with respect to `g`. -/
def Gg : S1x1024.Idx → EReal := fun i => ∑ r : Fin 8192, part x w dp r (i 1)

end Arrays

/-- Row `r` of block `t`. -/
def row (t : Nat) (r : Fin 512) : Fin 8192 := ⟨(t * 512 + r.val) % 8192, Nat.mod_lt _ (by decide)⟩

theorem row_val {t : Nat} (ht : t < 16) (r : Fin 512) : (row t r).val = t * 512 + r.val := Nat.mod_eq_of_lt (by have := r.isLt; omega)

section Kernel

variable (m : (ℓ : Loc nD τ sig) → Buf (Elt Ideal) ℓ) (c : Dev nD)

abbrev X : S8192x1024.Idx → EReal := m ((c : Thread nD τ).loc main_arg0)
abbrev Gn : S1024.Idx → EReal := m ((c : Thread nD τ).loc main_arg1)
abbrev W : S1024x5632.Idx → EReal := m ((c : Thread nD τ).loc main_arg2)
abbrev Dp : S8192x5632.Idx → EReal := m ((c : Thread nD τ).loc main_arg3)
abbrev E : S8192x1024.Idx → EReal := m ((c : Thread nD τ).loc main_arg4)

/-- What the two result arrays hold. -/
abbrev R1 : S8192x1024.Idx → EReal := Gx (X m c) (Gn m c) (W m c) (Dp m c) (E m c)
abbrev R2 : S1x1024.Idx → EReal := Gg (X m c) (W m c) (Dp m c)

theorem V_gain (k : Fin 1024) : V m c main_v9 (ix2 0 k : S1x1024.Idx) = Gn m c (ix1 k) := by
  unfold V
  after_reads_at

theorem V_shards (p : Fin 4) (j : Fin 1024) (q : Fin 1408) (h : p.val * 1408 + q.val < 5632) :
    V m c main_v8 (ix3 p j q : S4x1024x1408.Idx) = W m c (ix2 j ⟨p.val * 1408 + q.val, h⟩) := by
  fin_cases p <;> (unfold V; after_reads_at; rw [StableHlo.unary_result]; after_reads_at)

theorem index_eq : ∀ t : Fin cfg0.N,
    (win0_0.index t 0 = t.val ∧ win0_0.index t 1 = 0) ∧ (win0_1.index t 0 = 0 ∧ win0_1.index t 1 = 0 ∧ win0_1.index t 2 = 0)
      ∧ (win0_2.index t 0 = t.val ∧ win0_2.index t 1 = 0) ∧ (win0_3.index t 0 = 0 ∧ win0_3.index t 1 = 0)
      ∧ (win0_4.index t 0 = t.val ∧ win0_4.index t 1 = 0) ∧ (win0_5.index t 0 = t.val ∧ win0_5.index t 1 = 0)
      ∧ (win0_6.index t 0 = 0 ∧ win0_6.index t 1 = 0) :=
  (by decide +kernel : ∀ t : Fin grid0.N, _)

theorem lt16 (t : Fin cfg0.N) : t.val < 16 := t.isLt

theorem iblk0_apply (t : Fin cfg0.N) (r : Fin 512) (k : Fin 5632) :
    iblk m c 0 t (ix2 r k : S512x5632.Idx) = Dp m c (ix2 (row t.val r) k) := by
  refine (congrFun (V_main_arg3 m c) _).trans (congrArg (Dp m c) (funext fun a => Fin.ext ?_))
  obtain ⟨⟨h0, h1⟩, -⟩ := index_eq t
  match a with
  | ⟨0, _⟩ => show win0_0.index t 0 * 512 + 1 * r.val = (row t.val r).val; rw [h0, row_val (lt16 t)]; omega
  | ⟨1, _⟩ => show win0_0.index t 1 * 5632 + 1 * k.val = k.val; rw [h1]; omega

theorem iblk1_apply (t : Fin cfg0.N) (p : Fin 4) (j : Fin 1024) (q : Fin 1408) (h : p.val * 1408 + q.val < 5632) :
    iblk m c 1 t (ix3 p j q : S4x1024x1408.Idx) = W m c (ix2 j ⟨p.val * 1408 + q.val, h⟩) := by
  refine (congrArg (V m c main_v8) (funext fun a => Fin.ext ?_)).trans (V_shards m c p j q h)
  obtain ⟨-, ⟨h0, h1, h2⟩, -⟩ := index_eq t
  match a with
  | ⟨0, _⟩ => show win0_1.index t 0 * 4 + 1 * p.val = p.val; rw [h0]; omega
  | ⟨1, _⟩ => show win0_1.index t 1 * 1024 + 1 * j.val = j.val; rw [h1]; omega
  | ⟨2, _⟩ => show win0_1.index t 2 * 1408 + 1 * q.val = q.val; rw [h2]; omega

theorem iblk2_apply (t : Fin cfg0.N) (r : Fin 512) (k : Fin 1024) :
    iblk m c 2 t (ix2 r k : S512x1024.Idx) = X m c (ix2 (row t.val r) k) := by
  refine (congrFun (V_main_arg0 m c) _).trans (congrArg (X m c) (funext fun a => Fin.ext ?_))
  obtain ⟨-, -, ⟨h0, h1⟩, -⟩ := index_eq t
  match a with
  | ⟨0, _⟩ => show win0_2.index t 0 * 512 + 1 * r.val = (row t.val r).val; rw [h0, row_val (lt16 t)]; omega
  | ⟨1, _⟩ => show win0_2.index t 1 * 1024 + 1 * k.val = k.val; rw [h1]; omega

theorem iblk3_apply (t : Fin cfg0.N) (k : Fin 1024) : iblk m c 3 t (ix2 0 k : S1x1024.Idx) = Gn m c (ix1 k) := by
  refine (congrArg (V m c main_v9) (funext fun a => Fin.ext ?_)).trans (V_gain m c k)
  obtain ⟨-, -, -, ⟨h0, h1⟩, -⟩ := index_eq t
  match a with
  | ⟨0, _⟩ => show win0_3.index t 0 * 1 + 1 * 0 = 0; rw [h0]
  | ⟨1, _⟩ => show win0_3.index t 1 * 1024 + 1 * k.val = k.val; rw [h1]; omega

theorem iblk4_apply (t : Fin cfg0.N) (r : Fin 512) (k : Fin 1024) :
    iblk m c 4 t (ix2 r k : S512x1024.Idx) = E m c (ix2 (row t.val r) k) := by
  refine (congrFun (V_main_arg4 m c) _).trans (congrArg (E m c) (funext fun a => Fin.ext ?_))
  obtain ⟨-, -, -, -, ⟨h0, h1⟩, -⟩ := index_eq t
  match a with
  | ⟨0, _⟩ => show win0_4.index t 0 * 512 + 1 * r.val = (row t.val r).val; rw [h0, row_val (lt16 t)]; omega
  | ⟨1, _⟩ => show win0_4.index t 1 * 1024 + 1 * k.val = k.val; rw [h1]; omega

/-- The product of block `t` is the rows of the whole product. -/
theorem dB_apply (t : Fin cfg0.N) (r : Fin 512) (j : Fin 1024) : dB (iblk m c 0 t) (iblk m c 1 t) r j = dAt (W m c) (Dp m c) (row t.val r) j := by
  unfold dB dAt
  refine Eq.trans ?_ (Rms.sum_pieces 4 1408 fun k : Fin 5632 => Dp m c (ix2 (row t.val r) k) * W m c (ix2 j k)).symm
  refine Finset.sum_congr rfl fun p _ => Finset.sum_congr rfl fun q _ => ?_
  rw [iblk0_apply, iblk1_apply m c t p j q (by omega)]
  have e : (⟨p.val * 1408 + q.val, by omega⟩ : Fin 5632) = finProdFinEquiv (p, q) := Fin.ext (by show p.val * 1408 + q.val = q.val + 1408 * p.val; omega)
  rw [e]

/-! ## The gradient with respect to the row -/

theorem out5_apply (t : Fin cfg0.N) (r : Fin 512) (j : Fin 1024) :
    (outsAt0 m c t.val t.isLt).1 (ix2 r j) = Gx (X m c) (Gn m c) (W m c) (Dp m c) (E m c) (ix2 (row t.val r) j) := by
  have e : (outsAt0 m c t.val t.isLt).1 (ix2 r j) = Rms.dxK (fun k : Fin 1024 => iblk m c 2 t (ix2 r k : S512x1024.Idx)) (fun k => iblk m c 3 t (ix2 0 k : S1x1024.Idx))
      (fun k => dB (iblk m c 0 t) (iblk m c 1 t) r k) (iblk m c 4 t (ix2 r j : S512x1024.Idx)) j := by
    by_cases h0 : t.val % 16 = 0
    · rw [outsAt0_A m c t h0]
      dsimp only
      rw [outA5, pay4_apply]
      simp only [prod_apply]
    · rw [outsAt0_B m c t h0]
      dsimp only
      rw [outB5, pay4_apply]
      simp only [prod_apply]
  rw [e]
  simp only [iblk2_apply, iblk3_apply, iblk4_apply, dB_apply]
  rfl

theorem flushed5_eq (t : Fin cfg0.N) :
    (dats m 0 c).flushed 5 t = ((cfg0.win 5).blk t).view.read (Elt Ideal) (Gx (X m c) (Gn m c) (W m c) (Dp m c) (E m c)) := by
  rw [Value.flushed5]
  funext y
  obtain ⟨r, j, rfl⟩ : ∃ (r : Fin 512) (j : Fin 1024), y = (ix2 r j : S512x1024.Idx) := ⟨_, _, eq_ix2 y⟩
  refine (out5_apply m c t r j).trans (congrArg (Gx (X m c) (Gn m c) (W m c) (Dp m c) (E m c)) (funext fun a => Fin.ext ?_))
  obtain ⟨-, -, -, -, -, ⟨h0, h1⟩, -⟩ := index_eq t
  match a with
  | ⟨0, _⟩ => show (row t.val r).val = win0_5.index t 0 * 512 + 1 * r.val; rw [h0, row_val (lt16 t)]; omega
  | ⟨1, _⟩ => show j.val = win0_5.index t 1 * 1024 + 1 * j.val; rw [h1]; omega

theorem mem_blk5 (t : Fin cfg0.N) (i : S8192x1024.Idx) (h : t.val = (i 0 : Nat) / 512) : i ∈ ((cfg0.win 5).blk t).view.set := by
  have h1 : (i 1 : Nat) < 1024 := (i 1).isLt
  obtain ⟨-, -, -, -, -, ⟨e0, e1⟩, -⟩ := index_eq t
  show i ∈ ((View.whole main_v10_0).slice (win0_5.rect t)).set
  rw [View.set_slice_whole, Rect.mem_set_unit]
  intro a
  match a with
  | ⟨0, _⟩ => show win0_5.index t 0 * 512 ≤ (i 0 : Nat) ∧ (i 0 : Nat) < win0_5.index t 0 * 512 + 512; rw [e0]; omega
  | ⟨1, _⟩ => show win0_5.index t 1 * 1024 ≤ (i 1 : Nat) ∧ (i 1 : Nat) < win0_5.index t 1 * 1024 + 1024; rw [e1]; omega

/-- After the run the first result array holds `Gx` of the arguments. -/
theorem final5 : (dats m 0 c).arrAt 5 cfg0.N = Gx (X m c) (Gn m c) (W m c) (Dp m c) (E m c) :=
  (dats m 0 c).arrAt_eq_of_cover 5 _ (fun t _ => flushed5_eq m c t) fun i => by
    have h0 : (i 0 : Nat) < 8192 := (i 0).isLt
    exact ⟨⟨(i 0).val / 512, show _ < 16 by omega⟩, flush0_5 _, mem_blk5 _ i rfl⟩

/-! ## The gradient with respect to the gain, summed over the blocks -/

/-- The rows of `x` in block `t`. -/
abbrev blockX (t : Fin cfg0.N) : S512x1024.Idx → EReal := iblk m c 2 t

theorem block_part (t : Fin cfg0.N) (j : Fin 1024) :
    (∑ r : Fin 512, dB (iblk m c 0 t) (iblk m c 1 t) r j
        * (blockX m c t (ix2 r j) * Rms.inv fun k : Fin 1024 => blockX m c t (ix2 r k)))
      = ∑ r : Fin 512, part (X m c) (W m c) (Dp m c) (row t.val r) j := by
  refine Finset.sum_congr rfl fun r _ => ?_
  simp only [iblk2_apply, dB_apply]
  rfl

theorem out6_apply : ∀ (n : ℕ) (hn : n < cfg0.N) (j : Fin 1024),
    (outsAt0 m c n hn).2 (ix2 0 j) = ∑ t ∈ Finset.range (n + 1), ∑ r : Fin 512, part (X m c) (W m c) (Dp m c) (row t r) j := by
  intro n
  induction n with
  | zero =>
    intro hn j
    refine (congrFun (congrArg Prod.snd (outsAt0_A m c ⟨0, hn⟩ rfl)) _).trans ?_
    dsimp only
    rw [outA6, pay3_apply, pay5_apply, zero_add, Finset.sum_range_one]
    simp only [prod_apply]
    exact block_part m c ⟨0, hn⟩ j
  | succ n ih =>
    intro hn j
    have h16 : n + 1 < 16 := hn
    refine (congrFun (congrArg Prod.snd (outsAt0_B m c ⟨n + 1, hn⟩ (by dsimp only; omega))) _).trans ?_
    dsimp only
    rw [outB6, pay3_apply, Finset.sum_range_succ]
    simp only [prod_apply]
    exact congrArg₂ (· + ·) (ih (Nat.lt_of_succ_lt hn) j) (block_part m c ⟨n + 1, hn⟩ j)

theorem flushed6_eq (t : Fin cfg0.N) (ht : t.val = 15) :
    (dats m 0 c).flushed 6 t = ((cfg0.win 6).blk t).view.read (Elt Ideal) (Gg (X m c) (W m c) (Dp m c)) := by
  rw [Value.flushed6]
  funext y
  obtain ⟨z, j, rfl⟩ : ∃ (z : Fin 1) (j : Fin 1024), y = (ix2 z j : S1x1024.Idx) := ⟨_, _, eq_ix2 y⟩
  obtain rfl : z = 0 := Subsingleton.elim _ _
  have e : ((cfg0.win 6).blk t).view.read (Elt Ideal) (Gg (X m c) (W m c) (Dp m c)) (ix2 0 j : S1x1024.Idx) = Gg (X m c) (W m c) (Dp m c) (ix2 0 j) := by
    refine congrArg (Gg (X m c) (W m c) (Dp m c)) (funext fun a => Fin.ext ?_)
    obtain ⟨-, -, -, -, -, -, h0, h1⟩ := index_eq t
    match a with
    | ⟨0, _⟩ => show win0_6.index t 0 * 1 + 1 * 0 = 0; rw [h0]
    | ⟨1, _⟩ => show win0_6.index t 1 * 1024 + 1 * j.val = j.val; rw [h1]; omega
  refine (out6_apply m c t.val t.isLt j).trans (Eq.trans ?_ e.symm)
  rw [ht, Finset.sum_range]
  refine Eq.trans ?_ (Rms.sum_pieces 16 512 fun r : Fin 8192 => part (X m c) (W m c) (Dp m c) r j).symm
  refine Finset.sum_congr rfl fun p _ => Finset.sum_congr rfl fun q _ => ?_
  have e : row p.val q = finProdFinEquiv (p, q) := Fin.ext (by rw [row_val p.isLt]; show p.val * 512 + q.val = q.val + 512 * p.val; omega)
  rw [e]

theorem mem_blk6 (t : Fin cfg0.N) (i : S1x1024.Idx) : i ∈ ((cfg0.win 6).blk t).view.set := by
  have h0 : (i 0 : Nat) < 1 := (i 0).isLt
  have h1 : (i 1 : Nat) < 1024 := (i 1).isLt
  obtain ⟨-, -, -, -, -, -, e0, e1⟩ := index_eq t
  show i ∈ ((View.whole main_v10_1).slice (win0_6.rect t)).set
  rw [View.set_slice_whole, Rect.mem_set_unit]
  intro a
  match a with
  | ⟨0, _⟩ => show win0_6.index t 0 * 1 ≤ (i 0 : Nat) ∧ (i 0 : Nat) < win0_6.index t 0 * 1 + 1; rw [e0]; omega
  | ⟨1, _⟩ => show win0_6.index t 1 * 1024 ≤ (i 1 : Nat) ∧ (i 1 : Nat) < win0_6.index t 1 * 1024 + 1024; rw [e1]; omega

/-- After the run the second result array holds `Gg` of the arguments. -/
theorem final6 : (dats m 0 c).arrAt 6 cfg0.N = Gg (X m c) (W m c) (Dp m c) :=
  (dats m 0 c).arrAt_eq_of_cover 6 _ (fun t ht => flushed6_eq m c t (by have := (flush0_6 t).mp ht; have := lt16 t; omega)) fun i =>
    ⟨⟨15, show 15 < 16 by decide⟩, (flush0_6 _).mpr (by decide), mem_blk6 _ i⟩

end Kernel

end Dxn

end
-- ==== Proof.DxnEq.lean ====
/- The gradient through a product and a root-mean-square norm: what the reference computes, and that it is what the
   kernel's result arrays hold. -/
module

public import proofs.«01_k».proof.Proof.DxnArray
public import proofs.«01_k».proof.Proof.Gen.Reference4Ideal.Run
public import proofs.«01_k».proof.Proof.Gen.Reference4Ideal.Read
public import proofs.«01_k».proof.Proof.Gen.Pre_dxn_real

@[expose] public section

set_option maxRecDepth 16384

noncomputable section

namespace Dxn

open Idealize.ShloMosaic Idealize.ShloMosaic.TcCoe Idealize.SL.Sem
open Cert.Kernel4Ideal Reals
open Cert.Reference4Ideal.Read

/-! ## The reference -/

section Reference

variable (x : S8192x1024.Idx → EReal) (g : S1024.Idx → EReal) (w : S1024x5632.Idx → EReal) (dp : S8192x5632.Idx → EReal) (e : S8192x1024.Idx → EReal)

theorem mean_ref (r : Fin 8192) : val_main_v6 (F := Ideal) x (ix2 r 0) = Rms.meanSq (fun k : Fin 1024 => x (ix2 r k)) + Rms.eps := by
  pointwise [val_main_v6, val_main_v5, val_main_v4, val_main_v3, val_main_v2, val_main_v1, val_main_v0, val_main_cst, val_main_cst_0, val_main_cst_1]
  rfl

theorem inv_ref (r : Fin 8192) : val_main_v7 (F := Ideal) x (ix2 r 0) = Rms.inv fun k : Fin 1024 => x (ix2 r k) := by
  pointwise [val_main_v7]
  rw [mean_ref]
  rfl

theorem d_ref (r : Fin 8192) (j : Fin 1024) : val_main_v19 (F := Ideal) w dp (ix2 r j) = dAt w dp r j := by
  pointwise [val_main_v19, val_main_v18, val_main_v16]
  rfl

theorem dg_ref (r : Fin 8192) (j : Fin 1024) : val_main_v24 (F := Ideal) g w dp (ix2 r j) = dAt w dp r j * g (ix1 j) := by
  pointwise [val_main_v24, val_main_v23, val_main_v13]
  rw [d_ref]

theorem slope_ref (r : Fin 8192) (j : Fin 1024) : val_main_v36 (F := Ideal) x g w dp (ix2 r j)
    = Rms.slope (fun k : Fin 1024 => x (ix2 r k)) (fun k => g (ix1 k)) (fun k => dAt w dp r k) := by
  pointwise [val_main_v36, val_main_v35, val_main_v34, val_main_v33, val_main_v32, val_main_v28, val_main_v27, val_main_v26, val_main_v10, val_main_v9,
    val_main_v8, val_main_cst_2, val_main_cst_5, val_main_cst_6, val_main_cst_7]
  rw [Fin.sum_univ_one]
  rw [mean_ref, inv_ref]
  simp only [dg_ref]
  rfl

theorem dx_ref (r : Fin 8192) (j : Fin 1024) : val_main_v40 (F := Ideal) x g w dp e (ix2 r j)
    = Rms.dxR (fun k : Fin 1024 => x (ix2 r k)) (fun k => g (ix1 k)) (fun k => dAt w dp r k) (e (ix2 r j)) j := by
  pointwise [val_main_v40, val_main_v39, val_main_v38, val_main_v37, val_main_v31, val_main_v30, val_main_v29]
  rw [slope_ref, dg_ref, inv_ref]
  rfl

theorem part_ref (r : Fin 8192) (j : Fin 1024) : val_main_v20 (F := Ideal) x w dp (ix2 r j) = part x w dp r j := by
  pointwise [val_main_v20, val_main_v12, val_main_v11]
  rw [d_ref, inv_ref, mul_comm]
  rfl

theorem sum_ref (j : Fin 1024) : val_main_v21 (F := Ideal) x w dp (ix1 j) = ∑ r : Fin 8192, val_main_v20 (F := Ideal) x w dp (ix2 r j) := by
  pointwise [val_main_v21, val_main_cst_3]

theorem gain_ref (j : Fin 1024) : val_main_v41 (F := Ideal) x w dp (ix2 0 j) = ∑ r : Fin 8192, part x w dp r j := by
  pointwise [val_main_v41, val_main_v25, val_main_v22, val_main_cst_4]
  rw [Fin.sum_univ_one, sum_ref]
  exact Finset.sum_congr rfl fun r _ => part_ref x w dp r j

end Reference

/-! ## The equation -/

section Equation

variable (x : S8192x1024.Idx → EReal) (g : S1024.Idx → EReal) (w : S1024x5632.Idx → EReal) (dp : S8192x5632.Idx → EReal) (e : S8192x1024.Idx → EReal)

/-- The precondition: all but the residual's gradient are arrays of real numbers. -/
theorem real_of_pre (h : Cert.Pre_dxn_real.fn (F := Ideal) x g w dp e = fun _ => 1#1) :
    (∀ i, IsR (x i)) ∧ (∀ i, IsR (g i)) ∧ (∀ i, IsR (w i)) ∧ ∀ i, IsR (dp i) := by
  have : Subsingleton Cert.Pre_dxn_real.S_.Idx := ⟨fun a b => funext fun d => d.elim0⟩
  have h := congrFun h (fun d => d.elim0)
  obtain ⟨h, h3⟩ := of_andi h
  obtain ⟨h, h2⟩ := of_andi h
  obtain ⟨h0, h1⟩ := of_andi h
  exact ⟨isR_of_all _ _ _ _ _ _ h0, isR_of_all _ _ _ _ _ _ h1, isR_of_all _ _ _ _ _ _ h2, isR_of_all _ _ _ _ _ _ h3⟩

theorem dx_eq (hx : ∀ i, IsR (x i)) (hg : ∀ i, IsR (g i)) (hw : ∀ i, IsR (w i)) (hd : ∀ i, IsR (dp i)) :
    Gx x g w dp e = val_main_v40 (F := Ideal) x g w dp e := by
  funext i
  obtain ⟨r, j, rfl⟩ : ∃ (r : Fin 8192) (j : Fin 1024), i = (ix2 r j : S8192x1024.Idx) := ⟨_, _, eq_ix2 i⟩
  rw [dx_ref]
  exact Rms.dx_eq _ _ _ _ (fun k => hx _) (fun k => hg _) (fun k => IsR.sum fun k _ => (hd _).mul (hw _)) j

theorem gain_eq : Gg x w dp = val_main_v41 (F := Ideal) x w dp := by
  funext i
  obtain ⟨z, j, rfl⟩ : ∃ (z : Fin 1) (j : Fin 1024), i = (ix2 z j : S1x1024.Idx) := ⟨_, _, eq_ix2 i⟩
  obtain rfl : z = 0 := Subsingleton.elim _ _
  rw [gain_ref]
  rfl

end Equation

end Dxn

end
-- ==== Proof.Dxn2Block.lean ====
/- The gradient through the second product and its root-mean-square norm, whose cotangent comes in two halves: what one
   block of the kernel computes. -/
module

public import proofs.«01_k».proof.Proof.DxnBlock
public import proofs.«01_k».proof.Proof.Gen.Kernel5Ideal.Value
public import Idealize.ShloMosaic.Lib.Pipeline.Value
public import Idealize.ShloMosaic.Lib.VecWindow
public import Idealize.ShloMosaic.Lib.WholeRead

@[expose] public section

set_option maxRecDepth 16384

noncomputable section

namespace Dxn2

open Idealize.ShloMosaic Idealize.ShloMosaic.TcCoe Idealize.SL.Sem
open Cert.Kernel5Ideal Cert.Kernel5Ideal.Gen Reals
open Dxn (ld ld_full ldW_apply)

/-! ## The stores of a block -/

section Pieces

variable {F : FTy → Type} [FloatOps F]

/-- The product of a block of rows with the transposed weights, in the four pieces the kernel takes it in. -/
def prod {a1 : Memref sig .tc .vmem S2x512x2816 .bf16} (h1 : a1.IsWhole) {a2 : Memref sig .tc .vmem S4x1024x1408 .bf16} (h2 : a2.IsWhole)
    (x0 : Vec F S2x512x2816 .bf16) (x1 : Vec F S4x1024x1408 .bf16) : FVec F S512x1024 .f32 :=
  k0_pay6 (ld h1 x0 ![0, 0, 0] S1x512x1408.size inb_S2x512x2816_S1x512x1408_0_0_0) (ld h2 x1 ![0, 0, 0] S1x1024x1408.size inb_S4x1024x1408_S1x1024x1408_0_0_0)
    (ld h1 x0 ![0, 0, 1408] S1x512x1408.size inb_S2x512x2816_S1x512x1408_0_0_1408) (ld h2 x1 ![1, 0, 0] S1x1024x1408.size inb_S4x1024x1408_S1x1024x1408_1_0_0)
    (ld h1 x0 ![1, 0, 0] S1x512x1408.size inb_S2x512x2816_S1x512x1408_1_0_0) (ld h2 x1 ![2, 0, 0] S1x1024x1408.size inb_S4x1024x1408_S1x1024x1408_2_0_0)
    (ld h1 x0 ![1, 0, 1408] S1x512x1408.size inb_S2x512x2816_S1x512x1408_1_0_1408) (ld h2 x1 ![3, 0, 0] S1x1024x1408.size inb_S4x1024x1408_S1x1024x1408_3_0_0)

variable (c : Dev nD) (i : grid0.Coords) (arg1 : Memref sig .tc .vmem S2x512x2816 .bf16) (harg1 : arg1.IsWhole) (arg2 : Memref sig .tc .vmem S4x1024x1408 .bf16) (harg2 : arg2.IsWhole)
  (arg3 : Memref sig .tc .vmem S512x1024 .f32) (harg3 : arg3.IsWhole) (arg4 : Memref sig .tc .vmem S1x1024 .f32) (harg4 : arg4.IsWhole)
  (arg5 : Memref sig .tc .vmem S512x1024 .f32) (harg5 : arg5.IsWhole) (arg6 : Memref sig .tc .vmem S512x1024 .f32) (harg6 : arg6.IsWhole)
  (arg7 : Memref sig .tc .vmem S1x1024 .f32) (harg7 : arg7.IsWhole)
  (x0 : Vec F S2x512x2816 .bf16) (x1 : Vec F S4x1024x1408 .bf16) (x2 : Vec F S512x1024 .f32) (x3 : Vec F S1x1024 .f32) (x4 : Vec F S512x1024 .f32) (xo6 : Vec F S1x1024 .f32)

theorem outA5 (hc : cond0_0 i) :
    out0_A_5 c i arg1 harg1 arg2 harg2 arg3 harg3 arg4 harg4 arg5 harg5 arg6 harg6 arg7 harg7 hc x0 x1 x2 x3 x4
      = k0_pay4 (prod harg1 harg2 x0 x1) x2 x3 x4 := by
  have e : (kernelRun0_A c i arg1 harg1 arg2 harg2 arg3 harg3 arg4 harg4 arg5 harg5 arg6 harg6 arg7 harg7 hc x0 x1 x2 x3 x4).1
      = [⟨Rect.unit (s := S512x1024) ![0, 0] S512x1024.size inb_S512x1024_S512x1024_0_0,
          k0_pay4 (prod harg1 harg2 x0 x1) (ld harg3 x2 ![0, 0] S512x1024.size inb_S512x1024_S512x1024_0_0)
            (ld harg4 x3 ![0, 0] S1x1024.size inb_S1x1024_S1x1024_0_0)
            (ld harg5 x4 ![0, 0] S512x1024.size inb_S512x1024_S512x1024_0_0)⟩] := rfl
  unfold out0_A_5
  rw [e]
  refine (View.read_writes_full _ _ inb_S512x1024_S512x1024_0_0 _ _).trans ?_
  rw [ld_full harg3 x2, ld_full harg4 x3, ld_full harg5 x4]

theorem outB5 (hc : ¬cond0_0 i) :
    out0_B_5 c i arg1 harg1 arg2 harg2 arg3 harg3 arg4 harg4 arg5 harg5 arg6 harg6 arg7 harg7 hc x0 x1 x2 x3 x4 xo6
      = k0_pay4 (prod harg1 harg2 x0 x1) x2 x3 x4 := by
  have e : (kernelRun0_B c i arg1 harg1 arg2 harg2 arg3 harg3 arg4 harg4 arg5 harg5 arg6 harg6 arg7 harg7 hc x0 x1 x2 x3 x4 xo6).1
      = [⟨Rect.unit (s := S512x1024) ![0, 0] S512x1024.size inb_S512x1024_S512x1024_0_0,
          k0_pay4 (prod harg1 harg2 x0 x1) (ld harg3 x2 ![0, 0] S512x1024.size inb_S512x1024_S512x1024_0_0)
            (ld harg4 x3 ![0, 0] S1x1024.size inb_S1x1024_S1x1024_0_0)
            (ld harg5 x4 ![0, 0] S512x1024.size inb_S512x1024_S512x1024_0_0)⟩] := rfl
  unfold out0_B_5
  rw [e]
  refine (View.read_writes_full _ _ inb_S512x1024_S512x1024_0_0 _ _).trans ?_
  rw [ld_full harg3 x2, ld_full harg4 x3, ld_full harg5 x4]

theorem outA6 (hc : cond0_0 i) :
    out0_A_6 c i arg1 harg1 arg2 harg2 arg3 harg3 arg4 harg4 arg5 harg5 arg6 harg6 arg7 harg7 hc x0 x1 x2 x3 x4
      = k0_pay3 (prod harg1 harg2 x0 x1) x2 k0_pay5 := by
  have e : (kernelRun0_A c i arg1 harg1 arg2 harg2 arg3 harg3 arg4 harg4 arg5 harg5 arg6 harg6 arg7 harg7 hc x0 x1 x2 x3 x4).2.1
      = [⟨Rect.unit (s := S1x1024) ![0, 0] S1x1024.size inb_S1x1024_S1x1024_0_0,
          k0_pay3 (prod harg1 harg2 x0 x1) (ld harg3 x2 ![0, 0] S512x1024.size inb_S512x1024_S512x1024_0_0)
            (arg7.view.readCov [⟨Rect.unit (s := S1x1024) ![0, 0] S1x1024.size inb_S1x1024_S1x1024_0_0, k0_pay5⟩]
              (Rect.unit (s := S1x1024) ![0, 0] S1x1024.size inb_S1x1024_S1x1024_0_0).toLoadRect)⟩,
        ⟨Rect.unit (s := S1x1024) ![0, 0] S1x1024.size inb_S1x1024_S1x1024_0_0, k0_pay5⟩] := rfl
  unfold out0_A_6
  rw [e]
  refine (View.read_writes_full _ _ inb_S1x1024_S1x1024_0_0 _ _).trans ?_
  rw [ld_full harg3 x2]
  exact congrArg (k0_pay3 _ _) (View.readCov_full _ _ _ _ _)

theorem outB6 (hc : ¬cond0_0 i) :
    out0_B_6 c i arg1 harg1 arg2 harg2 arg3 harg3 arg4 harg4 arg5 harg5 arg6 harg6 arg7 harg7 hc x0 x1 x2 x3 x4 xo6
      = k0_pay3 (prod harg1 harg2 x0 x1) x2 xo6 := by
  have e : (kernelRun0_B c i arg1 harg1 arg2 harg2 arg3 harg3 arg4 harg4 arg5 harg5 arg6 harg6 arg7 harg7 hc x0 x1 x2 x3 x4 xo6).2.1
      = [⟨Rect.unit (s := S1x1024) ![0, 0] S1x1024.size inb_S1x1024_S1x1024_0_0,
          k0_pay3 (prod harg1 harg2 x0 x1) (ld harg3 x2 ![0, 0] S512x1024.size inb_S512x1024_S512x1024_0_0)
            (ld harg7 xo6 ![0, 0] S1x1024.size inb_S1x1024_S1x1024_0_0)⟩] := rfl
  unfold out0_B_6
  rw [e]
  refine (View.read_writes_full _ _ inb_S1x1024_S1x1024_0_0 _ _).trans ?_
  rw [ld_full harg3 x2, ld_full harg7 xo6]

end Pieces

/-! ## The block at an index -/

/-- Rows of the block's product: of each half of the cotangent two pieces of 1408 columns. -/
def dB (x0 : Vec Ideal S2x512x2816 .bf16) (x1 : Vec Ideal S4x1024x1408 .bf16) (r : Fin 512) (j : Fin 1024) : EReal :=
  ∑ p : Fin 4, ∑ q : Fin 1408, x0 (ix3 ⟨p.val / 2, by omega⟩ r ⟨p.val % 2 * 1408 + q.val, by omega⟩) * x1 (ix3 p j q)

theorem ldX_apply {a : Memref sig .tc .vmem S2x512x2816 .bf16} (h : a.IsWhole) (x : Vec Ideal S2x512x2816 .bf16) (p o : Nat)
    (ho : ∀ b, (![p, 0, o] : Fin 3 → Nat) b + S1x512x1408.size b ≤ S2x512x2816.size b) (r : Fin 512) (q : Fin 1408) (hp : p < 2) (hc : o + q.val < 2816) :
    ld h x ![p, 0, o] S1x512x1408.size ho (ix3 0 r q) = x (ix3 ⟨p, hp⟩ r ⟨o + q.val, hc⟩) := by
  unfold ld
  rw [Memref.IsWhole.readAt_unread]
  exact congrArg x (funext fun a => Fin.ext (by
    match a with
    | ⟨0, _⟩ => show p + 1 * 0 = p; omega
    | ⟨1, _⟩ => show 0 + 1 * r.val = r.val; omega
    | ⟨2, _⟩ => show o + 1 * q.val = o + q.val; omega))

theorem pay6_apply (a0 : Vec Ideal S1x512x1408 .bf16) (w0 : Vec Ideal S1x1024x1408 .bf16) (a1 : Vec Ideal S1x512x1408 .bf16) (w1 : Vec Ideal S1x1024x1408 .bf16)
    (a2 : Vec Ideal S1x512x1408 .bf16) (w2 : Vec Ideal S1x1024x1408 .bf16) (a3 : Vec Ideal S1x512x1408 .bf16) (w3 : Vec Ideal S1x1024x1408 .bf16) (r : Fin 512) (j : Fin 1024) :
    k0_pay6 (F := Ideal) a0 w0 a1 w1 a2 w2 a3 w3 (ix2 r j)
      = (∑ q : Fin 1408, a0 (ix3 0 r q) * w0 (ix3 0 j q)) + (∑ q : Fin 1408, a1 (ix3 0 r q) * w1 (ix3 0 j q))
        + (∑ q : Fin 1408, a2 (ix3 0 r q) * w2 (ix3 0 j q)) + (∑ q : Fin 1408, a3 (ix3 0 r q) * w3 (ix3 0 j q)) := by
  pointwise [k0_pay6]

theorem prod_apply {a1 : Memref sig .tc .vmem S2x512x2816 .bf16} (h1 : a1.IsWhole) {a2 : Memref sig .tc .vmem S4x1024x1408 .bf16} (h2 : a2.IsWhole)
    (x0 : Vec Ideal S2x512x2816 .bf16) (x1 : Vec Ideal S4x1024x1408 .bf16) (r : Fin 512) (j : Fin 1024) :
    prod h1 h2 x0 x1 (ix2 r j) = dB x0 x1 r j := by
  unfold prod dB
  rw [Fin.sum_univ_four]
  refine (pay6_apply _ _ _ _ _ _ _ _ r j).trans ?_
  have e : ∀ (p : Fin 4) (a o : Nat) (ho) (hp) (ha : a = p.val / 2) (hq : o = p.val % 2 * 1408),
      (∑ q : Fin 1408, ld h1 x0 ![a, 0, o] S1x512x1408.size ho (ix3 0 r q) * ld h2 x1 ![p.val, 0, 0] S1x1024x1408.size hp (ix3 0 j q))
        = ∑ q : Fin 1408, x0 (ix3 ⟨p.val / 2, by omega⟩ r ⟨p.val % 2 * 1408 + q.val, by omega⟩) * x1 (ix3 p j q) := by
    intro p a o ho hp ha hq
    subst ha hq
    exact Finset.sum_congr rfl fun q _ => congrArg₂ (· * ·) (ldX_apply h1 x0 _ _ ho r q (by omega) (by omega)) (ldW_apply h2 x1 p.val hp j q p.isLt)
  exact congrArg₂ (· + ·) (congrArg₂ (· + ·) (congrArg₂ (· + ·) (e 0 0 0 _ _ rfl rfl) (e 1 0 1408 _ _ rfl rfl)) (e 2 1 0 _ _ rfl rfl)) (e 3 1 1408 _ _ rfl rfl)

variable (d : FVec Ideal S512x1024 .f32) (x2 : Vec Ideal S512x1024 .f32) (x3 : Vec Ideal S1x1024 .f32) (x4 : Vec Ideal S512x1024 .f32) (old : Vec Ideal S1x1024 .f32)

theorem pay3_apply (j : Fin 1024) :
    k0_pay3 d x2 old (ix2 0 j) = old (ix2 0 j) + ∑ r : Fin 512, d (ix2 r j) * (x2 (ix2 r j) * Rms.inv fun k : Fin 1024 => x2 (ix2 r k)) :=
  Dxn.pay3_apply d x2 old j

theorem pay5_apply (j : Fin 1024) : k0_pay5 (F := Ideal) (ix2 0 j) = 0 := Dxn.pay5_apply j

theorem pay4_apply (r : Fin 512) (j : Fin 1024) :
    k0_pay4 d x2 x3 x4 (ix2 r j) = Rms.dxK (fun k : Fin 1024 => x2 (ix2 r k)) (fun k => x3 (ix2 0 k)) (fun k => d (ix2 r k)) (x4 (ix2 r j)) j :=
  Dxn.pay4_apply d x2 x3 x4 r j

end Dxn2

end
-- ==== Proof.Dxn2Array.lean ====
/- The gradient through the second product and its root-mean-square norm: what the kernel's result arrays hold. -/
module

public import proofs.«01_k».proof.Proof.Dxn2Block
public import proofs.«01_k».proof.Proof.DxnArray
public import Idealize.ShloMosaic.Lib.StableHlo.ReadAt

@[expose] public section

set_option maxRecDepth 16384

noncomputable section

namespace Dxn2

open Idealize.ShloMosaic Idealize.ShloMosaic.TcCoe Idealize.SL.Sem
open Idealize.ShloMosaic.Pipeline (Dat)
open Cert.Kernel5Ideal Cert.Kernel5Ideal.Gen Reals
open Dxn (Gx Gg part dAt row row_val)

/-- The two halves of the cotangent side by side. -/
def cat (h : S2x8192x2816.Idx → EReal) : Cert.Kernel4Ideal.S8192x5632.Idx → EReal :=
  fun i => h (ix3 ⟨(i 1).val / 2816, by have : (i 1).val < 5632 := (i 1).isLt; omega⟩ (i 0) ⟨(i 1).val % 2816, Nat.mod_lt _ (by decide)⟩)

section Kernel

variable (m : (ℓ : Loc nD τ sig) → Buf (Elt Ideal) ℓ) (c : Dev nD)

abbrev X : S8192x1024.Idx → EReal := m ((c : Thread nD τ).loc main_arg0)
abbrev Gn : S1024.Idx → EReal := m ((c : Thread nD τ).loc main_arg1)
abbrev W : S1024x5632.Idx → EReal := m ((c : Thread nD τ).loc main_arg2)
/-- The two halves of the cotangent. -/
abbrev H : S2x8192x2816.Idx → EReal := m ((c : Thread nD τ).loc main_arg3)
abbrev Dp : Cert.Kernel4Ideal.S8192x5632.Idx → EReal := cat (H m c)
abbrev E : S8192x1024.Idx → EReal := m ((c : Thread nD τ).loc main_arg4)

/-- What the two result arrays hold. -/
abbrev R1 : S8192x1024.Idx → EReal := Gx (X m c) (Gn m c) (W m c) (Dp m c) (E m c)
abbrev R2 : S1x1024.Idx → EReal := Gg (X m c) (W m c) (Dp m c)

theorem V_gain (k : Fin 1024) : V m c main_v9 (ix2 0 k : S1x1024.Idx) = Gn m c (ix1 k) := by
  unfold V
  after_reads_at

theorem V_shards (p : Fin 4) (j : Fin 1024) (q : Fin 1408) (h : p.val * 1408 + q.val < 5632) :
    V m c main_v8 (ix3 p j q : S4x1024x1408.Idx) = W m c (ix2 j ⟨p.val * 1408 + q.val, h⟩) := by
  fin_cases p <;> (unfold V; after_reads_at; rw [StableHlo.unary_result]; after_reads_at)

theorem index_eq : ∀ t : Fin cfg0.N,
    (win0_0.index t 0 = 0 ∧ win0_0.index t 1 = t.val ∧ win0_0.index t 2 = 0) ∧ (win0_1.index t 0 = 0 ∧ win0_1.index t 1 = 0 ∧ win0_1.index t 2 = 0)
      ∧ (win0_2.index t 0 = t.val ∧ win0_2.index t 1 = 0) ∧ (win0_3.index t 0 = 0 ∧ win0_3.index t 1 = 0)
      ∧ (win0_4.index t 0 = t.val ∧ win0_4.index t 1 = 0) ∧ (win0_5.index t 0 = t.val ∧ win0_5.index t 1 = 0)
      ∧ (win0_6.index t 0 = 0 ∧ win0_6.index t 1 = 0) :=
  (by decide +kernel : ∀ t : Fin grid0.N, _)

theorem lt16 (t : Fin cfg0.N) : t.val < 16 := t.isLt

theorem iblk0_apply (t : Fin cfg0.N) (p : Fin 2) (r : Fin 512) (k : Fin 2816) :
    iblk m c 0 t (ix3 p r k : S2x512x2816.Idx) = H m c (ix3 p (row t.val r) k) := by
  refine (congrFun (V_main_arg3 m c) _).trans (congrArg (H m c) (funext fun a => Fin.ext ?_))
  obtain ⟨⟨h0, h1, h2⟩, -⟩ := index_eq t
  match a with
  | ⟨0, _⟩ => show win0_0.index t 0 * 2 + 1 * p.val = p.val; rw [h0]; omega
  | ⟨1, _⟩ => show win0_0.index t 1 * 512 + 1 * r.val = (row t.val r).val; rw [h1, row_val (lt16 t)]; omega
  | ⟨2, _⟩ => show win0_0.index t 2 * 2816 + 1 * k.val = k.val; rw [h2]; omega

theorem iblk1_apply (t : Fin cfg0.N) (p : Fin 4) (j : Fin 1024) (q : Fin 1408) (h : p.val * 1408 + q.val < 5632) :
    iblk m c 1 t (ix3 p j q : S4x1024x1408.Idx) = W m c (ix2 j ⟨p.val * 1408 + q.val, h⟩) := by
  refine (congrArg (V m c main_v8) (funext fun a => Fin.ext ?_)).trans (V_shards m c p j q h)
  obtain ⟨-, ⟨h0, h1, h2⟩, -⟩ := index_eq t
  match a with
  | ⟨0, _⟩ => show win0_1.index t 0 * 4 + 1 * p.val = p.val; rw [h0]; omega
  | ⟨1, _⟩ => show win0_1.index t 1 * 1024 + 1 * j.val = j.val; rw [h1]; omega
  | ⟨2, _⟩ => show win0_1.index t 2 * 1408 + 1 * q.val = q.val; rw [h2]; omega

theorem iblk2_apply (t : Fin cfg0.N) (r : Fin 512) (k : Fin 1024) :
    iblk m c 2 t (ix2 r k : S512x1024.Idx) = X m c (ix2 (row t.val r) k) := by
  refine (congrFun (V_main_arg0 m c) _).trans (congrArg (X m c) (funext fun a => Fin.ext ?_))
  obtain ⟨-, -, ⟨h0, h1⟩, -⟩ := index_eq t
  match a with
  | ⟨0, _⟩ => show win0_2.index t 0 * 512 + 1 * r.val = (row t.val r).val; rw [h0, row_val (lt16 t)]; omega
  | ⟨1, _⟩ => show win0_2.index t 1 * 1024 + 1 * k.val = k.val; rw [h1]; omega

theorem iblk3_apply (t : Fin cfg0.N) (k : Fin 1024) : iblk m c 3 t (ix2 0 k : S1x1024.Idx) = Gn m c (ix1 k) := by
  refine (congrArg (V m c main_v9) (funext fun a => Fin.ext ?_)).trans (V_gain m c k)
  obtain ⟨-, -, -, ⟨h0, h1⟩, -⟩ := index_eq t
  match a with
  | ⟨0, _⟩ => show win0_3.index t 0 * 1 + 1 * 0 = 0; rw [h0]
  | ⟨1, _⟩ => show win0_3.index t 1 * 1024 + 1 * k.val = k.val; rw [h1]; omega

theorem iblk4_apply (t : Fin cfg0.N) (r : Fin 512) (k : Fin 1024) :
    iblk m c 4 t (ix2 r k : S512x1024.Idx) = E m c (ix2 (row t.val r) k) := by
  refine (congrFun (V_main_arg4 m c) _).trans (congrArg (E m c) (funext fun a => Fin.ext ?_))
  obtain ⟨-, -, -, -, ⟨h0, h1⟩, -⟩ := index_eq t
  match a with
  | ⟨0, _⟩ => show win0_4.index t 0 * 512 + 1 * r.val = (row t.val r).val; rw [h0, row_val (lt16 t)]; omega
  | ⟨1, _⟩ => show win0_4.index t 1 * 1024 + 1 * k.val = k.val; rw [h1]; omega

/-- The product of block `t` is the rows of the whole product. -/
theorem dB_apply (t : Fin cfg0.N) (r : Fin 512) (j : Fin 1024) : dB (iblk m c 0 t) (iblk m c 1 t) r j = dAt (W m c) (Dp m c) (row t.val r) j := by
  unfold dB dAt
  refine Eq.trans ?_ (Rms.sum_pieces 4 1408 fun k : Fin 5632 => Dp m c (ix2 (row t.val r) k) * W m c (ix2 j k)).symm
  refine Finset.sum_congr rfl fun p _ => Finset.sum_congr rfl fun q _ => ?_
  rw [iblk0_apply, iblk1_apply m c t p j q (by omega)]
  have e : finProdFinEquiv (p, q) = (⟨p.val * 1408 + q.val, by omega⟩ : Fin 5632) := Fin.ext (by show q.val + 1408 * p.val = p.val * 1408 + q.val; omega)
  refine congrArg₂ (· * ·) (congrArg (H m c) (funext fun a => Fin.ext ?_)) (by rw [e])
  match a with
  | ⟨0, _⟩ => show p.val / 2 = (q.val + 1408 * p.val) / 2816; omega
  | ⟨1, _⟩ => rfl
  | ⟨2, _⟩ => show p.val % 2 * 1408 + q.val = (q.val + 1408 * p.val) % 2816; omega

/-! ## The gradient with respect to the row -/

theorem out5_apply (t : Fin cfg0.N) (r : Fin 512) (j : Fin 1024) :
    (outsAt0 m c t.val t.isLt).1 (ix2 r j) = Gx (X m c) (Gn m c) (W m c) (Dp m c) (E m c) (ix2 (row t.val r) j) := by
  have e : (outsAt0 m c t.val t.isLt).1 (ix2 r j) = Rms.dxK (fun k : Fin 1024 => iblk m c 2 t (ix2 r k : S512x1024.Idx)) (fun k => iblk m c 3 t (ix2 0 k : S1x1024.Idx))
      (fun k => dB (iblk m c 0 t) (iblk m c 1 t) r k) (iblk m c 4 t (ix2 r j : S512x1024.Idx)) j := by
    by_cases h0 : t.val % 16 = 0
    · rw [outsAt0_A m c t h0]
      dsimp only
      rw [outA5, pay4_apply]
      simp only [prod_apply]
    · rw [outsAt0_B m c t h0]
      dsimp only
      rw [outB5, pay4_apply]
      simp only [prod_apply]
  rw [e]
  simp only [iblk2_apply, iblk3_apply, iblk4_apply, dB_apply]
  rfl

theorem flushed5_eq (t : Fin cfg0.N) :
    (dats m 0 c).flushed 5 t = ((cfg0.win 5).blk t).view.read (Elt Ideal) (Gx (X m c) (Gn m c) (W m c) (Dp m c) (E m c)) := by
  rw [Value.flushed5]
  funext y
  obtain ⟨r, j, rfl⟩ : ∃ (r : Fin 512) (j : Fin 1024), y = (ix2 r j : S512x1024.Idx) := ⟨_, _, eq_ix2 y⟩
  refine (out5_apply m c t r j).trans (congrArg (Gx (X m c) (Gn m c) (W m c) (Dp m c) (E m c)) (funext fun a => Fin.ext ?_))
  obtain ⟨-, -, -, -, -, ⟨h0, h1⟩, -⟩ := index_eq t
  match a with
  | ⟨0, _⟩ => show (row t.val r).val = win0_5.index t 0 * 512 + 1 * r.val; rw [h0, row_val (lt16 t)]; omega
  | ⟨1, _⟩ => show j.val = win0_5.index t 1 * 1024 + 1 * j.val; rw [h1]; omega

theorem mem_blk5 (t : Fin cfg0.N) (i : S8192x1024.Idx) (h : t.val = (i 0 : Nat) / 512) : i ∈ ((cfg0.win 5).blk t).view.set := by
  have h1 : (i 1 : Nat) < 1024 := (i 1).isLt
  obtain ⟨-, -, -, -, -, ⟨e0, e1⟩, -⟩ := index_eq t
  show i ∈ ((View.whole main_v10_0).slice (win0_5.rect t)).set
  rw [View.set_slice_whole, Rect.mem_set_unit]
  intro a
  match a with
  | ⟨0, _⟩ => show win0_5.index t 0 * 512 ≤ (i 0 : Nat) ∧ (i 0 : Nat) < win0_5.index t 0 * 512 + 512; rw [e0]; omega
  | ⟨1, _⟩ => show win0_5.index t 1 * 1024 ≤ (i 1 : Nat) ∧ (i 1 : Nat) < win0_5.index t 1 * 1024 + 1024; rw [e1]; omega

/-- After the run the first result array holds `Gx` of the arguments. -/
theorem final5 : (dats m 0 c).arrAt 5 cfg0.N = Gx (X m c) (Gn m c) (W m c) (Dp m c) (E m c) :=
  (dats m 0 c).arrAt_eq_of_cover 5 _ (fun t _ => flushed5_eq m c t) fun i => by
    have h0 : (i 0 : Nat) < 8192 := (i 0).isLt
    exact ⟨⟨(i 0).val / 512, show _ < 16 by omega⟩, flush0_5 _, mem_blk5 _ i rfl⟩

/-! ## The gradient with respect to the gain, summed over the blocks -/

/-- The rows of `x` in block `t`. -/
abbrev blockX (t : Fin cfg0.N) : S512x1024.Idx → EReal := iblk m c 2 t

theorem block_part (t : Fin cfg0.N) (j : Fin 1024) :
    (∑ r : Fin 512, dB (iblk m c 0 t) (iblk m c 1 t) r j
        * (blockX m c t (ix2 r j) * Rms.inv fun k : Fin 1024 => blockX m c t (ix2 r k)))
      = ∑ r : Fin 512, part (X m c) (W m c) (Dp m c) (row t.val r) j := by
  refine Finset.sum_congr rfl fun r _ => ?_
  simp only [iblk2_apply, dB_apply]
  rfl

theorem out6_apply : ∀ (n : ℕ) (hn : n < cfg0.N) (j : Fin 1024),
    (outsAt0 m c n hn).2 (ix2 0 j) = ∑ t ∈ Finset.range (n + 1), ∑ r : Fin 512, part (X m c) (W m c) (Dp m c) (row t r) j := by
  intro n
  induction n with
  | zero =>
    intro hn j
    refine (congrFun (congrArg Prod.snd (outsAt0_A m c ⟨0, hn⟩ rfl)) _).trans ?_
    dsimp only
    rw [outA6, pay3_apply, pay5_apply, zero_add, Finset.sum_range_one]
    simp only [prod_apply]
    exact block_part m c ⟨0, hn⟩ j
  | succ n ih =>
    intro hn j
    have h16 : n + 1 < 16 := hn
    refine (congrFun (congrArg Prod.snd (outsAt0_B m c ⟨n + 1, hn⟩ (by dsimp only; omega))) _).trans ?_
    dsimp only
    rw [outB6, pay3_apply, Finset.sum_range_succ]
    simp only [prod_apply]
    exact congrArg₂ (· + ·) (ih (Nat.lt_of_succ_lt hn) j) (block_part m c ⟨n + 1, hn⟩ j)

theorem flushed6_eq (t : Fin cfg0.N) (ht : t.val = 15) :
    (dats m 0 c).flushed 6 t = ((cfg0.win 6).blk t).view.read (Elt Ideal) (Gg (X m c) (W m c) (Dp m c)) := by
  rw [Value.flushed6]
  funext y
  obtain ⟨z, j, rfl⟩ : ∃ (z : Fin 1) (j : Fin 1024), y = (ix2 z j : S1x1024.Idx) := ⟨_, _, eq_ix2 y⟩
  obtain rfl : z = 0 := Subsingleton.elim _ _
  have e : ((cfg0.win 6).blk t).view.read (Elt Ideal) (Gg (X m c) (W m c) (Dp m c)) (ix2 0 j : S1x1024.Idx) = Gg (X m c) (W m c) (Dp m c) (ix2 0 j) := by
    refine congrArg (Gg (X m c) (W m c) (Dp m c)) (funext fun a => Fin.ext ?_)
    obtain ⟨-, -, -, -, -, -, h0, h1⟩ := index_eq t
    match a with
    | ⟨0, _⟩ => show win0_6.index t 0 * 1 + 1 * 0 = 0; rw [h0]
    | ⟨1, _⟩ => show win0_6.index t 1 * 1024 + 1 * j.val = j.val; rw [h1]; omega
  refine (out6_apply m c t.val t.isLt j).trans (Eq.trans ?_ e.symm)
  rw [ht, Finset.sum_range]
  refine Eq.trans ?_ (Rms.sum_pieces 16 512 fun r : Fin 8192 => part (X m c) (W m c) (Dp m c) r j).symm
  refine Finset.sum_congr rfl fun p _ => Finset.sum_congr rfl fun q _ => ?_
  have e : row p.val q = finProdFinEquiv (p, q) := Fin.ext (by rw [row_val p.isLt]; show p.val * 512 + q.val = q.val + 512 * p.val; omega)
  rw [e]

theorem mem_blk6 (t : Fin cfg0.N) (i : S1x1024.Idx) : i ∈ ((cfg0.win 6).blk t).view.set := by
  have h0 : (i 0 : Nat) < 1 := (i 0).isLt
  have h1 : (i 1 : Nat) < 1024 := (i 1).isLt
  obtain ⟨-, -, -, -, -, -, e0, e1⟩ := index_eq t
  show i ∈ ((View.whole main_v10_1).slice (win0_6.rect t)).set
  rw [View.set_slice_whole, Rect.mem_set_unit]
  intro a
  match a with
  | ⟨0, _⟩ => show win0_6.index t 0 * 1 ≤ (i 0 : Nat) ∧ (i 0 : Nat) < win0_6.index t 0 * 1 + 1; rw [e0]; omega
  | ⟨1, _⟩ => show win0_6.index t 1 * 1024 ≤ (i 1 : Nat) ∧ (i 1 : Nat) < win0_6.index t 1 * 1024 + 1024; rw [e1]; omega

/-- After the run the second result array holds `Gg` of the arguments. -/
theorem final6 : (dats m 0 c).arrAt 6 cfg0.N = Gg (X m c) (W m c) (Dp m c) :=
  (dats m 0 c).arrAt_eq_of_cover 6 _ (fun t ht => flushed6_eq m c t (by have := (flush0_6 t).mp ht; have := lt16 t; omega)) fun i =>
    ⟨⟨15, show 15 < 16 by decide⟩, (flush0_6 _).mpr (by decide), mem_blk6 _ i⟩

end Kernel

end Dxn2

end
-- ==== Proof.Dxn2Eq.lean ====
/- The gradient through the second product and its root-mean-square norm: what the reference computes, and that it is what
   the kernel's result arrays hold. -/
module

public import proofs.«01_k».proof.Proof.DxnEq
public import proofs.«01_k».proof.Proof.Dxn2Array
public import proofs.«01_k».proof.Proof.Gen.Reference5Ideal.Run
public import proofs.«01_k».proof.Proof.Gen.Reference5Ideal.Read
public import proofs.«01_k».proof.Proof.Gen.Pre_dxn2_real

@[expose] public section

set_option maxRecDepth 16384

noncomputable section

namespace Dxn2

open Idealize.ShloMosaic Idealize.ShloMosaic.TcCoe Idealize.SL.Sem
open Cert.Kernel5Ideal Reals
open Cert.Reference5Ideal.Read

variable (x : S8192x1024.Idx → EReal) (g : S1024.Idx → EReal) (w : S1024x5632.Idx → EReal) (h : S2x8192x2816.Idx → EReal) (e : S8192x1024.Idx → EReal)

/-- The precondition: all but the residual's gradient are arrays of real numbers. -/
theorem real_of_pre (hp : Cert.Pre_dxn2_real.fn (F := Ideal) x g w h e = fun _ => 1#1) :
    (∀ i, IsR (x i)) ∧ (∀ i, IsR (g i)) ∧ (∀ i, IsR (w i)) ∧ ∀ i, IsR (h i) := by
  have : Subsingleton Cert.Pre_dxn2_real.S_.Idx := ⟨fun a b => funext fun d => d.elim0⟩
  have hp := congrFun hp (fun d => d.elim0)
  obtain ⟨hp, h3⟩ := of_andi hp
  obtain ⟨hp, h2⟩ := of_andi hp
  obtain ⟨h0, h1⟩ := of_andi hp
  exact ⟨isR_of_all _ _ _ _ _ _ h0, isR_of_all _ _ _ _ _ _ h1, isR_of_all _ _ _ _ _ _ h2, isR_of_all _ _ _ _ _ _ h3⟩

/-- The reference lays the two halves side by side. -/
theorem cat_ref : val_main_v4 (F := Ideal) h = cat h := by
  funext i
  obtain ⟨r, k, rfl⟩ : ∃ (r : Fin 8192) (k : Fin 5632), i = (ix2 r k : Cert.Kernel4Ideal.S8192x5632.Idx) := ⟨_, _, eq_ix2 i⟩
  pointwise [val_main_v4]
  have hr := r.isLt
  have hk := k.isLt
  split
  · rw [val_main_v1_apply, val_main_v0_apply]
    refine congrArg h (funext fun a => Fin.ext ?_)
    match a with
    | ⟨0, _⟩ => show 0 = k.val / 2816; omega
    | ⟨1, _⟩ => show (r.val * 2816 + k.val) / 2816 % 8192 = r.val; omega
    | ⟨2, _⟩ => show (r.val * 2816 + k.val) % 2816 = k.val % 2816; omega
  · rw [val_main_v3_apply, val_main_v2_apply]
    refine congrArg h (funext fun a => Fin.ext ?_)
    match a with
    | ⟨0, _⟩ => show 1 + 0 = k.val / 2816; omega
    | ⟨1, _⟩ => show (r.val * 2816 + (k.val - 2816)) / 2816 % 8192 = r.val; omega
    | ⟨2, _⟩ => show (r.val * 2816 + (k.val - 2816)) % 2816 = k.val % 2816; omega

/-- From there on it is the reference of the first such gradient. -/
theorem dx_step : val_main_v45 (F := Ideal) x g w h e = Cert.Reference4Ideal.Read.val_main_v40 (F := Ideal) x g w (val_main_v4 (F := Ideal) h) e := rfl

theorem gain_step : val_main_v46 (F := Ideal) x w h = Cert.Reference4Ideal.Read.val_main_v41 (F := Ideal) x w (val_main_v4 (F := Ideal) h) := rfl

theorem dx_eq (hx : ∀ i, IsR (x i)) (hg : ∀ i, IsR (g i)) (hw : ∀ i, IsR (w i)) (hh : ∀ i, IsR (h i)) :
    Dxn.Gx x g w (cat h) e = val_main_v45 (F := Ideal) x g w h e := by
  rw [dx_step, cat_ref]
  exact Dxn.dx_eq x g w (cat h) e hx hg hw fun i => hh _

theorem gain_eq : Dxn.Gg x w (cat h) = val_main_v46 (F := Ideal) x w h := by
  rw [gain_step, cat_ref]
  exact Dxn.gain_eq x w (cat h)

end Dxn2

end
-- ==== Proof.LossBlock.lean ====
/- The last norm, the loss and its gradient: what one block of the kernel computes. -/
module

public import proofs.«01_k».proof.Proof.DxnBlock
public import proofs.«01_k».proof.Proof.Gen.Kernel6Ideal.Value

@[expose] public section

set_option maxRecDepth 16384

noncomputable section

namespace Loss

open Idealize.ShloMosaic Idealize.ShloMosaic.TcCoe Idealize.SL.Sem
open Cert.Kernel6Ideal Cert.Kernel6Ideal.Gen Reals
open Dxn (ld ld_full)

/-! ## The stores of a block -/

section Pieces

variable {F : FTy → Type} [FloatOps F]

/-- The gradient with respect to the rows that a block stores. -/
def gradX (x0 : Vec F S512x2816 .bf16) (x1 : Vec F S2816x1024 .bf16) (x2 : Vec F S512x1024 .f32) (x3 : Vec F S1x1024 .f32) (x4 : Vec F S512x1024 .f32) :
    FVec F S512x1024 .f32 :=
  k0_pay4 (k0_pay8 x3) (k0_pay9 x2 x0 x1) (k0_pay10 x2 x0 x1) (k0_pay11 x2 x0 x1 x3 x4)

/-- The loss so far, after a block that found `old`. -/
def addLoss (x0 : Vec F S512x2816 .bf16) (x1 : Vec F S2816x1024 .bf16) (x2 : Vec F S512x1024 .f32) (x3 : Vec F S1x1024 .f32) (x4 : Vec F S512x1024 .f32)
    (old : Vec F S1x128 .f32) : FVec F S1x128 .f32 :=
  k0_pay1 (k0_pay12 old) (k0_pay13 x2 x0 x1 x3 x4)

/-- The gain's gradient so far, after a block that found `old`. -/
def addGain (x0 : Vec F S512x2816 .bf16) (x1 : Vec F S2816x1024 .bf16) (x2 : Vec F S512x1024 .f32) (x3 : Vec F S1x1024 .f32) (x4 : Vec F S512x1024 .f32)
    (old : Vec F S1x1024 .f32) : FVec F S1x1024 .f32 :=
  k0_pay3 (k0_pay10 x2 x0 x1) (k0_pay11 x2 x0 x1 x3 x4) old

variable (c : Dev nD) (i : grid0.Coords) (arg1 : Memref sig .tc .vmem S512x2816 .bf16) (harg1 : arg1.IsWhole) (arg2 : Memref sig .tc .vmem S2816x1024 .bf16) (harg2 : arg2.IsWhole)
  (arg3 : Memref sig .tc .vmem S512x1024 .f32) (harg3 : arg3.IsWhole) (arg4 : Memref sig .tc .vmem S1x1024 .f32) (harg4 : arg4.IsWhole)
  (arg5 : Memref sig .tc .vmem S512x1024 .f32) (harg5 : arg5.IsWhole) (arg6 : Memref sig .tc .vmem S512x1024 .f32) (harg6 : arg6.IsWhole)
  (arg7 : Memref sig .tc .vmem S1x128 .f32) (harg7 : arg7.IsWhole) (arg8 : Memref sig .tc .vmem S1x1024 .f32) (harg8 : arg8.IsWhole)
  (x0 : Vec F S512x2816 .bf16) (x1 : Vec F S2816x1024 .bf16) (x2 : Vec F S512x1024 .f32) (x3 : Vec F S1x1024 .f32) (x4 : Vec F S512x1024 .f32)
  (xo6 : Vec F S1x128 .f32) (xo7 : Vec F S1x1024 .f32)

theorem outA5 (hc : cond0_0 i) :
    out0_A_5 c i arg1 harg1 arg2 harg2 arg3 harg3 arg4 harg4 arg5 harg5 arg6 harg6 arg7 harg7 arg8 harg8 hc x0 x1 x2 x3 x4 = gradX x0 x1 x2 x3 x4 := by
  have e : (kernelRun0_A c i arg1 harg1 arg2 harg2 arg3 harg3 arg4 harg4 arg5 harg5 arg6 harg6 arg7 harg7 arg8 harg8 hc x0 x1 x2 x3 x4).1
      = [⟨Rect.unit (s := S512x1024) ![0, 0] S512x1024.size inb_S512x1024_S512x1024_0_0,
          gradX (ld harg1 x0 ![0, 0] S512x2816.size inb_S512x2816_S512x2816_0_0) (ld harg2 x1 ![0, 0] S2816x1024.size inb_S2816x1024_S2816x1024_0_0) (ld harg3 x2 ![0, 0] S512x1024.size inb_S512x1024_S512x1024_0_0) (ld harg4 x3 ![0, 0] S1x1024.size inb_S1x1024_S1x1024_0_0) (ld harg5 x4 ![0, 0] S512x1024.size inb_S512x1024_S512x1024_0_0)
            ⟩] := rfl
  unfold out0_A_5
  rw [e]
  refine (View.read_writes_full _ _ inb_S512x1024_S512x1024_0_0 _ _).trans ?_
  rw [ld_full harg1 x0, ld_full harg2 x1, ld_full harg3 x2, ld_full harg4 x3, ld_full harg5 x4]

theorem outA6 (hc : cond0_0 i) :
    out0_A_6 c i arg1 harg1 arg2 harg2 arg3 harg3 arg4 harg4 arg5 harg5 arg6 harg6 arg7 harg7 arg8 harg8 hc x0 x1 x2 x3 x4 = addLoss x0 x1 x2 x3 x4 k0_pay5 := by
  have e : (kernelRun0_A c i arg1 harg1 arg2 harg2 arg3 harg3 arg4 harg4 arg5 harg5 arg6 harg6 arg7 harg7 arg8 harg8 hc x0 x1 x2 x3 x4).2.1
      = [⟨Rect.unit (s := S1x128) ![0, 0] S1x128.size inb_S1x128_S1x128_0_0,
          addLoss (ld harg1 x0 ![0, 0] S512x2816.size inb_S512x2816_S512x2816_0_0) (ld harg2 x1 ![0, 0] S2816x1024.size inb_S2816x1024_S2816x1024_0_0) (ld harg3 x2 ![0, 0] S512x1024.size inb_S512x1024_S512x1024_0_0) (ld harg4 x3 ![0, 0] S1x1024.size inb_S1x1024_S1x1024_0_0) (ld harg5 x4 ![0, 0] S512x1024.size inb_S512x1024_S512x1024_0_0)
             (arg7.view.readCov [⟨Rect.unit (s := S1x128) ![0, 0] S1x128.size inb_S1x128_S1x128_0_0, k0_pay5⟩] (Rect.unit (s := S1x128) ![0, 0] S1x128.size inb_S1x128_S1x128_0_0).toLoadRect)⟩,
        ⟨Rect.unit (s := S1x128) ![0, 0] S1x128.size inb_S1x128_S1x128_0_0, k0_pay5⟩] := rfl
  unfold out0_A_6
  rw [e]
  refine (View.read_writes_full _ _ inb_S1x128_S1x128_0_0 _ _).trans ?_
  rw [ld_full harg1 x0, ld_full harg2 x1, ld_full harg3 x2, ld_full harg4 x3, ld_full harg5 x4]
  exact congrArg (addLoss _ _ _ _ _) (View.readCov_full _ _ _ _ _)

theorem outA7 (hc : cond0_0 i) :
    out0_A_7 c i arg1 harg1 arg2 harg2 arg3 harg3 arg4 harg4 arg5 harg5 arg6 harg6 arg7 harg7 arg8 harg8 hc x0 x1 x2 x3 x4 = addGain x0 x1 x2 x3 x4 k0_pay6 := by
  have e : (kernelRun0_A c i arg1 harg1 arg2 harg2 arg3 harg3 arg4 harg4 arg5 harg5 arg6 harg6 arg7 harg7 arg8 harg8 hc x0 x1 x2 x3 x4).2.2.1
      = [⟨Rect.unit (s := S1x1024) ![0, 0] S1x1024.size inb_S1x1024_S1x1024_0_0,
          addGain (ld harg1 x0 ![0, 0] S512x2816.size inb_S512x2816_S512x2816_0_0) (ld harg2 x1 ![0, 0] S2816x1024.size inb_S2816x1024_S2816x1024_0_0) (ld harg3 x2 ![0, 0] S512x1024.size inb_S512x1024_S512x1024_0_0) (ld harg4 x3 ![0, 0] S1x1024.size inb_S1x1024_S1x1024_0_0) (ld harg5 x4 ![0, 0] S512x1024.size inb_S512x1024_S512x1024_0_0)
             (arg8.view.readCov [⟨Rect.unit (s := S1x1024) ![0, 0] S1x1024.size inb_S1x1024_S1x1024_0_0, k0_pay6⟩] (Rect.unit (s := S1x1024) ![0, 0] S1x1024.size inb_S1x1024_S1x1024_0_0).toLoadRect)⟩,
        ⟨Rect.unit (s := S1x1024) ![0, 0] S1x1024.size inb_S1x1024_S1x1024_0_0, k0_pay6⟩] := rfl
  unfold out0_A_7
  rw [e]
  refine (View.read_writes_full _ _ inb_S1x1024_S1x1024_0_0 _ _).trans ?_
  rw [ld_full harg1 x0, ld_full harg2 x1, ld_full harg3 x2, ld_full harg4 x3, ld_full harg5 x4]
  exact congrArg (addGain _ _ _ _ _) (View.readCov_full _ _ _ _ _)

theorem outB5 (hc : ¬cond0_0 i) :
    out0_B_5 c i arg1 harg1 arg2 harg2 arg3 harg3 arg4 harg4 arg5 harg5 arg6 harg6 arg7 harg7 arg8 harg8 hc x0 x1 x2 x3 x4 xo6 xo7 = gradX x0 x1 x2 x3 x4 := by
  have e : (kernelRun0_B c i arg1 harg1 arg2 harg2 arg3 harg3 arg4 harg4 arg5 harg5 arg6 harg6 arg7 harg7 arg8 harg8 hc x0 x1 x2 x3 x4 xo6 xo7).1
      = [⟨Rect.unit (s := S512x1024) ![0, 0] S512x1024.size inb_S512x1024_S512x1024_0_0,
          gradX (ld harg1 x0 ![0, 0] S512x2816.size inb_S512x2816_S512x2816_0_0) (ld harg2 x1 ![0, 0] S2816x1024.size inb_S2816x1024_S2816x1024_0_0) (ld harg3 x2 ![0, 0] S512x1024.size inb_S512x1024_S512x1024_0_0) (ld harg4 x3 ![0, 0] S1x1024.size inb_S1x1024_S1x1024_0_0) (ld harg5 x4 ![0, 0] S512x1024.size inb_S512x1024_S512x1024_0_0)
            ⟩] := rfl
  unfold out0_B_5
  rw [e]
  refine (View.read_writes_full _ _ inb_S512x1024_S512x1024_0_0 _ _).trans ?_
  rw [ld_full harg1 x0, ld_full harg2 x1, ld_full harg3 x2, ld_full harg4 x3, ld_full harg5 x4]

theorem outB6 (hc : ¬cond0_0 i) :
    out0_B_6 c i arg1 harg1 arg2 harg2 arg3 harg3 arg4 harg4 arg5 harg5 arg6 harg6 arg7 harg7 arg8 harg8 hc x0 x1 x2 x3 x4 xo6 xo7 = addLoss x0 x1 x2 x3 x4 xo6 := by
  have e : (kernelRun0_B c i arg1 harg1 arg2 harg2 arg3 harg3 arg4 harg4 arg5 harg5 arg6 harg6 arg7 harg7 arg8 harg8 hc x0 x1 x2 x3 x4 xo6 xo7).2.1
      = [⟨Rect.unit (s := S1x128) ![0, 0] S1x128.size inb_S1x128_S1x128_0_0,
          addLoss (ld harg1 x0 ![0, 0] S512x2816.size inb_S512x2816_S512x2816_0_0) (ld harg2 x1 ![0, 0] S2816x1024.size inb_S2816x1024_S2816x1024_0_0) (ld harg3 x2 ![0, 0] S512x1024.size inb_S512x1024_S512x1024_0_0) (ld harg4 x3 ![0, 0] S1x1024.size inb_S1x1024_S1x1024_0_0) (ld harg5 x4 ![0, 0] S512x1024.size inb_S512x1024_S512x1024_0_0)
             (ld harg7 xo6 ![0, 0] S1x128.size inb_S1x128_S1x128_0_0)⟩] := rfl
  unfold out0_B_6
  rw [e]
  refine (View.read_writes_full _ _ inb_S1x128_S1x128_0_0 _ _).trans ?_
  rw [ld_full harg1 x0, ld_full harg2 x1, ld_full harg3 x2, ld_full harg4 x3, ld_full harg5 x4, ld_full harg7 xo6]

theorem outB7 (hc : ¬cond0_0 i) :
    out0_B_7 c i arg1 harg1 arg2 harg2 arg3 harg3 arg4 harg4 arg5 harg5 arg6 harg6 arg7 harg7 arg8 harg8 hc x0 x1 x2 x3 x4 xo6 xo7 = addGain x0 x1 x2 x3 x4 xo7 := by
  have e : (kernelRun0_B c i arg1 harg1 arg2 harg2 arg3 harg3 arg4 harg4 arg5 harg5 arg6 harg6 arg7 harg7 arg8 harg8 hc x0 x1 x2 x3 x4 xo6 xo7).2.2.1
      = [⟨Rect.unit (s := S1x1024) ![0, 0] S1x1024.size inb_S1x1024_S1x1024_0_0,
          addGain (ld harg1 x0 ![0, 0] S512x2816.size inb_S512x2816_S512x2816_0_0) (ld harg2 x1 ![0, 0] S2816x1024.size inb_S2816x1024_S2816x1024_0_0) (ld harg3 x2 ![0, 0] S512x1024.size inb_S512x1024_S512x1024_0_0) (ld harg4 x3 ![0, 0] S1x1024.size inb_S1x1024_S1x1024_0_0) (ld harg5 x4 ![0, 0] S512x1024.size inb_S512x1024_S512x1024_0_0)
             (ld harg8 xo7 ![0, 0] S1x1024.size inb_S1x1024_S1x1024_0_0)⟩] := rfl
  unfold out0_B_7
  rw [e]
  refine (View.read_writes_full _ _ inb_S1x1024_S1x1024_0_0 _ _).trans ?_
  rw [ld_full harg1 x0, ld_full harg2 x1, ld_full harg3 x2, ld_full harg4 x3, ld_full harg5 x4, ld_full harg8 xo7]

end Pieces

/-! ## The block at an index -/

/-- One row of the residual stream: the row of `x1` and the product of the row of `act` with the weights. -/
def xRow (a : Fin 2816 → EReal) (w : S2816x1024.Idx → EReal) (e : Fin 1024 → EReal) (j : Fin 1024) : EReal := e j + ∑ k, a k * w (ix2 k j)

/-- How far a normed row is from its target. -/
def err (x g t : Fin 1024 → EReal) (j : Fin 1024) : EReal := x j * Rms.inv x * g j - t j

/-- The gradient with respect to the normed row. -/
def dRow (x g t : Fin 1024 → EReal) (j : Fin 1024) : EReal := err x g t j * Ideal.ofBits .f32 0x3A800000#32

/-- The mean square of a row's error. -/
def lossRow (x g t : Fin 1024 → EReal) : EReal := Ideal.div (∑ k, err x g t k * err x g t k) Rms.width

section Index

variable (x0 : Vec Ideal S512x2816 .bf16) (x1 : Vec Ideal S2816x1024 .bf16) (x2 : Vec Ideal S512x1024 .f32) (x3 : Vec Ideal S1x1024 .f32) (x4 : Vec Ideal S512x1024 .f32)

/-- Row `r` of a block, and the gain. -/
def xB (r : Fin 512) : Fin 1024 → EReal := xRow (fun k => x0 (ix2 r k)) x1 (fun k => x2 (ix2 r k))
abbrev gB : Fin 1024 → EReal := fun k => x3 (ix2 0 k)
abbrev tB (r : Fin 512) : Fin 1024 → EReal := fun k => x4 (ix2 r k)

theorem pay7_apply (r : Fin 512) (j : Fin 1024) : k0_pay7 x2 x0 x1 (ix2 r j) = xB x0 x1 x2 r j := by
  pointwise [k0_pay7]
  rfl

theorem pay9_apply (r : Fin 512) : k0_pay9 x2 x0 x1 (ix2 r 0) = Rms.inv (xB x0 x1 x2 r) := by
  pointwise [k0_pay9]
  simp only [pay7_apply]
  rfl

theorem pay10_apply (r : Fin 512) (j : Fin 1024) : k0_pay10 x2 x0 x1 (ix2 r j) = xB x0 x1 x2 r j * Rms.inv (xB x0 x1 x2 r) := by
  pointwise [k0_pay10]
  rw [pay7_apply, pay9_apply]

theorem pay11_apply (r : Fin 512) (j : Fin 1024) : k0_pay11 x2 x0 x1 x3 x4 (ix2 r j) = err (xB x0 x1 x2 r) (gB x3) (tB x4 r) j := by
  pointwise [k0_pay11, k0_pay8]
  rw [pay10_apply]
  rfl

theorem addLoss_apply (old : Vec Ideal S1x128 .f32) (j : Fin 128) :
    addLoss x0 x1 x2 x3 x4 old (ix2 0 j)
      = old (ix2 0 j) + Ideal.ofBits .f32 0x3F000000#32 * ∑ r : Fin 512, lossRow (xB x0 x1 x2 r) (gB x3) (tB x4 r) := by
  unfold addLoss
  pointwise [k0_pay1, k0_pay12, k0_pay13]
  simp only [pay11_apply]
  rfl

theorem addGain_apply (old : Vec Ideal S1x1024 .f32) (j : Fin 1024) :
    addGain x0 x1 x2 x3 x4 old (ix2 0 j)
      = old (ix2 0 j) + ∑ r : Fin 512, dRow (xB x0 x1 x2 r) (gB x3) (tB x4 r) j * (xB x0 x1 x2 r j * Rms.inv (xB x0 x1 x2 r)) := by
  unfold addGain
  pointwise [k0_pay3, k0_pay2]
  simp only [pay10_apply, pay11_apply]
  rfl

theorem gradX_apply (r : Fin 512) (j : Fin 1024) :
    gradX x0 x1 x2 x3 x4 (ix2 r j) = Rms.dxK (xB x0 x1 x2 r) (gB x3) (dRow (xB x0 x1 x2 r) (gB x3) (tB x4 r)) 0 j := by
  unfold gradX Rms.dxK
  rw [zero_add]
  pointwise [k0_pay4, k0_pay2, k0_pay8]
  simp only [pay9_apply, pay10_apply, pay11_apply]
  rfl

theorem zero6_apply (j : Fin 128) : k0_pay5 (F := Ideal) (ix2 0 j) = 0 := by
  pointwise [k0_pay5]

theorem zero7_apply (j : Fin 1024) : k0_pay6 (F := Ideal) (ix2 0 j) = 0 := by
  pointwise [k0_pay6]

end Index

end Loss

end
-- ==== Proof.LossArray.lean ====
/- The last norm, the loss and its gradient: what the kernel's result arrays hold. -/
module

public import proofs.«01_k».proof.Proof.LossBlock
public import Idealize.ShloMosaic.Lib.StableHlo.ReadAt

@[expose] public section

set_option maxRecDepth 16384

noncomputable section

namespace Loss

open Idealize.ShloMosaic Idealize.ShloMosaic.TcCoe Idealize.SL.Sem
open Idealize.ShloMosaic.Pipeline (Dat)
open Cert.Kernel6Ideal Cert.Kernel6Ideal.Gen Reals

/-! ## The whole arrays -/

section Arrays

variable (a : S8192x2816.Idx → EReal) (w : S2816x1024.Idx → EReal) (e : S8192x1024.Idx → EReal) (g : S1024.Idx → EReal) (t : S8192x1024.Idx → EReal)

/-- Row `r` of the residual stream, of the target and of the normed row's gradient; and the gain. -/
def xAt (r : Fin 8192) : Fin 1024 → EReal := xRow (fun k => a (ix2 r k)) w (fun k => e (ix2 r k))
def tAt (r : Fin 8192) : Fin 1024 → EReal := fun k => t (ix2 r k)
def gAt : Fin 1024 → EReal := fun k => g (ix1 k)
def dAt (r : Fin 8192) : Fin 1024 → EReal := dRow (xAt a w e r) (gAt g) (tAt t r)

/-- What the first result array holds: the gradient with respect to the residual stream. -/
def Gx : S8192x1024.Idx → EReal := fun i => Rms.dxK (xAt a w e (i 0)) (gAt g) (dAt a w e g t (i 0)) 0 (i 1)

/-- Row `r` of block `p`. -/
def row (p : Nat) (r : Fin 512) : Fin 8192 := ⟨(p * 512 + r.val) % 8192, Nat.mod_lt _ (by decide)⟩

/-- One block's part of the loss. -/
def blockLoss (p : Nat) : EReal := Ideal.ofBits .f32 0x3F000000#32 * ∑ r : Fin 512, lossRow (xAt a w e (row p r)) (gAt g) (tAt t (row p r))

/-- What the second result array holds, at every entry: the loss. -/
def Gl : S1x128.Idx → EReal := fun _ => ∑ p ∈ Finset.range 16, blockLoss a w e g t p

/-- One row's part of the gradient with respect to the gain. -/
def part (r : Fin 8192) (j : Fin 1024) : EReal := dAt a w e g t r j * (xAt a w e r j * Rms.inv (xAt a w e r))

/-- What the third result array holds: the gradient with respect to the gain. -/
def Gg : S1x1024.Idx → EReal := fun i => ∑ p ∈ Finset.range 16, ∑ r : Fin 512, part a w e g t (row p r) (i 1)

end Arrays

theorem row_val {t : Nat} (ht : t < 16) (r : Fin 512) : (row t r).val = t * 512 + r.val := Nat.mod_eq_of_lt (by have := r.isLt; omega)

section Kernel

variable (m : (ℓ : Loc nD τ sig) → Buf (Elt Ideal) ℓ) (c : Dev nD)

abbrev A : S8192x2816.Idx → EReal := m ((c : Thread nD τ).loc main_arg0)
abbrev W : S2816x1024.Idx → EReal := m ((c : Thread nD τ).loc main_arg1)
abbrev E : S8192x1024.Idx → EReal := m ((c : Thread nD τ).loc main_arg2)
abbrev Gn : S1024.Idx → EReal := m ((c : Thread nD τ).loc main_arg3)
abbrev T : S8192x1024.Idx → EReal := m ((c : Thread nD τ).loc main_arg4)

/-- What the three result arrays hold. -/
abbrev R1 : S8192x1024.Idx → EReal := Gx (A m c) (W m c) (E m c) (Gn m c) (T m c)
abbrev R2 : S1x128.Idx → EReal := Gl (A m c) (W m c) (E m c) (Gn m c) (T m c)
abbrev R3 : S1x1024.Idx → EReal := Gg (A m c) (W m c) (E m c) (Gn m c) (T m c)

theorem V_gain (k : Fin 1024) : V m c main_v0 (ix2 0 k : S1x1024.Idx) = Gn m c (ix1 k) := by
  unfold V
  after_reads_at

theorem index_eq : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0)
      ∧ (win0_3.index t 0 = 0 ∧ win0_3.index t 1 = 0) ∧ (win0_4.index t 0 = t.val ∧ win0_4.index t 1 = 0)
      ∧ (win0_5.index t 0 = t.val ∧ win0_5.index t 1 = 0) ∧ (win0_6.index t 0 = 0 ∧ win0_6.index t 1 = 0) ∧ (win0_7.index t 0 = 0 ∧ win0_7.index t 1 = 0) :=
  (by decide +kernel : ∀ t : Fin grid0.N, _)

theorem lt16 (t : Fin cfg0.N) : t.val < 16 := t.isLt

/-- The windows' blocks of the arguments at step `t`. -/
abbrev aB (t : Fin cfg0.N) : S512x2816.Idx → EReal := iblk m c 0 t
abbrev wB (t : Fin cfg0.N) : S2816x1024.Idx → EReal := iblk m c 1 t
abbrev eB (t : Fin cfg0.N) : S512x1024.Idx → EReal := iblk m c 2 t
abbrev gnB (t : Fin cfg0.N) : S1x1024.Idx → EReal := iblk m c 3 t
abbrev tgB (t : Fin cfg0.N) : S512x1024.Idx → EReal := iblk m c 4 t

theorem aB_apply (t : Fin cfg0.N) (r : Fin 512) (k : Fin 2816) : aB m c t (ix2 r k) = A m c (ix2 (row t.val r) k) := by
  refine (congrFun (V_main_arg0 m c) _).trans (congrArg (A m c) (funext fun a => Fin.ext ?_))
  obtain ⟨⟨h0, h1⟩, -⟩ := index_eq t
  match a with
  | ⟨0, _⟩ => show win0_0.index t 0 * 512 + 1 * r.val = (row t.val r).val; rw [h0, row_val (lt16 t)]; omega
  | ⟨1, _⟩ => show win0_0.index t 1 * 2816 + 1 * k.val = k.val; rw [h1]; omega

theorem wB_eq (t : Fin cfg0.N) : wB m c t = W m c := by
  funext i
  refine (congrFun (V_main_arg1 m c) _).trans (congrArg (W m c) (funext fun a => Fin.ext ?_))
  obtain ⟨-, ⟨h0, h1⟩, -⟩ := index_eq t
  match a with
  | ⟨0, _⟩ => show win0_1.index t 0 * 2816 + 1 * (i 0).val = (i 0).val; rw [h0]; omega
  | ⟨1, _⟩ => show win0_1.index t 1 * 1024 + 1 * (i 1).val = (i 1).val; rw [h1]; omega

theorem eB_apply (t : Fin cfg0.N) (r : Fin 512) (k : Fin 1024) : eB m c t (ix2 r k) = E m c (ix2 (row t.val r) k) := by
  refine (congrFun (V_main_arg2 m c) _).trans (congrArg (E m c) (funext fun a => Fin.ext ?_))
  obtain ⟨-, -, ⟨h0, h1⟩, -⟩ := index_eq t
  match a with
  | ⟨0, _⟩ => show win0_2.index t 0 * 512 + 1 * r.val = (row t.val r).val; rw [h0, row_val (lt16 t)]; omega
  | ⟨1, _⟩ => show win0_2.index t 1 * 1024 + 1 * k.val = k.val; rw [h1]; omega

theorem gnB_apply (t : Fin cfg0.N) (k : Fin 1024) : gnB m c t (ix2 0 k) = Gn m c (ix1 k) := by
  refine (congrArg (V m c main_v0) (funext fun a => Fin.ext ?_)).trans (V_gain m c k)
  obtain ⟨-, -, -, ⟨h0, h1⟩, -⟩ := index_eq t
  match a with
  | ⟨0, _⟩ => show win0_3.index t 0 * 1 + 1 * 0 = 0; rw [h0]
  | ⟨1, _⟩ => show win0_3.index t 1 * 1024 + 1 * k.val = k.val; rw [h1]; omega

theorem tgB_apply (t : Fin cfg0.N) (r : Fin 512) (k : Fin 1024) : tgB m c t (ix2 r k) = T m c (ix2 (row t.val r) k) := by
  refine (congrFun (V_main_arg4 m c) _).trans (congrArg (T m c) (funext fun a => Fin.ext ?_))
  obtain ⟨-, -, -, -, ⟨h0, h1⟩, -⟩ := index_eq t
  match a with
  | ⟨0, _⟩ => show win0_4.index t 0 * 512 + 1 * r.val = (row t.val r).val; rw [h0, row_val (lt16 t)]; omega
  | ⟨1, _⟩ => show win0_4.index t 1 * 1024 + 1 * k.val = k.val; rw [h1]; omega

/-- The rows of block `t` are rows of the whole arrays. -/
theorem xB_eq (t : Fin cfg0.N) (r : Fin 512) : xB (aB m c t) (wB m c t) (eB m c t) r = xAt (A m c) (W m c) (E m c) (row t.val r) := by
  unfold xB xAt
  rw [wB_eq]
  simp only [aB_apply, eB_apply]

theorem gB_eq (t : Fin cfg0.N) : gB (gnB m c t) = gAt (Gn m c) := funext fun k => gnB_apply m c t k

theorem tB_eq (t : Fin cfg0.N) (r : Fin 512) : tB (tgB m c t) r = tAt (T m c) (row t.val r) := funext fun k => tgB_apply m c t r k

/-! ## The gradient with respect to the residual stream -/

theorem out5_apply (t : Fin cfg0.N) (r : Fin 512) (j : Fin 1024) : (outsAt0 m c t.val t.isLt).1 (ix2 r j) = R1 m c (ix2 (row t.val r) j) := by
  have e : (outsAt0 m c t.val t.isLt).1 (ix2 r j) = gradX (F := Ideal) (aB m c t) (wB m c t) (eB m c t) (gnB m c t) (tgB m c t) (ix2 r j) := by
    by_cases h0 : t.val % 16 = 0
    · rw [outsAt0_A m c t h0]
      dsimp only
      rw [outA5]
    · rw [outsAt0_B m c t h0]
      dsimp only
      rw [outB5]
  rw [e, gradX_apply, xB_eq, gB_eq, tB_eq]
  rfl

theorem flushed5_eq (t : Fin cfg0.N) : (dats m 0 c).flushed 5 t = ((cfg0.win 5).blk t).view.read (Elt Ideal) (R1 m c) := by
  rw [Value.flushed5]
  funext y
  obtain ⟨r, j, rfl⟩ : ∃ (r : Fin 512) (j : Fin 1024), y = (ix2 r j : S512x1024.Idx) := ⟨_, _, eq_ix2 y⟩
  refine (out5_apply m c t r j).trans (congrArg (R1 m c) (funext fun a => Fin.ext ?_))
  obtain ⟨-, -, -, -, -, ⟨h0, h1⟩, -⟩ := index_eq t
  match a with
  | ⟨0, _⟩ => show (row t.val r).val = win0_5.index t 0 * 512 + 1 * r.val; rw [h0, row_val (lt16 t)]; omega
  | ⟨1, _⟩ => show j.val = win0_5.index t 1 * 1024 + 1 * j.val; rw [h1]; omega

theorem mem_blk5 (t : Fin cfg0.N) (i : S8192x1024.Idx) (h : t.val = (i 0 : Nat) / 512) : i ∈ ((cfg0.win 5).blk t).view.set := by
  have h1 : (i 1 : Nat) < 1024 := (i 1).isLt
  obtain ⟨-, -, -, -, -, ⟨e0, e1⟩, -⟩ := index_eq t
  show i ∈ ((View.whole main_v1_0).slice (win0_5.rect t)).set
  rw [View.set_slice_whole, Rect.mem_set_unit]
  intro a
  match a with
  | ⟨0, _⟩ => show win0_5.index t 0 * 512 ≤ (i 0 : Nat) ∧ (i 0 : Nat) < win0_5.index t 0 * 512 + 512; rw [e0]; omega
  | ⟨1, _⟩ => show win0_5.index t 1 * 1024 ≤ (i 1 : Nat) ∧ (i 1 : Nat) < win0_5.index t 1 * 1024 + 1024; rw [e1]; omega

/-- After the run the first result array holds `R1`. -/
theorem final5 : (dats m 0 c).arrAt 5 cfg0.N = R1 m c :=
  (dats m 0 c).arrAt_eq_of_cover 5 _ (fun t _ => flushed5_eq m c t) fun i => by
    have h0 : (i 0 : Nat) < 8192 := (i 0).isLt
    exact ⟨⟨(i 0).val / 512, show _ < 16 by omega⟩, flush0_5 _, mem_blk5 _ i rfl⟩

/-! ## The loss and the gradient with respect to the gain, summed over the blocks -/

theorem block_loss (t : Fin cfg0.N) (old : S1x128.Idx → EReal) (j : Fin 128) :
    addLoss (F := Ideal) (aB m c t) (wB m c t) (eB m c t) (gnB m c t) (tgB m c t) old (ix2 0 j)
      = old (ix2 0 j) + blockLoss (A m c) (W m c) (E m c) (Gn m c) (T m c) t.val := by
  rw [addLoss_apply]
  simp only [xB_eq, gB_eq, tB_eq]
  rfl

theorem block_gain (t : Fin cfg0.N) (old : S1x1024.Idx → EReal) (j : Fin 1024) :
    addGain (F := Ideal) (aB m c t) (wB m c t) (eB m c t) (gnB m c t) (tgB m c t) old (ix2 0 j)
      = old (ix2 0 j) + ∑ r : Fin 512, part (A m c) (W m c) (E m c) (Gn m c) (T m c) (row t.val r) j := by
  rw [addGain_apply]
  simp only [xB_eq, gB_eq, tB_eq]
  rfl

/-- After step `n` the two running sums hold the blocks so far. -/
theorem sums_apply : ∀ (n : ℕ) (hn : n < cfg0.N),
    (∀ j : Fin 128, (outsAt0 m c n hn).2.1 (ix2 0 j) = ∑ t ∈ Finset.range (n + 1), blockLoss (A m c) (W m c) (E m c) (Gn m c) (T m c) t)
      ∧ ∀ j : Fin 1024, (outsAt0 m c n hn).2.2 (ix2 0 j) = ∑ t ∈ Finset.range (n + 1), ∑ r : Fin 512, part (A m c) (W m c) (E m c) (Gn m c) (T m c) (row t r) j := by
  intro n
  induction n with
  | zero =>
    intro hn
    refine ⟨fun j => (congrFun (congrArg (fun p => p.2.1) (outsAt0_A m c ⟨0, hn⟩ rfl)) _).trans ?_,
      fun j => (congrFun (congrArg (fun p => p.2.2) (outsAt0_A m c ⟨0, hn⟩ rfl)) _).trans ?_⟩ <;> dsimp only <;> rw [Finset.sum_range_one]
    · rw [outA6]
      refine (block_loss m c ⟨0, hn⟩ _ j).trans ?_
      rw [zero6_apply, zero_add]
    · rw [outA7]
      refine (block_gain m c ⟨0, hn⟩ _ j).trans ?_
      rw [zero7_apply, zero_add]
  | succ n ih =>
    intro hn
    have h16 : n + 1 < 16 := hn
    have h0 : ¬(⟨n + 1, hn⟩ : Fin cfg0.N).val % 16 = 0 := by dsimp only; omega
    obtain ⟨i1, i2⟩ := ih (Nat.lt_of_succ_lt hn)
    refine ⟨fun j => (congrFun (congrArg (fun p => p.2.1) (outsAt0_B m c ⟨n + 1, hn⟩ h0)) _).trans ?_,
      fun j => (congrFun (congrArg (fun p => p.2.2) (outsAt0_B m c ⟨n + 1, hn⟩ h0)) _).trans ?_⟩ <;> dsimp only <;> rw [Finset.sum_range_succ]
    · rw [outB6]
      exact (block_loss m c ⟨n + 1, hn⟩ _ j).trans (congrArg (· + _) (i1 j))
    · rw [outB7]
      exact (block_gain m c ⟨n + 1, hn⟩ _ j).trans (congrArg (· + _) (i2 j))

theorem flushed6_eq (t : Fin cfg0.N) (ht : t.val = 15) : (dats m 0 c).flushed 6 t = ((cfg0.win 6).blk t).view.read (Elt Ideal) (R2 m c) := by
  rw [Value.flushed6]
  funext y
  obtain ⟨z, j, rfl⟩ : ∃ (z : Fin 1) (j : Fin 128), y = (ix2 z j : S1x128.Idx) := ⟨_, _, eq_ix2 y⟩
  obtain rfl : z = 0 := Subsingleton.elim _ _
  refine ((sums_apply m c t.val t.isLt).1 j).trans ?_
  rw [ht]
  rfl

theorem mem_blk6 (t : Fin cfg0.N) (i : S1x128.Idx) : i ∈ ((cfg0.win 6).blk t).view.set := by
  have k0 : (i 0 : Nat) < 1 := (i 0).isLt
  have k1 : (i 1 : Nat) < 128 := (i 1).isLt
  obtain ⟨-, -, -, -, -, -, ⟨h0, h1⟩, -⟩ := index_eq t
  show i ∈ ((View.whole main_v1_1).slice (win0_6.rect t)).set
  rw [View.set_slice_whole, Rect.mem_set_unit]
  intro a
  match a with
  | ⟨0, _⟩ => show win0_6.index t 0 * 1 ≤ (i 0 : Nat) ∧ (i 0 : Nat) < win0_6.index t 0 * 1 + 1; rw [h0]; omega
  | ⟨1, _⟩ => show win0_6.index t 1 * 128 ≤ (i 1 : Nat) ∧ (i 1 : Nat) < win0_6.index t 1 * 128 + 128; rw [h1]; omega

theorem final6 : (dats m 0 c).arrAt 6 cfg0.N = R2 m c :=
  (dats m 0 c).arrAt_eq_of_cover 6 _ (fun t ht => flushed6_eq m c t (by have := (flush0_6 t).mp ht; have := lt16 t; omega)) fun i =>
    ⟨⟨15, show 15 < 16 by decide⟩, (flush0_6 _).mpr (by decide), mem_blk6 _ i⟩

theorem flushed7_eq (t : Fin cfg0.N) (ht : t.val = 15) : (dats m 0 c).flushed 7 t = ((cfg0.win 7).blk t).view.read (Elt Ideal) (R3 m c) := by
  rw [Value.flushed7]
  funext y
  obtain ⟨z, j, rfl⟩ : ∃ (z : Fin 1) (j : Fin 1024), y = (ix2 z j : S1x1024.Idx) := ⟨_, _, eq_ix2 y⟩
  obtain rfl : z = 0 := Subsingleton.elim _ _
  refine ((sums_apply m c t.val t.isLt).2 j).trans ?_
  rw [ht]
  have e : ((cfg0.win 7).blk t).view.read (Elt Ideal) (R3 m c) (ix2 0 j : S1x1024.Idx) = R3 m c (ix2 0 j) := by
    refine congrArg (R3 m c) (funext fun a => Fin.ext ?_)
    obtain ⟨-, -, -, -, -, -, -, h0, h1⟩ := index_eq t
    match a with
    | ⟨0, _⟩ => show win0_7.index t 0 * 1 + 1 * 0 = 0; rw [h0]
    | ⟨1, _⟩ => show win0_7.index t 1 * 1024 + 1 * j.val = j.val; rw [h1]; omega
  exact e.symm

theorem mem_blk7 (t : Fin cfg0.N) (i : S1x1024.Idx) : i ∈ ((cfg0.win 7).blk t).view.set := by
  have k0 : (i 0 : Nat) < 1 := (i 0).isLt
  have k1 : (i 1 : Nat) < 1024 := (i 1).isLt
  obtain ⟨-, -, -, -, -, -, -, h0, h1⟩ := index_eq t
  show i ∈ ((View.whole main_v1_2).slice (win0_7.rect t)).set
  rw [View.set_slice_whole, Rect.mem_set_unit]
  intro a
  match a with
  | ⟨0, _⟩ => show win0_7.index t 0 * 1 ≤ (i 0 : Nat) ∧ (i 0 : Nat) < win0_7.index t 0 * 1 + 1; rw [h0]; omega
  | ⟨1, _⟩ => show win0_7.index t 1 * 1024 ≤ (i 1 : Nat) ∧ (i 1 : Nat) < win0_7.index t 1 * 1024 + 1024; rw [h1]; omega

theorem final7 : (dats m 0 c).arrAt 7 cfg0.N = R3 m c :=
  (dats m 0 c).arrAt_eq_of_cover 7 _ (fun t ht => flushed7_eq m c t (by have := (flush0_7 t).mp ht; have := lt16 t; omega)) fun i =>
    ⟨⟨15, show 15 < 16 by decide⟩, (flush0_7 _).mpr (by decide), mem_blk7 _ i⟩

end Kernel

end Loss

end
-- ==== Proof.LossEq.lean ====
/- The last norm, the loss and its gradient: what the reference computes, and that it is what the kernel's result arrays
   hold. -/
module

public import proofs.«01_k».proof.Proof.LossArray
public import proofs.«01_k».proof.Proof.Gen.Reference6Ideal.Run
public import proofs.«01_k».proof.Proof.Gen.Reference6Ideal.Read
public import proofs.«01_k».proof.Proof.Gen.Pre_loss_real

@[expose] public section

set_option maxRecDepth 16384

noncomputable section

namespace Loss

open Idealize.ShloMosaic Idealize.ShloMosaic.TcCoe Idealize.SL.Sem
open Cert.Kernel6Ideal Reals
open Cert.Reference6Ideal.Read

/-! ## Numbers -/

theorem ofBits_two : Ideal.ofBits .f32 0x40000000#32 = ((2 : ℝ) : EReal) := by
  simp [Ideal.ofBits, Ideal.ieee, -EReal.coe_mul]; norm_num

theorem ofBits_scale : Ideal.ofBits .f32 0x3A800000#32 = ((1 / 1024 : ℝ) : EReal) := by
  simp [Ideal.ofBits, Ideal.ieee, -EReal.coe_mul]; norm_num

/-- The factor of the mean and of the square, in the two ways of writing it. -/
theorem scale_eq (x : EReal) (hx : IsR x) :
    Ideal.div (Ideal.ofBits .f32 0x3F000000#32) Rms.width * (Ideal.ofBits .f32 0x40000000#32 * x)
      = x * Ideal.ofBits .f32 0x3A800000#32 := by
  obtain ⟨x, rfl⟩ := hx
  rw [ofBits_half, Rms.width_eq, ofBits_two, ofBits_scale, Ideal.div_coe (by norm_num)]
  simp only [← EReal.coe_mul]
  congr 1
  ring

/-- A real factor goes into a sum of real numbers. -/
theorem mul_sum_real {ι : Type*} (s : Finset ι) (f : ι → EReal) (r : ℝ) (hf : ∀ i, IsR (f i)) : (r : EReal) * ∑ i ∈ s, f i = ∑ i ∈ s, (r : EReal) * f i := by
  choose f' hf using hf
  obtain rfl : f = fun i => (f' i : EReal) := funext hf
  simp only [← EReal.coe_mul]
  rw [← coe_sum, ← coe_sum, ← EReal.coe_mul, Finset.mul_sum]

theorem IsR.sub {x y : EReal} (hx : IsR x) (hy : IsR y) : IsR (x - y) := by
  obtain ⟨a, rfl⟩ := hx; obtain ⟨b, rfl⟩ := hy; exact ⟨a - b, (EReal.coe_sub a b).symm⟩

/-- The rows are taken in sixteen blocks. -/
theorem sum_rows (f : Fin 8192 → EReal) : ∑ p ∈ Finset.range 16, ∑ q : Fin 512, f (row p q) = ∑ r, f r := by
  rw [Finset.sum_range]
  refine Eq.trans ?_ (Rms.sum_pieces 16 512 f).symm
  refine Finset.sum_congr rfl fun p _ => Finset.sum_congr rfl fun q _ => ?_
  have e : row p.val q = finProdFinEquiv (p, q) := Fin.ext (by rw [row_val p.isLt]; show p.val * 512 + q.val = q.val + 512 * p.val; omega)
  rw [e]

/-! ## The reference -/

section Reference

variable (a : S8192x2816.Idx → EReal) (w : S2816x1024.Idx → EReal) (e : S8192x1024.Idx → EReal) (g : S1024.Idx → EReal) (t : S8192x1024.Idx → EReal)

theorem x_ref (r : Fin 8192) (j : Fin 1024) : val_main_v3 (F := Ideal) a w e (ix2 r j) = xAt a w e r j := by
  pointwise [val_main_v3, val_main_v2, val_main_v1, val_main_v0]
  rfl

theorem mean_ref (r : Fin 8192) : val_main_v10 (F := Ideal) a w e (ix2 r 0) = Rms.meanSq (xAt a w e r) + Rms.eps := by
  pointwise [val_main_v10, val_main_v9, val_main_v8, val_main_v7, val_main_v6, val_main_v5, val_main_v4, val_main_cst, val_main_cst_0, val_main_cst_1]
  simp only [x_ref]
  rfl

theorem inv_ref (r : Fin 8192) : val_main_v11 (F := Ideal) a w e (ix2 r 0) = Rms.inv (xAt a w e r) := by
  pointwise [val_main_v11]
  rw [mean_ref]
  rfl

theorem xh_ref (r : Fin 8192) (j : Fin 1024) : val_main_v16 (F := Ideal) a w e (ix2 r j) = xAt a w e r j * Rms.inv (xAt a w e r) := by
  pointwise [val_main_v16, val_main_v15]
  rw [x_ref, inv_ref]

theorem err_ref (r : Fin 8192) (j : Fin 1024) : val_main_v20 (F := Ideal) a w e g t (ix2 r j) = err (xAt a w e r) (gAt g) (tAt t r) j := by
  pointwise [val_main_v20, val_main_v19, val_main_v18, val_main_v17]
  rw [xh_ref]
  rfl

theorem lossRow_ref (r : Fin 8192) : val_main_v26 (F := Ideal) a w e g t (ix1 r) = lossRow (xAt a w e r) (gAt g) (tAt t r) := by
  pointwise [val_main_v26, val_main_v25, val_main_v24, val_main_v21, val_main_cst_4, val_main_cst_5]
  simp only [err_ref]
  rfl

theorem loss_ref (j : Fin 128) : val_main_v55 (F := Ideal) a w e g t (ix2 0 j)
    = Ideal.ofBits .f32 0x3F000000#32 * ∑ r : Fin 8192, lossRow (xAt a w e r) (gAt g) (tAt t r) := by
  pointwise [val_main_v55, val_main_v28, val_main_v27, val_main_cst_6, val_main_cst_7]
  simp only [lossRow_ref]

variable (ha : ∀ i, IsR (a i)) (hw : ∀ i, IsR (w i)) (he : ∀ i, IsR (e i)) (hg : ∀ i, IsR (g i)) (ht : ∀ i, IsR (t i))

include ha hw he in
theorem isR_x (r : Fin 8192) (j : Fin 1024) : IsR (xAt a w e r j) := (he _).add (IsR.sum fun k _ => (ha _).mul (hw _))

include ha hw he hg ht in
theorem isR_err (r : Fin 8192) (j : Fin 1024) : IsR (err (xAt a w e r) (gAt g) (tAt t r) j) :=
  IsR.sub (((isR_x a w e ha hw he r j).mul (Rms.isR_inv _ (isR_x a w e ha hw he r))).mul (hg _)) (ht _)

include ha hw he hg ht in
theorem isR_lossRow (r : Fin 8192) : IsR (lossRow (xAt a w e r) (gAt g) (tAt t r)) := by
  unfold lossRow
  rw [Rms.width_eq, Ideal.div_coe (by norm_num)]
  have h := isR_err a w e g t ha hw he hg ht r
  exact IsR.mul (IsR.sum fun k _ => (h k).mul (h k)) (isR_coe _)

include ha hw he hg ht in
theorem d_ref (r : Fin 8192) (j : Fin 1024) : val_main_v34 (F := Ideal) a w e g t (ix2 r j) = dAt a w e g t r j := by
  pointwise [val_main_v34, val_main_v33, val_main_v32, val_main_v31, val_main_v30, val_main_v29, val_main_v23, val_main_v22, val_main_cst_3, val_main_cst_8,
    val_main_cst_9, val_main_cst_10]
  rw [err_ref]
  exact scale_eq _ (isR_err a w e g t ha hw he hg ht r j)

include ha hw he hg ht in
theorem dg_ref (r : Fin 8192) (j : Fin 1024) : val_main_v39 (F := Ideal) a w e g t (ix2 r j) = dAt a w e g t r j * gAt g j := by
  pointwise [val_main_v39, val_main_v38, val_main_v17]
  rw [d_ref a w e g t ha hw he hg ht]
  rfl

include ha hw he hg ht in
theorem slope_ref (r : Fin 8192) (j : Fin 1024) : val_main_v50 (F := Ideal) a w e g t (ix2 r j) = Rms.slope (xAt a w e r) (gAt g) (dAt a w e g t r) := by
  pointwise [val_main_v50, val_main_v49, val_main_v48, val_main_v47, val_main_v46, val_main_v43, val_main_v42, val_main_v41, val_main_v14, val_main_v13,
    val_main_v12, val_main_cst_2, val_main_cst_13, val_main_cst_14, val_main_cst_15]
  rw [Fin.sum_univ_one]
  rw [mean_ref, inv_ref]
  simp only [dg_ref a w e g t ha hw he hg ht, x_ref]
  rfl

include ha hw he hg ht in
theorem dx_ref (r : Fin 8192) (j : Fin 1024) : val_main_v54 (F := Ideal) a w e g t (ix2 r j)
    = Rms.dxR (xAt a w e r) (gAt g) (dAt a w e g t r) 0 j := by
  pointwise [val_main_v54, val_main_v53, val_main_v52, val_main_v51, val_main_v45, val_main_v44]
  rw [slope_ref a w e g t ha hw he hg ht, dg_ref a w e g t ha hw he hg ht, inv_ref, x_ref]
  unfold Rms.dxR
  rw [zero_add]

include ha hw he hg ht in
theorem part_ref (r : Fin 8192) (j : Fin 1024) : val_main_v35 (F := Ideal) a w e g t (ix2 r j) = part a w e g t r j := by
  pointwise [val_main_v35]
  rw [xh_ref, d_ref a w e g t ha hw he hg ht, mul_comm]
  rfl

theorem sum_ref (j : Fin 1024) : val_main_v36 (F := Ideal) a w e g t (ix1 j) = ∑ r : Fin 8192, val_main_v35 (F := Ideal) a w e g t (ix2 r j) := by
  pointwise [val_main_v36, val_main_cst_11]

include ha hw he hg ht in
theorem gain_ref (j : Fin 1024) : val_main_v56 (F := Ideal) a w e g t (ix2 0 j) = ∑ r : Fin 8192, part a w e g t r j := by
  pointwise [val_main_v56, val_main_v40, val_main_v37, val_main_cst_12]
  rw [Fin.sum_univ_one, sum_ref]
  exact Finset.sum_congr rfl fun r _ => part_ref a w e g t ha hw he hg ht r j

/-! ## The equation -/

/-- The precondition: the five arguments are arrays of real numbers. -/
theorem real_of_pre (h : Cert.Pre_loss_real.fn (F := Ideal) a w e g t = fun _ => 1#1) :
    (∀ i, IsR (a i)) ∧ (∀ i, IsR (w i)) ∧ (∀ i, IsR (e i)) ∧ (∀ i, IsR (g i)) ∧ ∀ i, IsR (t i) := by
  have : Subsingleton Cert.Pre_loss_real.S_.Idx := ⟨fun a b => funext fun d => d.elim0⟩
  have h := congrFun h (fun d => d.elim0)
  obtain ⟨h, h4⟩ := of_andi h
  obtain ⟨h, h3⟩ := of_andi h
  obtain ⟨h, h2⟩ := of_andi h
  obtain ⟨h0, h1⟩ := of_andi h
  exact ⟨isR_of_all _ _ _ _ _ _ h0, isR_of_all _ _ _ _ _ _ h1, isR_of_all _ _ _ _ _ _ h2, isR_of_all _ _ _ _ _ _ h3, isR_of_all _ _ _ _ _ _ h4⟩

include ha hw he hg ht in
theorem dx_eq : Gx a w e g t = val_main_v54 (F := Ideal) a w e g t := by
  funext i
  obtain ⟨r, j, rfl⟩ : ∃ (r : Fin 8192) (j : Fin 1024), i = (ix2 r j : S8192x1024.Idx) := ⟨_, _, eq_ix2 i⟩
  rw [dx_ref a w e g t ha hw he hg ht]
  refine Rms.dx_eq _ _ _ _ (isR_x a w e ha hw he r) (fun k => hg _) (fun k => ?_) j
  exact IsR.mul (isR_err a w e g t ha hw he hg ht r k) (by rw [ofBits_scale]; exact isR_coe _)

include ha hw he hg ht in
theorem loss_eq : Gl a w e g t = val_main_v55 (F := Ideal) a w e g t := by
  funext i
  obtain ⟨z, j, rfl⟩ : ∃ (z : Fin 1) (j : Fin 128), i = (ix2 z j : S1x128.Idx) := ⟨_, _, eq_ix2 i⟩
  obtain rfl : z = 0 := Subsingleton.elim _ _
  rw [loss_ref]
  have h := isR_lossRow a w e g t ha hw he hg ht
  rw [← sum_rows, ofBits_half, mul_sum_real _ _ _ fun p => IsR.sum fun q _ => h _]
  unfold Gl blockLoss
  rw [ofBits_half]

include ha hw he hg ht in
theorem gain_eq : Gg a w e g t = val_main_v56 (F := Ideal) a w e g t := by
  funext i
  obtain ⟨z, j, rfl⟩ : ∃ (z : Fin 1) (j : Fin 1024), i = (ix2 z j : S1x1024.Idx) := ⟨_, _, eq_ix2 i⟩
  obtain rfl : z = 0 := Subsingleton.elim _ _
  rw [gain_ref a w e g t ha hw he hg ht]
  exact sum_rows fun r => part a w e g t r j

end Reference

end Loss

end
-- ==== Proof.MergeSetup.lean ====
/- The backward call of the merge: what its run is stated over. Each step writes the slope of its rows' gate inputs into one of
   two tiles and sends the tile to its rows of the cotangent of the projection; a tile is waited for two steps later. Here:
   the branch conditions and offsets of the body over the 16 steps, and the ring's tiles, pieces and cells. -/
module

public import proofs.«01_k».proof.Proof.Gen.Kernel7Ideal.Frame
public import Idealize.ShloMosaic.Lib.Ring.WriteBehind
public import Idealize.ShloMosaic.Lib.HeldBySlice

@[expose] public section

set_option maxRecDepth 65536

noncomputable section

namespace Cert.Kernel7Ideal.MB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

/-- The sums of the bias start at zero at the first step: the condition as the body computes it. -/
abbrev first (i : grid0.Coords) : Prop :=
  (Scalar.cmpi .ne (Scalar.extui (Scalar.cmpi .eq (BitVec.ofNat 32 (i 0).val) 0#32)) 0#32) = 1#1

theorem cond1_iff : ∀ t : Fin cfg0.N, k0_cond1 (grid0.coords t) = 1#1 ↔ 2 ≤ t.val :=
  (by decide +kernel : ∀ t : Fin grid0.N, k0_cond1 (grid0.coords t) = 1#1 ↔ 2 ≤ t.val)
theorem first_iff : ∀ t : Fin cfg0.N, first (grid0.coords t) ↔ t.val = 0 :=
  (by decide +kernel : ∀ t : Fin grid0.N, first (grid0.coords t) ↔ t.val = 0)
theorem cond3_iff : ∀ t : Fin cfg0.N, k0_cond3 (grid0.coords t) = 1#1 ↔ t.val = 15 :=
  (by decide +kernel : ∀ t : Fin grid0.N, k0_cond3 (grid0.coords t) = 1#1 ↔ t.val = 15)

abbrev ringM : Memref sig .tc .vmem S2x512x2048 .bf16 := Memref.whole cc0_scratch0
abbrev outM : Memref sig .tc .hbm S8192x5632 .bf16 := Memref.whole main_v1_0

instance : NeZero grid0.N := ⟨by rw [N_0]; decide⟩

theorem tile_inb (g : Fin 2) : ∀ a, (![g.val, 0, 0] : Fin 3 → Nat) a + S1x512x2048.size a ≤ S2x512x2048.size a := by
  have := g.isLt; intro a; fin_cases a <;> simp <;> omega
theorem piece_inb (u : Fin 16) : ∀ a, (![512 * u.val, 3584] : Fin 2 → Nat) a + S512x2048.size a ≤ S8192x5632.size a := by
  have := u.isLt; intro a; fin_cases a <;> simp <;> omega
theorem cell_inb (g : Fin 2) : ∀ a, (![g.val] : Fin 1 → Nat) a + S1.size a ≤ S2.size a := by
  have := g.isLt; intro a; fin_cases a <;> simp <;> omega

/-- Tile `g` of the ring; the rows of the result step `u` writes; the cell tile `g`'s copies are counted on. -/
def tile (g : Fin 2) : Memref sig .tc .vmem S512x2048 .bf16 :=
  (ringM.slice (Rect.unit (s := S2x512x2048) ![g.val, 0, 0] S1x512x2048.size (tile_inb g)) (fun _ => rfl)).squeeze S512x2048 squeezes_S1x512x2048_S512x2048
def piece (u : Fin 16) : Memref sig .tc .hbm S512x2048 .bf16 :=
  outM.slice (Rect.unit (s := S8192x5632) ![512 * u.val, 3584] S512x2048.size (piece_inb u)) (fun _ => rfl)
def cellA (g : Fin 2) : DmaSems sig S_ :=
  (cc0_scratch1.slice (Rect.unit (s := S2) ![g.val] S1.size (cell_inb g))).squeeze S_ squeezes_S1_S_
abbrev cell (g : Fin 2) : SemLoc sig := SemLoc.dma (cellA g).sem
theorem cell_zero : cell 0 = SemLoc.dma 19 := by decide
theorem cell_one : cell 1 = SemLoc.dma 20 := by decide

abbrev tileSet (g : Fin 2) : Finset S2x512x2048.Idx := (Rect.unit (s := S2x512x2048) ![g.val, 0, 0] S1x512x2048.size (tile_inb g)).set
abbrev pieceSet (u : Fin 16) : Finset S8192x5632.Idx := (Rect.unit (s := S8192x5632) ![512 * u.val, 3584] S512x2048.size (piece_inb u)).set
theorem tile_set (g : Fin 2) : (tile g).view.set = tileSet g := by
  simp only [tile, Memref.view_squeeze, View.set_reshape]; exact View.set_slice_whole _ _
theorem piece_set (u : Fin 16) : (piece u).view.set = pieceSet u := by
  simp only [piece]; exact View.set_slice_whole _ _
theorem tiles_disjoint (g g' : Fin 2) (h : g ≠ g') : Disjoint (tileSet g) (tileSet g') :=
  Ring.boxes_disjoint (s := S2x512x2048) S1x512x2048.size (fun g : Fin 2 => ![g.val, 0, 0]) tile_inb (fun g => ![g.val, 0, 0])
    (fun g a => by fin_cases a <;> simp) (fun v => Fin.ofNat 2 (v 0)) (by decide +kernel) g g' h
theorem pieces_disjoint (u u' : Fin 16) (h : u ≠ u') : Disjoint (pieceSet u) (pieceSet u') := by
  have hne : u.val ≠ u'.val := fun e => h (Fin.ext e)
  refine Rect.unit_disjoint (0 : Fin 2) ?_
  simp only [Matrix.cons_val_zero]
  rcases Nat.lt_or_gt_of_ne hne with hl | hl
  · left; show 512 * u.val + 512 ≤ 512 * u'.val; omega
  · right; show 512 * u'.val + 512 ≤ 512 * u.val; omega

/-! ## The body's operands at step `t` are the ring's -/

set_option synthInstance.maxSize 4096

theorem cell_at {o : Fin 1 → Nat} {g : Fin 2} (h : o = ![g.val]) (hb) :
    (cc0_scratch1.slice (Rect.unit (s := S2) o S1.size hb)).squeeze S_ squeezes_S1_S_ = cellA g :=
  congrArg (fun A : DmaSems sig S1 => A.squeeze S_ squeezes_S1_S_) (SemArray.slice_unit_congr _ h _ _)
theorem tile_at {o : Fin 3 → Nat} {g : Fin 2} (h : o = ![g.val, 0, 0]) (hb) :
    (ringM.slice (Rect.unit (s := S2x512x2048) o S1x512x2048.size hb) (fun _ => rfl)).squeeze S512x2048 squeezes_S1x512x2048_S512x2048 = tile g :=
  congrArg (fun M : Memref sig .tc .vmem S1x512x2048 .bf16 => M.squeeze S512x2048 squeezes_S1x512x2048_S512x2048)
    (Memref.slice_unit_congr _ h _ _ (fun _ => rfl) (fun _ => rfl))
theorem piece_at {o : Fin 2 → Nat} {u : Fin 16} (h : o = ![512 * u.val, 3584]) (hb) :
    outM.slice (Rect.unit (s := S8192x5632) o S512x2048.size hb) (fun _ => rfl) = piece u :=
  Memref.slice_unit_congr _ h _ _ (fun _ => rfl) (fun _ => rfl)

theorem off8_eq : ∀ t : Fin grid0.N, k0_off8 (grid0.coords t) = ![(Ring.sl 2 t.val).val] := by decide +kernel
theorem off10_eq : ∀ t : Fin grid0.N, k0_off10 (grid0.coords t) = ![(Ring.sl 2 t.val).val, 0, 0] := by decide +kernel
theorem off9_eq : ∀ t : Fin grid0.N, k0_off9 (grid0.coords t) = ![512 * (Ring.bk 16 t.val).val, 3584] := by decide +kernel
theorem off1_eq : ∀ t : Fin grid0.N, k0_off1 (grid0.coords t) = ![(Ring.sl 2 t.val).val] := by decide +kernel
theorem off3_eq : ∀ t : Fin grid0.N, k0_off3 (grid0.coords t) = ![(Ring.sl 2 t.val).val, 0, 0] := by decide +kernel
theorem off11_eq : ∀ t : Fin grid0.N, k0_off11 (grid0.coords t) = ![(Ring.sl 2 (t.val + 1)).val] := by decide +kernel
theorem off13_eq : ∀ t : Fin grid0.N, k0_off13 (grid0.coords t) = ![(Ring.sl 2 (t.val + 1)).val, 0, 0] := by decide +kernel
theorem off14_eq : ∀ t : Fin grid0.N, k0_off14 (grid0.coords t) = ![(Ring.sl 2 t.val).val] := by decide +kernel
theorem off16_eq : ∀ t : Fin grid0.N, k0_off16 (grid0.coords t) = ![(Ring.sl 2 t.val).val, 0, 0] := by decide +kernel
@[sl_canon] theorem canon8 (t : Fin grid0.N) :
    (cc0_scratch1.slice (Rect.unit (s := S2) (k0_off8 (grid0.coords t)) S1.size (k0_off8_inb (grid0.coords t)))).squeeze S_ squeezes_S1_S_ = cellA (Ring.sl 2 t.val) := cell_at (off8_eq t) _
@[sl_canon] theorem canon8' (t : Fin grid0.N) :
    (cc0_scratch1.slice (Rect.unit (s := S2) (k0_off8 (grid0.coords t)) ![1] (k0_off8_inb (grid0.coords t)))).squeeze S_ squeezes_S1_S_ = cellA (Ring.sl 2 t.val) := canon8 t
@[sl_canon] theorem canon10 (t : Fin grid0.N) :
    (ringM.slice (Rect.unit (s := S2x512x2048) (k0_off10 (grid0.coords t)) S1x512x2048.size (k0_off10_inb (grid0.coords t))) (fun _ => rfl)).squeeze S512x2048 squeezes_S1x512x2048_S512x2048 = tile (Ring.sl 2 t.val) := tile_at (off10_eq t) _
@[sl_canon] theorem canon10' (t : Fin grid0.N) :
    (ringM.slice (Rect.unit (s := S2x512x2048) (k0_off10 (grid0.coords t)) ![1, 512, 2048] (k0_off10_inb (grid0.coords t))) (fun _ => rfl)).squeeze S512x2048 squeezes_S1x512x2048_S512x2048 = tile (Ring.sl 2 t.val) := canon10 t
@[sl_canon] theorem canon9 (t : Fin grid0.N) :
    outM.slice (Rect.unit (s := S8192x5632) (k0_off9 (grid0.coords t)) S512x2048.size (k0_off9_inb (grid0.coords t))) (fun _ => rfl) = piece (Ring.bk 16 t.val) := piece_at (off9_eq t) _
@[sl_canon] theorem canon9' (t : Fin grid0.N) :
    outM.slice (Rect.unit (s := S8192x5632) (k0_off9 (grid0.coords t)) ![512, 2048] (k0_off9_inb (grid0.coords t))) (fun _ => rfl) = piece (Ring.bk 16 t.val) := canon9 t
@[sl_canon] theorem canon1 (t : Fin grid0.N) (h : k0_cond1 (grid0.coords t) = 1#1) :
    (cc0_scratch1.slice (Rect.unit (s := S2) (k0_off1 (grid0.coords t)) S1.size (k0_off1_inb (grid0.coords t) h))).squeeze S_ squeezes_S1_S_ = cellA (Ring.sl 2 t.val) := cell_at (off1_eq t) _
@[sl_canon] theorem canon1' (t : Fin grid0.N) (h : k0_cond1 (grid0.coords t) = 1#1) :
    (cc0_scratch1.slice (Rect.unit (s := S2) (k0_off1 (grid0.coords t)) ![1] (k0_off1_inb (grid0.coords t) h))).squeeze S_ squeezes_S1_S_ = cellA (Ring.sl 2 t.val) := canon1 t h
@[sl_canon] theorem canon3 (t : Fin grid0.N) (h : k0_cond1 (grid0.coords t) = 1#1) :
    (ringM.slice (Rect.unit (s := S2x512x2048) (k0_off3 (grid0.coords t)) S1x512x2048.size (k0_off3_inb (grid0.coords t) h)) (fun _ => rfl)).squeeze S512x2048 squeezes_S1x512x2048_S512x2048 = tile (Ring.sl 2 t.val) := tile_at (off3_eq t) _
@[sl_canon] theorem canon3' (t : Fin grid0.N) (h : k0_cond1 (grid0.coords t) = 1#1) :
    (ringM.slice (Rect.unit (s := S2x512x2048) (k0_off3 (grid0.coords t)) ![1, 512, 2048] (k0_off3_inb (grid0.coords t) h)) (fun _ => rfl)).squeeze S512x2048 squeezes_S1x512x2048_S512x2048 = tile (Ring.sl 2 t.val) := canon3 t h
@[sl_canon] theorem canon11 (t : Fin grid0.N) (h : k0_cond3 (grid0.coords t) = 1#1) :
    (cc0_scratch1.slice (Rect.unit (s := S2) (k0_off11 (grid0.coords t)) S1.size (k0_off11_inb (grid0.coords t) h))).squeeze S_ squeezes_S1_S_ = cellA (Ring.sl 2 (t.val + 1)) := cell_at (off11_eq t) _
@[sl_canon] theorem canon11' (t : Fin grid0.N) (h : k0_cond3 (grid0.coords t) = 1#1) :
    (cc0_scratch1.slice (Rect.unit (s := S2) (k0_off11 (grid0.coords t)) ![1] (k0_off11_inb (grid0.coords t) h))).squeeze S_ squeezes_S1_S_ = cellA (Ring.sl 2 (t.val + 1)) := canon11 t h
@[sl_canon] theorem canon13 (t : Fin grid0.N) (h : k0_cond3 (grid0.coords t) = 1#1) :
    (ringM.slice (Rect.unit (s := S2x512x2048) (k0_off13 (grid0.coords t)) S1x512x2048.size (k0_off13_inb (grid0.coords t) h)) (fun _ => rfl)).squeeze S512x2048 squeezes_S1x512x2048_S512x2048 = tile (Ring.sl 2 (t.val + 1)) := tile_at (off13_eq t) _
@[sl_canon] theorem canon13' (t : Fin grid0.N) (h : k0_cond3 (grid0.coords t) = 1#1) :
    (ringM.slice (Rect.unit (s := S2x512x2048) (k0_off13 (grid0.coords t)) ![1, 512, 2048] (k0_off13_inb (grid0.coords t) h)) (fun _ => rfl)).squeeze S512x2048 squeezes_S1x512x2048_S512x2048 = tile (Ring.sl 2 (t.val + 1)) := canon13 t h
@[sl_canon] theorem canon14 (t : Fin grid0.N) (h : k0_cond3 (grid0.coords t) = 1#1) :
    (cc0_scratch1.slice (Rect.unit (s := S2) (k0_off14 (grid0.coords t)) S1.size (k0_off14_inb (grid0.coords t) h))).squeeze S_ squeezes_S1_S_ = cellA (Ring.sl 2 t.val) := cell_at (off14_eq t) _
@[sl_canon] theorem canon14' (t : Fin grid0.N) (h : k0_cond3 (grid0.coords t) = 1#1) :
    (cc0_scratch1.slice (Rect.unit (s := S2) (k0_off14 (grid0.coords t)) ![1] (k0_off14_inb (grid0.coords t) h))).squeeze S_ squeezes_S1_S_ = cellA (Ring.sl 2 t.val) := canon14 t h
@[sl_canon] theorem canon16 (t : Fin grid0.N) (h : k0_cond3 (grid0.coords t) = 1#1) :
    (ringM.slice (Rect.unit (s := S2x512x2048) (k0_off16 (grid0.coords t)) S1x512x2048.size (k0_off16_inb (grid0.coords t) h)) (fun _ => rfl)).squeeze S512x2048 squeezes_S1x512x2048_S512x2048 = tile (Ring.sl 2 t.val) := tile_at (off16_eq t) _
@[sl_canon] theorem canon16' (t : Fin grid0.N) (h : k0_cond3 (grid0.coords t) = 1#1) :
    (ringM.slice (Rect.unit (s := S2x512x2048) (k0_off16 (grid0.coords t)) ![1, 512, 2048] (k0_off16_inb (grid0.coords t) h)) (fun _ => rfl)).squeeze S512x2048 squeezes_S1x512x2048_S512x2048 = tile (Ring.sl 2 t.val) := canon16 t h

theorem off4_eq : ∀ t : Fin grid0.N, k0_off4 (grid0.coords t) = ![(Ring.sl 2 t.val).val, 0, 0] := by decide +kernel
instance (priority := high) closed4 (t : Fin grid0.N) : ClosedOff (k0_off4 (grid0.coords t)) := ⟨_, off4_eq t⟩
theorem off5_eq : ∀ t : Fin grid0.N, k0_off5 (grid0.coords t) = ![(Ring.sl 2 t.val).val, 0, 512] := by decide +kernel
instance (priority := high) closed5 (t : Fin grid0.N) : ClosedOff (k0_off5 (grid0.coords t)) := ⟨_, off5_eq t⟩
theorem off6_eq : ∀ t : Fin grid0.N, k0_off6 (grid0.coords t) = ![(Ring.sl 2 t.val).val, 0, 1024] := by decide +kernel
instance (priority := high) closed6 (t : Fin grid0.N) : ClosedOff (k0_off6 (grid0.coords t)) := ⟨_, off6_eq t⟩
theorem off7_eq : ∀ t : Fin grid0.N, k0_off7 (grid0.coords t) = ![(Ring.sl 2 t.val).val, 0, 1536] := by decide +kernel
instance (priority := high) closed7 (t : Fin grid0.N) : ClosedOff (k0_off7 (grid0.coords t)) := ⟨_, off7_eq t⟩

variable {F : FTy → Type} [FloatOps F]

local notation "𝕄" => MT nD τ sig Unit (Elt F) ℕ (Pipeline.UD sig nD τ) ℕ

/-- A memref's buffer on core `c`: its contents, and it held; the same of a tile, a piece, a cell. -/
abbrev Held (c : Dev nD) {sp : Space} {S : Shape} {e : EltTy} (M : Memref sig .tc sp S e) : Type := Buf (Elt F) (M.view.loc (c : Thread nD τ))
abbrev partPt (c : Dev nD) {sp : Space} {S : Shape} {e : EltTy} (M : Memref sig .tc sp S e) (f : Held (F := F) c M) : sProp 𝕄 :=
  M.view.loc (c : Thread nD τ) ↦[M.view.set]{fullShare} f
abbrev tilePt (c : Dev nD) (g : Fin 2) (e : Held (F := F) c (tile g)) : sProp 𝕄 := partPt c (tile g) e
abbrev piecePt (c : Dev nD) (u : Fin 16) (f : Held (F := F) c (piece u)) : sProp 𝕄 := partPt c (piece u) f
abbrev cellPt (c : Dev nD) (g : Fin 2) : sProp 𝕄 := semVal ((c : Thread nD τ), cell g) 0
/-- Step `u`'s copy of tile `g` under way: it will deliver the rows of step `u` at contents `X`, and the tile. -/
abbrev flightPt (c : Dev nD) (g : Fin 2) (u : Fin 16) (X : Held (F := F) c (piece u)) (e : Held (F := F) c (tile g)) : sProp 𝕄 :=
  Transfers.Flight countersEmb (c : Thread nD τ) (cell g) default ((piece u).view.amount (cell g)) iprop(piecePt c u X ∗ tilePt c g e)

/-- The nine input blocks of a step, each staged at its contents. -/
abbrev blocks (c : Dev nD)
    (arg1 arg2 arg3 arg4 : Memref sig .tc .vmem S512x512 .bf16) (arg5 : Memref sig .tc .vmem S1x2048 .f32)
    (arg6 arg7 : Memref sig .tc .vmem S512x1024 .bf16) (arg8 : Memref sig .tc .vmem S512x1024 .f32) (arg9 : Memref sig .tc .vmem S1024x1024 .bf16)
    (x1 x2 x3 x4 : Vec F S512x512 .bf16) (x5 : Vec F S1x2048 .f32) (x6 x7 : Vec F S512x1024 .bf16) (x8 : Vec F S512x1024 .f32)
    (x9 : Vec F S1024x1024 .bf16) : sProp 𝕄 :=
  iprop(owns (c : Thread nD τ) arg1 fullShare x1 ∗ owns (c : Thread nD τ) arg2 fullShare x2 ∗ owns (c : Thread nD τ) arg3 fullShare x3
    ∗ owns (c : Thread nD τ) arg4 fullShare x4 ∗ owns (c : Thread nD τ) arg5 fullShare x5 ∗ owns (c : Thread nD τ) arg6 fullShare x6
    ∗ owns (c : Thread nD τ) arg7 fullShare x7 ∗ owns (c : Thread nD τ) arg8 fullShare x8 ∗ owns (c : Thread nD τ) arg9 fullShare x9)

end Cert.Kernel7Ideal.MB

end
-- ==== Proof.MergeRuns.lean ====
/- The backward call of the merge: the runs of a step. Each leaves every buffer it holds at some contents. -/
module

public import proofs.«01_k».proof.Proof.MergeSetup

@[expose] public section

set_option maxRecDepth 65536

noncomputable section

namespace Cert.Kernel7Ideal.MB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (Pipeline.UD sig nD τ) ℕ

variable (c : Dev nD) (t : Fin cfg0.N) (arg1 : Memref sig .tc .vmem S512x512 .bf16) (harg1 : arg1.IsWhole)
  (arg2 : Memref sig .tc .vmem S512x512 .bf16) (harg2 : arg2.IsWhole) (arg3 : Memref sig .tc .vmem S512x512 .bf16) (harg3 : arg3.IsWhole)
  (arg4 : Memref sig .tc .vmem S512x512 .bf16) (harg4 : arg4.IsWhole) (arg5 : Memref sig .tc .vmem S1x2048 .f32) (harg5 : arg5.IsWhole)
  (arg6 : Memref sig .tc .vmem S512x1024 .bf16) (harg6 : arg6.IsWhole) (arg7 : Memref sig .tc .vmem S512x1024 .bf16) (harg7 : arg7.IsWhole)
  (arg8 : Memref sig .tc .vmem S512x1024 .f32) (harg8 : arg8.IsWhole) (arg9 : Memref sig .tc .vmem S1024x1024 .bf16) (harg9 : arg9.IsWhole)
  (arg11 : Memref sig .tc .vmem S2x512x1024 .bf16) (harg11 : arg11.IsWhole) (arg12 : Memref sig .tc .vmem S1x2048 .f32) (harg12 : arg12.IsWhole)

set_option maxHeartbeats 4000000 in
/-- A step before the third: nothing is waited for. The sums of the bias start at zero. -/
theorem runFirst (h1 : ¬k0_cond1 (grid0.coords t) = 1#1) (h2 : first (grid0.coords t)) (h3 : ¬k0_cond3 (grid0.coords t) = 1#1)
    (x1 x2 x3 x4 : Vec F S512x512 .bf16) (x5 : Vec F S1x2048 .f32) (x6 x7 : Vec F S512x1024 .bf16) (x8 : Vec F S512x1024 .f32) (x9 : Vec F S1024x1024 .bf16)
    (d11 : Vec F S2x512x1024 .bf16) (d12 : Vec F S1x2048 .f32) (W : Waits sig Unit) (K : PUnit → sProp 𝕄)
    (e : Held (F := F) c (tile (Ring.sl 2 t.val))) (f : Held (F := F) c (piece (Ring.bk 16 t.val))) :
        iprop(blocks c arg1 arg2 arg3 arg4 arg5 arg6 arg7 arg8 arg9 x1 x2 x3 x4 x5 x6 x7 x8 x9
          ∗ owns (c : Thread nD τ) arg11 fullShare d11 ∗ owns (c : Thread nD τ) arg12 fullShare d12
          ∗ piecePt c (Ring.bk 16 t.val) f ∗ cellPt c (Ring.sl 2 t.val) ∗ tilePt c (Ring.sl 2 t.val) e
          ∗ owes (c : Thread nD τ) 0 W
          ∗ (iprop(blocks c arg1 arg2 arg3 arg4 arg5 arg6 arg7 arg8 arg9 x1 x2 x3 x4 x5 x6 x7 x8 x9
          ∗ (∃ f, partPt c arg11 f) ∗ (∃ f, partPt c arg12 f) ∗ (∃ X e', flightPt c (Ring.sl 2 t.val) (Ring.bk 16 t.val) X e')
          ∗ (∃ W', owes (c : Thread nD τ) 0 W')) -∗ K ⟨⟩))
        ⊢ wp frame (wpE (defs₀ (F := F)) Variants.none c none) Set.univ
          (cc0_merge_bwd (grid0.coords t) arg1 harg1 arg2 harg2 arg3 harg3 arg4 harg4 arg5 harg5 arg6 harg6 arg7 harg7 arg8 harg8 arg9 harg9
            outM (Memref.isWhole_whole _) arg11 harg11 arg12 harg12 ringM (Memref.isWhole_whole _) cc0_scratch1) K := by
  haveI : Fact (¬k0_cond1 (grid0.coords t) = 1#1) := ⟨h1⟩
  haveI : Fact (first (grid0.coords t)) := ⟨h2⟩
  haveI : Fact (¬k0_cond3 (grid0.coords t) = 1#1) := ⟨h3⟩
  have hcanon0 := canon10 t
  have hcanon1 := canon10' t
  unfold blocks owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f11, %hf11, H11⟩, ⟨%f12, %hf12, H12⟩, Hp, Hc, Ht, HW, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg11.eq_unread hf11
  obtain rfl := harg12.eq_unread hf12
  unfold cc0_merge_bwd k0_part2 k0_part3 k0_part4 k0_part5 k0_part6
  sl_exec (disch := first | sl_exact h1 | sl_exact h2 | sl_exact h3)
  sl_step
  iapply Hk
  isplitl [H1 H2 H3 H4 H5 H6 H7 H8 H9]
  · sl_close
  isplitl [H11]; · iexists _; iexact H11
  isplitl [H12]; · iexists _; iexact H12
  isplitl [Hc]; · iexists _; iexists _; iexact Hc
  iexists _; iexact HW

set_option maxHeartbeats 4000000 in
/-- A step before the third: nothing is waited for. -/
theorem runSecond (h1 : ¬k0_cond1 (grid0.coords t) = 1#1) (h2 : ¬first (grid0.coords t)) (h3 : ¬k0_cond3 (grid0.coords t) = 1#1)
    (x1 x2 x3 x4 : Vec F S512x512 .bf16) (x5 : Vec F S1x2048 .f32) (x6 x7 : Vec F S512x1024 .bf16) (x8 : Vec F S512x1024 .f32) (x9 : Vec F S1024x1024 .bf16)
    (d11 : Vec F S2x512x1024 .bf16) (d12 : Vec F S1x2048 .f32) (W : Waits sig Unit) (K : PUnit → sProp 𝕄)
    (e : Held (F := F) c (tile (Ring.sl 2 t.val))) (f : Held (F := F) c (piece (Ring.bk 16 t.val))) :
        iprop(blocks c arg1 arg2 arg3 arg4 arg5 arg6 arg7 arg8 arg9 x1 x2 x3 x4 x5 x6 x7 x8 x9
          ∗ owns (c : Thread nD τ) arg11 fullShare d11 ∗ owns (c : Thread nD τ) arg12 fullShare d12
          ∗ piecePt c (Ring.bk 16 t.val) f ∗ cellPt c (Ring.sl 2 t.val) ∗ tilePt c (Ring.sl 2 t.val) e
          ∗ owes (c : Thread nD τ) 0 W
          ∗ (iprop(blocks c arg1 arg2 arg3 arg4 arg5 arg6 arg7 arg8 arg9 x1 x2 x3 x4 x5 x6 x7 x8 x9
          ∗ (∃ f, partPt c arg11 f) ∗ (∃ f, partPt c arg12 f) ∗ (∃ X e', flightPt c (Ring.sl 2 t.val) (Ring.bk 16 t.val) X e')
          ∗ (∃ W', owes (c : Thread nD τ) 0 W')) -∗ K ⟨⟩))
        ⊢ wp frame (wpE (defs₀ (F := F)) Variants.none c none) Set.univ
          (cc0_merge_bwd (grid0.coords t) arg1 harg1 arg2 harg2 arg3 harg3 arg4 harg4 arg5 harg5 arg6 harg6 arg7 harg7 arg8 harg8 arg9 harg9
            outM (Memref.isWhole_whole _) arg11 harg11 arg12 harg12 ringM (Memref.isWhole_whole _) cc0_scratch1) K := by
  haveI : Fact (¬k0_cond1 (grid0.coords t) = 1#1) := ⟨h1⟩
  haveI : Fact (¬first (grid0.coords t)) := ⟨h2⟩
  haveI : Fact (¬k0_cond3 (grid0.coords t) = 1#1) := ⟨h3⟩
  have hcanon0 := canon10 t
  have hcanon1 := canon10' t
  unfold blocks owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f11, %hf11, H11⟩, ⟨%f12, %hf12, H12⟩, Hp, Hc, Ht, HW, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg11.eq_unread hf11
  obtain rfl := harg12.eq_unread hf12
  unfold cc0_merge_bwd k0_part2 k0_part3 k0_part4 k0_part5 k0_part6
  sl_exec (disch := first | sl_exact h1 | sl_exact h2 | sl_exact h3)
  sl_step
  iapply Hk
  isplitl [H1 H2 H3 H4 H5 H6 H7 H8 H9]
  · sl_close
  isplitl [H11]; · iexists _; iexact H11
  isplitl [H12]; · iexists _; iexact H12
  isplitl [Hc]; · iexists _; iexists _; iexact Hc
  iexists _; iexact HW

set_option maxHeartbeats 4000000 in
/-- A middle step: the copy of two steps before is waited for. -/
theorem runMid (h1 : k0_cond1 (grid0.coords t) = 1#1) (h2 : ¬first (grid0.coords t)) (h3 : ¬k0_cond3 (grid0.coords t) = 1#1)
    (x1 x2 x3 x4 : Vec F S512x512 .bf16) (x5 : Vec F S1x2048 .f32) (x6 x7 : Vec F S512x1024 .bf16) (x8 : Vec F S512x1024 .f32) (x9 : Vec F S1024x1024 .bf16)
    (d11 : Vec F S2x512x1024 .bf16) (d12 : Vec F S1x2048 .f32) (W : Waits sig Unit) (K : PUnit → sProp 𝕄)
    (e : Held (F := F) c (tile (Ring.sl 2 t.val))) (f : Held (F := F) c (piece (Ring.bk 16 t.val))) (X : Held (F := F) c (piece (Ring.bk 16 (t.val - 2)))) :
        iprop(blocks c arg1 arg2 arg3 arg4 arg5 arg6 arg7 arg8 arg9 x1 x2 x3 x4 x5 x6 x7 x8 x9
          ∗ owns (c : Thread nD τ) arg11 fullShare d11 ∗ owns (c : Thread nD τ) arg12 fullShare d12
          ∗ piecePt c (Ring.bk 16 t.val) f ∗ flightPt c (Ring.sl 2 t.val) (Ring.bk 16 (t.val - 2)) X e
          ∗ owes (c : Thread nD τ) 0 W
          ∗ (iprop(blocks c arg1 arg2 arg3 arg4 arg5 arg6 arg7 arg8 arg9 x1 x2 x3 x4 x5 x6 x7 x8 x9
          ∗ (∃ f, partPt c arg11 f) ∗ (∃ f, partPt c arg12 f) ∗ piecePt c (Ring.bk 16 (t.val - 2)) X ∗ (∃ X e', flightPt c (Ring.sl 2 t.val) (Ring.bk 16 t.val) X e')
          ∗ (∃ W', owes (c : Thread nD τ) 0 W')) -∗ K ⟨⟩))
        ⊢ wp frame (wpE (defs₀ (F := F)) Variants.none c none) Set.univ
          (cc0_merge_bwd (grid0.coords t) arg1 harg1 arg2 harg2 arg3 harg3 arg4 harg4 arg5 harg5 arg6 harg6 arg7 harg7 arg8 harg8 arg9 harg9
            outM (Memref.isWhole_whole _) arg11 harg11 arg12 harg12 ringM (Memref.isWhole_whole _) cc0_scratch1) K := by
  haveI : Fact (k0_cond1 (grid0.coords t) = 1#1) := ⟨h1⟩
  haveI : Fact (¬first (grid0.coords t)) := ⟨h2⟩
  haveI : Fact (¬k0_cond3 (grid0.coords t) = 1#1) := ⟨h3⟩
  have hcanon0 := canon10 t
  have hcanon1 := canon10' t
  unfold blocks owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f11, %hf11, H11⟩, ⟨%f12, %hf12, H12⟩, Hp, HF, HW, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg11.eq_unread hf11
  obtain rfl := harg12.eq_unread hf12
  unfold cc0_merge_bwd k0_part2 k0_part3 k0_part4 k0_part5 k0_part6
  sl_exec (disch := first | sl_exact h1 | sl_exact h2 | sl_exact h3)
  sl_step
  iapply Hk
  isplitl [H1 H2 H3 H4 H5 H6 H7 H8 H9]
  · sl_close
  isplitl [H11]; · iexists _; iexact H11
  isplitl [H12]; · iexists _; iexact H12
  isplitl [HF_dst]; · iexact HF_dst
  isplitl [HF]; · iexists _; iexists _; iexact HF
  iexists _; iexact HW

set_option maxHeartbeats 4000000 in
/-- The last step: the three copies still under way are waited for. -/
theorem runLast (h1 : k0_cond1 (grid0.coords t) = 1#1) (h2 : ¬first (grid0.coords t)) (h3 : k0_cond3 (grid0.coords t) = 1#1)
    (x1 x2 x3 x4 : Vec F S512x512 .bf16) (x5 : Vec F S1x2048 .f32) (x6 x7 : Vec F S512x1024 .bf16) (x8 : Vec F S512x1024 .f32) (x9 : Vec F S1024x1024 .bf16)
    (d11 : Vec F S2x512x1024 .bf16) (d12 : Vec F S1x2048 .f32) (W : Waits sig Unit) (K : PUnit → sProp 𝕄)
    (e : Held (F := F) c (tile (Ring.sl 2 t.val))) (f : Held (F := F) c (piece (Ring.bk 16 t.val))) (X : Held (F := F) c (piece (Ring.bk 16 (t.val - 2)))) (X' : Held (F := F) c (piece (Ring.bk 16 (t.val - 1)))) (e2 : Held (F := F) c (tile (Ring.sl 2 (t.val + 1)))) :
        iprop(blocks c arg1 arg2 arg3 arg4 arg5 arg6 arg7 arg8 arg9 x1 x2 x3 x4 x5 x6 x7 x8 x9
          ∗ owns (c : Thread nD τ) arg11 fullShare d11 ∗ owns (c : Thread nD τ) arg12 fullShare d12
          ∗ piecePt c (Ring.bk 16 t.val) f ∗ flightPt c (Ring.sl 2 t.val) (Ring.bk 16 (t.val - 2)) X e ∗ flightPt c (Ring.sl 2 (t.val + 1)) (Ring.bk 16 (t.val - 1)) X' e2
          ∗ owes (c : Thread nD τ) 0 W
          ∗ (iprop(blocks c arg1 arg2 arg3 arg4 arg5 arg6 arg7 arg8 arg9 x1 x2 x3 x4 x5 x6 x7 x8 x9
          ∗ (∃ f, partPt c arg11 f) ∗ (∃ f, partPt c arg12 f) ∗ piecePt c (Ring.bk 16 (t.val - 2)) X ∗ piecePt c (Ring.bk 16 (t.val - 1)) X' ∗ (∃ X, piecePt c (Ring.bk 16 t.val) X)
          ∗ cellPt c (Ring.sl 2 t.val) ∗ (∃ e, tilePt c (Ring.sl 2 t.val) e) ∗ cellPt c (Ring.sl 2 (t.val + 1)) ∗ (∃ e, tilePt c (Ring.sl 2 (t.val + 1)) e)
          ∗ (∃ W', owes (c : Thread nD τ) 0 W')) -∗ K ⟨⟩))
        ⊢ wp frame (wpE (defs₀ (F := F)) Variants.none c none) Set.univ
          (cc0_merge_bwd (grid0.coords t) arg1 harg1 arg2 harg2 arg3 harg3 arg4 harg4 arg5 harg5 arg6 harg6 arg7 harg7 arg8 harg8 arg9 harg9
            outM (Memref.isWhole_whole _) arg11 harg11 arg12 harg12 ringM (Memref.isWhole_whole _) cc0_scratch1) K := by
  haveI : Fact (k0_cond1 (grid0.coords t) = 1#1) := ⟨h1⟩
  haveI : Fact (¬first (grid0.coords t)) := ⟨h2⟩
  haveI : Fact (k0_cond3 (grid0.coords t) = 1#1) := ⟨h3⟩
  have hcanon0 := canon10 t
  have hcanon1 := canon10' t
  unfold blocks owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f11, %hf11, H11⟩, ⟨%f12, %hf12, H12⟩, Hp, HF, HF2, HW, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg11.eq_unread hf11
  obtain rfl := harg12.eq_unread hf12
  unfold cc0_merge_bwd k0_part2 k0_part3 k0_part4 k0_part5 k0_part6 k0_part1
  sl_exec (disch := first | sl_exact h1 | sl_exact h2 | sl_exact h3)
  sl_step
  iapply Hk
  isplitl [H1 H2 H3 H4 H5 H6 H7 H8 H9]
  · sl_close
  isplitl [H11]; · iexists _; iexact H11
  isplitl [H12]; · iexists _; iexact H12
  isplitl [HF_dst]; · iexact HF_dst
  isplitl [HF2_dst]; · iexact HF2_dst
  isplitl [Hp]; · iexists _; iexact Hp
  isplitl [HF]; · iexact HF
  isplitl [HF_src]; · iexists _; iexact HF_src
  isplitl [HF2]; · iexact HF2
  isplitl [HF2_src]; · iexists _; iexact HF2_src
  iexists _; iexact HW

end Cert.Kernel7Ideal.MB

end
-- ==== Proof.MergeStep.lean ====
/- The backward call of the merge: the invariant of the ring, and the step that keeps it. -/
module

public import proofs.«01_k».proof.Proof.MergeRuns

@[expose] public section

set_option maxRecDepth 65536

noncomputable section

namespace Cert.Kernel7Ideal.MB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (Pipeline.UD sig nD τ) ℕ

/-! ## The ring -/

/-- A tile and its cell at rest; a tile's copy under way; the rows of one step at hand. -/
abbrev free (c : Dev nD) (g : Fin 2) : sProp 𝕄 := iprop(cellPt (F := F) c g ∗ ∃ e, tilePt c g e)
abbrev infl (c : Dev nD) (g : Fin 2) (u : Fin 16) : sProp 𝕄 := iprop(∃ X e, flightPt (F := F) c g u X e)
abbrev home (c : Dev nD) (u : Fin 16) : sProp 𝕄 := iprop(∃ f, piecePt (F := F) c u f)
def ringAt (c : Dev nD) (k : ℕ) : sProp 𝕄 := Ring.AtBΦ 2 (free (F := F) c) (infl c) (home c) (home c) k

/-- The tiles' buffer outside the tiles (nothing), and the result outside the rows' columns. -/
abbrev tileSpare (c : Dev nD) : sProp 𝕄 := iprop(∃ f : Buf (Elt F) ((c : Thread nD τ).loc cc0_scratch0), ((c : Thread nD τ).loc cc0_scratch0) ↦[Finset.univ \ Finset.univ.biUnion tileSet]{fullShare} f)
abbrev outSpare (c : Dev nD) : sProp 𝕄 := iprop(∃ f : Buf (Elt F) ((c : Thread nD τ).loc main_v1_0), ((c : Thread nD τ).loc main_v1_0) ↦[Finset.univ \ Finset.univ.biUnion pieceSet]{fullShare} f)

theorem tilePt_eq (c : Dev nD) (g : Fin 2) (e) : tilePt (F := F) c g e = (((c : Thread nD τ).loc cc0_scratch0) ↦[tileSet g]{fullShare} e : sProp 𝕄) := by
  unfold tilePt partPt; rw [tile_set]; rfl
theorem piecePt_eq (c : Dev nD) (u : Fin 16) (f) : piecePt (F := F) c u f = (((c : Thread nD τ).loc main_v1_0) ↦[pieceSet u]{fullShare} f : sProp 𝕄) := by
  unfold piecePt partPt; rw [piece_set]; rfl

abbrev cells (c : Dev nD) : sProp 𝕄 := iprop(semVal ((c : Thread nD τ), SemLoc.dma 19) 0 ∗ semVal ((c : Thread nD τ), SemLoc.dma 20) 0)
theorem cells_eq (c : Dev nD) : (bigSep Finset.univ (fun g : Fin 2 => cellPt (F := F) c g) : sProp 𝕄) = cells c := by
  rw [BI.bigSep_eq_bigSepL_of_eq [0, 1] (by decide) (by decide)]
  simp only [BI.bigSepL_cons_cons, BI.bigSepL_singleton, cellPt, cell_zero, cell_one]; rfl
theorem frees_eq (c : Dev nD) : iprop(cells (F := F) c ∗ bigSep Finset.univ (fun g : Fin 2 => iprop(∃ e, tilePt (F := F) c g e)))
    = (bigSep Finset.univ (free (F := F) c) : sProp 𝕄) := by
  rw [← cells_eq]
  exact (BI.bigSep_sep Finset.univ (fun g : Fin 2 => cellPt (F := F) c g) (fun g : Fin 2 => iprop(∃ e, tilePt (F := F) c g e))).symm

/-- The buffers the ring is made of. -/
abbrev ringParts (c : Dev nD) : sProp 𝕄 :=
  iprop((∃ f : Buf (Elt F) ((c : Thread nD τ).loc cc0_scratch0), ((c : Thread nD τ).loc cc0_scratch0) ↦{fullShare} f) ∗ cells c ∗ (∃ f : Buf (Elt F) ((c : Thread nD τ).loc main_v1_0), ((c : Thread nD τ).loc main_v1_0) ↦{fullShare} f))

theorem ring_in (c : Dev nD) : ringParts (F := F) c ⊢ iprop(ringAt (F := F) c 0 ∗ tileSpare (F := F) c ∗ outSpare (F := F) c) := by
  unfold ringAt; rw [Ring.AtBΦ_lt _ _ _ _ _ 0 (by decide), Ring.AtB_zero]; unfold Ring.AtB₀
  rw [← frees_eq]
  iintro ⟨HS, HQ, HD⟩
  ihave HS' := (Ring.pieces_split_spare (U := Pipeline.UD sig nD τ) (ℓ := (c : Thread nD τ).loc cc0_scratch0) (q := fullShare) tileSet tiles_disjoint
    (fun g e => tilePt (F := F) c g e) (fun g e => tilePt_eq c g e)) $$ HS
  icases HS' with ⟨HT, HTsp⟩
  ihave HD' := (Ring.pieces_split_spare (U := Pipeline.UD sig nD τ) (ℓ := (c : Thread nD τ).loc main_v1_0) (q := fullShare) pieceSet pieces_disjoint
    (fun u f => piecePt (F := F) c u f) (fun u f => piecePt_eq c u f)) $$ HD
  icases HD' with ⟨HP, HPsp⟩
  isplitl [HP HQ HT]
  · isplitl [HP]; · iexact HP
    isplitl [HQ]; · iexact HQ
    iexact HT
  isplitl [HTsp]; · iexact HTsp
  iexact HPsp

theorem ring_out (c : Dev nD) : iprop(ringAt (F := F) c 16 ∗ tileSpare (F := F) c ∗ outSpare (F := F) c) ⊢ ringParts (F := F) c := by
  unfold ringAt; rw [Ring.AtBΦ_ge _ _ _ _ _ 16 (by decide), Ring.AtBEnd_frame]; unfold Ring.AtB₀
  rw [← frees_eq]
  iintro ⟨⟨HP, HQ, HT⟩, HTsp, HO⟩
  isplitl [HT HTsp]
  · iapply (Ring.pieces_join_spare (U := Pipeline.UD sig nD τ) (ℓ := (c : Thread nD τ).loc cc0_scratch0) (q := fullShare) tileSet tiles_disjoint
      (fun g e => tilePt (F := F) c g e) (fun g e => tilePt_eq c g e))
    isplitl [HT]; · iexact HT
    iexact HTsp
  isplitl [HQ]; · iexact HQ
  iapply (Ring.pieces_join_spare (U := Pipeline.UD sig nD τ) (ℓ := (c : Thread nD τ).loc main_v1_0) (q := fullShare) pieceSet pieces_disjoint
    (fun u f => piecePt (F := F) c u f) (fun u f => piecePt_eq c u f))
  isplitl [HP]; · iexact HP
  iexact HO

/-! ## The own cells and buffers of the call -/

abbrev osem0 : Fin 2 → SemLoc sig := ![SemLoc.dma 19, SemLoc.dma 20]
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄) = cells c := by
  rw [Pipeline.ownSems0_eq_of_list c osem0 [0, 1] (by decide) (by decide)]; rfl
def R0 : Finset (Ref sig .tc) := {main_v1_0}
theorem R0_sub : R0 ⊆ Pipeline.restRefs sig spec0 \ ∅ := by decide
theorem none_sub : (∅ : Finset (Ref sig .tc)) ⊆ Pipeline.restRefs sig spec0 := by decide
theorem owned_eq (c : Dev nD) : (Pipeline.owned R0 c : sProp 𝕄) = iprop(∃ f : Buf (Elt F) ((c : Thread nD τ).loc main_v1_0), ((c : Thread nD τ).loc main_v1_0) ↦{fullShare} f) := by
  unfold Pipeline.owned; rw [BI.bigSep_eq_bigSepL_of_eq [main_v1_0] (by decide) (by decide)]; rfl

variable (m : (ℓ : Loc nD τ sig) → Buf (Elt F) ℓ)

theorem PhiDR_eq (c : Dev nD) : (Pipeline.ΦDR osem0 spec0 ∅ R0 (V m) c : sProp 𝕄)
    = iprop((∃ f : Buf (Elt F) ((c : Thread nD τ).loc cc0_scratch0), ((c : Thread nD τ).loc cc0_scratch0) ↦{fullShare} f) ∗ (∃ r, prngReg c r) ∗ cells c ∗ emp ∗ (∃ f : Buf (Elt F) ((c : Thread nD τ).loc main_v1_0), ((c : Thread nD τ).loc main_v1_0) ↦{fullShare} f)) := by
  rw [Pipeline.ΦDR_eq, scopedRest0_eq, ownSems_eq, owned_eq, BI.bigSep_empty]; rfl

/-- What holds before step `k`, beside the blocks staged for it. -/
def Phi (c : Dev nD) (k : ℕ) : sProp 𝕄 :=
  iprop((∃ r, prngReg c r) ∗ ringAt (F := F) c k ∗ tileSpare (F := F) c ∗ outSpare (F := F) c)

theorem phi_in (c : Dev nD) : (Pipeline.ΦDR osem0 spec0 ∅ R0 (V m) c : sProp 𝕄) ⊢ Phi (F := F) c 0 := by
  rw [PhiDR_eq]; unfold Phi
  iintro ⟨HS, Hg, HQ, -, HD⟩
  isplitl [Hg]; · iexact Hg
  iapply (ring_in (F := F) c)
  isplitl [HS]; · iexact HS
  isplitl [HQ]; · iexact HQ
  iexact HD

theorem phi_out (c : Dev nD) : Phi (F := F) c 16 ⊢ (Pipeline.ΦDR osem0 spec0 ∅ R0 (V m) c : sProp 𝕄) := by
  rw [PhiDR_eq]; unfold Phi
  iintro ⟨Hg, HR⟩
  ihave HP := (ring_out (F := F) c) $$ HR
  icases HP with ⟨HS, HQ, HD⟩
  isplitl [HS]; · iexact HS
  isplitl [Hg]; · iexact Hg
  isplitl [HQ]; · iexact HQ
  isplitr; · iempintro
  iexact HD

/-! ## The step -/

/-- A buffer held at some contents is a memref held at what it reads there. -/
theorem owns_of (c : Dev nD) {sp : Space} {S : Shape} {e : EltTy} (M : Memref sig .tc sp S e) (f : Held (F := F) c M) :
    partPt c M f ⊢ owns (c : Thread nD τ) M fullShare (M.view.read (Elt F) f) := by
  unfold owns
  iintro H
  iexists f
  isplitr; · ipureintro; rfl
  iexact H

variable (c : Dev nD) (t : Fin cfg0.N) (arg1 : Memref sig .tc .vmem S512x512 .bf16) (harg1 : arg1.IsWhole)
  (arg2 : Memref sig .tc .vmem S512x512 .bf16) (harg2 : arg2.IsWhole) (arg3 : Memref sig .tc .vmem S512x512 .bf16) (harg3 : arg3.IsWhole)
  (arg4 : Memref sig .tc .vmem S512x512 .bf16) (harg4 : arg4.IsWhole) (arg5 : Memref sig .tc .vmem S1x2048 .f32) (harg5 : arg5.IsWhole)
  (arg6 : Memref sig .tc .vmem S512x1024 .bf16) (harg6 : arg6.IsWhole) (arg7 : Memref sig .tc .vmem S512x1024 .bf16) (harg7 : arg7.IsWhole)
  (arg8 : Memref sig .tc .vmem S512x1024 .f32) (harg8 : arg8.IsWhole) (arg9 : Memref sig .tc .vmem S1024x1024 .bf16) (harg9 : arg9.IsWhole)
  (arg11 : Memref sig .tc .vmem S2x512x1024 .bf16) (harg11 : arg11.IsWhole) (arg12 : Memref sig .tc .vmem S1x2048 .f32) (harg12 : arg12.IsWhole)

set_option maxHeartbeats 1600000 in
/-- The body at any step: which of the four runs it is follows from the step's number. -/
theorem step (x1 x2 x3 x4 : Vec F S512x512 .bf16) (x5 : Vec F S1x2048 .f32) (x6 x7 : Vec F S512x1024 .bf16) (x8 : Vec F S512x1024 .f32) (x9 : Vec F S1024x1024 .bf16) (W : Waits sig Unit) (K : PUnit → sProp 𝕄) :
    iprop(blocks c arg1 arg2 arg3 arg4 arg5 arg6 arg7 arg8 arg9 x1 x2 x3 x4 x5 x6 x7 x8 x9 ∗ ((∃ d, owns (c : Thread nD τ) arg11 fullShare d) ∗ (∃ d, owns (c : Thread nD τ) arg12 fullShare d))
      ∗ Phi c t.val ∗ owes (c : Thread nD τ) 0 W
      ∗ (iprop(blocks c arg1 arg2 arg3 arg4 arg5 arg6 arg7 arg8 arg9 x1 x2 x3 x4 x5 x6 x7 x8 x9 ∗ ((∃ d, owns (c : Thread nD τ) arg11 fullShare d) ∗ (∃ d, owns (c : Thread nD τ) arg12 fullShare d))
        ∗ Phi c (t.val + 1) ∗ (∃ W', owes (c : Thread nD τ) 0 W')) -∗ K ⟨⟩))
      ⊢ wp frame (wpE (defs₀ (F := F)) Variants.none c none) Set.univ
          (cc0_merge_bwd (grid0.coords t) arg1 harg1 arg2 harg2 arg3 harg3 arg4 harg4 arg5 harg5 arg6 harg6 arg7 harg7 arg8 harg8 arg9 harg9
            outM (Memref.isWhole_whole _) arg11 harg11 arg12 harg12 ringM (Memref.isWhole_whole _) cc0_scratch1) K := by
  have hN : t.val < 16 := lt_of_lt_of_eq t.isLt (show cfg0.N = 16 from N_0)
  unfold Phi ringAt
  rcases (show t.val = 0 ∨ t.val = 1 ∨ (2 ≤ t.val ∧ t.val < 15) ∨ (2 ≤ t.val ∧ t.val = 15) by omega) with h0 | h1 | ⟨h2, h3⟩ | ⟨h2, h3⟩
  · rw [Ring.AtBΦ_lt _ _ _ _ _ t.val (by omega), Ring.AtB2_zero' 2 _ _ _ _ t.val h0, Ring.AtBΦ_lt _ _ _ _ _ (t.val + 1) (by omega), Ring.AtB22_next_zero' _ _ _ _ t.val h0]
    iintro ⟨HB, ⟨⟨%d11, HD⟩, ⟨%d12, HE⟩⟩, ⟨Hg, ⟨⟨⟨%f, Hp⟩, HA⟩, ⟨Hc, ⟨%e, Ht⟩⟩, Hfx⟩, HT, HO⟩, HW, Hk⟩
    iapply (runFirst c t arg1 harg1 arg2 harg2 arg3 harg3 arg4 harg4 arg5 harg5 arg6 harg6 arg7 harg7 arg8 harg8 arg9 harg9 arg11 harg11 arg12 harg12 (fun h => absurd ((cond1_iff t).mp h) (by omega)) ((first_iff t).mpr h0) (fun h => absurd ((cond3_iff t).mp h) (by omega)) x1 x2 x3 x4 x5 x6 x7 x8 x9 d11 d12 W K e f)
    isplitl [HB]; · iexact HB
    isplitl [HD]; · iexact HD
    isplitl [HE]; · iexact HE
    isplitl [Hp]; · iexact Hp
    isplitl [Hc]; · iexact Hc
    isplitl [Ht]; · iexact Ht
    isplitl [HW]; · iexact HW
    iintro ⟨HB, ⟨%fd, HD⟩, ⟨%fe, HE⟩, ⟨%X, %e2, HF⟩, HW⟩
    iapply Hk
    isplitl [HB]; · iexact HB
    isplitl [HD HE]
    · isplitl [HD]; · iexists _; iapply (owns_of (F := F) c arg11 fd); iexact HD
      iexists _; iapply (owns_of (F := F) c arg12 fe); iexact HE
    isplitl [Hg HT HO HA Hfx HF]
    · isplitl [Hg]; · iexact Hg
      isplitl [HA Hfx HF]
      · isplitl [HA]; · iexact HA
        isplitl [Hfx]; · iexact Hfx
        iexists _; iexists _; iexact HF
      isplitl [HT]; · iexact HT
      iexact HO
    iexact HW
  · rw [Ring.AtBΦ_lt _ _ _ _ _ t.val (by omega), Ring.AtB22_one' _ _ _ _ t.val h1 (by decide), Ring.AtBΦ_lt _ _ _ _ _ (t.val + 1) (by omega), Ring.AtB22_next_one' _ _ _ _ t.val h1]
    iintro ⟨HB, ⟨⟨%d11, HD⟩, ⟨%d12, HE⟩⟩, ⟨Hg, ⟨⟨⟨%f, Hp⟩, HA⟩, ⟨Hc, ⟨%e, Ht⟩⟩, Hfx⟩, HT, HO⟩, HW, Hk⟩
    iapply (runSecond c t arg1 harg1 arg2 harg2 arg3 harg3 arg4 harg4 arg5 harg5 arg6 harg6 arg7 harg7 arg8 harg8 arg9 harg9 arg11 harg11 arg12 harg12 (fun h => absurd ((cond1_iff t).mp h) (by omega)) (fun h => absurd ((first_iff t).mp h) (by omega)) (fun h => absurd ((cond3_iff t).mp h) (by omega)) x1 x2 x3 x4 x5 x6 x7 x8 x9 d11 d12 W K e f)
    isplitl [HB]; · iexact HB
    isplitl [HD]; · iexact HD
    isplitl [HE]; · iexact HE
    isplitl [Hp]; · iexact Hp
    isplitl [Hc]; · iexact Hc
    isplitl [Ht]; · iexact Ht
    isplitl [HW]; · iexact HW
    iintro ⟨HB, ⟨%fd, HD⟩, ⟨%fe, HE⟩, ⟨%X, %e2, HF⟩, HW⟩
    iapply Hk
    isplitl [HB]; · iexact HB
    isplitl [HD HE]
    · isplitl [HD]; · iexists _; iapply (owns_of (F := F) c arg11 fd); iexact HD
      iexists _; iapply (owns_of (F := F) c arg12 fe); iexact HE
    isplitl [Hg HT HO HA Hfx HF]
    · isplitl [Hg]; · iexact Hg
      isplitl [HA Hfx HF]
      · isplitl [HA]; · iexact HA
        isplitl [Hfx]; · iexact Hfx
        iexists _; iexists _; iexact HF
      isplitl [HT]; · iexact HT
      iexact HO
    iexact HW
  · rw [Ring.AtBΦ_lt _ _ _ _ _ t.val (by omega), Ring.AtB22_here _ _ _ _ t.val h2 (by omega), Ring.AtBΦ_lt _ _ _ _ _ (t.val + 1) (by omega), Ring.AtB22_next _ _ _ _ t.val h2 (by omega)]
    iintro ⟨HB, ⟨⟨%d11, HD⟩, ⟨%d12, HE⟩⟩, ⟨Hg, ⟨⟨⟨%f, Hp⟩, HA⟩, HBh, ⟨%X, %e, HF⟩, Hfx⟩, HT, HO⟩, HW, Hk⟩
    iapply (runMid c t arg1 harg1 arg2 harg2 arg3 harg3 arg4 harg4 arg5 harg5 arg6 harg6 arg7 harg7 arg8 harg8 arg9 harg9 arg11 harg11 arg12 harg12 ((cond1_iff t).mpr h2) (fun h => absurd ((first_iff t).mp h) (by omega)) (fun h => absurd ((cond3_iff t).mp h) (by omega)) x1 x2 x3 x4 x5 x6 x7 x8 x9 d11 d12 W K e f X)
    isplitl [HB]; · iexact HB
    isplitl [HD]; · iexact HD
    isplitl [HE]; · iexact HE
    isplitl [Hp]; · iexact Hp
    isplitl [HF]; · iexact HF
    isplitl [HW]; · iexact HW
    iintro ⟨HB, ⟨%fd, HD⟩, ⟨%fe, HE⟩, Hb, ⟨%X2, %e2, HF⟩, HW⟩
    iapply Hk
    isplitl [HB]; · iexact HB
    isplitl [HD HE]
    · isplitl [HD]; · iexists _; iapply (owns_of (F := F) c arg11 fd); iexact HD
      iexists _; iapply (owns_of (F := F) c arg12 fe); iexact HE
    isplitl [Hg HT HO HA Hb HBh Hfx HF]
    · isplitl [Hg]; · iexact Hg
      isplitl [HA Hb HBh Hfx HF]
      · isplitl [HA]; · iexact HA
        isplitl [Hb HBh]
        · isplitl [Hb]; · iexists _; iexact Hb
          iexact HBh
        isplitl [Hfx]; · iexact Hfx
        iexists _; iexists _; iexact HF
      isplitl [HT]; · iexact HT
      iexact HO
    iexact HW
  · rw [Ring.AtBΦ_lt _ _ _ _ _ t.val (by omega), Ring.AtB22_here_last _ _ _ _ t.val h2 (by omega), Ring.AtBΦ_end _ _ _ _ _ (t.val + 1) (by omega), Ring.AtB22_drained _ _ t.val h2 (by omega)]
    iintro ⟨HB, ⟨⟨%d11, HD⟩, ⟨%d12, HE⟩⟩, ⟨Hg, ⟨⟨%f, Hp⟩, HBh, ⟨%X, %e, HF⟩, ⟨%X2, %e2, HF2⟩⟩, HT, HO⟩, HW, Hk⟩
    iapply (runLast c t arg1 harg1 arg2 harg2 arg3 harg3 arg4 harg4 arg5 harg5 arg6 harg6 arg7 harg7 arg8 harg8 arg9 harg9 arg11 harg11 arg12 harg12 ((cond1_iff t).mpr h2) (fun h => absurd ((first_iff t).mp h) (by omega)) ((cond3_iff t).mpr (by omega)) x1 x2 x3 x4 x5 x6 x7 x8 x9 d11 d12 W K e f X X2 e2)
    isplitl [HB]; · iexact HB
    isplitl [HD]; · iexact HD
    isplitl [HE]; · iexact HE
    isplitl [Hp]; · iexact Hp
    isplitl [HF]; · iexact HF
    isplitl [HF2]; · iexact HF2
    isplitl [HW]; · iexact HW
    iintro ⟨HB, ⟨%fd, HD⟩, ⟨%fe, HE⟩, Hb, Hb2, ⟨%X3, Hp⟩, Hc, Ht, Hc2, Ht2, HW⟩
    iapply Hk
    isplitl [HB]; · iexact HB
    isplitl [HD HE]
    · isplitl [HD]; · iexists _; iapply (owns_of (F := F) c arg11 fd); iexact HD
      iexists _; iapply (owns_of (F := F) c arg12 fe); iexact HE
    isplitl [Hg HT HO Hp Hb Hb2 HBh Hc Ht Hc2 Ht2]
    · isplitl [Hg]; · iexact Hg
      isplitl [Hp Hb Hb2 HBh Hc Ht Hc2 Ht2]
      · isplitl [Hp Hb Hb2 HBh]
        · isplitl [Hp]; · iexists _; iexact Hp
          isplitl [Hb]; · iexists _; iexact Hb
          isplitl [Hb2]; · iexists _; iexact Hb2
          iexact HBh
        isplitl [Hc Ht]
        · isplitl [Hc]; · iexact Hc
          iexact Ht
        isplitl [Hc2]; · iexact Hc2
        iexact Ht2
      isplitl [HT]; · iexact HT
      iexact HO
    iexact HW

end Cert.Kernel7Ideal.MB

end
-- ==== Proof.MergeFrame.lean ====
/- The backward call of the merge: the launch. Every run of the program ends, with the argument arrays as they were and every counter at zero. -/
module

public import proofs.«01_k».proof.Proof.MergeStep
public import Idealize.ShloMosaic.Lib.Pipeline.FrameSuffixR

@[expose] public section

set_option maxRecDepth 65536

noncomputable section

namespace Cert.Kernel7Ideal.MB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Nothing is named of what the kernel leaves in the results the pipeline writes back (windows 9 and 10). -/
def forgets : Fin 11 → Bool := fun w => 9 ≤ w.val

/-- The pipeline's data on core `c`: the arrays as the region finds them, each input's buffer at its block, the invariant `Phi`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
  Φ t := Phi c t.val
  q w := Pipeline.shareOf spec0 w
  owed _ := 0

theorem A_eq (c : Dev nD) (w : Fin cfg0.W) : (dats m 0 c).A w = V m c (Pipeline.arrRef spec0 w) := by dsimp only [dats]
theorem phi_castSucc (c : Dev nD) (t : Fin cfg0.N) : (dats m 0 c).Φ t.castSucc = Phi c t.val := by
  dsimp only [dats]; simp only [Fin.coe_castSucc]
theorem phi_succ (c : Dev nD) (t : Fin cfg0.N) : (dats m 0 c).Φ t.succ = Phi c (t.val + 1) := by
  dsimp only [dats]; simp only [Fin.val_succ]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d))
    ∗ (∃ d, owns (c : Thread nD τ) (st0_9 t) fullShare d) ∗ (∃ d, owns (c : Thread nD τ) (st0_10 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t)
    ∗ (∃ d, owns (c : Thread nD τ) (st0_9 t) fullShare d) ∗ (∃ d, owns (c : Thread nD τ) (st0_10 t) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [after_0, after_1, after_2, after_3, after_4, after_5, after_6, after_7, after_8, phi_castSucc m c t, phi_succ m c t]
  unfold Dat.owesAt Pipeline.owesWithin
  rw [show (dats m 0 c).owed t.castSucc = 0 from rfl, show (dats m 0 c).owed t.succ = 0 from rfl]
  iintro ⟨HP, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, HD⟩
  iapply (step c t _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) W _)
  isplitl [H0 H1 H2 H3 H4 H5 H6 H7 H8]
  · unfold blocks
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [HD]; · iexact HD
  isplitl [HP]; · iexact HP
  isplitl [HW]; · iexact HW
  unfold blocks
  iintro ⟨⟨H0, H1, H2, H3, H4, H5, H6, H7, H8⟩, HD, HP, ⟨%W', HW'⟩⟩
  isplitl [HP]; · iexact HP
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HD

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs_row]
  exact triple_restated (sound_body m c t) rfl .rfl fun _ => .rfl

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem hin (c : Dev nD) : Pipeline.ΦDR osem0 spec0 ∅ R0 (V m) c ⊢ (dats m 0 c).Φ 0 := by
  rw [show (dats m 0 c).Φ 0 = Phi c 0 from rfl]; exact phi_in m c
theorem hout (c : Dev nD) : (dats m 0 c).Φ (Fin.last cfg0.N) ⊢ Pipeline.ΦDR osem0 spec0 ∅ R0 (V m) c := by
  rw [show (dats m 0 c).Φ (Fin.last cfg0.N) = Phi c grid0.N from rfl, show grid0.N = 16 by rw [N_0]]; exact phi_out m c

/-- The buffer the line after the region writes. -/
def T0 : Finset (Ref sig .tc) := {main_v2}
theorem writes_T0 : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb
  rw [T0, Finset.mem_singleton]
  by_contra hne
  exact StableHlo.devRef_ne_of_ne hne hb

set_option backward.isDefEq.respectTransparency.types false in
theorem run_main : θ_run defs (onTc (τ := τ) (main (F := F))) (s₀ m ρ)
    (fun r => (Pipeline.RDat.FramePostR (cfgs 0) (fun c => (dats m 0 c).toRForget forgets) (R0 ∪ T0) (V m)) r ∧ r.2.sem = fun _ => 0) :=
  Pipeline.θ_run_frame_dmaR_around_T_forget_shared (Q' := _) cfgs (dats m) (0 : Fin 1) launch₀0 osem0 defs₀ Variants.none forgets ownSemFacts0 ∅ R0 T0
    none_sub R0_sub m ρ main
    (hbody := fun c => (body_obligation m c).loose) (hq := fun _ _ _ => rfl)
    (howed := fun _ _ => rfl) (V₀ := V0 m) (opss := [hostOps1]) (hsub := sfx_sub) (hfresh := sfx_fresh) (hkeep := sfx_keeps) (hT := writes_T0)
    (hmain := hmain m Variants.none) (hA := A_eq m) (hin := hin m) (hout := hout m)

set_option maxHeartbeats 4000000 in
/-- The six argument arrays end as they began, and every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c =>
    ⟨(Pipeline.RDat.FramePostR.arr_in h.1 c 3 rfl).trans ((A_eq m c 3).trans (V_main_arg0 m c)),
      ((h.1 c).2 main_arg1 (Finset.mem_sdiff.mpr ⟨Pipeline.mem_restRefs_of main_arg1 (by decide) (by decide), by decide⟩)).trans (V_main_arg1 m c),
      (Pipeline.RDat.FramePostR.arr_in h.1 c 5 rfl).trans ((A_eq m c 5).trans (V_main_arg2 m c)),
      (Pipeline.RDat.FramePostR.arr_in h.1 c 6 rfl).trans ((A_eq m c 6).trans (V_main_arg3 m c)),
      (Pipeline.RDat.FramePostR.arr_in h.1 c 7 rfl).trans ((A_eq m c 7).trans (V_main_arg4 m c)),
      (Pipeline.RDat.FramePostR.arr_in h.1 c 8 rfl).trans ((A_eq m c 8).trans (V_main_arg5 m c))⟩, h.2⟩)
    (run_main m ρ)

end Cert.Kernel7Ideal.MB

end
-- ==== Proof.NormProduct.lean ====
/- A root-mean-square norm of the rows of an array, and its product with an array of weights. -/
module

public import proofs.«01_k».proof.Proof.RmsMath

@[expose] public section

noncomputable section

namespace Rms

open Idealize.ShloMosaic

variable {rows width cols : ℕ} (x : Fin rows → Fin width → EReal) (g : Fin width → EReal) (w : Fin width → Fin cols → EReal)

/-- Row `r` over the root of the mean of its squares, times the gain. -/
def normed (r : Fin rows) (k : Fin width) : EReal := x r k * inv (x r) * g k

/-- The product of the normalised rows with the weights. -/
def normProduct (r : Fin rows) (j : Fin cols) : EReal := ∑ k, normed x g r k * w k j

/-- Row `r` of block `t`, of sixteen blocks of 512 rows. -/
def row (t : ℕ) (r : Fin 512) : Fin 8192 := ⟨(t * 512 + r.val) % 8192, Nat.mod_lt _ (by decide)⟩

theorem row_val {t : ℕ} (ht : t < 16) (r : Fin 512) : (row t r).val = t * 512 + r.val := Nat.mod_eq_of_lt (by have := r.isLt; omega)

/-- Column `q` of piece `p` of the weights, of four pieces of 1408 columns. -/
def col (p : Fin 4) (q : Fin 1408) : Fin 5632 := ⟨p.val * 1408 + q.val, by omega⟩

end Rms

end
-- ==== Proof.Ffn.lean ====
/- The root-mean-square norm with the gated projection that follows it: what one block of the kernel computes, what its
   result arrays hold, and that they are the reference's arrays. -/
module

public import proofs.«01_k».proof.Proof.NormProduct
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.Value
public import Idealize.ShloMosaic.Lib.StableHlo.ReadAt

@[expose] public section

set_option maxRecDepth 16384

noncomputable section

namespace Ffn

open Idealize.ShloMosaic Idealize.ShloMosaic.TcCoe Idealize.SL.Sem
open Idealize.ShloMosaic.Pipeline (Dat)
open Cert.Kernel8Ideal Cert.Kernel8Ideal.Gen
open Rms (row row_val col)

/-! ## One block -/

section Block

variable (x0 : Vec Ideal S512x1024 .f32) (x1 : Vec Ideal S1x1024 .f32) (v : Vec Ideal S1x1024x1408 .bf16)

theorem pay1_apply (r : Fin 512) (k : Fin 1024) :
    k0_pay1 x0 x1 (ix2 r k) = Rms.normed (fun (r : Fin 512) (k : Fin 1024) => x0 (ix2 r k)) (fun k => x1 (ix2 0 k)) r k := by
  pointwise [k0_pay1]
  rfl

theorem pay2_apply (r : Fin 512) (j : Fin 1408) : k0_pay2 x0 x1 v (ix2 r j)
    = Rms.normProduct (fun (r : Fin 512) (k : Fin 1024) => x0 (ix2 r k)) (fun k => x1 (ix2 0 k)) (fun k (j : Fin 1408) => v (ix3 0 k j)) r j := by
  pointwise [k0_pay2]
  simp only [pay1_apply]
  rfl

theorem pay4_apply (r : Fin 512) (j : Fin 1408) : k0_pay4 x0 x1 v (ix3 0 r j) = k0_pay2 x0 x1 v (ix2 r j) := by
  pointwise [k0_pay4]

/-- The second half of a row of the product, gated by the first. -/
def gated (a b : EReal) : EReal := a * Ideal.logistic a * b

theorem pay7_apply (a b : FVec Ideal S512x1408 .f32) (r : Fin 512) (j : Fin 1408) :
    k0_pay7 a b (k0_pay6 (F := Ideal)) (ix2 r j) = gated (a (ix2 r j)) (b (ix2 r j)) := by
  pointwise [k0_pay7, k0_pay6]
  rw [Reals.ofBits_half, Reals.half_tanh_logistic]
  rfl

end Block

/-! ## The whole arrays -/

section Kernel

variable (m : (ℓ : Loc nD τ sig) → Buf (Elt Ideal) ℓ) (c : Dev nD)

abbrev X : S8192x1024.Idx → EReal := m ((c : Thread nD τ).loc main_arg0)
abbrev Gn : S1024.Idx → EReal := m ((c : Thread nD τ).loc main_arg1)
abbrev W : S1024x5632.Idx → EReal := m ((c : Thread nD τ).loc main_arg2)

/-- What the three result arrays hold: the normalised rows, the two halves of their product with the weights, and the second
    half gated by the first. -/
def R1 : S8192x1024.Idx → EReal :=
  fun i => Rms.normed (fun (r : Fin 8192) (k : Fin 1024) => X m c (ix2 r k)) (fun k => Gn m c (ix1 k)) (i 0) (i 1)
/-- Row `r`, column `j` of the product. -/
def prodAt (r : Fin 8192) (j : Fin 5632) : EReal :=
  Rms.normProduct (fun (r : Fin 8192) (k : Fin 1024) => X m c (ix2 r k)) (fun k => Gn m c (ix1 k)) (fun k (j : Fin 5632) => W m c (ix2 k j)) r j
/-- The column of the product that is column `j` of half `p`. -/
def half (p : Fin 2) (j : Fin 2816) : Fin 5632 := ⟨p.val * 2816 + j.val, by omega⟩
def R2 : S2x8192x2816.Idx → EReal := fun i => prodAt m c (i 1) (half (i 0) (i 2))
def R3 : S8192x2816.Idx → EReal := fun i => gated (prodAt m c (i 0) (half 0 (i 1))) (prodAt m c (i 0) (half 1 (i 1)))

theorem V_gain (k : Fin 1024) : V m c main_v0 (ix2 0 k : S1x1024.Idx) = Gn m c (ix1 k) := by
  unfold V
  after_reads_at

theorem V_shards (p : Fin 4) (k : Fin 1024) (q : Fin 1408) (h : p.val * 1408 + q.val < 5632) :
    V m c main_v9 (ix3 p k q : S4x1024x1408.Idx) = W m c (ix2 k ⟨p.val * 1408 + q.val, h⟩) := by
  fin_cases p <;> (unfold V; after_reads_at; rw [StableHlo.unary_result]; after_reads_at)

theorem index_eq : ∀ t : Fin cfg0.N,
    (win0_0.index t 0 = t.val ∧ win0_0.index t 1 = 0) ∧ (win0_1.index t 0 = 0 ∧ win0_1.index t 1 = 0)
      ∧ (win0_2.index t 0 = 0 ∧ win0_2.index t 1 = 0 ∧ win0_2.index t 2 = 0) ∧ (win0_3.index t 0 = t.val ∧ win0_3.index t 1 = 0)
      ∧ (win0_4.index t 0 = 0 ∧ win0_4.index t 1 = t.val ∧ win0_4.index t 2 = 0) ∧ (win0_5.index t 0 = t.val ∧ win0_5.index t 1 = 0) :=
  (by decide +kernel : ∀ t : Fin grid0.N, _)

theorem lt16 (t : Fin cfg0.N) : t.val < 16 := t.isLt

theorem iblk0_apply (t : Fin cfg0.N) (r : Fin 512) (k : Fin 1024) :
    iblk m c 0 t (ix2 r k : S512x1024.Idx) = X m c (ix2 (row t.val r) k) := by
  refine (congrFun (V_main_arg0 m c) _).trans (congrArg (X m c) (funext fun a => Fin.ext ?_))
  obtain ⟨⟨h0, h1⟩, -⟩ := index_eq t
  match a with
  | ⟨0, _⟩ => show win0_0.index t 0 * 512 + 1 * r.val = (row t.val r).val; rw [h0, row_val (lt16 t)]; omega
  | ⟨1, _⟩ => show win0_0.index t 1 * 1024 + 1 * k.val = k.val; rw [h1]; omega

theorem iblk1_apply (t : Fin cfg0.N) (k : Fin 1024) : iblk m c 1 t (ix2 0 k : S1x1024.Idx) = Gn m c (ix1 k) := by
  refine (congrArg (V m c main_v0) (funext fun a => Fin.ext ?_)).trans (V_gain m c k)
  obtain ⟨-, ⟨h0, h1⟩, -⟩ := index_eq t
  match a with
  | ⟨0, _⟩ => show win0_1.index t 0 * 1 + 1 * 0 = 0; rw [h0]
  | ⟨1, _⟩ => show win0_1.index t 1 * 1024 + 1 * k.val = k.val; rw [h1]; omega

theorem iblk2_apply (t : Fin cfg0.N) (p : Fin 4) (k : Fin 1024) (q : Fin 1408) :
    iblk m c 2 t (ix3 p k q : S4x1024x1408.Idx) = W m c (ix2 k (col p q)) := by
  refine (congrArg (V m c main_v9) (funext fun a => Fin.ext ?_)).trans (V_shards m c p k q (by omega))
  obtain ⟨-, -, ⟨h0, h1, h2⟩, -⟩ := index_eq t
  match a with
  | ⟨0, _⟩ => show win0_2.index t 0 * 4 + 1 * p.val = p.val; rw [h0]; omega
  | ⟨1, _⟩ => show win0_2.index t 1 * 1024 + 1 * k.val = k.val; rw [h1]; omega
  | ⟨2, _⟩ => show win0_2.index t 2 * 1408 + 1 * q.val = q.val; rw [h2]; omega

/-- The four pieces of the weights, as a block loads them. -/
theorem piece_apply (t : Fin cfg0.N) (p : Fin 4) (h : ∀ b, (![p.val, 0, 0] : Fin 3 → ℕ) b + S1x1024x1408.size b ≤ S4x1024x1408.size b) (k : Fin 1024) (q : Fin 1408) :
    View.ld (iblk m c 2 t) (Rect.unit (s := S4x1024x1408) ![p.val, 0, 0] S1x1024x1408.size h) (ix3 0 k q : S1x1024x1408.Idx) = W m c (ix2 k (col p q)) := by
  refine (congrArg (iblk m c 2 t) (funext fun a => Fin.ext ?_)).trans (iblk2_apply m c t p k q)
  match a with
  | ⟨0, _⟩ => show p.val + 1 * 0 = p.val; omega
  | ⟨1, _⟩ => show 0 + 1 * k.val = k.val; omega
  | ⟨2, _⟩ => show 0 + 1 * q.val = q.val; omega

theorem block_product (t : Fin cfg0.N) (p : Fin 4) (h : ∀ b, (![p.val, 0, 0] : Fin 3 → ℕ) b + S1x1024x1408.size b ≤ S4x1024x1408.size b) (r : Fin 512) (q : Fin 1408) :
    k0_pay2 (iblk m c 0 t) (iblk m c 1 t) (View.ld (iblk m c 2 t) (Rect.unit (s := S4x1024x1408) ![p.val, 0, 0] S1x1024x1408.size h)) (ix2 r q)
      = prodAt m c (row t.val r) (col p q) := by
  refine (pay2_apply _ _ _ r q).trans (Finset.sum_congr rfl fun k _ => congrArg₂ (· * ·) ?_ (piece_apply m c t p h k q))
  unfold Rms.normed
  simp only [iblk0_apply, iblk1_apply]

theorem hz : (![0, 0] : Fin 2 → ℕ) = fun _ => 0 := funext fun a => by fin_cases a <;> rfl

theorem out3_apply (t : Fin cfg0.N) (r : Fin 512) (k : Fin 1024) :
    out0_3 (iblk m c 0 t) (iblk m c 1 t) (iblk m c 2 t) (ix2 r k : S512x1024.Idx) = R1 m c (ix2 (row t.val r) k) := by
  unfold out0_3 r0_0 r0_1
  rw [View.ld_unit_zero hz, View.ld_unit_zero hz]
  refine View.canon_apply_of_pieces (Val := Elt Ideal) (e := .bf16) (fun y : S512x1024.Idx => R1 m c (ix2 (row t.val (y 0)) (y 1))) _ ?_ (ix2 r k : S512x1024.Idx)
    (cover0_3 _ _)
  intro q hq x
  obtain rfl := List.mem_singleton.1 hq
  obtain ⟨r, k, rfl⟩ : ∃ (r : Fin 512) (k : Fin 1024), x = (ix2 r k : S512x1024.Idx) := ⟨_, _, eq_ix2 x⟩
  have e : (Rect.unit (s := S512x1024) ![0, 0] S512x1024.size inb_S512x1024_S512x1024_0_0).emb (ix2 r k : S512x1024.Idx) = (ix2 r k : S512x1024.Idx) := by idx_ext
  refine (pay1_apply _ _ r k).trans ?_
  rw [e]
  unfold Rms.normed
  simp only [iblk0_apply, iblk1_apply]
  rfl

/-- Column `q` of piece `s` of half a row, of two pieces. -/
def wide (s : Fin 2) (q : Fin 1408) : Fin 2816 := ⟨s.val * 1408 + q.val, by omega⟩

theorem half_wide (p s : Fin 2) (q : Fin 1408) (o : Fin 4) (ho : o.val = 2 * p.val + s.val) : col o q = half p (wide s q) :=
  Fin.ext (by show o.val * 1408 + q.val = p.val * 2816 + (s.val * 1408 + q.val); omega)

theorem out4_apply (t : Fin cfg0.N) (y : S2x512x2816.Idx) :
    out0_4 (iblk m c 0 t) (iblk m c 1 t) (iblk m c 2 t) y = R2 m c (ix3 (y 0) (row t.val (y 1)) (y 2)) := by
  unfold out0_4 k0_pay13 r0_0 r0_1
  rw [View.ld_unit_zero hz, View.ld_unit_zero hz]
  refine View.canon_apply_of_pieces (Val := Elt Ideal) (e := .bf16) (fun y : S2x512x2816.Idx => R2 m c (ix3 (y 0) (row t.val (y 1)) (y 2))) _ ?_ y
    (cover0_4 _ _ _ _ _)
  intro q hq x
  have f : ∀ (p s : Fin 2) (o : Fin 4) (ho : o.val = 2 * p.val + s.val)
      (h : ∀ b, (![p.val, 0, s.val * 1408] : Fin 3 → ℕ) b + S1x512x1408.size b ≤ S2x512x2816.size b)
      (h' : ∀ b, (![o.val, 0, 0] : Fin 3 → ℕ) b + S1x1024x1408.size b ≤ S4x1024x1408.size b) (x : S1x512x1408.Idx),
      k0_pay4 (iblk m c 0 t) (iblk m c 1 t) (View.ld (iblk m c 2 t) (Rect.unit (s := S4x1024x1408) ![o.val, 0, 0] S1x1024x1408.size h')) x
        = (fun y : S2x512x2816.Idx => R2 m c (ix3 (y 0) (row t.val (y 1)) (y 2)))
          ((Rect.unit (s := S2x512x2816) ![p.val, 0, s.val * 1408] S1x512x1408.size h).emb x) := by
    intro p s o ho h h' x
    obtain ⟨z, r, j, rfl⟩ : ∃ (z : Fin 1) (r : Fin 512) (j : Fin 1408), x = (ix3 z r j : S1x512x1408.Idx) := ⟨_, _, _, eq_ix3 x⟩
    obtain rfl : z = 0 := Subsingleton.elim _ _
    have e : (Rect.unit (s := S2x512x2816) ![p.val, 0, s.val * 1408] S1x512x1408.size h).emb (ix3 0 r j : S1x512x1408.Idx) = (ix3 p r (wide s j) : S2x512x2816.Idx) := by
      funext a
      refine Fin.ext ?_
      match a with
      | ⟨0, _⟩ => show p.val + 1 * 0 = p.val; omega
      | ⟨1, _⟩ => show 0 + 1 * r.val = r.val; omega
      | ⟨2, _⟩ => show s.val * 1408 + 1 * j.val = s.val * 1408 + j.val; omega
    rw [e]
    refine (pay4_apply _ _ _ r j).trans ((block_product m c t o h' r j).trans ?_)
    rw [half_wide p s j o ho]
    rfl
  rcases List.mem_cons.1 hq with rfl | hq
  · exact f 1 1 3 rfl inb_S2x512x2816_S1x512x1408_1_0_1408 inb_S4x1024x1408_S1x1024x1408_3_0_0 x
  rcases List.mem_cons.1 hq with rfl | hq
  · exact f 0 1 1 rfl inb_S2x512x2816_S1x512x1408_0_0_1408 inb_S4x1024x1408_S1x1024x1408_1_0_0 x
  rcases List.mem_cons.1 hq with rfl | hq
  · exact f 1 0 2 rfl inb_S2x512x2816_S1x512x1408_1_0_0 inb_S4x1024x1408_S1x1024x1408_2_0_0 x
  · obtain rfl := List.mem_singleton.1 hq
    exact f 0 0 0 rfl inb_S2x512x2816_S1x512x1408_0_0_0 inb_S4x1024x1408_S1x1024x1408_0_0_0 x

theorem out5_apply (t : Fin cfg0.N) (r : Fin 512) (j : Fin 2816) :
    out0_5 (iblk m c 0 t) (iblk m c 1 t) (iblk m c 2 t) (ix2 r j : S512x2816.Idx) = R3 m c (ix2 (row t.val r) j) := by
  unfold out0_5 k0_pay13 r0_0 r0_1
  rw [View.ld_unit_zero hz, View.ld_unit_zero hz]
  refine View.canon_apply_of_pieces (Val := Elt Ideal) (e := .bf16) (fun y : S512x2816.Idx => R3 m c (ix2 (row t.val (y 0)) (y 1))) _ ?_ (ix2 r j : S512x2816.Idx)
    (cover0_5 _ _ _)
  intro q hq x
  have f : ∀ (s : Fin 2) (o o' : Fin 4) (ho : o.val = s.val) (ho' : o'.val = 2 + s.val)
      (h : ∀ b, (![0, s.val * 1408] : Fin 2 → ℕ) b + S512x1408.size b ≤ S512x2816.size b)
      (h0 : ∀ b, (![o.val, 0, 0] : Fin 3 → ℕ) b + S1x1024x1408.size b ≤ S4x1024x1408.size b)
      (h1 : ∀ b, (![o'.val, 0, 0] : Fin 3 → ℕ) b + S1x1024x1408.size b ≤ S4x1024x1408.size b) (x : S512x1408.Idx),
      k0_pay7 (k0_pay2 (iblk m c 0 t) (iblk m c 1 t) (View.ld (iblk m c 2 t) (Rect.unit (s := S4x1024x1408) ![o.val, 0, 0] S1x1024x1408.size h0)))
          (k0_pay2 (iblk m c 0 t) (iblk m c 1 t) (View.ld (iblk m c 2 t) (Rect.unit (s := S4x1024x1408) ![o'.val, 0, 0] S1x1024x1408.size h1)))
          (k0_pay6 (F := Ideal)) x
        = (fun y : S512x2816.Idx => R3 m c (ix2 (row t.val (y 0)) (y 1)))
          ((Rect.unit (s := S512x2816) ![0, s.val * 1408] S512x1408.size h).emb x) := by
    intro s o o' ho ho' h h0 h1 x
    obtain ⟨r, j, rfl⟩ : ∃ (r : Fin 512) (j : Fin 1408), x = (ix2 r j : S512x1408.Idx) := ⟨_, _, eq_ix2 x⟩
    have e : (Rect.unit (s := S512x2816) ![0, s.val * 1408] S512x1408.size h).emb (ix2 r j : S512x1408.Idx) = (ix2 r (wide s j) : S512x2816.Idx) := by
      funext a
      refine Fin.ext ?_
      match a with
      | ⟨0, _⟩ => show 0 + 1 * r.val = r.val; omega
      | ⟨1, _⟩ => show s.val * 1408 + 1 * j.val = s.val * 1408 + j.val; omega
    rw [e]
    refine (pay7_apply _ _ r j).trans ?_
    rw [block_product m c t o h0 r j, block_product m c t o' h1 r j, half_wide 0 s j o (by show o.val = 2 * 0 + s.val; omega),
      half_wide 1 s j o' (by show o'.val = 2 * 1 + s.val; omega)]
    rfl
  rcases List.mem_cons.1 hq with rfl | hq
  · exact f 1 1 3 rfl rfl inb_S512x2816_S512x1408_0_1408 inb_S4x1024x1408_S1x1024x1408_1_0_0 inb_S4x1024x1408_S1x1024x1408_3_0_0 x
  · obtain rfl := List.mem_singleton.1 hq
    exact f 0 0 2 rfl rfl inb_S512x2816_S512x1408_0_0 inb_S4x1024x1408_S1x1024x1408_0_0_0 inb_S4x1024x1408_S1x1024x1408_2_0_0 x

theorem flushed3_eq (t : Fin cfg0.N) : (dats m 0 c).flushed 3 t = ((cfg0.win 3).blk t).view.read (Elt Ideal) (R1 m c) := by
  rw [Value.flushed3]
  funext y
  obtain ⟨r, k, rfl⟩ : ∃ (r : Fin 512) (k : Fin 1024), y = (ix2 r k : S512x1024.Idx) := ⟨_, _, eq_ix2 y⟩
  refine (out3_apply m c t r k).trans (congrArg (R1 m c) (funext fun a => Fin.ext ?_))
  obtain ⟨-, -, -, ⟨h0, h1⟩, -⟩ := index_eq t
  match a with
  | ⟨0, _⟩ => show (row t.val r).val = win0_3.index t 0 * 512 + 1 * r.val; rw [h0, row_val (lt16 t)]; omega
  | ⟨1, _⟩ => show k.val = win0_3.index t 1 * 1024 + 1 * k.val; rw [h1]; omega

theorem flushed4_eq (t : Fin cfg0.N) : (dats m 0 c).flushed 4 t = ((cfg0.win 4).blk t).view.read (Elt Ideal) (R2 m c) := by
  rw [Value.flushed4]
  funext y
  obtain ⟨p, r, j, rfl⟩ : ∃ (p : Fin 2) (r : Fin 512) (j : Fin 2816), y = (ix3 p r j : S2x512x2816.Idx) := ⟨_, _, _, eq_ix3 y⟩
  refine (out4_apply m c t _).trans (congrArg (R2 m c) (funext fun a => Fin.ext ?_))
  obtain ⟨-, -, -, -, ⟨h0, h1, h2⟩, -⟩ := index_eq t
  match a with
  | ⟨0, _⟩ => show p.val = win0_4.index t 0 * 2 + 1 * p.val; rw [h0]; omega
  | ⟨1, _⟩ => show (row t.val r).val = win0_4.index t 1 * 512 + 1 * r.val; rw [h1, row_val (lt16 t)]; omega
  | ⟨2, _⟩ => show j.val = win0_4.index t 2 * 2816 + 1 * j.val; rw [h2]; omega

theorem flushed5_eq (t : Fin cfg0.N) : (dats m 0 c).flushed 5 t = ((cfg0.win 5).blk t).view.read (Elt Ideal) (R3 m c) := by
  rw [Value.flushed5]
  funext y
  obtain ⟨r, j, rfl⟩ : ∃ (r : Fin 512) (j : Fin 2816), y = (ix2 r j : S512x2816.Idx) := ⟨_, _, eq_ix2 y⟩
  refine (out5_apply m c t r j).trans (congrArg (R3 m c) (funext fun a => Fin.ext ?_))
  obtain ⟨-, -, -, -, -, h0, h1⟩ := index_eq t
  match a with
  | ⟨0, _⟩ => show (row t.val r).val = win0_5.index t 0 * 512 + 1 * r.val; rw [h0, row_val (lt16 t)]; omega
  | ⟨1, _⟩ => show j.val = win0_5.index t 1 * 2816 + 1 * j.val; rw [h1]; omega

theorem mem_blk3 (t : Fin cfg0.N) (i : S8192x1024.Idx) (h : t.val = (i 0 : Nat) / 512) : i ∈ ((cfg0.win 3).blk t).view.set := by
  have h1 : (i 1 : Nat) < 1024 := (i 1).isLt
  obtain ⟨-, -, -, ⟨e0, e1⟩, -⟩ := index_eq t
  show i ∈ ((View.whole main_v10_0).slice (win0_3.rect t)).set
  rw [View.set_slice_whole, Rect.mem_set_unit]
  intro a
  match a with
  | ⟨0, _⟩ => show win0_3.index t 0 * 512 ≤ (i 0 : Nat) ∧ (i 0 : Nat) < win0_3.index t 0 * 512 + 512; rw [e0]; omega
  | ⟨1, _⟩ => show win0_3.index t 1 * 1024 ≤ (i 1 : Nat) ∧ (i 1 : Nat) < win0_3.index t 1 * 1024 + 1024; rw [e1]; omega

theorem mem_blk4 (t : Fin cfg0.N) (i : S2x8192x2816.Idx) (h : t.val = (i 1 : Nat) / 512) : i ∈ ((cfg0.win 4).blk t).view.set := by
  have h0 : (i 0 : Nat) < 2 := (i 0).isLt
  have h2 : (i 2 : Nat) < 2816 := (i 2).isLt
  obtain ⟨-, -, -, -, ⟨e0, e1, e2⟩, -⟩ := index_eq t
  show i ∈ ((View.whole main_v10_1).slice (win0_4.rect t)).set
  rw [View.set_slice_whole, Rect.mem_set_unit]
  intro a
  match a with
  | ⟨0, _⟩ => show win0_4.index t 0 * 2 ≤ (i 0 : Nat) ∧ (i 0 : Nat) < win0_4.index t 0 * 2 + 2; rw [e0]; omega
  | ⟨1, _⟩ => show win0_4.index t 1 * 512 ≤ (i 1 : Nat) ∧ (i 1 : Nat) < win0_4.index t 1 * 512 + 512; rw [e1]; omega
  | ⟨2, _⟩ => show win0_4.index t 2 * 2816 ≤ (i 2 : Nat) ∧ (i 2 : Nat) < win0_4.index t 2 * 2816 + 2816; rw [e2]; omega

theorem mem_blk5 (t : Fin cfg0.N) (i : S8192x2816.Idx) (h : t.val = (i 0 : Nat) / 512) : i ∈ ((cfg0.win 5).blk t).view.set := by
  have h1 : (i 1 : Nat) < 2816 := (i 1).isLt
  obtain ⟨-, -, -, -, -, e0, e1⟩ := index_eq t
  show i ∈ ((View.whole main_v10_2).slice (win0_5.rect t)).set
  rw [View.set_slice_whole, Rect.mem_set_unit]
  intro a
  match a with
  | ⟨0, _⟩ => show win0_5.index t 0 * 512 ≤ (i 0 : Nat) ∧ (i 0 : Nat) < win0_5.index t 0 * 512 + 512; rw [e0]; omega
  | ⟨1, _⟩ => show win0_5.index t 1 * 2816 ≤ (i 1 : Nat) ∧ (i 1 : Nat) < win0_5.index t 1 * 2816 + 2816; rw [e1]; omega

/-- After the run the three result arrays hold `R1`, `R2` and `R3`. -/
theorem final3 : (dats m 0 c).arrAt 3 cfg0.N = R1 m c :=
  (dats m 0 c).arrAt_eq_of_cover 3 _ (fun t _ => flushed3_eq m c t) fun i => by
    have h0 : (i 0 : Nat) < 8192 := (i 0).isLt
    exact ⟨⟨(i 0).val / 512, show _ < 16 by omega⟩, flush0_3 _, mem_blk3 _ i rfl⟩

theorem final4 : (dats m 0 c).arrAt 4 cfg0.N = R2 m c :=
  (dats m 0 c).arrAt_eq_of_cover 4 _ (fun t _ => flushed4_eq m c t) fun i => by
    have h1 : (i 1 : Nat) < 8192 := (i 1).isLt
    exact ⟨⟨(i 1).val / 512, show _ < 16 by omega⟩, flush0_4 _, mem_blk4 _ i rfl⟩

theorem final5 : (dats m 0 c).arrAt 5 cfg0.N = R3 m c :=
  (dats m 0 c).arrAt_eq_of_cover 5 _ (fun t _ => flushed5_eq m c t) fun i => by
    have h0 : (i 0 : Nat) < 8192 := (i 0).isLt
    exact ⟨⟨(i 0).val / 512, show _ < 16 by omega⟩, flush0_5 _, mem_blk5 _ i rfl⟩

end Kernel

/-! ## The reference -/

section Reference

open Cert.Reference8Ideal.Read

variable (x : S8192x1024.Idx → EReal) (g : S1024.Idx → EReal) (w : S1024x5632.Idx → EReal)

theorem inv_ref (r : Fin 8192) : val_main_v7 (F := Ideal) x (ix2 r 0) = Rms.inv fun k : Fin 1024 => x (ix2 r k) := by
  pointwise [val_main_v7, val_main_v6, val_main_v5, val_main_v4, val_main_v3, val_main_v2, val_main_v1, val_main_v0, val_main_cst, val_main_cst_0,
    val_main_cst_1]
  rfl

theorem norm_ref (r : Fin 8192) (k : Fin 1024) : val_main_v12 (F := Ideal) x g (ix2 r k)
    = Rms.normed (fun (r : Fin 8192) (k : Fin 1024) => x (ix2 r k)) (fun k => g (ix1 k)) r k := by
  pointwise [val_main_v12, val_main_v11, val_main_v10, val_main_v9, val_main_v8]
  rw [inv_ref]
  rfl

theorem product_ref (r : Fin 8192) (j : Fin 5632) : val_main_v14 (F := Ideal) x g w (ix2 r j)
    = Rms.normProduct (fun (r : Fin 8192) (k : Fin 1024) => x (ix2 r k)) (fun k => g (ix1 k)) (fun k (j : Fin 5632) => w (ix2 k j)) r j := by
  pointwise [val_main_v14, val_main_v13]
  simp only [norm_ref]
  rfl

end Reference

/-! ## The equation -/

section Equation

open Cert.Reference8Ideal.Read

variable (m : (ℓ : Loc nD τ sig) → Buf (Elt Ideal) ℓ) (c : Dev nD)

theorem norm_eq : val_main_v17 (F := Ideal) (X m c) (Gn m c) = R1 m c := by
  funext i
  obtain ⟨r, k, rfl⟩ : ∃ (r : Fin 8192) (k : Fin 1024), i = (ix2 r k : S8192x1024.Idx) := ⟨_, _, eq_ix2 i⟩
  pointwise [val_main_v17]
  exact norm_ref _ _ r k

theorem gate_ref (r : Fin 8192) (j : Fin 2816) : val_main_v15 (F := Ideal) (X m c) (Gn m c) (W m c) (ix2 r j) = prodAt m c r (half 0 j) := by
  pointwise [val_main_v15]
  refine (product_ref _ _ _ r _).trans (congrArg (prodAt m c r) (Fin.ext ?_))
  show _ = 0 * 2816 + j.val
  simp

theorem up_ref (r : Fin 8192) (j : Fin 2816) : val_main_v16 (F := Ideal) (X m c) (Gn m c) (W m c) (ix2 r j) = prodAt m c r (half 1 j) := by
  pointwise [val_main_v16]
  refine (product_ref _ _ _ r _).trans (congrArg (prodAt m c r) (Fin.ext ?_))
  show _ = 1 * 2816 + j.val
  simp

theorem halves_eq : val_main_v21 (F := Ideal) (X m c) (Gn m c) (W m c) = R2 m c := by
  funext i
  obtain ⟨p, r, j, rfl⟩ : ∃ (p : Fin 2) (r : Fin 8192) (j : Fin 2816), i = (ix3 p r j : S2x8192x2816.Idx) := ⟨_, _, _, eq_ix3 i⟩
  pointwise [val_main_v21, val_main_v20, val_main_v19, val_main_v18]
  rw [gate_ref, up_ref]
  fin_cases p <;> rfl

theorem sig_ref (r : Fin 8192) (j : Fin 2816) :
    val_main_call0_v5 (F := Ideal) (X m c) (Gn m c) (W m c) (ix2 r j) = Ideal.logistic (prodAt m c r (half 0 j)) := by
  pointwise [val_main_call0_v5, val_main_call0_v4, val_main_call0_cst_0, val_main_call0_v3, val_main_call0_v2, val_main_call0_cst,
    val_main_call0_v1, val_main_call0_v0]
  rw [gate_ref]
  rfl

theorem act_eq : val_main_v24 (F := Ideal) (X m c) (Gn m c) (W m c) = R3 m c := by
  funext i
  obtain ⟨r, j, rfl⟩ : ∃ (r : Fin 8192) (j : Fin 2816), i = (ix2 r j : S8192x2816.Idx) := ⟨_, _, eq_ix2 i⟩
  pointwise [val_main_v24, val_main_v23, val_main_v22]
  rw [gate_ref, up_ref, sig_ref]
  rfl

end Equation

end Ffn

end
-- ==== Proof.Proj.lean ====
/- The root-mean-square norm with the projection that follows it: what one block of the kernel computes, what its result
   arrays hold, and that they are the reference's arrays. -/
module

public import proofs.«01_k».proof.Proof.NormProduct
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.Value
public import Idealize.ShloMosaic.Lib.StableHlo.ReadAt

@[expose] public section

set_option maxRecDepth 16384

noncomputable section

namespace Proj

open Idealize.ShloMosaic Idealize.ShloMosaic.TcCoe Idealize.SL.Sem
open Idealize.ShloMosaic.Pipeline (Dat)
open Cert.Kernel9Ideal Cert.Kernel9Ideal.Gen
open Rms (row row_val col)

/-! ## One block -/

section Block

variable (x0 : Vec Ideal S512x1024 .f32) (x1 : Vec Ideal S1x1024 .f32) (v : Vec Ideal S1x1024x1408 .bf16)

theorem pay2_apply (r : Fin 512) (k : Fin 1024) :
    k0_pay2 x0 x1 (ix2 r k) = Rms.normed (fun (r : Fin 512) (k : Fin 1024) => x0 (ix2 r k)) (fun k => x1 (ix2 0 k)) r k := by
  pointwise [k0_pay2]
  rfl

theorem pay3_apply (r : Fin 512) (j : Fin 1408) : k0_pay3 x0 x1 v (ix2 r j)
    = Rms.normProduct (fun (r : Fin 512) (k : Fin 1024) => x0 (ix2 r k)) (fun k => x1 (ix2 0 k)) (fun k (j : Fin 1408) => v (ix3 0 k j)) r j := by
  pointwise [k0_pay3]
  simp only [pay2_apply]
  rfl

end Block

/-! ## The whole arrays -/

section Kernel

variable (m : (ℓ : Loc nD τ sig) → Buf (Elt Ideal) ℓ) (c : Dev nD)

abbrev X : S8192x1024.Idx → EReal := m ((c : Thread nD τ).loc main_arg0)
abbrev Gn : S1024.Idx → EReal := m ((c : Thread nD τ).loc main_arg1)
abbrev W : S1024x5632.Idx → EReal := m ((c : Thread nD τ).loc main_arg2)

/-- What the two result arrays hold: the normalised rows, and their product with the weights. -/
def R1 : S8192x1024.Idx → EReal :=
  fun i => Rms.normed (fun (r : Fin 8192) (k : Fin 1024) => X m c (ix2 r k)) (fun k => Gn m c (ix1 k)) (i 0) (i 1)
def R2 : S8192x5632.Idx → EReal :=
  fun i => Rms.normProduct (fun (r : Fin 8192) (k : Fin 1024) => X m c (ix2 r k)) (fun k => Gn m c (ix1 k)) (fun k (j : Fin 5632) => W m c (ix2 k j)) (i 0) (i 1)

theorem V_gain (k : Fin 1024) : V m c main_v0 (ix2 0 k : S1x1024.Idx) = Gn m c (ix1 k) := by
  unfold V
  after_reads_at

theorem V_shards (p : Fin 4) (k : Fin 1024) (q : Fin 1408) (h : p.val * 1408 + q.val < 5632) :
    V m c main_v9 (ix3 p k q : S4x1024x1408.Idx) = W m c (ix2 k ⟨p.val * 1408 + q.val, h⟩) := by
  fin_cases p <;> (unfold V; after_reads_at; rw [StableHlo.unary_result]; after_reads_at)

theorem index_eq : ∀ t : Fin cfg0.N,
    (win0_0.index t 0 = t.val ∧ win0_0.index t 1 = 0) ∧ (win0_1.index t 0 = 0 ∧ win0_1.index t 1 = 0)
      ∧ (win0_2.index t 0 = 0 ∧ win0_2.index t 1 = 0 ∧ win0_2.index t 2 = 0) ∧ (win0_3.index t 0 = t.val ∧ win0_3.index t 1 = 0)
      ∧ (win0_4.index t 0 = t.val ∧ win0_4.index t 1 = 0) :=
  (by decide +kernel : ∀ t : Fin grid0.N, _)

theorem lt16 (t : Fin cfg0.N) : t.val < 16 := t.isLt

theorem iblk0_apply (t : Fin cfg0.N) (r : Fin 512) (k : Fin 1024) :
    iblk m c 0 t (ix2 r k : S512x1024.Idx) = X m c (ix2 (row t.val r) k) := by
  refine (congrFun (V_main_arg0 m c) _).trans (congrArg (X m c) (funext fun a => Fin.ext ?_))
  obtain ⟨⟨h0, h1⟩, -⟩ := index_eq t
  match a with
  | ⟨0, _⟩ => show win0_0.index t 0 * 512 + 1 * r.val = (row t.val r).val; rw [h0, row_val (lt16 t)]; omega
  | ⟨1, _⟩ => show win0_0.index t 1 * 1024 + 1 * k.val = k.val; rw [h1]; omega

theorem iblk1_apply (t : Fin cfg0.N) (k : Fin 1024) : iblk m c 1 t (ix2 0 k : S1x1024.Idx) = Gn m c (ix1 k) := by
  refine (congrArg (V m c main_v0) (funext fun a => Fin.ext ?_)).trans (V_gain m c k)
  obtain ⟨-, ⟨h0, h1⟩, -⟩ := index_eq t
  match a with
  | ⟨0, _⟩ => show win0_1.index t 0 * 1 + 1 * 0 = 0; rw [h0]
  | ⟨1, _⟩ => show win0_1.index t 1 * 1024 + 1 * k.val = k.val; rw [h1]; omega

theorem iblk2_apply (t : Fin cfg0.N) (p : Fin 4) (k : Fin 1024) (q : Fin 1408) :
    iblk m c 2 t (ix3 p k q : S4x1024x1408.Idx) = W m c (ix2 k (col p q)) := by
  refine (congrArg (V m c main_v9) (funext fun a => Fin.ext ?_)).trans (V_shards m c p k q (by omega))
  obtain ⟨-, -, ⟨h0, h1, h2⟩, -⟩ := index_eq t
  match a with
  | ⟨0, _⟩ => show win0_2.index t 0 * 4 + 1 * p.val = p.val; rw [h0]; omega
  | ⟨1, _⟩ => show win0_2.index t 1 * 1024 + 1 * k.val = k.val; rw [h1]; omega
  | ⟨2, _⟩ => show win0_2.index t 2 * 1408 + 1 * q.val = q.val; rw [h2]; omega

/-- The four pieces of the weights, as a block loads them. -/
theorem piece_apply (t : Fin cfg0.N) (p : Fin 4) (h : ∀ b, (![p.val, 0, 0] : Fin 3 → ℕ) b + S1x1024x1408.size b ≤ S4x1024x1408.size b) (k : Fin 1024) (q : Fin 1408) :
    View.ld (iblk m c 2 t) (Rect.unit (s := S4x1024x1408) ![p.val, 0, 0] S1x1024x1408.size h) (ix3 0 k q : S1x1024x1408.Idx) = W m c (ix2 k (col p q)) := by
  refine (congrArg (iblk m c 2 t) (funext fun a => Fin.ext ?_)).trans (iblk2_apply m c t p k q)
  match a with
  | ⟨0, _⟩ => show p.val + 1 * 0 = p.val; omega
  | ⟨1, _⟩ => show 0 + 1 * k.val = k.val; omega
  | ⟨2, _⟩ => show 0 + 1 * q.val = q.val; omega

theorem block_product (t : Fin cfg0.N) (p : Fin 4) (h : ∀ b, (![p.val, 0, 0] : Fin 3 → ℕ) b + S1x1024x1408.size b ≤ S4x1024x1408.size b) (r : Fin 512) (q : Fin 1408) :
    k0_pay3 (iblk m c 0 t) (iblk m c 1 t) (View.ld (iblk m c 2 t) (Rect.unit (s := S4x1024x1408) ![p.val, 0, 0] S1x1024x1408.size h)) (ix2 r q)
      = R2 m c (ix2 (row t.val r) (col p q)) := by
  refine (pay3_apply _ _ _ r q).trans (Finset.sum_congr rfl fun k _ => congrArg₂ (· * ·) ?_ (piece_apply m c t p h k q))
  unfold Rms.normed
  simp only [iblk0_apply, iblk1_apply]
  rfl

theorem hz : (![0, 0] : Fin 2 → ℕ) = fun _ => 0 := funext fun a => by fin_cases a <;> rfl

theorem out3_apply (t : Fin cfg0.N) (r : Fin 512) (k : Fin 1024) :
    out0_3 (iblk m c 0 t) (iblk m c 1 t) (iblk m c 2 t) (ix2 r k : S512x1024.Idx) = R1 m c (ix2 (row t.val r) k) := by
  unfold out0_3 r0_0 r0_1
  rw [View.ld_unit_zero hz, View.ld_unit_zero hz]
  refine View.canon_apply_of_pieces (Val := Elt Ideal) (e := .bf16) (fun y : S512x1024.Idx => R1 m c (ix2 (row t.val (y 0)) (y 1))) _ ?_ (ix2 r k : S512x1024.Idx)
    (cover0_3 _ _)
  intro q hq x
  obtain rfl := List.mem_singleton.1 hq
  obtain ⟨r, k, rfl⟩ : ∃ (r : Fin 512) (k : Fin 1024), x = (ix2 r k : S512x1024.Idx) := ⟨_, _, eq_ix2 x⟩
  have e : (Rect.unit (s := S512x1024) ![0, 0] S512x1024.size inb_S512x1024_S512x1024_0_0).emb (ix2 r k : S512x1024.Idx) = (ix2 r k : S512x1024.Idx) := by idx_ext
  refine (pay2_apply _ _ r k).trans ?_
  rw [e]
  unfold Rms.normed
  simp only [iblk0_apply, iblk1_apply]
  rfl

theorem out4_apply (t : Fin cfg0.N) (r : Fin 512) (j : Fin 5632) :
    out0_4 (iblk m c 0 t) (iblk m c 1 t) (iblk m c 2 t) (ix2 r j : S512x5632.Idx) = R2 m c (ix2 (row t.val r) j) := by
  unfold out0_4 r0_0 r0_1
  rw [View.ld_unit_zero hz, View.ld_unit_zero hz]
  refine View.canon_apply_of_pieces (Val := Elt Ideal) (e := .bf16) (fun y : S512x5632.Idx => R2 m c (ix2 (row t.val (y 0)) (y 1))) _ ?_ (ix2 r j : S512x5632.Idx)
    (cover0_4 _ _ _ _ _)
  intro q hq x
  have e : ∀ (p : Fin 4) (h : ∀ b, (![0, p.val * 1408] : Fin 2 → ℕ) b + S512x1408.size b ≤ S512x5632.size b) (r : Fin 512) (j : Fin 1408),
      (Rect.unit (s := S512x5632) ![0, p.val * 1408] S512x1408.size h).emb (ix2 r j : S512x1408.Idx) = (ix2 r (col p j) : S512x5632.Idx) := by
    intro p h r j
    funext a
    refine Fin.ext ?_
    match a with
    | ⟨0, _⟩ => show 0 + 1 * r.val = r.val; omega
    | ⟨1, _⟩ => show p.val * 1408 + 1 * j.val = p.val * 1408 + j.val; omega
  have f : ∀ (p : Fin 4) (h : ∀ b, (![0, p.val * 1408] : Fin 2 → ℕ) b + S512x1408.size b ≤ S512x5632.size b)
      (h' : ∀ b, (![p.val, 0, 0] : Fin 3 → ℕ) b + S1x1024x1408.size b ≤ S4x1024x1408.size b) (r : Fin 512) (j : Fin 1408),
      k0_pay3 (iblk m c 0 t) (iblk m c 1 t) (View.ld (iblk m c 2 t) (Rect.unit (s := S4x1024x1408) ![p.val, 0, 0] S1x1024x1408.size h')) (ix2 r j)
        = (fun y : S512x5632.Idx => R2 m c (ix2 (row t.val (y 0)) (y 1)))
          ((Rect.unit (s := S512x5632) ![0, p.val * 1408] S512x1408.size h).emb (ix2 r j : S512x1408.Idx)) := by
    intro p h h' r j
    rw [e p h r j]
    exact block_product m c t p h' r j
  rcases List.mem_cons.1 hq with rfl | hq
  · obtain ⟨r, j, rfl⟩ : ∃ (r : Fin 512) (j : Fin 1408), x = (ix2 r j : S512x1408.Idx) := ⟨_, _, eq_ix2 x⟩
    exact f 3 inb_S512x5632_S512x1408_0_4224 inb_S4x1024x1408_S1x1024x1408_3_0_0 r j
  rcases List.mem_cons.1 hq with rfl | hq
  · obtain ⟨r, j, rfl⟩ : ∃ (r : Fin 512) (j : Fin 1408), x = (ix2 r j : S512x1408.Idx) := ⟨_, _, eq_ix2 x⟩
    exact f 2 inb_S512x5632_S512x1408_0_2816 inb_S4x1024x1408_S1x1024x1408_2_0_0 r j
  rcases List.mem_cons.1 hq with rfl | hq
  · obtain ⟨r, j, rfl⟩ : ∃ (r : Fin 512) (j : Fin 1408), x = (ix2 r j : S512x1408.Idx) := ⟨_, _, eq_ix2 x⟩
    exact f 1 inb_S512x5632_S512x1408_0_1408 inb_S4x1024x1408_S1x1024x1408_1_0_0 r j
  · obtain rfl := List.mem_singleton.1 hq
    obtain ⟨r, j, rfl⟩ : ∃ (r : Fin 512) (j : Fin 1408), x = (ix2 r j : S512x1408.Idx) := ⟨_, _, eq_ix2 x⟩
    exact f 0 inb_S512x5632_S512x1408_0_0 inb_S4x1024x1408_S1x1024x1408_0_0_0 r j

theorem flushed3_eq (t : Fin cfg0.N) : (dats m 0 c).flushed 3 t = ((cfg0.win 3).blk t).view.read (Elt Ideal) (R1 m c) := by
  rw [Value.flushed3]
  funext y
  obtain ⟨r, k, rfl⟩ : ∃ (r : Fin 512) (k : Fin 1024), y = (ix2 r k : S512x1024.Idx) := ⟨_, _, eq_ix2 y⟩
  refine (out3_apply m c t r k).trans (congrArg (R1 m c) (funext fun a => Fin.ext ?_))
  obtain ⟨-, -, -, ⟨h0, h1⟩, -⟩ := index_eq t
  match a with
  | ⟨0, _⟩ => show (row t.val r).val = win0_3.index t 0 * 512 + 1 * r.val; rw [h0, row_val (lt16 t)]; omega
  | ⟨1, _⟩ => show k.val = win0_3.index t 1 * 1024 + 1 * k.val; rw [h1]; omega

theorem flushed4_eq (t : Fin cfg0.N) : (dats m 0 c).flushed 4 t = ((cfg0.win 4).blk t).view.read (Elt Ideal) (R2 m c) := by
  rw [Value.flushed4]
  funext y
  obtain ⟨r, j, rfl⟩ : ∃ (r : Fin 512) (j : Fin 5632), y = (ix2 r j : S512x5632.Idx) := ⟨_, _, eq_ix2 y⟩
  refine (out4_apply m c t r j).trans (congrArg (R2 m c) (funext fun a => Fin.ext ?_))
  obtain ⟨-, -, -, -, h0, h1⟩ := index_eq t
  match a with
  | ⟨0, _⟩ => show (row t.val r).val = win0_4.index t 0 * 512 + 1 * r.val; rw [h0, row_val (lt16 t)]; omega
  | ⟨1, _⟩ => show j.val = win0_4.index t 1 * 5632 + 1 * j.val; rw [h1]; omega

theorem mem_blk3 (t : Fin cfg0.N) (i : S8192x1024.Idx) (h : t.val = (i 0 : Nat) / 512) : i ∈ ((cfg0.win 3).blk t).view.set := by
  have h1 : (i 1 : Nat) < 1024 := (i 1).isLt
  obtain ⟨-, -, -, ⟨e0, e1⟩, -⟩ := index_eq t
  show i ∈ ((View.whole main_v10_0).slice (win0_3.rect t)).set
  rw [View.set_slice_whole, Rect.mem_set_unit]
  intro a
  match a with
  | ⟨0, _⟩ => show win0_3.index t 0 * 512 ≤ (i 0 : Nat) ∧ (i 0 : Nat) < win0_3.index t 0 * 512 + 512; rw [e0]; omega
  | ⟨1, _⟩ => show win0_3.index t 1 * 1024 ≤ (i 1 : Nat) ∧ (i 1 : Nat) < win0_3.index t 1 * 1024 + 1024; rw [e1]; omega

theorem mem_blk4 (t : Fin cfg0.N) (i : S8192x5632.Idx) (h : t.val = (i 0 : Nat) / 512) : i ∈ ((cfg0.win 4).blk t).view.set := by
  have h1 : (i 1 : Nat) < 5632 := (i 1).isLt
  obtain ⟨-, -, -, -, e0, e1⟩ := index_eq t
  show i ∈ ((View.whole main_v10_1).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + 512; rw [e0]; omega
  | ⟨1, _⟩ => show win0_4.index t 1 * 5632 ≤ (i 1 : Nat) ∧ (i 1 : Nat) < win0_4.index t 1 * 5632 + 5632; rw [e1]; omega

/-- After the run the two result arrays hold `R1` and `R2`. -/
theorem final3 : (dats m 0 c).arrAt 3 cfg0.N = R1 m c :=
  (dats m 0 c).arrAt_eq_of_cover 3 _ (fun t _ => flushed3_eq m c t) fun i => by
    have h0 : (i 0 : Nat) < 8192 := (i 0).isLt
    exact ⟨⟨(i 0).val / 512, show _ < 16 by omega⟩, flush0_3 _, mem_blk3 _ i rfl⟩

theorem final4 : (dats m 0 c).arrAt 4 cfg0.N = R2 m c :=
  (dats m 0 c).arrAt_eq_of_cover 4 _ (fun t _ => flushed4_eq m c t) fun i => by
    have h0 : (i 0 : Nat) < 8192 := (i 0).isLt
    exact ⟨⟨(i 0).val / 512, show _ < 16 by omega⟩, flush0_4 _, mem_blk4 _ i rfl⟩

end Kernel

/-! ## The reference -/

section Reference

open Cert.Reference9Ideal.Read

variable (x : S8192x1024.Idx → EReal) (g : S1024.Idx → EReal) (w : S1024x5632.Idx → EReal)

theorem inv_ref (r : Fin 8192) : val_main_v7 (F := Ideal) x (ix2 r 0) = Rms.inv fun k : Fin 1024 => x (ix2 r k) := by
  pointwise [val_main_v7, val_main_v6, val_main_v5, val_main_v4, val_main_v3, val_main_v2, val_main_v1, val_main_v0, val_main_cst, val_main_cst_0,
    val_main_cst_1]
  rfl

theorem norm_ref (r : Fin 8192) (k : Fin 1024) : val_main_v12 (F := Ideal) x g (ix2 r k)
    = Rms.normed (fun (r : Fin 8192) (k : Fin 1024) => x (ix2 r k)) (fun k => g (ix1 k)) r k := by
  pointwise [val_main_v12, val_main_v11, val_main_v10, val_main_v9, val_main_v8]
  rw [inv_ref]
  rfl

theorem product_ref (r : Fin 8192) (j : Fin 5632) : val_main_v16 (F := Ideal) x g w (ix2 r j)
    = Rms.normProduct (fun (r : Fin 8192) (k : Fin 1024) => x (ix2 r k)) (fun k => g (ix1 k)) (fun k (j : Fin 5632) => w (ix2 k j)) r j := by
  pointwise [val_main_v16, val_main_v15, val_main_v14]
  simp only [norm_ref]
  rfl

end Reference

/-! ## The equation -/

section Equation

open Cert.Reference9Ideal.Read

variable (m : (ℓ : Loc nD τ sig) → Buf (Elt Ideal) ℓ) (c : Dev nD)

theorem norm_eq : val_main_v13 (F := Ideal) (X m c) (Gn m c) = R1 m c := by
  funext i
  obtain ⟨r, k, rfl⟩ : ∃ (r : Fin 8192) (k : Fin 1024), i = (ix2 r k : S8192x1024.Idx) := ⟨_, _, eq_ix2 i⟩
  pointwise [val_main_v13]
  exact norm_ref _ _ r k

theorem product_eq : val_main_v16 (F := Ideal) (X m c) (Gn m c) (W m c) = R2 m c := by
  funext i
  obtain ⟨r, j, rfl⟩ : ∃ (r : Fin 8192) (j : Fin 5632), i = (ix2 r j : S8192x5632.Idx) := ⟨_, _, eq_ix2 i⟩
  exact product_ref _ _ _ r j

end Equation

end Proj

end
-- ==== Proof.MergeOut.lean ====
/- The merge of the two branches and the projection that follows it: what one block of the kernel computes, what its result
   arrays hold, and that they are the reference's arrays. -/
module

public import proofs.«01_k».proof.Proof.NormProduct
public import proofs.«01_k».proof.Proof.DxnBlock
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.Value
public import Idealize.ShloMosaic.Lib.VecWindow
public import Idealize.ShloMosaic.Lib.WholeRead
public import Idealize.ShloMosaic.Lib.StableHlo.ReadAt

@[expose] public section

set_option maxRecDepth 16384

noncomputable section

namespace MergeOut

open Idealize.ShloMosaic Idealize.ShloMosaic.TcCoe Idealize.SL.Sem
open Idealize.ShloMosaic.Pipeline (Dat)
open Cert.Kernel10Ideal Cert.Kernel10Ideal.Gen
open Rms (row row_val)
open Dxn (ld ld_full)

/-! ## The stores of a block -/

section Pieces

variable {F : FTy → Type} [FloatOps F]
variable (c : Dev nD) (i : grid0.Coords)
  (arg1 : Memref sig .tc .vmem S512x512 .bf16) (harg1 : arg1.IsWhole) (arg2 : Memref sig .tc .vmem S512x512 .bf16) (harg2 : arg2.IsWhole)
  (arg3 : Memref sig .tc .vmem S512x512 .bf16) (harg3 : arg3.IsWhole) (arg4 : Memref sig .tc .vmem S512x512 .bf16) (harg4 : arg4.IsWhole)
  (arg5 : Memref sig .tc .vmem S1x2048 .f32) (harg5 : arg5.IsWhole) (arg6 : Memref sig .tc .vmem S512x1024 .bf16) (harg6 : arg6.IsWhole)
  (arg7 : Memref sig .tc .vmem S512x1024 .bf16) (harg7 : arg7.IsWhole) (arg8 : Memref sig .tc .vmem S1024x1024 .bf16) (harg8 : arg8.IsWhole)
  (arg9 : Memref sig .tc .vmem S512x1024 .f32) (harg9 : arg9.IsWhole) (arg10 : Memref sig .tc .vmem S512x1024 .bf16) (harg10 : arg10.IsWhole)
  (arg11 : Memref sig .tc .vmem S512x1024 .f32) (harg11 : arg11.IsWhole)
  (x0 : Vec F S512x512 .bf16) (x1 : Vec F S512x512 .bf16) (x2 : Vec F S512x512 .bf16) (x3 : Vec F S512x512 .bf16) (x4 : Vec F S1x2048 .f32)
  (x5 : Vec F S512x1024 .bf16) (x6 : Vec F S512x1024 .bf16) (x7 : Vec F S1024x1024 .bf16) (x8 : Vec F S512x1024 .f32)

/-- The two stores of the merged branches: the right half of the columns, and before it the left half. -/
def pieces : List (View.Piece (Elt F) S512x1024 .bf16) :=
  [⟨Rect.unit (s := S512x1024) ![0, 512] S512x512.size inb_S512x1024_S512x512_0_512,
    k0_pay3 (ld harg2 x1 ![0, 0] S512x512.size inb_S512x512_S512x512_0_0) (ld harg5 x4 ![0, 512] S1x512.size inb_S1x2048_S1x512_0_512)
      (ld harg4 x3 ![0, 0] S512x512.size inb_S512x512_S512x512_0_0) (ld harg5 x4 ![0, 1536] S1x512.size inb_S1x2048_S1x512_0_1536)
      (ld harg6 x5 ![0, 512] S512x512.size inb_S512x1024_S512x512_0_512) (ld harg7 x6 ![0, 512] S512x512.size inb_S512x1024_S512x512_0_512)⟩,
  ⟨Rect.unit (s := S512x1024) ![0, 0] S512x512.size inb_S512x1024_S512x512_0_0,
    k0_pay2 (ld harg1 x0 ![0, 0] S512x512.size inb_S512x512_S512x512_0_0) (ld harg5 x4 ![0, 0] S1x512.size inb_S1x2048_S1x512_0_0)
      (ld harg3 x2 ![0, 0] S512x512.size inb_S512x512_S512x512_0_0) (ld harg5 x4 ![0, 1024] S1x512.size inb_S1x2048_S1x512_0_1024)
      (ld harg6 x5 ![0, 0] S512x512.size inb_S512x1024_S512x512_0_0) (ld harg7 x6 ![0, 0] S512x512.size inb_S512x1024_S512x512_0_0)⟩]

theorem run9 : (kernelRun0_A c i arg1 harg1 arg2 harg2 arg3 harg3 arg4 harg4 arg5 harg5 arg6 harg6 arg7 harg7 arg8 harg8 arg9 harg9 arg10 harg10 arg11 harg11 x0 x1 x2 x3 x4 x5 x6 x7 x8).1
    = pieces arg1 harg1 arg2 harg2 arg3 harg3 arg4 harg4 arg5 harg5 arg6 harg6 arg7 harg7 x0 x1 x2 x3 x4 x5 x6 := rfl

theorem pieces_cover (y : S512x1024.Idx) : ∃ pc ∈ pieces arg1 harg1 arg2 harg2 arg3 harg3 arg4 harg4 arg5 harg5 arg6 harg6 arg7 harg7 x0 x1 x2 x3 x4 x5 x6, y ∈ pc.1.set :=
  View.cover_of_tiledL (pieces arg1 harg1 arg2 harg2 arg3 harg3 arg4 harg4 arg5 harg5 arg6 harg6 arg7 harg7 x0 x1 x2 x3 x4 x5 x6) S512x512.size (by sl_kernel_rfl) y

theorem out9 : out0_A_9 c i arg1 harg1 arg2 harg2 arg3 harg3 arg4 harg4 arg5 harg5 arg6 harg6 arg7 harg7 arg8 harg8 arg9 harg9 arg10 harg10 arg11 harg11 x0 x1 x2 x3 x4 x5 x6 x7 x8
    = View.canon (pieces arg1 harg1 arg2 harg2 arg3 harg3 arg4 harg4 arg5 harg5 arg6 harg6 arg7 harg7 x0 x1 x2 x3 x4 x5 x6) := by
  unfold out0_A_9
  rw [run9]
  exact View.read_writes_junk_eq_canon _ _

theorem out10 : out0_A_10 c i arg1 harg1 arg2 harg2 arg3 harg3 arg4 harg4 arg5 harg5 arg6 harg6 arg7 harg7 arg8 harg8 arg9 harg9 arg10 harg10 arg11 harg11 x0 x1 x2 x3 x4 x5 x6 x7 x8
    = k0_pay1 x8 (k0_pay4 (View.canon (pieces arg1 harg1 arg2 harg2 arg3 harg3 arg4 harg4 arg5 harg5 arg6 harg6 arg7 harg7 x0 x1 x2 x3 x4 x5 x6))) x7 := by
  have e : (kernelRun0_A c i arg1 harg1 arg2 harg2 arg3 harg3 arg4 harg4 arg5 harg5 arg6 harg6 arg7 harg7 arg8 harg8 arg9 harg9 arg10 harg10 arg11 harg11 x0 x1 x2 x3 x4 x5 x6 x7 x8).2.1
      = [⟨Rect.unit (s := S512x1024) ![0, 0] S512x1024.size inb_S512x1024_S512x1024_0_0,
          k0_pay1 (ld harg9 x8 ![0, 0] S512x1024.size inb_S512x1024_S512x1024_0_0)
            (k0_pay4 (arg10.view.readCov (pieces arg1 harg1 arg2 harg2 arg3 harg3 arg4 harg4 arg5 harg5 arg6 harg6 arg7 harg7 x0 x1 x2 x3 x4 x5 x6)
              (Rect.unit (s := S512x1024) ![0, 0] S512x1024.size inb_S512x1024_S512x1024_0_0).toLoadRect))
            (ld harg8 x7 ![0, 0] S1024x1024.size inb_S1024x1024_S1024x1024_0_0)⟩] := rfl
  have r : arg10.view.readCov (pieces arg1 harg1 arg2 harg2 arg3 harg3 arg4 harg4 arg5 harg5 arg6 harg6 arg7 harg7 x0 x1 x2 x3 x4 x5 x6)
      (Rect.unit (s := S512x1024) ![0, 0] S512x1024.size inb_S512x1024_S512x1024_0_0).toLoadRect = View.canon (pieces arg1 harg1 arg2 harg2 arg3 harg3 arg4 harg4 arg5 harg5 arg6 harg6 arg7 harg7 x0 x1 x2 x3 x4 x5 x6) := by
    refine (View.readCov_eq_canon' _ _ _).trans (funext fun j => congrArg (View.canon _) (funext fun a => Fin.ext ?_))
    match a with
    | ⟨0, _⟩ => show 0 + 1 * (j 0).val = (j 0).val; omega
    | ⟨1, _⟩ => show 0 + 1 * (j 1).val = (j 1).val; omega
  unfold out0_A_10
  rw [e]
  refine (View.read_writes_full _ _ inb_S512x1024_S512x1024_0_0 _ _).trans ?_
  rw [r, ld_full harg9 x8, ld_full harg8 x7]

end Pieces

theorem ld_apply {σ : _} {m n p q : ℕ} {e : EltTy} {a : Memref σ .tc .vmem (⟨2, ![m, n]⟩ : Shape) e} (h : a.IsWhole) (x : Vec Ideal (⟨2, ![m, n]⟩ : Shape) e)
    (o : ℕ) (inb : ∀ b, (![0, o] : Fin 2 → ℕ) b + (![p, q] : Fin 2 → ℕ) b ≤ (⟨2, ![m, n]⟩ : Shape).size b) (r : Fin p) (k : Fin q) (hr : r.val < m) (hk : o + k.val < n) :
    ld h x ![0, o] ![p, q] inb (ix2 r k) = x (ix2 ⟨r.val, hr⟩ ⟨o + k.val, hk⟩) := by
  unfold ld
  rw [Memref.IsWhole.readAt_unread]
  exact congrArg x (funext fun a => Fin.ext (by match a with | ⟨0, _⟩ => show 0 + 1 * r.val = r.val; omega | ⟨1, _⟩ => show o + 1 * k.val = o + k.val; omega))

section Block

variable (z z' ya yb : Vec Ideal S512x512 .bf16) (b b' : Vec Ideal S1x512 .f32)

theorem pay2_apply (r : Fin 512) (q : Fin 512) : k0_pay2 z b z' b' ya yb (ix2 r q)
    = Ideal.logistic (z (ix2 r q) + b (ix2 0 q)) * ya (ix2 r q) + Ideal.logistic (z' (ix2 r q) + b' (ix2 0 q)) * yb (ix2 r q) := by
  pointwise [k0_pay2]
  rw [Reals.ofBits_half, Reals.half_tanh_logistic, Reals.half_tanh_logistic]

theorem pay1_apply (x : Vec Ideal S512x1024 .f32) (d : Vec Ideal S512x1024 .bf16) (w : Vec Ideal S1024x1024 .bf16) (r : Fin 512) (j : Fin 1024) :
    k0_pay1 x (k0_pay4 d) w (ix2 r j) = x (ix2 r j) + ∑ k : Fin 1024, d (ix2 r k) * w (ix2 k j) := by
  pointwise [k0_pay1, k0_pay4]

end Block

/-! ## The whole arrays -/

section Kernel

variable (m : (ℓ : Loc nD τ sig) → Buf (Elt Ideal) ℓ) (c : Dev nD)

abbrev P : S8192x5632.Idx → EReal := m ((c : Thread nD τ).loc main_arg0)
abbrev B : S2048.Idx → EReal := m ((c : Thread nD τ).loc main_arg1)
abbrev Ya : S8192x1024.Idx → EReal := m ((c : Thread nD τ).loc main_arg2)
abbrev Yb : S8192x1024.Idx → EReal := m ((c : Thread nD τ).loc main_arg3)
abbrev W : S1024x1024.Idx → EReal := m ((c : Thread nD τ).loc main_arg4)
abbrev X : S8192x1024.Idx → EReal := m ((c : Thread nD τ).loc main_arg5)

/-- Column `j` of gate `g`, among the gates and among the columns of the projection. -/
def gateCol (g : Fin 2) (j : Fin 1024) : Fin 2048 := ⟨g.val * 1024 + j.val, by omega⟩
def projCol (k : Fin 2048) : Fin 5632 := ⟨3584 + k.val, by omega⟩

/-- The gate of a branch at row `r`. -/
def gateAt (r : Fin 8192) (k : Fin 2048) : EReal := Ideal.logistic (P m c (ix2 r (projCol k)) + B m c (ix1 k))

/-- The two branches times their gates. -/
def mergedAt (r : Fin 8192) (j : Fin 1024) : EReal :=
  gateAt m c r (gateCol 0 j) * Ya m c (ix2 r j) + gateAt m c r (gateCol 1 j) * Yb m c (ix2 r j)

/-- What the two result arrays hold: the merged branches, and their product with the weights beside the residual. -/
def R1 : S8192x1024.Idx → EReal := fun i => mergedAt m c (i 0) (i 1)
def R2 : S8192x1024.Idx → EReal :=
  fun i => X m c (ix2 (i 0) (i 1)) + ∑ k : Fin 1024, mergedAt m c (i 0) k * W m c (ix2 k (i 1))

theorem V_bias (k : Fin 2048) : V m c main_v0 (ix2 0 k : S1x2048.Idx) = B m c (ix1 k) := by
  unfold V
  after_reads_at

theorem index_eq : ∀ t : Fin cfg0.N,
    (win0_0.index t 0 = t.val ∧ win0_0.index t 1 = 7) ∧ (win0_1.index t 0 = t.val ∧ win0_1.index t 1 = 8)
      ∧ (win0_2.index t 0 = t.val ∧ win0_2.index t 1 = 9) ∧ (win0_3.index t 0 = t.val ∧ win0_3.index t 1 = 10)
      ∧ (win0_4.index t 0 = 0 ∧ win0_4.index t 1 = 0) ∧ (win0_5.index t 0 = t.val ∧ win0_5.index t 1 = 0)
      ∧ (win0_6.index t 0 = t.val ∧ win0_6.index t 1 = 0) ∧ (win0_7.index t 0 = 0 ∧ win0_7.index t 1 = 0)
      ∧ (win0_8.index t 0 = t.val ∧ win0_8.index t 1 = 0) ∧ (win0_9.index t 0 = t.val ∧ win0_9.index t 1 = 0)
      ∧ (win0_10.index t 0 = t.val ∧ win0_10.index t 1 = 0) :=
  (by decide +kernel : ∀ t : Fin grid0.N, _)

theorem lt16 (t : Fin cfg0.N) : t.val < 16 := t.isLt

theorem iblk0_apply (t : Fin cfg0.N) (r q : Fin 512) :
    iblk m c 0 t (ix2 r q : S512x512.Idx) = P m c (ix2 (row t.val r) (projCol ⟨0 + q.val, by omega⟩)) := by
  refine (congrFun (V_main_arg0 m c) _).trans (congrArg (P m c) (funext fun a => Fin.ext ?_))
  obtain ⟨⟨h0, h1⟩, -⟩ := index_eq t
  match a with
  | ⟨0, _⟩ => show win0_0.index t 0 * 512 + 1 * r.val = (row t.val r).val; rw [h0, row_val (lt16 t)]; omega
  | ⟨1, _⟩ => show win0_0.index t 1 * 512 + 1 * q.val = 3584 + (0 + q.val); rw [h1]; omega

theorem iblk1_apply (t : Fin cfg0.N) (r q : Fin 512) :
    iblk m c 1 t (ix2 r q : S512x512.Idx) = P m c (ix2 (row t.val r) (projCol ⟨512 + q.val, by omega⟩)) := by
  refine (congrFun (V_main_arg0 m c) _).trans (congrArg (P m c) (funext fun a => Fin.ext ?_))
  obtain ⟨-, ⟨h0, h1⟩, -⟩ := index_eq t
  match a with
  | ⟨0, _⟩ => show win0_1.index t 0 * 512 + 1 * r.val = (row t.val r).val; rw [h0, row_val (lt16 t)]; omega
  | ⟨1, _⟩ => show win0_1.index t 1 * 512 + 1 * q.val = 3584 + (512 + q.val); rw [h1]; omega

theorem iblk2_apply (t : Fin cfg0.N) (r q : Fin 512) :
    iblk m c 2 t (ix2 r q : S512x512.Idx) = P m c (ix2 (row t.val r) (projCol ⟨1024 + q.val, by omega⟩)) := by
  refine (congrFun (V_main_arg0 m c) _).trans (congrArg (P m c) (funext fun a => Fin.ext ?_))
  obtain ⟨-, -, ⟨h0, h1⟩, -⟩ := index_eq t
  match a with
  | ⟨0, _⟩ => show win0_2.index t 0 * 512 + 1 * r.val = (row t.val r).val; rw [h0, row_val (lt16 t)]; omega
  | ⟨1, _⟩ => show win0_2.index t 1 * 512 + 1 * q.val = 3584 + (1024 + q.val); rw [h1]; omega

theorem iblk3_apply (t : Fin cfg0.N) (r q : Fin 512) :
    iblk m c 3 t (ix2 r q : S512x512.Idx) = P m c (ix2 (row t.val r) (projCol ⟨1536 + q.val, by omega⟩)) := by
  refine (congrFun (V_main_arg0 m c) _).trans (congrArg (P m c) (funext fun a => Fin.ext ?_))
  obtain ⟨-, -, -, ⟨h0, h1⟩, -⟩ := index_eq t
  match a with
  | ⟨0, _⟩ => show win0_3.index t 0 * 512 + 1 * r.val = (row t.val r).val; rw [h0, row_val (lt16 t)]; omega
  | ⟨1, _⟩ => show win0_3.index t 1 * 512 + 1 * q.val = 3584 + (1536 + q.val); rw [h1]; omega

theorem iblk4_apply (t : Fin cfg0.N) (k : Fin 2048) : iblk m c 4 t (ix2 0 k : S1x2048.Idx) = B m c (ix1 k) := by
  refine (congrArg (V m c main_v0) (funext fun a => Fin.ext ?_)).trans (V_bias m c k)
  obtain ⟨-, -, -, -, ⟨h0, h1⟩, -⟩ := index_eq t
  match a with
  | ⟨0, _⟩ => show win0_4.index t 0 * 1 + 1 * 0 = 0; rw [h0]
  | ⟨1, _⟩ => show win0_4.index t 1 * 2048 + 1 * k.val = k.val; rw [h1]; omega

theorem iblk5_apply (t : Fin cfg0.N) (r : Fin 512) (k : Fin 1024) :
    iblk m c 5 t (ix2 r k : S512x1024.Idx) = Ya m c (ix2 (row t.val r) k) := by
  refine (congrFun (V_main_arg2 m c) _).trans (congrArg (Ya m c) (funext fun a => Fin.ext ?_))
  obtain ⟨-, -, -, -, -, ⟨h0, h1⟩, -⟩ := index_eq t
  match a with
  | ⟨0, _⟩ => show win0_5.index t 0 * 512 + 1 * r.val = (row t.val r).val; rw [h0, row_val (lt16 t)]; omega
  | ⟨1, _⟩ => show win0_5.index t 1 * 1024 + 1 * k.val = k.val; rw [h1]; omega

theorem iblk6_apply (t : Fin cfg0.N) (r : Fin 512) (k : Fin 1024) :
    iblk m c 6 t (ix2 r k : S512x1024.Idx) = Yb m c (ix2 (row t.val r) k) := by
  refine (congrFun (V_main_arg3 m c) _).trans (congrArg (Yb m c) (funext fun a => Fin.ext ?_))
  obtain ⟨-, -, -, -, -, -, ⟨h0, h1⟩, -⟩ := index_eq t
  match a with
  | ⟨0, _⟩ => show win0_6.index t 0 * 512 + 1 * r.val = (row t.val r).val; rw [h0, row_val (lt16 t)]; omega
  | ⟨1, _⟩ => show win0_6.index t 1 * 1024 + 1 * k.val = k.val; rw [h1]; omega

theorem iblk8_apply (t : Fin cfg0.N) (r : Fin 512) (k : Fin 1024) :
    iblk m c 8 t (ix2 r k : S512x1024.Idx) = X m c (ix2 (row t.val r) k) := by
  refine (congrFun (V_main_arg5 m c) _).trans (congrArg (X m c) (funext fun a => Fin.ext ?_))
  obtain ⟨-, -, -, -, -, -, -, -, ⟨h0, h1⟩, -⟩ := index_eq t
  match a with
  | ⟨0, _⟩ => show win0_8.index t 0 * 512 + 1 * r.val = (row t.val r).val; rw [h0, row_val (lt16 t)]; omega
  | ⟨1, _⟩ => show win0_8.index t 1 * 1024 + 1 * k.val = k.val; rw [h1]; omega

theorem iblk7_apply (t : Fin cfg0.N) (k j : Fin 1024) : iblk m c 7 t (ix2 k j : S1024x1024.Idx) = W m c (ix2 k j) := by
  refine (congrFun (V_main_arg4 m c) _).trans (congrArg (W m c) (funext fun a => Fin.ext ?_))
  obtain ⟨-, -, -, -, -, -, -, ⟨h0, h1⟩, -⟩ := index_eq t
  match a with
  | ⟨0, _⟩ => show win0_7.index t 0 * 1024 + 1 * k.val = k.val; rw [h0]; omega
  | ⟨1, _⟩ => show win0_7.index t 1 * 1024 + 1 * j.val = j.val; rw [h1]; omega

/-- A half of the columns, starting at `o`, from the windows that hold it. -/
theorem half_apply (t : Fin cfg0.N) (o : ℕ) (ho : o + 512 ≤ 1024) (z z' ya yb : Vec Ideal S512x512 .bf16) (b b' : Vec Ideal S1x512 .f32) (r q : Fin 512)
    (hz : z (ix2 r q) = P m c (ix2 (row t.val r) (projCol ⟨o + q.val, by omega⟩))) (hb : b (ix2 0 q) = B m c (ix1 ⟨o + q.val, by omega⟩))
    (hz' : z' (ix2 r q) = P m c (ix2 (row t.val r) (projCol ⟨1024 + o + q.val, by omega⟩))) (hb' : b' (ix2 0 q) = B m c (ix1 ⟨1024 + o + q.val, by omega⟩))
    (ha : ya (ix2 r q) = Ya m c (ix2 (row t.val r) ⟨o + q.val, by omega⟩)) (hy : yb (ix2 r q) = Yb m c (ix2 (row t.val r) ⟨o + q.val, by omega⟩)) :
    k0_pay2 z b z' b' ya yb (ix2 r q) = mergedAt m c (row t.val r) ⟨o + q.val, by omega⟩ := by
  rw [pay2_apply, hz, hb, hz', hb', ha, hy]
  unfold mergedAt gateAt
  have e0 : gateCol 0 ⟨o + q.val, by omega⟩ = ⟨o + q.val, by omega⟩ := Fin.ext (by show 0 * 1024 + (o + q.val) = o + q.val; omega)
  have e1 : gateCol 1 ⟨o + q.val, by omega⟩ = ⟨1024 + o + q.val, by omega⟩ := Fin.ext (by show 1 * 1024 + (o + q.val) = 1024 + o + q.val; omega)
  rw [e0, e1]

/-- The stores of the merged branches hold their rows of the merged array. -/
theorem merged_apply
    (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x512 .bf16) (harg4 : arg4.IsWhole)
    (arg5 : Memref sig .tc .vmem S1x2048 .f32) (harg5 : arg5.IsWhole) (arg6 : Memref sig .tc .vmem S512x1024 .bf16) (harg6 : arg6.IsWhole)
    (arg7 : Memref sig .tc .vmem S512x1024 .bf16) (harg7 : arg7.IsWhole)
    (t : Fin cfg0.N) (r : Fin 512) (j : Fin 1024) :
    View.canon (pieces arg1 harg1 arg2 harg2 arg3 harg3 arg4 harg4 arg5 harg5 arg6 harg6 arg7 harg7 (iblk m c 0 t) (iblk m c 1 t) (iblk m c 2 t) (iblk m c 3 t) (iblk m c 4 t) (iblk m c 5 t) (iblk m c 6 t)) (ix2 r j : S512x1024.Idx)
      = mergedAt m c (row t.val r) j := by
  refine View.canon_apply_of_pieces (Val := Elt Ideal) (e := .bf16) (fun y : S512x1024.Idx => mergedAt m c (row t.val (y 0)) (y 1)) _ ?_ (ix2 r j : S512x1024.Idx)
    (pieces_cover (F := Ideal) _ _ _ _ _ _ _ _ _ _ _ _ _ _ _ _ _ _ _ _ _ (ix2 r j : S512x1024.Idx))
  intro p hp x
  rcases List.mem_cons.1 hp with rfl | hp
  · obtain ⟨r, q, rfl⟩ : ∃ (r q : Fin 512), x = (ix2 r q : S512x512.Idx) := ⟨_, _, eq_ix2 x⟩
    have e : mergedAt m c (row t.val r) ⟨512 + q.val, by omega⟩
        = mergedAt m c (row t.val ((Rect.unit (s := S512x1024) ![0, 512] S512x512.size inb_S512x1024_S512x512_0_512).emb (ix2 r q) 0))
          ((Rect.unit (s := S512x1024) ![0, 512] S512x512.size inb_S512x1024_S512x512_0_512).emb (ix2 r q) 1) :=
      congrArg₂ (mergedAt m c) (congrArg (row t.val) (Fin.ext (by show r.val = 0 + 1 * r.val; omega))) (Fin.ext (by show 512 + q.val = 512 + 1 * q.val; omega))
    refine (half_apply m c t 512 (by omega) _ _ _ _ _ _ r q ?_ ?_ ?_ ?_ ?_ ?_).trans e
    · rw [ld_full]
      exact (iblk1_apply m c t r q)
    · exact (ld_apply harg5 _ 512 _ 0 q (by omega) (by omega)).trans (iblk4_apply m c t _)
    · rw [ld_full]
      exact (iblk3_apply m c t r q)
    · exact (ld_apply harg5 _ 1536 _ 0 q (by omega) (by omega)).trans (iblk4_apply m c t _)
    · exact (ld_apply harg6 _ 512 _ r q (by omega) (by omega)).trans (iblk5_apply m c t r _)
    · exact (ld_apply harg7 _ 512 _ r q (by omega) (by omega)).trans (iblk6_apply m c t r _)
  · obtain rfl := List.mem_singleton.1 hp
    obtain ⟨r, q, rfl⟩ : ∃ (r q : Fin 512), x = (ix2 r q : S512x512.Idx) := ⟨_, _, eq_ix2 x⟩
    have e : mergedAt m c (row t.val r) ⟨0 + q.val, by omega⟩
        = mergedAt m c (row t.val ((Rect.unit (s := S512x1024) ![0, 0] S512x512.size inb_S512x1024_S512x512_0_0).emb (ix2 r q) 0))
          ((Rect.unit (s := S512x1024) ![0, 0] S512x512.size inb_S512x1024_S512x512_0_0).emb (ix2 r q) 1) :=
      congrArg₂ (mergedAt m c) (congrArg (row t.val) (Fin.ext (by show r.val = 0 + 1 * r.val; omega))) (Fin.ext (by show 0 + q.val = 0 + 1 * q.val; omega))
    refine (half_apply m c t 0 (by omega) _ _ _ _ _ _ r q ?_ ?_ ?_ ?_ ?_ ?_).trans e
    · rw [ld_full]
      exact (iblk0_apply m c t r q)
    · exact (ld_apply harg5 _ 0 _ 0 q (by omega) (by omega)).trans (iblk4_apply m c t _)
    · rw [ld_full]
      exact (iblk2_apply m c t r q)
    · exact (ld_apply harg5 _ 1024 _ 0 q (by omega) (by omega)).trans (iblk4_apply m c t _)
    · exact (ld_apply harg6 _ 0 _ r q (by omega) (by omega)).trans (iblk5_apply m c t r _)
    · exact (ld_apply harg7 _ 0 _ r q (by omega) (by omega)).trans (iblk6_apply m c t r _)

/-- The residual and the product of the merged rows with the weights. -/
theorem out_apply
    (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x512 .bf16) (harg4 : arg4.IsWhole)
    (arg5 : Memref sig .tc .vmem S1x2048 .f32) (harg5 : arg5.IsWhole) (arg6 : Memref sig .tc .vmem S512x1024 .bf16) (harg6 : arg6.IsWhole)
    (arg7 : Memref sig .tc .vmem S512x1024 .bf16) (harg7 : arg7.IsWhole)
    (t : Fin cfg0.N) (r : Fin 512) (j : Fin 1024) :
    k0_pay1 (iblk m c 8 t) (k0_pay4 (View.canon (pieces arg1 harg1 arg2 harg2 arg3 harg3 arg4 harg4 arg5 harg5 arg6 harg6 arg7 harg7 (iblk m c 0 t) (iblk m c 1 t) (iblk m c 2 t) (iblk m c 3 t) (iblk m c 4 t) (iblk m c 5 t) (iblk m c 6 t))))
      (iblk m c 7 t) (ix2 r j : S512x1024.Idx) = R2 m c (ix2 (row t.val r) j) := by
  refine (pay1_apply _ _ _ r j).trans ?_
  simp only [iblk8_apply, merged_apply, iblk7_apply]
  rfl

theorem flushed9_eq (t : Fin cfg0.N) : (dats m 0 c).flushed 9 t = ((cfg0.win 9).blk t).view.read (Elt Ideal) (R1 m c) := by
  rw [Value.flushed9_A, out9]
  funext y
  obtain ⟨r, j, rfl⟩ : ∃ (r : Fin 512) (j : Fin 1024), y = (ix2 r j : S512x1024.Idx) := ⟨_, _, eq_ix2 y⟩
  refine (merged_apply m c _ _ _ _ _ _ _ _ _ _ _ _ _ _ t r j).trans (congrArg (R1 m c) (a₁ := ix2 (row t.val r) j) (funext fun a => Fin.ext ?_))
  obtain ⟨-, -, -, -, -, -, -, -, -, ⟨h0, h1⟩, -⟩ := index_eq t
  match a with
  | ⟨0, _⟩ => show (row t.val r).val = win0_9.index t 0 * 512 + 1 * r.val; rw [h0, row_val (lt16 t)]; omega
  | ⟨1, _⟩ => show j.val = win0_9.index t 1 * 1024 + 1 * j.val; rw [h1]; omega

theorem flushed10_eq (t : Fin cfg0.N) : (dats m 0 c).flushed 10 t = ((cfg0.win 10).blk t).view.read (Elt Ideal) (R2 m c) := by
  rw [Value.flushed10_A, out10]
  funext y
  obtain ⟨r, j, rfl⟩ : ∃ (r : Fin 512) (j : Fin 1024), y = (ix2 r j : S512x1024.Idx) := ⟨_, _, eq_ix2 y⟩
  refine (out_apply m c _ _ _ _ _ _ _ _ _ _ _ _ _ _ t r j).trans (congrArg (R2 m c) (a₁ := ix2 (row t.val r) j) (funext fun a => Fin.ext ?_))
  obtain ⟨-, -, -, -, -, -, -, -, -, -, ⟨h0, h1⟩⟩ := index_eq t
  match a with
  | ⟨0, _⟩ => show (row t.val r).val = win0_10.index t 0 * 512 + 1 * r.val; rw [h0, row_val (lt16 t)]; omega
  | ⟨1, _⟩ => show j.val = win0_10.index t 1 * 1024 + 1 * j.val; rw [h1]; omega

theorem mem_blk9 (t : Fin cfg0.N) (i : S8192x1024.Idx) (h : t.val = (i 0 : Nat) / 512) : i ∈ ((cfg0.win 9).blk t).view.set := by
  have h1 : (i 1 : Nat) < 1024 := (i 1).isLt
  obtain ⟨-, -, -, -, -, -, -, -, -, ⟨e0, e1⟩, -⟩ := index_eq t
  show i ∈ ((View.whole main_v1_0).slice (win0_9.rect t)).set
  rw [View.set_slice_whole, Rect.mem_set_unit]
  intro a
  match a with
  | ⟨0, _⟩ => show win0_9.index t 0 * 512 ≤ (i 0 : Nat) ∧ (i 0 : Nat) < win0_9.index t 0 * 512 + 512; rw [e0]; omega
  | ⟨1, _⟩ => show win0_9.index t 1 * 1024 ≤ (i 1 : Nat) ∧ (i 1 : Nat) < win0_9.index t 1 * 1024 + 1024; rw [e1]; omega

theorem final9 : (dats m 0 c).arrAt 9 cfg0.N = R1 m c :=
  (dats m 0 c).arrAt_eq_of_cover 9 _ (fun t _ => flushed9_eq m c t) fun i => by
    have h0 : (i 0 : Nat) < 8192 := (i 0).isLt
    exact ⟨⟨(i 0).val / 512, show _ < 16 by omega⟩, flush0_9 _, mem_blk9 _ i rfl⟩

theorem mem_blk10 (t : Fin cfg0.N) (i : S8192x1024.Idx) (h : t.val = (i 0 : Nat) / 512) : i ∈ ((cfg0.win 10).blk t).view.set := by
  have h1 : (i 1 : Nat) < 1024 := (i 1).isLt
  obtain ⟨-, -, -, -, -, -, -, -, -, -, ⟨e0, e1⟩⟩ := index_eq t
  show i ∈ ((View.whole main_v1_1).slice (win0_10.rect t)).set
  rw [View.set_slice_whole, Rect.mem_set_unit]
  intro a
  match a with
  | ⟨0, _⟩ => show win0_10.index t 0 * 512 ≤ (i 0 : Nat) ∧ (i 0 : Nat) < win0_10.index t 0 * 512 + 512; rw [e0]; omega
  | ⟨1, _⟩ => show win0_10.index t 1 * 1024 ≤ (i 1 : Nat) ∧ (i 1 : Nat) < win0_10.index t 1 * 1024 + 1024; rw [e1]; omega

theorem final10 : (dats m 0 c).arrAt 10 cfg0.N = R2 m c :=
  (dats m 0 c).arrAt_eq_of_cover 10 _ (fun t _ => flushed10_eq m c t) fun i => by
    have h0 : (i 0 : Nat) < 8192 := (i 0).isLt
    exact ⟨⟨(i 0).val / 512, show _ < 16 by omega⟩, flush0_10 _, mem_blk10 _ i rfl⟩

end Kernel

/-! ## The reference -/

section Reference

open Cert.Reference10Ideal.Read

variable (p : S8192x5632.Idx → EReal) (b : S2048.Idx → EReal) (ya yb : S8192x1024.Idx → EReal)

theorem gate_ref (r : Fin 8192) (k : Fin 2048) :
    val_main_v10 (F := Ideal) p b (ix2 r k) = Ideal.logistic (p (ix2 r (projCol k)) + b (ix1 k)) := by
  pointwise [val_main_v10, val_main_v9, val_main_v8, val_main_v7, val_main_v6, val_main_v5, val_main_v4, val_main_v3, val_main_v2, val_main_v1,
    val_main_v0, val_main_cst, val_main_cst_0]
  rfl

theorem gate0_ref (r : Fin 8192) (j : Fin 1024) :
    val_main_v13 (F := Ideal) p b (ix2 r j) = Ideal.logistic (p (ix2 r (projCol (gateCol 0 j))) + b (ix1 (gateCol 0 j))) := by
  rw [← gate_ref]
  pointwise [val_main_v13, val_main_v12, val_main_v11]
  exact congrArg (val_main_v10 (F := Ideal) p b) (congrArg (ix2 r) (Fin.ext (by show j.val = 0 * 1024 + j.val; omega)))

theorem gate1_ref (r : Fin 8192) (j : Fin 1024) :
    val_main_v17 (F := Ideal) p b (ix2 r j) = Ideal.logistic (p (ix2 r (projCol (gateCol 1 j))) + b (ix1 (gateCol 1 j))) := by
  rw [← gate_ref]
  pointwise [val_main_v17, val_main_v16, val_main_v11]
  rfl

theorem sum_ref (r : Fin 8192) (j : Fin 1024) : val_main_v20 (F := Ideal) p b ya yb (ix2 r j)
    = Ideal.logistic (p (ix2 r (projCol (gateCol 0 j))) + b (ix1 (gateCol 0 j))) * ya (ix2 r j)
      + Ideal.logistic (p (ix2 r (projCol (gateCol 1 j))) + b (ix1 (gateCol 1 j))) * yb (ix2 r j) := by
  pointwise [val_main_v20, val_main_v19, val_main_v18, val_main_v15, val_main_v14]
  rw [gate0_ref, gate1_ref]

end Reference

/-! ## The equation -/

section Equation

open Cert.Reference10Ideal.Read

variable (m : (ℓ : Loc nD τ sig) → Buf (Elt Ideal) ℓ) (c : Dev nD)

theorem merged_eq : val_main_v21 (F := Ideal) (P m c) (B m c) (Ya m c) (Yb m c) = R1 m c := by
  funext i
  obtain ⟨r, j, rfl⟩ : ∃ (r : Fin 8192) (j : Fin 1024), i = (ix2 r j : S8192x1024.Idx) := ⟨_, _, eq_ix2 i⟩
  pointwise [val_main_v21]
  exact sum_ref _ _ _ _ r j

theorem out_eq : val_main_v24 (F := Ideal) (P m c) (B m c) (Ya m c) (Yb m c) (W m c) (X m c) = R2 m c := by
  funext i
  obtain ⟨r, j, rfl⟩ : ∃ (r : Fin 8192) (j : Fin 1024), i = (ix2 r j : S8192x1024.Idx) := ⟨_, _, eq_ix2 i⟩
  pointwise [val_main_v24, val_main_v23, val_main_v22]
  simp only [sum_ref]
  rfl

end Equation

end MergeOut

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_swiglu_real
public import proofs.«01_k».proof.Proof.Gen.KernelIdeal.Value
public import proofs.«01_k».proof.Proof.Gen.ReferenceIdeal.Run
public import proofs.«01_k».proof.Proof.Gen.ReferenceIdeal.Read
public import proofs.«01_k».proof.Proof.Swiglu
public import proofs.«01_k».proof.Proof.AttnFwdEq
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_attn_fwd_real
public import proofs.«01_k».proof.Proof.Gen.Kernel3Ideal.Frame
public import proofs.«01_k».proof.Proof.Gen.Kernel3Ideal.Loops
public import proofs.«01_k».proof.Proof.Gen.Reference3Ideal.Run
public import proofs.«01_k».proof.Proof.Gen.Reference3Ideal.Read
public import proofs.«01_k».proof.Proof.AttnBwdFrame
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_dxn_real
public import proofs.«01_k».proof.Proof.Gen.Pre_dxn2_real
public import proofs.«01_k».proof.Proof.DxnEq
public import proofs.«01_k».proof.Proof.Dxn2Eq
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_loss_real
public import proofs.«01_k».proof.Proof.LossEq
public import proofs.«01_k».proof.Proof.MergeFrame
public import proofs.«01_k».proof.Proof.Gen.Kernel7
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.NormProduct
public import proofs.«01_k».proof.Proof.Ffn
public import proofs.«01_k».proof.Proof.Proj
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.MergeOut
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal := fun m ρ _ =>
  (θ_run Cert.ReferenceIdeal.defs _ _).mono (fun r h => ⟨fun c => (h c).2, funext fun ⟨_, sm⟩ => nomatch sm⟩)
    (Cert.ReferenceIdeal.Value.run (F := Ideal) m ρ)

theorem value : Cert.algebraic_KernelIdeal_ReferenceIdeal_pre_swiglu_real := by
  intro m g m' g' hp hm
  refine ⟨fun c => Swiglu.GM m c, ?_, ?_⟩
  · refine (θ_run Cert.KernelIdeal.defs _ _).mono (fun r h c => ?_) (Cert.KernelIdeal.Value.run_blocks (F := Ideal) m g)
    exact ⟨(h c).1.trans (Swiglu.final m c), (h c).2⟩
  · refine (θ_run Cert.ReferenceIdeal.defs _ _).mono (fun r h c => ?_) (Cert.ReferenceIdeal.Value.run (F := Ideal) m' g')
    refine ⟨(h c).1.trans ?_, (h c).2⟩
    rw [(hm c).1, (hm c).2.1, (hm c).2.2]
    obtain ⟨h0, h1, h2⟩ := Swiglu.real_of_pre _ _ _ (hp c)
    exact (Cert.ReferenceIdeal.Read.val_main_v17_eq _ _ _).trans (Swiglu.result_eq _ _ _ h0 h1 h2).symm

theorem frame_reference2 : Cert.quiescent_Reference2Ideal := fun m ρ _ =>
  (θ_run Cert.Reference2Ideal.defs _ _).mono (fun r h => ⟨fun c => (h c).2, funext fun ⟨_, sm⟩ => nomatch sm⟩)
    (Cert.Reference2Ideal.Value.run (F := Ideal) m ρ)

theorem preserves2 : Cert.preserves_Kernel2_Kernel2Ideal :=
  ⟨IdealRules.named_const.statement Cert.Kernel2Ideal.κ "mask" .f32 _ _ rfl,
    IdealRules.named_const.statement Cert.Kernel2Ideal.κ "s1" .f32 _ _ rfl,
    IdealRules.named_const.statement Cert.Kernel2Ideal.κ "s3" .f32 _ _ rfl,
    IdealRules.named_const.statement Cert.Kernel2Ideal.κ "s5" .f32 _ _ rfl,
    IdealRules.named_const.statement Cert.Kernel2Ideal.κ "s7" .f32 _ _ rfl,
    IdealRules.named_const.statement Cert.Kernel2Ideal.κ "s9" .f32 _ _ rfl,
    IdealRules.named_const.statement Cert.Kernel2Ideal.κ "s11" .f32 _ _ rfl,
    IdealRules.named_const.statement Cert.Kernel2Ideal.κ "s13" .f32 _ _ rfl,
    IdealRules.named_const.statement Cert.Kernel2Ideal.κ "s15" .f32 _ _ rfl⟩

theorem value2 : Cert.algebraic_Kernel2Ideal_Reference2Ideal_pre_attn_fwd_real := by
  intro m g m' g' hp hm
  refine ⟨fun c => AttnFwd.GM m c, ?_, ?_⟩
  · refine (θ_run Cert.Kernel2Ideal.defs _ _).mono (fun r h c => ?_) (Cert.Kernel2Ideal.Value.run_blocks (F := Ideal) m g)
    exact ⟨(h c).1.trans (AttnFwd.final m c), (h c).2⟩
  · refine (θ_run Cert.Reference2Ideal.defs _ _).mono (fun r h c => ?_) (Cert.Reference2Ideal.Value.run (F := Ideal) m' g')
    refine ⟨(h c).1.trans ?_, (h c).2⟩
    rw [Cert.Reference2Ideal.Read.val_main_v100_eq, (hm c).1, (hm c).2]
    obtain ⟨h0, h1⟩ := AttnFwd.real_of_pre _ _ (hp c)
    exact (AttnFwd.result_eq _ _ h0 h1).symm

/-- The named constants read as the literals that the kernel writes. -/
@[reducible] def literals : Named Bits where
  named _ _ _ bits := Scalar.ofBits _ bits

set_option maxHeartbeats 4000000 in
theorem frame3 : Cert.quiescent_Kernel3 := by
  intro m ρ _
  letI := literals
  have h := Cert.Kernel3Ideal.AB.frame_main (F := Bits) m ρ
  refine Eq.mp ?_ h
  sl_kernel_rfl

theorem frame_ideal3 : Cert.quiescent_Kernel3Ideal := fun m ρ _ => Cert.Kernel3Ideal.AB.frame_main (F := Ideal) m ρ

theorem frame_reference3 : Cert.quiescent_Reference3Ideal := fun m ρ _ =>
  (θ_run Cert.Reference3Ideal.defs _ _).mono (fun r h => ⟨fun c => (h c).2.2, funext fun ⟨_, sm⟩ => nomatch sm⟩)
    (Cert.Reference3Ideal.Value.run (F := Ideal) m ρ)

theorem preserves3 : Cert.preserves_Kernel3_Kernel3Ideal :=
  ⟨IdealRules.named_const.statement Cert.Kernel3Ideal.κ "mask" .f32 _ _ rfl,
    IdealRules.named_const.statement Cert.Kernel3Ideal.κ "s1" .f32 _ _ rfl,
    IdealRules.named_const.statement Cert.Kernel3Ideal.κ "s3" .f32 _ _ rfl,
    IdealRules.named_const.statement Cert.Kernel3Ideal.κ "s5" .f32 _ _ rfl,
    IdealRules.named_const.statement Cert.Kernel3Ideal.κ "s7" .f32 _ _ rfl,
    IdealRules.named_const.statement Cert.Kernel3Ideal.κ "s9" .f32 _ _ rfl,
    IdealRules.named_const.statement Cert.Kernel3Ideal.κ "s11" .f32 _ _ rfl,
    IdealRules.named_const.statement Cert.Kernel3Ideal.κ "s13" .f32 _ _ rfl,
    IdealRules.named_const.statement Cert.Kernel3Ideal.κ "s15" .f32 _ _ rfl⟩

theorem frame_reference4 : Cert.quiescent_Reference4Ideal := fun m ρ _ =>
  (θ_run Cert.Reference4Ideal.defs _ _).mono (fun r h => ⟨fun c => (h c).2.2, funext fun ⟨_, sm⟩ => nomatch sm⟩)
    (Cert.Reference4Ideal.Value.run (F := Ideal) m ρ)

theorem value4 : Cert.algebraic_Kernel4Ideal_Reference4Ideal_pre_dxn_real := by
  intro m g m' g' hp hm
  refine ⟨fun c => Dxn.R1 m c, fun c => Dxn.R2 m c, ?_, ?_⟩
  · refine (θ_run Cert.Kernel4Ideal.defs _ _).mono (fun r h c => ?_) (Cert.Kernel4Ideal.Value.run_blocks (F := Ideal) m g)
    exact ⟨(h c).1.trans (Dxn.final5 m c), (h c).2.1.trans (Dxn.final6 m c), (h c).2.2⟩
  · refine (θ_run Cert.Reference4Ideal.defs _ _).mono (fun r h c => ?_) (Cert.Reference4Ideal.Value.run (F := Ideal) m' g')
    obtain ⟨h0, h1, h2, h3⟩ := Dxn.real_of_pre _ _ _ _ _ (hp c)
    refine ⟨(h c).1.trans ?_, (h c).2.1.trans ?_, (h c).2.2⟩
    · rw [Cert.Reference4Ideal.Read.val_main_v40_eq, (hm c).1, (hm c).2.1, (hm c).2.2.1, (hm c).2.2.2.1, (hm c).2.2.2.2]
      exact (Dxn.dx_eq _ _ _ _ _ h0 h1 h2 h3).symm
    · rw [(hm c).1, (hm c).2.2.1, (hm c).2.2.2.1]
      exact (Cert.Reference4Ideal.Read.val_main_v41_eq _ _ _).trans (Dxn.gain_eq _ _ _).symm

theorem frame_reference5 : Cert.quiescent_Reference5Ideal := fun m ρ _ =>
  (θ_run Cert.Reference5Ideal.defs _ _).mono (fun r h => ⟨fun c => (h c).2.2, funext fun ⟨_, sm⟩ => nomatch sm⟩)
    (Cert.Reference5Ideal.Value.run (F := Ideal) m ρ)

theorem value5 : Cert.algebraic_Kernel5Ideal_Reference5Ideal_pre_dxn2_real := by
  intro m g m' g' hp hm
  refine ⟨fun c => Dxn2.R1 m c, fun c => Dxn2.R2 m c, ?_, ?_⟩
  · refine (θ_run Cert.Kernel5Ideal.defs _ _).mono (fun r h c => ?_) (Cert.Kernel5Ideal.Value.run_blocks (F := Ideal) m g)
    exact ⟨(h c).1.trans (Dxn2.final5 m c), (h c).2.1.trans (Dxn2.final6 m c), (h c).2.2⟩
  · refine (θ_run Cert.Reference5Ideal.defs _ _).mono (fun r h c => ?_) (Cert.Reference5Ideal.Value.run (F := Ideal) m' g')
    obtain ⟨h0, h1, h2, h3⟩ := Dxn2.real_of_pre _ _ _ _ _ (hp c)
    refine ⟨(h c).1.trans ?_, (h c).2.1.trans ?_, (h c).2.2⟩
    · rw [Cert.Reference5Ideal.Read.val_main_v45_eq, (hm c).1, (hm c).2.1, (hm c).2.2.1, (hm c).2.2.2.1, (hm c).2.2.2.2]
      exact (Dxn2.dx_eq _ _ _ _ _ h0 h1 h2 h3).symm
    · rw [(hm c).1, (hm c).2.2.1, (hm c).2.2.2.1]
      exact (Cert.Reference5Ideal.Read.val_main_v46_eq _ _ _).trans (Dxn2.gain_eq _ _ _).symm

theorem frame_reference6 : Cert.quiescent_Reference6Ideal := fun m ρ _ =>
  (θ_run Cert.Reference6Ideal.defs _ _).mono (fun r h => ⟨fun c => (h c).2.2.2, funext fun ⟨_, sm⟩ => nomatch sm⟩)
    (Cert.Reference6Ideal.Value.run (F := Ideal) m ρ)

theorem value6 : Cert.algebraic_Kernel6Ideal_Reference6Ideal_pre_loss_real := by
  intro m g m' g' hp hm
  refine ⟨fun c => Loss.R1 m c, fun c => Loss.R2 m c, fun c => Loss.R3 m c, ?_, ?_⟩
  · refine (θ_run Cert.Kernel6Ideal.defs _ _).mono (fun r h c => ?_) (Cert.Kernel6Ideal.Value.run_blocks (F := Ideal) m g)
    exact ⟨(h c).1.trans (Loss.final5 m c), (h c).2.1.trans (Loss.final6 m c), (h c).2.2.1.trans (Loss.final7 m c), (h c).2.2.2⟩
  · refine (θ_run Cert.Reference6Ideal.defs _ _).mono (fun r h c => ?_) (Cert.Reference6Ideal.Value.run (F := Ideal) m' g')
    obtain ⟨h0, h1, h2, h3, h4⟩ := Loss.real_of_pre _ _ _ _ _ (hp c)
    refine ⟨(h c).1.trans ?_, (h c).2.1.trans ?_, (h c).2.2.1.trans ?_, (h c).2.2.2⟩
    · rw [Cert.Reference6Ideal.Read.val_main_v54_eq, (hm c).1, (hm c).2.1, (hm c).2.2.1, (hm c).2.2.2.1, (hm c).2.2.2.2]
      exact (Loss.dx_eq _ _ _ _ _ h0 h1 h2 h3 h4).symm
    · rw [(hm c).1, (hm c).2.1, (hm c).2.2.1, (hm c).2.2.2.1, (hm c).2.2.2.2]
      exact (Cert.Reference6Ideal.Read.val_main_v55_eq _ _ _ _ _).trans (Loss.loss_eq _ _ _ _ _ h0 h1 h2 h3 h4).symm
    · rw [(hm c).1, (hm c).2.1, (hm c).2.2.1, (hm c).2.2.2.1, (hm c).2.2.2.2]
      exact (Cert.Reference6Ideal.Read.val_main_v56_eq _ _ _ _ _).trans (Loss.gain_eq _ _ _ _ _ h0 h1 h2 h3 h4).symm

set_option maxHeartbeats 4000000 in
theorem frame7 : Cert.quiescent_Kernel7 := by
  intro m ρ _
  have h := Cert.Kernel7Ideal.MB.frame_main (F := Bits) m ρ
  refine Eq.mp ?_ h
  sl_kernel_rfl

theorem frame_ideal7 : Cert.quiescent_Kernel7Ideal := fun m ρ _ => Cert.Kernel7Ideal.MB.frame_main (F := Ideal) m ρ

theorem frame_reference7 : Cert.quiescent_Reference7Ideal := fun m ρ _ =>
  (θ_run Cert.Reference7Ideal.defs _ _).mono (fun r h => ⟨fun c => (h c).2.2.2, funext fun ⟨_, sm⟩ => nomatch sm⟩)
    (Cert.Reference7Ideal.Value.run (F := Ideal) m ρ)

theorem frame_reference8 : Cert.quiescent_Reference8Ideal := fun m ρ _ =>
  (θ_run Cert.Reference8Ideal.defs _ _).mono (fun r h => ⟨fun c => (h c).2.2.2, funext fun ⟨_, sm⟩ => nomatch sm⟩)
    (Cert.Reference8Ideal.Value.run (F := Ideal) m ρ)

theorem value8 : Cert.algebraic_Kernel8Ideal_Reference8Ideal := by
  intro m g m' g' _ hm
  refine ⟨fun c => Ffn.R1 m c, fun c => Ffn.R2 m c, fun c => Ffn.R3 m c, ?_, ?_⟩
  · refine (θ_run Cert.Kernel8Ideal.defs _ _).mono (fun r h c => ?_) (Cert.Kernel8Ideal.Value.run_blocks (F := Ideal) m g)
    exact ⟨(h c).1.trans (Ffn.final3 m c), (h c).2.1.trans (Ffn.final4 m c), (h c).2.2.1.trans (Ffn.final5 m c), (h c).2.2.2⟩
  · refine (θ_run Cert.Reference8Ideal.defs _ _).mono (fun r h c => ?_) (Cert.Reference8Ideal.Value.run (F := Ideal) m' g')
    refine ⟨(h c).1.trans ?_, (h c).2.1.trans ?_, (h c).2.2.1.trans ?_, (h c).2.2.2⟩
    · rw [(hm c).1, (hm c).2.1]
      exact (Cert.Reference8Ideal.Read.val_main_v17_eq _ _).trans (Ffn.norm_eq m c)
    · rw [(hm c).1, (hm c).2.1, (hm c).2.2]
      exact (Cert.Reference8Ideal.Read.val_main_v21_eq _ _ _).trans (Ffn.halves_eq m c)
    · rw [(hm c).1, (hm c).2.1, (hm c).2.2]
      exact (Cert.Reference8Ideal.Read.val_main_v24_eq _ _ _).trans (Ffn.act_eq m c)

theorem frame_reference9 : Cert.quiescent_Reference9Ideal := fun m ρ _ =>
  (θ_run Cert.Reference9Ideal.defs _ _).mono (fun r h => ⟨fun c => (h c).2.2, funext fun ⟨_, sm⟩ => nomatch sm⟩)
    (Cert.Reference9Ideal.Value.run (F := Ideal) m ρ)

theorem value9 : Cert.algebraic_Kernel9Ideal_Reference9Ideal := by
  intro m g m' g' _ hm
  refine ⟨fun c => Proj.R1 m c, fun c => Proj.R2 m c, ?_, ?_⟩
  · refine (θ_run Cert.Kernel9Ideal.defs _ _).mono (fun r h c => ?_) (Cert.Kernel9Ideal.Value.run_blocks (F := Ideal) m g)
    exact ⟨(h c).1.trans (Proj.final3 m c), (h c).2.1.trans (Proj.final4 m c), (h c).2.2⟩
  · refine (θ_run Cert.Reference9Ideal.defs _ _).mono (fun r h c => ?_) (Cert.Reference9Ideal.Value.run (F := Ideal) m' g')
    refine ⟨(h c).1.trans ?_, (h c).2.1.trans ?_, (h c).2.2⟩
    · rw [(hm c).1, (hm c).2.1]
      exact (Cert.Reference9Ideal.Read.val_main_v13_eq _ _).trans (Proj.norm_eq m c)
    · rw [(hm c).1, (hm c).2.1, (hm c).2.2]
      exact (Cert.Reference9Ideal.Read.val_main_v16_eq _ _ _).trans (Proj.product_eq m c)

theorem frame_reference10 : Cert.quiescent_Reference10Ideal := fun m ρ _ =>
  (θ_run Cert.Reference10Ideal.defs _ _).mono (fun r h => ⟨fun c => (h c).2.2, funext fun ⟨_, sm⟩ => nomatch sm⟩)
    (Cert.Reference10Ideal.Value.run (F := Ideal) m ρ)

theorem value10 : Cert.algebraic_Kernel10Ideal_Reference10Ideal := by
  intro m g m' g' _ hm
  refine ⟨fun c => MergeOut.R1 m c, fun c => MergeOut.R2 m c, ?_, ?_⟩
  · refine (θ_run Cert.Kernel10Ideal.defs _ _).mono (fun r h c => ?_) (Cert.Kernel10Ideal.Value.run_blocks (F := Ideal) m g)
    exact ⟨(h c).1.trans (MergeOut.final9 m c), (h c).2.1.trans (MergeOut.final10 m c), (h c).2.2⟩
  · refine (θ_run Cert.Reference10Ideal.defs _ _).mono (fun r h c => ?_) (Cert.Reference10Ideal.Value.run (F := Ideal) m' g')
    refine ⟨(h c).1.trans ?_, (h c).2.1.trans ?_, (h c).2.2⟩
    · rw [(hm c).1, (hm c).2.1, (hm c).2.2.1, (hm c).2.2.2.1]
      exact (Cert.Reference10Ideal.Read.val_main_v21_eq _ _ _ _).trans (MergeOut.merged_eq m c)
    · rw [(hm c).1, (hm c).2.1, (hm c).2.2.1, (hm c).2.2.2.1, (hm c).2.2.2.2.1, (hm c).2.2.2.2.2]
      exact (Cert.Reference10Ideal.Read.val_main_v24_eq _ _ _ _ _ _).trans (MergeOut.out_eq m c)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts,
    Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_swiglu_real.Gen.facts, Cert.Pre_attn_fwd_real.Gen.facts, Cert.Pre_dxn_real.Gen.facts, Cert.Pre_dxn2_real.Gen.facts,
    Cert.Pre_loss_real.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, fun m ρ _ => Cert.Kernel2Ideal.Gen.frame m ρ,
    frame_reference2, fun m ρ _ => frame_reference2 m ρ trivial, frame3, frame_ideal3, frame_reference3,
    fun m ρ _ => Cert.Kernel4.Gen.frame m ρ, fun m ρ _ => Cert.Kernel4Ideal.Gen.frame m ρ, fun m ρ _ => Cert.Kernel4Ideal.Gen.frame m ρ,
    frame_reference4, fun m ρ _ => frame_reference4 m ρ trivial,
    fun m ρ _ => Cert.Kernel5.Gen.frame m ρ, fun m ρ _ => Cert.Kernel5Ideal.Gen.frame m ρ, fun m ρ _ => Cert.Kernel5Ideal.Gen.frame m ρ,
    frame_reference5, fun m ρ _ => frame_reference5 m ρ trivial,
    fun m ρ _ => Cert.Kernel6.Gen.frame m ρ, fun m ρ _ => Cert.Kernel6Ideal.Gen.frame m ρ, fun m ρ _ => Cert.Kernel6Ideal.Gen.frame m ρ,
    frame_reference6, fun m ρ _ => frame_reference6 m ρ trivial, frame7, frame_ideal7, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    trivial, value, preserves2, value2, preserves3, trivial, value4, trivial, value5, trivial, value6, trivial, trivial, value8, trivial, value9, trivial, value10⟩

end Cert.Proof

end
